-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2 = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectedIdeal (m : (ℓ : Loc Cert.ProjectedIdeal.nD Cert.ProjectedIdeal.τ Cert.ProjectedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7)
      ∧ r.2.mem ((c.tc : Thread Cert.Project.nD Cert.Project.τ).loc Cert.Project.main_arg8) = m ((c.tc : Thread Cert.Project.nD Cert.Project.τ).loc Cert.Project.main_arg8))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8))
      ∧ r.2.sem = fun _ => 0)

def quiescent_ProjectedIdeal [hProjectedIdeal : Cert.ProjectedIdeal.Facts] : Prop :=
  ∀ (m : (ℓ : Loc Cert.ProjectedIdeal.nD Cert.ProjectedIdeal.τ Cert.ProjectedIdeal.sig) → Buf (Elt Ideal) ℓ) (g : Dev Cert.ProjectedIdeal.nD → PrngReg), Pre_ProjectedIdeal m →
    θ_run (Cert.ProjectedIdeal.defs (F := Ideal)) (onTc (τ := Cert.ProjectedIdeal.τ) (Cert.ProjectedIdeal.main (F := Ideal))) ⟨m, fun _ => 0, g⟩ (fun r => (∀ c : Dev Cert.ProjectedIdeal.nD,
      r.2.mem ((c.tc : Thread Cert.ProjectedIdeal.nD Cert.ProjectedIdeal.τ).loc Cert.ProjectedIdeal.main_arg0) = m ((c.tc : Thread Cert.ProjectedIdeal.nD Cert.ProjectedIdeal.τ).loc Cert.ProjectedIdeal.main_arg0)
      ∧ r.2.mem ((c.tc : Thread Cert.ProjectedIdeal.nD Cert.ProjectedIdeal.τ).loc Cert.ProjectedIdeal.main_arg1) = m ((c.tc : Thread Cert.ProjectedIdeal.nD Cert.ProjectedIdeal.τ).loc Cert.ProjectedIdeal.main_arg1)
      ∧ r.2.mem ((c.tc : Thread Cert.ProjectedIdeal.nD Cert.ProjectedIdeal.τ).loc Cert.ProjectedIdeal.main_arg2) = m ((c.tc : Thread Cert.ProjectedIdeal.nD Cert.ProjectedIdeal.τ).loc Cert.ProjectedIdeal.main_arg2)
      ∧ r.2.mem ((c.tc : Thread Cert.ProjectedIdeal.nD Cert.ProjectedIdeal.τ).loc Cert.ProjectedIdeal.main_arg3) = m ((c.tc : Thread Cert.ProjectedIdeal.nD Cert.ProjectedIdeal.τ).loc Cert.ProjectedIdeal.main_arg3)
      ∧ r.2.mem ((c.tc : Thread Cert.ProjectedIdeal.nD Cert.ProjectedIdeal.τ).loc Cert.ProjectedIdeal.main_arg4) = m ((c.tc : Thread Cert.ProjectedIdeal.nD Cert.ProjectedIdeal.τ).loc Cert.ProjectedIdeal.main_arg4)
      ∧ r.2.mem ((c.tc : Thread Cert.ProjectedIdeal.nD Cert.ProjectedIdeal.τ).loc Cert.ProjectedIdeal.main_arg5) = m ((c.tc : Thread Cert.ProjectedIdeal.nD Cert.ProjectedIdeal.τ).loc Cert.ProjectedIdeal.main_arg5)
      ∧ r.2.mem ((c.tc : Thread Cert.ProjectedIdeal.nD Cert.ProjectedIdeal.τ).loc Cert.ProjectedIdeal.main_arg6) = m ((c.tc : Thread Cert.ProjectedIdeal.nD Cert.ProjectedIdeal.τ).loc Cert.ProjectedIdeal.main_arg6)
      ∧ r.2.mem ((c.tc : Thread Cert.ProjectedIdeal.nD Cert.ProjectedIdeal.τ).loc Cert.ProjectedIdeal.main_arg7) = m ((c.tc : Thread Cert.ProjectedIdeal.nD Cert.ProjectedIdeal.τ).loc Cert.ProjectedIdeal.main_arg7)
      ∧ r.2.mem ((c.tc : Thread Cert.ProjectedIdeal.nD Cert.ProjectedIdeal.τ).loc Cert.ProjectedIdeal.main_arg8) = m ((c.tc : Thread Cert.ProjectedIdeal.nD Cert.ProjectedIdeal.τ).loc Cert.ProjectedIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Project_ProjectIdeal : Prop :=
  True

def algebraic_ProjectIdeal_ProjectedIdeal [hProjectIdeal : Cert.ProjectIdeal.Facts] [hProjectedIdeal : Cert.ProjectedIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectedIdeal.nD Cert.ProjectedIdeal.τ Cert.ProjectedIdeal.sig) → Buf (Elt Ideal) ℓ) (g' : Dev Cert.ProjectedIdeal.nD → PrngReg), Pre_ProjectIdeal m →
    (∀ c : Dev Cert.ProjectIdeal.nD,
      m' ((c.tc : Thread Cert.ProjectedIdeal.nD Cert.ProjectedIdeal.τ).loc Cert.ProjectedIdeal.main_arg0) = m ((c.tc : Thread Cert.ProjectIdeal.nD Cert.ProjectIdeal.τ).loc Cert.ProjectIdeal.main_arg0)
      ∧ m' ((c.tc : Thread Cert.ProjectedIdeal.nD Cert.ProjectedIdeal.τ).loc Cert.ProjectedIdeal.main_arg1) = m ((c.tc : Thread Cert.ProjectIdeal.nD Cert.ProjectIdeal.τ).loc Cert.ProjectIdeal.main_arg1)
      ∧ m' ((c.tc : Thread Cert.ProjectedIdeal.nD Cert.ProjectedIdeal.τ).loc Cert.ProjectedIdeal.main_arg2) = m ((c.tc : Thread Cert.ProjectIdeal.nD Cert.ProjectIdeal.τ).loc Cert.ProjectIdeal.main_arg2)
      ∧ m' ((c.tc : Thread Cert.ProjectedIdeal.nD Cert.ProjectedIdeal.τ).loc Cert.ProjectedIdeal.main_arg3) = m ((c.tc : Thread Cert.ProjectIdeal.nD Cert.ProjectIdeal.τ).loc Cert.ProjectIdeal.main_arg3)
      ∧ m' ((c.tc : Thread Cert.ProjectedIdeal.nD Cert.ProjectedIdeal.τ).loc Cert.ProjectedIdeal.main_arg4) = m ((c.tc : Thread Cert.ProjectIdeal.nD Cert.ProjectIdeal.τ).loc Cert.ProjectIdeal.main_arg4)
      ∧ m' ((c.tc : Thread Cert.ProjectedIdeal.nD Cert.ProjectedIdeal.τ).loc Cert.ProjectedIdeal.main_arg5) = m ((c.tc : Thread Cert.ProjectIdeal.nD Cert.ProjectIdeal.τ).loc Cert.ProjectIdeal.main_arg5)
      ∧ m' ((c.tc : Thread Cert.ProjectedIdeal.nD Cert.ProjectedIdeal.τ).loc Cert.ProjectedIdeal.main_arg6) = m ((c.tc : Thread Cert.ProjectIdeal.nD Cert.ProjectIdeal.τ).loc Cert.ProjectIdeal.main_arg6)
      ∧ m' ((c.tc : Thread Cert.ProjectedIdeal.nD Cert.ProjectedIdeal.τ).loc Cert.ProjectedIdeal.main_arg7) = m ((c.tc : Thread Cert.ProjectIdeal.nD Cert.ProjectIdeal.τ).loc Cert.ProjectIdeal.main_arg7)
      ∧ m' ((c.tc : Thread Cert.ProjectedIdeal.nD Cert.ProjectedIdeal.τ).loc Cert.ProjectedIdeal.main_arg8) = m ((c.tc : Thread Cert.ProjectIdeal.nD Cert.ProjectIdeal.τ).loc Cert.ProjectIdeal.main_arg8)) →
    ∃ (v0 : (c : Dev Cert.ProjectIdeal.nD) → Buf (Elt Ideal) ((c.tc : Thread Cert.ProjectIdeal.nD Cert.ProjectIdeal.τ).loc Cert.ProjectIdeal.main_v31_0)) (v1 : (c : Dev Cert.ProjectIdeal.nD) → Buf (Elt Ideal) ((c.tc : Thread Cert.ProjectIdeal.nD Cert.ProjectIdeal.τ).loc Cert.ProjectIdeal.main_v31_1)) (v2 : (c : Dev Cert.ProjectIdeal.nD) → Buf (Elt Ideal) ((c.tc : Thread Cert.ProjectIdeal.nD Cert.ProjectIdeal.τ).loc Cert.ProjectIdeal.main_v31_2)) (v3 : (c : Dev Cert.ProjectIdeal.nD) → Buf (Elt Ideal) ((c.tc : Thread Cert.ProjectIdeal.nD Cert.ProjectIdeal.τ).loc Cert.ProjectIdeal.main_v31_3)) (v4 : (c : Dev Cert.ProjectIdeal.nD) → Buf (Elt Ideal) ((c.tc : Thread Cert.ProjectIdeal.nD Cert.ProjectIdeal.τ).loc Cert.ProjectIdeal.main_v31_4)) (v5 : (c : Dev Cert.ProjectIdeal.nD) → Buf (Elt Ideal) ((c.tc : Thread Cert.ProjectIdeal.nD Cert.ProjectIdeal.τ).loc Cert.ProjectIdeal.main_v31_5)) (v6 : (c : Dev Cert.ProjectIdeal.nD) → Buf (Elt Ideal) ((c.tc : Thread Cert.ProjectIdeal.nD Cert.ProjectIdeal.τ).loc Cert.ProjectIdeal.main_v31_6)) (v7 : (c : Dev Cert.ProjectIdeal.nD) → Buf (Elt Ideal) ((c.tc : Thread Cert.ProjectIdeal.nD Cert.ProjectIdeal.τ).loc Cert.ProjectIdeal.main_v31_7)) (v8 : (c : Dev Cert.ProjectIdeal.nD) → Buf (Elt Ideal) ((c.tc : Thread Cert.ProjectIdeal.nD Cert.ProjectIdeal.τ).loc Cert.ProjectIdeal.main_v31_8)) (v9 : (c : Dev Cert.ProjectIdeal.nD) → Buf (Elt Ideal) ((c.tc : Thread Cert.ProjectIdeal.nD Cert.ProjectIdeal.τ).loc Cert.ProjectIdeal.main_v31_9)) (v10 : (c : Dev Cert.ProjectIdeal.nD) → Buf (Elt Ideal) ((c.tc : Thread Cert.ProjectIdeal.nD Cert.ProjectIdeal.τ).loc Cert.ProjectIdeal.main_v31_10)) (v11 : (c : Dev Cert.ProjectIdeal.nD) → Buf (Elt Ideal) ((c.tc : Thread Cert.ProjectIdeal.nD Cert.ProjectIdeal.τ).loc Cert.ProjectIdeal.main_v31_11)) (v12 : (c : Dev Cert.ProjectIdeal.nD) → Buf (Elt Ideal) ((c.tc : Thread Cert.ProjectIdeal.nD Cert.ProjectIdeal.τ).loc Cert.ProjectIdeal.main_v31_12)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v31_0) = v0 c
          ∧ r.2.mem ((c.tc : Thread Cert.ProjectIdeal.nD Cert.ProjectIdeal.τ).loc Cert.ProjectIdeal.main_v31_1) = v1 c
          ∧ r.2.mem ((c.tc : Thread Cert.ProjectIdeal.nD Cert.ProjectIdeal.τ).loc Cert.ProjectIdeal.main_v31_2) = v2 c
          ∧ r.2.mem ((c.tc : Thread Cert.ProjectIdeal.nD Cert.ProjectIdeal.τ).loc Cert.ProjectIdeal.main_v31_3) = v3 c
          ∧ r.2.mem ((c.tc : Thread Cert.ProjectIdeal.nD Cert.ProjectIdeal.τ).loc Cert.ProjectIdeal.main_v31_4) = v4 c
          ∧ r.2.mem ((c.tc : Thread Cert.ProjectIdeal.nD Cert.ProjectIdeal.τ).loc Cert.ProjectIdeal.main_v31_5) = v5 c
          ∧ r.2.mem ((c.tc : Thread Cert.ProjectIdeal.nD Cert.ProjectIdeal.τ).loc Cert.ProjectIdeal.main_v31_6) = v6 c
          ∧ r.2.mem ((c.tc : Thread Cert.ProjectIdeal.nD Cert.ProjectIdeal.τ).loc Cert.ProjectIdeal.main_v31_7) = v7 c
          ∧ r.2.mem ((c.tc : Thread Cert.ProjectIdeal.nD Cert.ProjectIdeal.τ).loc Cert.ProjectIdeal.main_v31_8) = v8 c
          ∧ r.2.mem ((c.tc : Thread Cert.ProjectIdeal.nD Cert.ProjectIdeal.τ).loc Cert.ProjectIdeal.main_v31_9) = v9 c
          ∧ r.2.mem ((c.tc : Thread Cert.ProjectIdeal.nD Cert.ProjectIdeal.τ).loc Cert.ProjectIdeal.main_v31_10) = v10 c
          ∧ r.2.mem ((c.tc : Thread Cert.ProjectIdeal.nD Cert.ProjectIdeal.τ).loc Cert.ProjectIdeal.main_v31_11) = v11 c
          ∧ r.2.mem ((c.tc : Thread Cert.ProjectIdeal.nD Cert.ProjectIdeal.τ).loc Cert.ProjectIdeal.main_v31_12) = v12 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
          ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8))
      ∧ θ_run (Cert.ProjectedIdeal.defs (F := Ideal)) (onTc (τ := Cert.ProjectedIdeal.τ) (Cert.ProjectedIdeal.main (F := Ideal))) ⟨m', fun _ => 0, g'⟩ (fun r => ∀ c : Dev Cert.ProjectedIdeal.nD,
          r.2.mem ((c.tc : Thread Cert.ProjectedIdeal.nD Cert.ProjectedIdeal.τ).loc Cert.ProjectedIdeal.main_v94) = v0 c
          ∧ r.2.mem ((c.tc : Thread Cert.ProjectedIdeal.nD Cert.ProjectedIdeal.τ).loc Cert.ProjectedIdeal.main_v95) = v1 c
          ∧ r.2.mem ((c.tc : Thread Cert.ProjectedIdeal.nD Cert.ProjectedIdeal.τ).loc Cert.ProjectedIdeal.main_v96) = v2 c
          ∧ r.2.mem ((c.tc : Thread Cert.ProjectedIdeal.nD Cert.ProjectedIdeal.τ).loc Cert.ProjectedIdeal.main_v97) = v3 c
          ∧ r.2.mem ((c.tc : Thread Cert.ProjectedIdeal.nD Cert.ProjectedIdeal.τ).loc Cert.ProjectedIdeal.main_v98) = v4 c
          ∧ r.2.mem ((c.tc : Thread Cert.ProjectedIdeal.nD Cert.ProjectedIdeal.τ).loc Cert.ProjectedIdeal.main_v99) = v5 c
          ∧ r.2.mem ((c.tc : Thread Cert.ProjectedIdeal.nD Cert.ProjectedIdeal.τ).loc Cert.ProjectedIdeal.main_v100) = v6 c
          ∧ r.2.mem ((c.tc : Thread Cert.ProjectedIdeal.nD Cert.ProjectedIdeal.τ).loc Cert.ProjectedIdeal.main_v93) = v7 c
          ∧ r.2.mem ((c.tc : Thread Cert.ProjectedIdeal.nD Cert.ProjectedIdeal.τ).loc Cert.ProjectedIdeal.main_v101) = v8 c
          ∧ r.2.mem ((c.tc : Thread Cert.ProjectedIdeal.nD Cert.ProjectedIdeal.τ).loc Cert.ProjectedIdeal.main_v28) = v9 c
          ∧ r.2.mem ((c.tc : Thread Cert.ProjectedIdeal.nD Cert.ProjectedIdeal.τ).loc Cert.ProjectedIdeal.main_v102) = v10 c
          ∧ r.2.mem ((c.tc : Thread Cert.ProjectedIdeal.nD Cert.ProjectedIdeal.τ).loc Cert.ProjectedIdeal.main_v103) = v11 c
          ∧ r.2.mem ((c.tc : Thread Cert.ProjectedIdeal.nD Cert.ProjectedIdeal.τ).loc Cert.ProjectedIdeal.main_v105) = v12 c
          ∧ r.2.mem ((c.tc : Thread Cert.ProjectedIdeal.nD Cert.ProjectedIdeal.τ).loc Cert.ProjectedIdeal.main_arg0) = m' ((c.tc : Thread Cert.ProjectedIdeal.nD Cert.ProjectedIdeal.τ).loc Cert.ProjectedIdeal.main_arg0)
          ∧ r.2.mem ((c.tc : Thread Cert.ProjectedIdeal.nD Cert.ProjectedIdeal.τ).loc Cert.ProjectedIdeal.main_arg1) = m' ((c.tc : Thread Cert.ProjectedIdeal.nD Cert.ProjectedIdeal.τ).loc Cert.ProjectedIdeal.main_arg1)
          ∧ r.2.mem ((c.tc : Thread Cert.ProjectedIdeal.nD Cert.ProjectedIdeal.τ).loc Cert.ProjectedIdeal.main_arg2) = m' ((c.tc : Thread Cert.ProjectedIdeal.nD Cert.ProjectedIdeal.τ).loc Cert.ProjectedIdeal.main_arg2)
          ∧ r.2.mem ((c.tc : Thread Cert.ProjectedIdeal.nD Cert.ProjectedIdeal.τ).loc Cert.ProjectedIdeal.main_arg3) = m' ((c.tc : Thread Cert.ProjectedIdeal.nD Cert.ProjectedIdeal.τ).loc Cert.ProjectedIdeal.main_arg3)
          ∧ r.2.mem ((c.tc : Thread Cert.ProjectedIdeal.nD Cert.ProjectedIdeal.τ).loc Cert.ProjectedIdeal.main_arg4) = m' ((c.tc : Thread Cert.ProjectedIdeal.nD Cert.ProjectedIdeal.τ).loc Cert.ProjectedIdeal.main_arg4)
          ∧ r.2.mem ((c.tc : Thread Cert.ProjectedIdeal.nD Cert.ProjectedIdeal.τ).loc Cert.ProjectedIdeal.main_arg5) = m' ((c.tc : Thread Cert.ProjectedIdeal.nD Cert.ProjectedIdeal.τ).loc Cert.ProjectedIdeal.main_arg5)
          ∧ r.2.mem ((c.tc : Thread Cert.ProjectedIdeal.nD Cert.ProjectedIdeal.τ).loc Cert.ProjectedIdeal.main_arg6) = m' ((c.tc : Thread Cert.ProjectedIdeal.nD Cert.ProjectedIdeal.τ).loc Cert.ProjectedIdeal.main_arg6)
          ∧ r.2.mem ((c.tc : Thread Cert.ProjectedIdeal.nD Cert.ProjectedIdeal.τ).loc Cert.ProjectedIdeal.main_arg7) = m' ((c.tc : Thread Cert.ProjectedIdeal.nD Cert.ProjectedIdeal.τ).loc Cert.ProjectedIdeal.main_arg7)
          ∧ r.2.mem ((c.tc : Thread Cert.ProjectedIdeal.nD Cert.ProjectedIdeal.τ).loc Cert.ProjectedIdeal.main_arg8) = m' ((c.tc : Thread Cert.ProjectedIdeal.nD Cert.ProjectedIdeal.τ).loc Cert.ProjectedIdeal.main_arg8))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectedIdeal : Cert.ProjectedIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Project (hProject := hProject)
    ∧ quiescent_ProjectIdeal (hProjectIdeal := hProjectIdeal)
    ∧ quiescent_ProjectedIdeal (hProjectedIdeal := hProjectedIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Project_ProjectIdeal
    ∧ algebraic_ProjectIdeal_ProjectedIdeal (hProjectIdeal := hProjectIdeal) (hProjectedIdeal := hProjectedIdeal)
-- ==== Pre_finite.lean ====
abbrev S1 : Shape := ⟨1, ![1]⟩
abbrev S2x8192x512 : Shape := ⟨3, ![2, 8192, 512]⟩
abbrev S32x4 : Shape := ⟨2, ![32, 4]⟩
abbrev S64 : Shape := ⟨1, ![64]⟩
abbrev S128 : Shape := ⟨1, ![128]⟩
abbrev S_ : Shape := ⟨0, ![]⟩

class Facts : Prop where
  bcast_S_S2x8192x512 : S_.BroadcastsInDim S2x8192x512 (![] : Fin 0 → Fin S2x8192x512.rank)
  bcast_S_S32x4 : S_.BroadcastsInDim S32x4 (![] : Fin 0 → Fin S32x4.rank)
  bcast_S_S64 : S_.BroadcastsInDim S64 (![] : Fin 0 → Fin S64.rank)

variable [Facts]

def fn_part1 {F : FTy → Type} [FloatOps F] (main_arg8 : FVec F S64 .f32) (main_arg9 : FVec F S64 .f32) (main_v2 : IVec S2x8192x512 1) (main_v5 : IVec S2x8192x512 1) (main_v8 : IVec S2x8192x512 1) (main_v11 : IVec S32x4 1) (main_v14 : IVec S64 1) (main_v17 : IVec S64 1) : IVec S2x8192x512 1 × IVec S2x8192x512 1 × IVec S2x8192x512 1 × IVec S32x4 1 × IVec S64 1 × IVec S64 1 × IVec S64 1 × IVec S64 1 :=
  let main_v18 : FVec F S64 .f32 := Host.absf main_arg8
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64 .f32 := Host.absf main_arg9
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  (main_v2, main_v5, main_v8, main_v11, main_v14, main_v17, main_v20, main_v23)

def fn {F : FTy → Type} [FloatOps F] (main_arg0 : FVec F S1 .f32) (main_arg1 : FVec F S2x8192x512 .f32) (main_arg2 : FVec F S2x8192x512 .f32) (main_arg3 : FVec F S2x8192x512 .f32) (main_arg4 : FVec F S2x8192x512 .f32) (main_arg5 : FVec F S32x4 .f32) (main_arg6 : FVec F S64 .f32) (main_arg7 : FVec F S64 .f32) (main_arg8 : FVec F S64 .f32) (main_arg9 : FVec F S64 .f32) (main_arg10 : FVec F S128 .f32) : IVec S2x8192x512 1 × IVec S2x8192x512 1 × IVec S2x8192x512 1 × IVec S32x4 1 × IVec S64 1 × IVec S64 1 × IVec S64 1 × IVec S64 1 :=
  let main_v0 : FVec F S2x8192x512 .f32 := Host.absf main_arg1
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_v3 : FVec F S2x8192x512 .f32 := Host.absf main_arg2
  let main_cst_0 : FVec F S_ .f32 := constant S_ .f32 0x7F800000#32
  let main_v4 : FVec F S2x8192x512 .f32 := broadcastInDim S2x8192x512 ![] bcast_S_S2x8192x512 main_cst_0
  let main_v5 : IVec S2x8192x512 1 := cmpf .olt main_v3 main_v4
  let main_v6 : FVec F S2x8192x512 .f32 := Host.absf main_arg3
  let main_cst_1 : FVec F S_ .f32 := constant S_ .f32 0x7F800000#32
  let main_v7 : FVec F S2x8192x512 .f32 := broadcastInDim S2x8192x512 ![] bcast_S_S2x8192x512 main_cst_1
  let main_v8 : IVec S2x8192x512 1 := cmpf .olt main_v6 main_v7
  let main_v9 : FVec F S32x4 .f32 := Host.absf main_arg5
  let main_cst_2 : FVec F S_ .f32 := constant S_ .f32 0x7F800000#32
  let main_v10 : FVec F S32x4 .f32 := broadcastInDim S32x4 ![] bcast_S_S32x4 main_cst_2
  let main_v11 : IVec S32x4 1 := cmpf .olt main_v9 main_v10
  let main_v12 : FVec F S64 .f32 := Host.absf main_arg6
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg7
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg8 main_arg9 main_v2 main_v5 main_v8 main_v11 main_v14 main_v17
-- ==== Kernel.lean ====
abbrev S1 : Shape := ⟨1, ![1]⟩
abbrev S2x8192x512 : Shape := ⟨3, ![2, 8192, 512]⟩
abbrev S32x4 : Shape := ⟨2, ![32, 4]⟩
abbrev S64 : Shape := ⟨1, ![64]⟩
abbrev S128 : Shape := ⟨1, ![128]⟩
abbrev S_ : Shape := ⟨0, ![]⟩
abbrev S1x64 : Shape := ⟨2, ![1, 64]⟩
abbrev S4x64 : Shape := ⟨2, ![4, 64]⟩
abbrev S512x1024 : Shape := ⟨2, ![512, 1024]⟩
abbrev S1x4 : Shape := ⟨2, ![1, 4]⟩
abbrev S4 : Shape := ⟨1, ![4]⟩
abbrev S512x1024x1 : Shape := ⟨3, ![512, 1024, 1]⟩
abbrev S512x1024x4 : Shape := ⟨3, ![512, 1024, 4]⟩
abbrev S4x512x1024 : Shape := ⟨3, ![4, 512, 1024]⟩
abbrev S4x1x1 : Shape := ⟨3, ![4, 1, 1]⟩
abbrev S4x1x512x1024 : Shape := ⟨4, ![4, 1, 512, 1024]⟩
abbrev S1x128 : Shape := ⟨2, ![1, 128]⟩
abbrev S1x512x512 : Shape := ⟨3, ![1, 512, 512]⟩
abbrev S1x8192x512 : Shape := ⟨3, ![1, 8192, 512]⟩
abbrev S4x2x512x128 : Shape := ⟨4, ![4, 2, 512, 128]⟩
abbrev S1x512x128 : Shape := ⟨3, ![1, 512, 128]⟩
abbrev S512x128 : Shape := ⟨2, ![512, 128]⟩
abbrev S1024x128 : Shape := ⟨2, ![1024, 128]⟩
abbrev S1024x512 : Shape := ⟨2, ![1024, 512]⟩
abbrev S1x1x512x512 : Shape := ⟨4, ![1, 1, 512, 512]⟩
abbrev S512x512 : Shape := ⟨2, ![512, 512]⟩
abbrev S1x1x512x128 : Shape := ⟨4, ![1, 1, 512, 128]⟩
abbrev S1x256x128 : Shape := ⟨3, ![1, 256, 128]⟩
abbrev S256x128 : Shape := ⟨2, ![256, 128]⟩
abbrev S512x256 : Shape := ⟨2, ![512, 256]⟩
abbrev S1x1x256x256 : Shape := ⟨4, ![1, 1, 256, 256]⟩
abbrev S256x256 : Shape := ⟨2, ![256, 256]⟩
abbrev S1x1x256x128 : Shape := ⟨4, ![1, 1, 256, 128]⟩
abbrev S1x1x256x512 : Shape := ⟨4, ![1, 1, 256, 512]⟩
abbrev S256x512 : Shape := ⟨2, ![256, 512]⟩
abbrev S512 : Shape := ⟨1, ![512]⟩
abbrev S512x1 : Shape := ⟨2, ![512, 1]⟩
abbrev S1x1 : Shape := ⟨2, ![1, 1]⟩

abbrev nBuf : Space → Nat
  | .hbm => 201
  | .vmem => 15
  | .smem => 1
  | _ => 0

abbrev hbmTy0_0 (i : Nat) : BufTy := match i % 128 with
  | 0 => ⟨S1, .f32⟩
  | 1 => ⟨S2x8192x512, .f32⟩
  | 2 => ⟨S2x8192x512, .f32⟩
  | 3 => ⟨S2x8192x512, .f32⟩
  | 4 => ⟨S2x8192x512, .f32⟩
  | 5 => ⟨S32x4, .f32⟩
  | 6 => ⟨S64, .f32⟩
  | 7 => ⟨S64, .f32⟩
  | 8 => ⟨S64, .f32⟩
  | 9 => ⟨S64, .f32⟩
  | 10 => ⟨S128, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S2x8192x512, .f32⟩
  | 18 => ⟨S2x8192x512, .f32⟩
  | 19 => ⟨S2x8192x512, .bf16⟩
  | 20 => ⟨S1x64, .f32⟩
  | 21 => ⟨S1x64, .f32⟩
  | 22 => ⟨S1x64, .f32⟩
  | 23 => ⟨S1x64, .f32⟩
  | 24 => ⟨S4x64, .f32⟩
  | 25 => ⟨S2x8192x512, .bf16⟩
  | 26 => ⟨S2x8192x512, .bf16⟩
  | 27 => ⟨S2x8192x512, .bf16⟩
  | 28 => ⟨S512x1024, .i32⟩
  | 29 => ⟨S_, .i32⟩
  | 30 => ⟨S512x1024, .i32⟩
  | 31 => ⟨S512x1024, .i32⟩
  | 32 => ⟨S512x1024, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S1x4, .f32⟩
  | 100 => ⟨S4, .f32⟩
  | 101 => ⟨S512x1024, .i32⟩
  | 102 => ⟨S_, .i32⟩
  | 103 => ⟨S512x1024, .i32⟩
  | 104 => ⟨S512x1024, .i1⟩
  | 105 => ⟨S_, .i32⟩
  | 106 => ⟨S_, .i32⟩
  | 107 => ⟨S512x1024, .i32⟩
  | 108 => ⟨S512x1024, .i32⟩
  | 109 => ⟨S512x1024, .i32⟩
  | 110 => ⟨S512x1024, .i32⟩
  | 111 => ⟨S512x1024, .i32⟩
  | 112 => ⟨S_, .i32⟩
  | 113 => ⟨S512x1024, .i32⟩
  | 114 => ⟨S512x1024, .i1⟩
  | 115 => ⟨S512x1024, .i32⟩
  | 116 => ⟨S_, .i32⟩
  | 117 => ⟨S512x1024, .i32⟩
  | 118 => ⟨S512x1024, .i32⟩
  | 119 => ⟨S512x1024, .i32⟩
  | 120 => ⟨S_, .i32⟩
  | 121 => ⟨S512x1024, .i32⟩
  | 122 => ⟨S512x1024, .i1⟩
  | 123 => ⟨S512x1024, .i32⟩
  | 124 => ⟨S512x1024, .i32⟩
  | 125 => ⟨S512x1024, .i32⟩
  | 126 => ⟨S_, .i32⟩
  | 127 => ⟨S512x1024, .i32⟩
  | _ => ⟨S1, .f32⟩

abbrev hbmTy0_1 (i : Nat) : BufTy := match i % 128 with
  | 0 => ⟨S512x1024, .i1⟩
  | 1 => ⟨S512x1024, .i32⟩
  | 2 => ⟨S512x1024, .i32⟩
  | 3 => ⟨S512x1024, .i32⟩
  | 4 => ⟨S_, .i32⟩
  | 5 => ⟨S512x1024, .i32⟩
  | 6 => ⟨S512x1024, .i1⟩
  | 7 => ⟨S512x1024, .i32⟩
  | 8 => ⟨S512x1024, .i32⟩
  | 9 => ⟨S512x1024, .i32⟩
  | 10 => ⟨S_, .i32⟩
  | 11 => ⟨S512x1024, .i32⟩
  | 12 => ⟨S512x1024, .i1⟩
  | 13 => ⟨S512x1024, .i32⟩
  | 14 => ⟨S512x1024, .i32⟩
  | 15 => ⟨S512x1024, .i32⟩
  | 16 => ⟨S_, .i32⟩
  | 17 => ⟨S512x1024, .i32⟩
  | 18 => ⟨S512x1024, .i1⟩
  | 19 => ⟨S512x1024, .i32⟩
  | 20 => ⟨S512x1024, .i32⟩
  | 21 => ⟨S512x1024, .i32⟩
  | 22 => ⟨S_, .i32⟩
  | 23 => ⟨S512x1024, .i32⟩
  | 24 => ⟨S512x1024, .i1⟩
  | 25 => ⟨S512x1024, .i32⟩
  | 26 => ⟨S512x1024, .i32⟩
  | 27 => ⟨S_, .i32⟩
  | 28 => ⟨S512x1024, .i32⟩
  | 29 => ⟨S512x1024, .i32⟩
  | 30 => ⟨S_, .i32⟩
  | 31 => ⟨S512x1024, .i32⟩
  | 32 => ⟨S512x1024, .i32⟩
  | 33 => ⟨S_, .i32⟩
  | 34 => ⟨S512x1024, .i32⟩
  | 35 => ⟨S512x1024, .i1⟩
  | 36 => ⟨S512x1024, .i32⟩
  | 37 => ⟨S512x1024, .i32⟩
  | 38 => ⟨S512x1024, .i32⟩
  | 39 => ⟨S_, .i32⟩
  | 40 => ⟨S512x1024, .i32⟩
  | 41 => ⟨S512x1024, .i1⟩
  | 42 => ⟨S_, .i32⟩
  | 43 => ⟨S512x1024, .i32⟩
  | 44 => ⟨S512x1024, .i32⟩
  | 45 => ⟨S512x1024, .i32⟩
  | 46 => ⟨S512x1024x1, .i32⟩
  | 47 => ⟨S512x1024x4, .f32⟩
  | 48 => ⟨S4x512x1024, .f32⟩
  | 49 => ⟨S4x1x1, .f32⟩
  | 50 => ⟨S4x512x1024, .f32⟩
  | 51 => ⟨S4x512x1024, .f32⟩
  | 52 => ⟨S_, .f32⟩
  | 53 => ⟨S_, .f32⟩
  | 54 => ⟨S_, .f32⟩
  | 55 => ⟨S_, .f32⟩
  | 56 => ⟨S4x512x1024, .f32⟩
  | 57 => ⟨S4x512x1024, .f32⟩
  | 58 => ⟨S_, .i32⟩
  | 59 => ⟨S512x1024, .i32⟩
  | 60 => ⟨S512x1024, .i32⟩
  | 61 => ⟨S_, .i32⟩
  | 62 => ⟨S512x1024, .i32⟩
  | 63 => ⟨S512x1024, .i32⟩
  | 64 => ⟨S512x1024, .i1⟩
  | 65 => ⟨S_, .f32⟩
  | 66 => ⟨S_, .f32⟩
  | 67 => ⟨S4x512x1024, .i1⟩
  | 68 => ⟨S4x512x1024, .f32⟩
  | 69 => ⟨S4x512x1024, .f32⟩
  | 70 => ⟨S4x1x512x1024, .f32⟩
  | 71 => ⟨S1x128, .f32⟩
  | 72 => ⟨S2x8192x512, .bf16⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | .local _ .vmem, ⟨0, _⟩ => ⟨S1x512x512, .bf16⟩
  | .local _ .vmem, ⟨1, _⟩ => ⟨S1x512x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S1x512x512, .bf16⟩
  | .local _ .vmem, ⟨7, _⟩ => ⟨S1x512x512, .bf16⟩
  | .local _ .vmem, ⟨8, _⟩ => ⟨S4x1x512x1024, .f32⟩
  | .local _ .vmem, ⟨9, _⟩ => ⟨S4x64, .f32⟩
  | .local _ .vmem, ⟨10, _⟩ => ⟨S1x128, .f32⟩
  | .local _ .vmem, ⟨11, _⟩ => ⟨S1x512x512, .bf16⟩
  | .local _ .vmem, ⟨12, _⟩ => ⟨S1x512x512, .bf16⟩
  | .local _ .vmem, ⟨13, _⟩ => ⟨S4x2x512x128, .f32⟩
  | .local _ .vmem, ⟨14, _⟩ => ⟨S4x2x512x128, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_c_3 : Ref sig .tc := ⟨.hbm, 34, rfl⟩
abbrev main_v18 : Ref sig .tc := ⟨.hbm, 35, rfl⟩
abbrev main_c_4 : Ref sig .tc := ⟨.hbm, 36, rfl⟩
abbrev main_c_5 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_c_7 : Ref sig .tc := ⟨.hbm, 42, rfl⟩
abbrev main_v22 : Ref sig .tc := ⟨.hbm, 43, rfl⟩
abbrev main_v23 : Ref sig .tc := ⟨.hbm, 44, rfl⟩
abbrev main_c_8 : Ref sig .tc := ⟨.hbm, 45, rfl⟩
abbrev main_v24 : Ref sig .tc := ⟨.hbm, 46, rfl⟩
abbrev main_v25 : Ref sig .tc := ⟨.hbm, 47, rfl⟩
abbrev main_c_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_11 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_12 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_13 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_14 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_15 : Ref sig .tc := ⟨.hbm, 77, rfl⟩
abbrev main_v49 : Ref sig .tc := ⟨.hbm, 78, rfl⟩
abbrev main_c_16 : Ref sig .tc := ⟨.hbm, 79, rfl⟩
abbrev main_v50 : Ref sig .tc := ⟨.hbm, 80, rfl⟩
abbrev main_c_17 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_18 : Ref sig .tc := ⟨.hbm, 86, rfl⟩
abbrev main_v55 : Ref sig .tc := ⟨.hbm, 87, rfl⟩
abbrev main_c_19 : Ref sig .tc := ⟨.hbm, 88, rfl⟩
abbrev main_v56 : Ref sig .tc := ⟨.hbm, 89, rfl⟩
abbrev main_v57 : Ref sig .tc := ⟨.hbm, 90, rfl⟩
abbrev main_c_20 : Ref sig .tc := ⟨.hbm, 91, rfl⟩
abbrev main_c_21 : Ref sig .tc := ⟨.hbm, 92, rfl⟩
abbrev main_v58 : Ref sig .tc := ⟨.hbm, 93, rfl⟩
abbrev main_c_22 : Ref sig .tc := ⟨.hbm, 94, rfl⟩
abbrev main_c_23 : Ref sig .tc := ⟨.hbm, 95, rfl⟩
abbrev main_v59 : Ref sig .tc := ⟨.hbm, 96, rfl⟩
abbrev main_c_24 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_25 : Ref sig .tc := ⟨.hbm, 102, rfl⟩
abbrev main_v64 : Ref sig .tc := ⟨.hbm, 103, rfl⟩
abbrev main_v65 : Ref sig .tc := ⟨.hbm, 104, rfl⟩
abbrev main_c_26 : Ref sig .tc := ⟨.hbm, 105, rfl⟩
abbrev main_c_27 : Ref sig .tc := ⟨.hbm, 106, rfl⟩
abbrev main_call2_v0 : Ref sig .tc := ⟨.hbm, 107, rfl⟩
abbrev main_call2_v1 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_c_28 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_c_29 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_30 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_c_31 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_c_32 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c_33 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_34 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_c_35 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_c_36 : Ref sig .tc := ⟨.hbm, 155, rfl⟩
abbrev main_v104 : Ref sig .tc := ⟨.hbm, 156, rfl⟩
abbrev main_v105 : Ref sig .tc := ⟨.hbm, 157, rfl⟩
abbrev main_c_37 : Ref sig .tc := ⟨.hbm, 158, rfl⟩
abbrev main_v106 : Ref sig .tc := ⟨.hbm, 159, rfl⟩
abbrev main_v107 : Ref sig .tc := ⟨.hbm, 160, rfl⟩
abbrev main_c_38 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_c_39 : Ref sig .tc := ⟨.hbm, 167, rfl⟩
abbrev main_v113 : Ref sig .tc := ⟨.hbm, 168, rfl⟩
abbrev main_v114 : Ref sig .tc := ⟨.hbm, 169, rfl⟩
abbrev main_c_40 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_41 : Ref sig .tc := ⟨.hbm, 180, rfl⟩
abbrev main_v124 : Ref sig .tc := ⟨.hbm, 181, rfl⟩
abbrev main_cst_42 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_c_43 : Ref sig .tc := ⟨.hbm, 186, rfl⟩
abbrev main_v128 : Ref sig .tc := ⟨.hbm, 187, rfl⟩
abbrev main_v129 : Ref sig .tc := ⟨.hbm, 188, rfl⟩
abbrev main_c_44 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_45 : Ref sig .tc := ⟨.hbm, 193, rfl⟩
abbrev main_call4_v0 : Ref sig .tc := ⟨.hbm, 194, rfl⟩
abbrev main_call4_v1 : Ref sig .tc := ⟨.hbm, 195, rfl⟩
abbrev main_call4_v2 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![2, 1, 16], ![false, false, false]⟩

def k0_mult1 (i : grid0.Coords) : BitVec 32 :=
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let c512_i32 : BitVec 32 := 512#32
  let v3 : BitVec 32 := Scalar.muli v2 c512_i32
  v3
def k0_mult2 (i : grid0.Coords) : BitVec 32 :=
  let arg2 : BitVec 32 := BitVec.ofNat 32 (i 2).val
  let c512_i32_1 : BitVec 32 := 512#32
  let v5 : BitVec 32 := Scalar.muli arg2 c512_i32_1
  v5
def k0_off1 (i : grid0.Coords) : Fin 3 → Nat :=
  let c0_26 : Index := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let c512_i32 : BitVec 32 := 512#32
  let v3 : BitVec 32 := Scalar.muli v2 c512_i32
  let v4 : BitVec 32 := v3
  let v59 : Index := Scalar.indexCast v4
  let c0_27 : Index := 0#32
  ![0, v59.toNat, 0]
def k0_off2 (i : grid0.Coords) : Fin 3 → Nat :=
  let c0_51 : Index := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let c512_i32 : BitVec 32 := 512#32
  let v3 : BitVec 32 := Scalar.muli v2 c512_i32
  let v4 : BitVec 32 := v3
  let v98 : Index := Scalar.indexCast v4
  let c128_52 : Index := 128#32
  ![0, v98.toNat, 128]
def k0_off3 (i : grid0.Coords) : Fin 3 → Nat :=
  let c0_77 : Index := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let c512_i32 : BitVec 32 := 512#32
  let v3 : BitVec 32 := Scalar.muli v2 c512_i32
  let v4 : BitVec 32 := v3
  let v137 : Index := Scalar.indexCast v4
  let c256_78 : Index := 256#32
  ![0, v137.toNat, 256]
def k0_off4 (i : grid0.Coords) : Fin 3 → Nat :=
  let c0_102 : Index := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let c512_i32 : BitVec 32 := 512#32
  let v3 : BitVec 32 := Scalar.muli v2 c512_i32
  let v4 : BitVec 32 := v3
  let v176 : Index := Scalar.indexCast v4
  let c384_103 : Index := 384#32
  ![0, v176.toNat, 384]
@[reducible] def k0_t1_loop (i : grid0.Coords) : Scf.Loop 32 :=
  let c0_i32_128 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v215 : BitVec 32 := Scalar.subi v2 c0_i32_128
  let c1_i32_129 : BitVec 32 := 1#32
  let v217 : BitVec 32 := Scalar.divsi v215 c1_i32_129
  let v218 : BitVec 32 := Scalar.muli v217 c1_i32_129
  let v219 : BitVec 32 := Scalar.addi c0_i32_128 v218
  let c1_i32_130 : BitVec 32 := 1#32
  ⟨c0_i32_128, v219, c1_i32_130⟩
def k0_mult3 (i : grid0.Coords) (k0_t1 : Fin (k0_t1_loop i).trips) : BitVec 32 :=
  let c0_i32_128 : BitVec 32 := 0#32
  let c1_i32_130 : BitVec 32 := 1#32
  let arg14 : BitVec 32 := Scf.iv c0_i32_128 c1_i32_130 k0_t1
  let c512_i32_619 : BitVec 32 := 512#32
  let v892 : BitVec 32 := Scalar.muli arg14 c512_i32_619
  v892
def k0_off5 (i : grid0.Coords) (k0_t1 : Fin (k0_t1_loop i).trips) : Fin 3 → Nat :=
  let c0_620 : Index := 0#32
  let c0_i32_128 : BitVec 32 := 0#32
  let c1_i32_130 : BitVec 32 := 1#32
  let arg14 : BitVec 32 := Scf.iv c0_i32_128 c1_i32_130 k0_t1
  let c512_i32_619 : BitVec 32 := 512#32
  let v892 : BitVec 32 := Scalar.muli arg14 c512_i32_619
  let v893 : BitVec 32 := v892
  let v894 : Index := Scalar.indexCast v893
  let c0_621 : Index := 0#32
  ![0, v894.toNat, 0]
def k0_mult4 (i : grid0.Coords) (k0_t1 : Fin (k0_t1_loop i).trips) : BitVec 32 :=
  let c0_i32_128 : BitVec 32 := 0#32
  let c1_i32_130 : BitVec 32 := 1#32
  let arg14 : BitVec 32 := Scf.iv c0_i32_128 c1_i32_130 k0_t1
  let c512_i32_658 : BitVec 32 := 512#32
  let v939 : BitVec 32 := Scalar.muli arg14 c512_i32_658
  v939
def k0_off6 (i : grid0.Coords) (k0_t1 : Fin (k0_t1_loop i).trips) : Fin 3 → Nat :=
  let c0_659 : Index := 0#32
  let c0_i32_128 : BitVec 32 := 0#32
  let c1_i32_130 : BitVec 32 := 1#32
  let arg14 : BitVec 32 := Scf.iv c0_i32_128 c1_i32_130 k0_t1
  let c512_i32_658 : BitVec 32 := 512#32
  let v939 : BitVec 32 := Scalar.muli arg14 c512_i32_658
  let v940 : BitVec 32 := v939
  let v941 : Index := Scalar.indexCast v940
  let c128_660 : Index := 128#32
  ![0, v941.toNat, 128]
def k0_mult5 (i : grid0.Coords) (k0_t1 : Fin (k0_t1_loop i).trips) : BitVec 32 :=
  let c0_i32_128 : BitVec 32 := 0#32
  let c1_i32_130 : BitVec 32 := 1#32
  let arg14 : BitVec 32 := Scf.iv c0_i32_128 c1_i32_130 k0_t1
  let c512_i32_697 : BitVec 32 := 512#32
  let v986 : BitVec 32 := Scalar.muli arg14 c512_i32_697
  v986
def k0_off7 (i : grid0.Coords) (k0_t1 : Fin (k0_t1_loop i).trips) : Fin 3 → Nat :=
  let c0_698 : Index := 0#32
  let c0_i32_128 : BitVec 32 := 0#32
  let c1_i32_130 : BitVec 32 := 1#32
  let arg14 : BitVec 32 := Scf.iv c0_i32_128 c1_i32_130 k0_t1
  let c512_i32_697 : BitVec 32 := 512#32
  let v986 : BitVec 32 := Scalar.muli arg14 c512_i32_697
  let v987 : BitVec 32 := v986
  let v988 : Index := Scalar.indexCast v987
  let c256_699 : Index := 256#32
  ![0, v988.toNat, 256]
def k0_mult6 (i : grid0.Coords) (k0_t1 : Fin (k0_t1_loop i).trips) : BitVec 32 :=
  let c0_i32_128 : BitVec 32 := 0#32
  let c1_i32_130 : BitVec 32 := 1#32
  let arg14 : BitVec 32 := Scf.iv c0_i32_128 c1_i32_130 k0_t1
  let c512_i32_736 : BitVec 32 := 512#32
  let v1033 : BitVec 32 := Scalar.muli arg14 c512_i32_736
  v1033
def k0_off8 (i : grid0.Coords) (k0_t1 : Fin (k0_t1_loop i).trips) : Fin 3 → Nat :=
  let c0_737 : Index := 0#32
  let c0_i32_128 : BitVec 32 := 0#32
  let c1_i32_130 : BitVec 32 := 1#32
  let arg14 : BitVec 32 := Scf.iv c0_i32_128 c1_i32_130 k0_t1
  let c512_i32_736 : BitVec 32 := 512#32
  let v1033 : BitVec 32 := Scalar.muli arg14 c512_i32_736
  let v1034 : BitVec 32 := v1033
  let v1035 : Index := Scalar.indexCast v1034
  let c384_738 : Index := 384#32
  ![0, v1035.toNat, 384]
@[reducible] def k0_t2_loop (i : grid0.Coords) : Scf.Loop 32 :=
  let c0_i32_128 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v215 : BitVec 32 := Scalar.subi v2 c0_i32_128
  let c1_i32_129 : BitVec 32 := 1#32
  let v217 : BitVec 32 := Scalar.divsi v215 c1_i32_129
  let v218 : BitVec 32 := Scalar.muli v217 c1_i32_129
  let v219 : BitVec 32 := Scalar.addi c0_i32_128 v218
  let v216 : BitVec 32 := Scalar.addi c0_i32_128 v215
  let c1_i32_131 : BitVec 32 := 1#32
  ⟨v219, v216, c1_i32_131⟩
def k0_mult7 (i : grid0.Coords) (k0_t2 : Fin (k0_t2_loop i).trips) : BitVec 32 :=
  let c0_i32_128 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v215 : BitVec 32 := Scalar.subi v2 c0_i32_128
  let c1_i32_129 : BitVec 32 := 1#32
  let v217 : BitVec 32 := Scalar.divsi v215 c1_i32_129
  let v218 : BitVec 32 := Scalar.muli v217 c1_i32_129
  let v219 : BitVec 32 := Scalar.addi c0_i32_128 v218
  let c1_i32_131 : BitVec 32 := 1#32
  let arg14 : BitVec 32 := Scf.iv v219 c1_i32_131 k0_t2
  let c512_i32_619 : BitVec 32 := 512#32
  let v892 : BitVec 32 := Scalar.muli arg14 c512_i32_619
  v892
def k0_off9 (i : grid0.Coords) (k0_t2 : Fin (k0_t2_loop i).trips) : Fin 3 → Nat :=
  let c0_620 : Index := 0#32
  let c0_i32_128 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v215 : BitVec 32 := Scalar.subi v2 c0_i32_128
  let c1_i32_129 : BitVec 32 := 1#32
  let v217 : BitVec 32 := Scalar.divsi v215 c1_i32_129
  let v218 : BitVec 32 := Scalar.muli v217 c1_i32_129
  let v219 : BitVec 32 := Scalar.addi c0_i32_128 v218
  let c1_i32_131 : BitVec 32 := 1#32
  let arg14 : BitVec 32 := Scf.iv v219 c1_i32_131 k0_t2
  let c512_i32_619 : BitVec 32 := 512#32
  let v892 : BitVec 32 := Scalar.muli arg14 c512_i32_619
  let v893 : BitVec 32 := v892
  let v894 : Index := Scalar.indexCast v893
  let c0_621 : Index := 0#32
  ![0, v894.toNat, 0]
def k0_mult8 (i : grid0.Coords) (k0_t2 : Fin (k0_t2_loop i).trips) : BitVec 32 :=
  let c0_i32_128 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v215 : BitVec 32 := Scalar.subi v2 c0_i32_128
  let c1_i32_129 : BitVec 32 := 1#32
  let v217 : BitVec 32 := Scalar.divsi v215 c1_i32_129
  let v218 : BitVec 32 := Scalar.muli v217 c1_i32_129
  let v219 : BitVec 32 := Scalar.addi c0_i32_128 v218
  let c1_i32_131 : BitVec 32 := 1#32
  let arg14 : BitVec 32 := Scf.iv v219 c1_i32_131 k0_t2
  let c512_i32_658 : BitVec 32 := 512#32
  let v939 : BitVec 32 := Scalar.muli arg14 c512_i32_658
  v939
def k0_off10 (i : grid0.Coords) (k0_t2 : Fin (k0_t2_loop i).trips) : Fin 3 → Nat :=
  let c0_659 : Index := 0#32
  let c0_i32_128 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v215 : BitVec 32 := Scalar.subi v2 c0_i32_128
  let c1_i32_129 : BitVec 32 := 1#32
  let v217 : BitVec 32 := Scalar.divsi v215 c1_i32_129
  let v218 : BitVec 32 := Scalar.muli v217 c1_i32_129
  let v219 : BitVec 32 := Scalar.addi c0_i32_128 v218
  let c1_i32_131 : BitVec 32 := 1#32
  let arg14 : BitVec 32 := Scf.iv v219 c1_i32_131 k0_t2
  let c512_i32_658 : BitVec 32 := 512#32
  let v939 : BitVec 32 := Scalar.muli arg14 c512_i32_658
  let v940 : BitVec 32 := v939
  let v941 : Index := Scalar.indexCast v940
  let c128_660 : Index := 128#32
  ![0, v941.toNat, 128]
def k0_mult9 (i : grid0.Coords) (k0_t2 : Fin (k0_t2_loop i).trips) : BitVec 32 :=
  let c0_i32_128 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v215 : BitVec 32 := Scalar.subi v2 c0_i32_128
  let c1_i32_129 : BitVec 32 := 1#32
  let v217 : BitVec 32 := Scalar.divsi v215 c1_i32_129
  let v218 : BitVec 32 := Scalar.muli v217 c1_i32_129
  let v219 : BitVec 32 := Scalar.addi c0_i32_128 v218
  let c1_i32_131 : BitVec 32 := 1#32
  let arg14 : BitVec 32 := Scf.iv v219 c1_i32_131 k0_t2
  let c512_i32_697 : BitVec 32 := 512#32
  let v986 : BitVec 32 := Scalar.muli arg14 c512_i32_697
  v986
def k0_off11 (i : grid0.Coords) (k0_t2 : Fin (k0_t2_loop i).trips) : Fin 3 → Nat :=
  let c0_698 : Index := 0#32
  let c0_i32_128 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v215 : BitVec 32 := Scalar.subi v2 c0_i32_128
  let c1_i32_129 : BitVec 32 := 1#32
  let v217 : BitVec 32 := Scalar.divsi v215 c1_i32_129
  let v218 : BitVec 32 := Scalar.muli v217 c1_i32_129
  let v219 : BitVec 32 := Scalar.addi c0_i32_128 v218
  let c1_i32_131 : BitVec 32 := 1#32
  let arg14 : BitVec 32 := Scf.iv v219 c1_i32_131 k0_t2
  let c512_i32_697 : BitVec 32 := 512#32
  let v986 : BitVec 32 := Scalar.muli arg14 c512_i32_697
  let v987 : BitVec 32 := v986
  let v988 : Index := Scalar.indexCast v987
  let c256_699 : Index := 256#32
  ![0, v988.toNat, 256]
def k0_mult10 (i : grid0.Coords) (k0_t2 : Fin (k0_t2_loop i).trips) : BitVec 32 :=
  let c0_i32_128 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v215 : BitVec 32 := Scalar.subi v2 c0_i32_128
  let c1_i32_129 : BitVec 32 := 1#32
  let v217 : BitVec 32 := Scalar.divsi v215 c1_i32_129
  let v218 : BitVec 32 := Scalar.muli v217 c1_i32_129
  let v219 : BitVec 32 := Scalar.addi c0_i32_128 v218
  let c1_i32_131 : BitVec 32 := 1#32
  let arg14 : BitVec 32 := Scf.iv v219 c1_i32_131 k0_t2
  let c512_i32_736 : BitVec 32 := 512#32
  let v1033 : BitVec 32 := Scalar.muli arg14 c512_i32_736
  v1033
def k0_off12 (i : grid0.Coords) (k0_t2 : Fin (k0_t2_loop i).trips) : Fin 3 → Nat :=
  let c0_737 : Index := 0#32
  let c0_i32_128 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v215 : BitVec 32 := Scalar.subi v2 c0_i32_128
  let c1_i32_129 : BitVec 32 := 1#32
  let v217 : BitVec 32 := Scalar.divsi v215 c1_i32_129
  let v218 : BitVec 32 := Scalar.muli v217 c1_i32_129
  let v219 : BitVec 32 := Scalar.addi c0_i32_128 v218
  let c1_i32_131 : BitVec 32 := 1#32
  let arg14 : BitVec 32 := Scf.iv v219 c1_i32_131 k0_t2
  let c512_i32_736 : BitVec 32 := 512#32
  let v1033 : BitVec 32 := Scalar.muli arg14 c512_i32_736
  let v1034 : BitVec 32 := v1033
  let v1035 : Index := Scalar.indexCast v1034
  let c384_738 : Index := 384#32
  ![0, v1035.toNat, 384]
def k0_off13 (i : grid0.Coords) : Fin 3 → Nat :=
  let c0_132 : Index := 0#32
  let arg2 : BitVec 32 := BitVec.ofNat 32 (i 2).val
  let c512_i32_1 : BitVec 32 := 512#32
  let v5 : BitVec 32 := Scalar.muli arg2 c512_i32_1
  let v6 : BitVec 32 := v5
  let v220 : Index := Scalar.indexCast v6
  let c0_133 : Index := 0#32
  ![0, v220.toNat, 0]
def k0_off14 (i : grid0.Coords) : Fin 3 → Nat :=
  let c0_173 : Index := 0#32
  let arg2 : BitVec 32 := BitVec.ofNat 32 (i 2).val
  let c512_i32_1 : BitVec 32 := 512#32
  let v5 : BitVec 32 := Scalar.muli arg2 c512_i32_1
  let v6 : BitVec 32 := v5
  let v268 : Index := Scalar.indexCast v6
  let c0_174 : Index := 0#32
  ![0, v268.toNat, 0]
def k0_off15 (i : grid0.Coords) : Fin 3 → Nat :=
  let c0_253 : Index := 0#32
  let arg2 : BitVec 32 := BitVec.ofNat 32 (i 2).val
  let c512_i32_1 : BitVec 32 := 512#32
  let v5 : BitVec 32 := Scalar.muli arg2 c512_i32_1
  let v6 : BitVec 32 := v5
  let v388 : Index := Scalar.indexCast v6
  let c128_254 : Index := 128#32
  ![0, v388.toNat, 128]
def k0_off16 (i : grid0.Coords) : Fin 3 → Nat :=
  let c0_295 : Index := 0#32
  let arg2 : BitVec 32 := BitVec.ofNat 32 (i 2).val
  let c512_i32_1 : BitVec 32 := 512#32
  let v5 : BitVec 32 := Scalar.muli arg2 c512_i32_1
  let v6 : BitVec 32 := v5
  let v436 : Index := Scalar.indexCast v6
  let c128_296 : Index := 128#32
  ![0, v436.toNat, 128]
def k0_off17 (i : grid0.Coords) : Fin 3 → Nat :=
  let c0_375 : Index := 0#32
  let arg2 : BitVec 32 := BitVec.ofNat 32 (i 2).val
  let c512_i32_1 : BitVec 32 := 512#32
  let v5 : BitVec 32 := Scalar.muli arg2 c512_i32_1
  let v6 : BitVec 32 := v5
  let v556 : Index := Scalar.indexCast v6
  let c256_376 : Index := 256#32
  ![0, v556.toNat, 256]
def k0_off18 (i : grid0.Coords) : Fin 3 → Nat :=
  let c0_417 : Index := 0#32
  let arg2 : BitVec 32 := BitVec.ofNat 32 (i 2).val
  let c512_i32_1 : BitVec 32 := 512#32
  let v5 : BitVec 32 := Scalar.muli arg2 c512_i32_1
  let v6 : BitVec 32 := v5
  let v604 : Index := Scalar.indexCast v6
  let c256_418 : Index := 256#32
  ![0, v604.toNat, 256]
def k0_off19 (i : grid0.Coords) : Fin 3 → Nat :=
  let c0_497 : Index := 0#32
  let arg2 : BitVec 32 := BitVec.ofNat 32 (i 2).val
  let c512_i32_1 : BitVec 32 := 512#32
  let v5 : BitVec 32 := Scalar.muli arg2 c512_i32_1
  let v6 : BitVec 32 := v5
  let v724 : Index := Scalar.indexCast v6
  let c384_498 : Index := 384#32
  ![0, v724.toNat, 384]
def k0_off20 (i : grid0.Coords) : Fin 3 → Nat :=
  let c0_539 : Index := 0#32
  let arg2 : BitVec 32 := BitVec.ofNat 32 (i 2).val
  let c512_i32_1 : BitVec 32 := 512#32
  let v5 : BitVec 32 := Scalar.muli arg2 c512_i32_1
  let v6 : BitVec 32 := v5
  let v772 : Index := Scalar.indexCast v6
  let c384_540 : Index := 384#32
  ![0, v772.toNat, 384]
@[reducible] def k0_t3_loop (i : grid0.Coords) : Scf.Loop 32 :=
  let c0_i32_12 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v27 : BitVec 32 := Scalar.subi v2 c0_i32_12
  let c1_i32_13 : BitVec 32 := 1#32
  let v29 : BitVec 32 := Scalar.divsi v27 c1_i32_13
  let v30 : BitVec 32 := Scalar.muli v29 c1_i32_13
  let v31 : BitVec 32 := Scalar.addi c0_i32_12 v30
  let c1_i32_14 : BitVec 32 := 1#32
  ⟨c0_i32_12, v31, c1_i32_14⟩
def k0_mult11 (i : grid0.Coords) (k0_t3 : Fin (k0_t3_loop i).trips) : BitVec 32 :=
  let c0_i32_12 : BitVec 32 := 0#32
  let c1_i32_14 : BitVec 32 := 1#32
  let arg14 : BitVec 32 := Scf.iv c0_i32_12 c1_i32_14 k0_t3
  let c512_i32_264 : BitVec 32 := 512#32
  let v698 : BitVec 32 := Scalar.muli arg14 c512_i32_264
  v698
def k0_off21 (i : grid0.Coords) (k0_t3 : Fin (k0_t3_loop i).trips) : Fin 3 → Nat :=
  let c0_265 : Index := 0#32
  let c0_i32_12 : BitVec 32 := 0#32
  let c1_i32_14 : BitVec 32 := 1#32
  let arg14 : BitVec 32 := Scf.iv c0_i32_12 c1_i32_14 k0_t3
  let c512_i32_264 : BitVec 32 := 512#32
  let v698 : BitVec 32 := Scalar.muli arg14 c512_i32_264
  let v699 : BitVec 32 := v698
  let v700 : Index := Scalar.indexCast v699
  let c0_266 : Index := 0#32
  ![0, v700.toNat, 0]
@[reducible] def k0_t4_loop (i : grid0.Coords) : Scf.Loop 32 :=
  let c0_i32_12 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v27 : BitVec 32 := Scalar.subi v2 c0_i32_12
  let c1_i32_13 : BitVec 32 := 1#32
  let v29 : BitVec 32 := Scalar.divsi v27 c1_i32_13
  let v30 : BitVec 32 := Scalar.muli v29 c1_i32_13
  let v31 : BitVec 32 := Scalar.addi c0_i32_12 v30
  let v28 : BitVec 32 := Scalar.addi c0_i32_12 v27
  let c1_i32_15 : BitVec 32 := 1#32
  ⟨v31, v28, c1_i32_15⟩
def k0_mult12 (i : grid0.Coords) (k0_t4 : Fin (k0_t4_loop i).trips) : BitVec 32 :=
  let c0_i32_12 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v27 : BitVec 32 := Scalar.subi v2 c0_i32_12
  let c1_i32_13 : BitVec 32 := 1#32
  let v29 : BitVec 32 := Scalar.divsi v27 c1_i32_13
  let v30 : BitVec 32 := Scalar.muli v29 c1_i32_13
  let v31 : BitVec 32 := Scalar.addi c0_i32_12 v30
  let c1_i32_15 : BitVec 32 := 1#32
  let arg14 : BitVec 32 := Scf.iv v31 c1_i32_15 k0_t4
  let c512_i32_264 : BitVec 32 := 512#32
  let v698 : BitVec 32 := Scalar.muli arg14 c512_i32_264
  v698
def k0_off22 (i : grid0.Coords) (k0_t4 : Fin (k0_t4_loop i).trips) : Fin 3 → Nat :=
  let c0_265 : Index := 0#32
  let c0_i32_12 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v27 : BitVec 32 := Scalar.subi v2 c0_i32_12
  let c1_i32_13 : BitVec 32 := 1#32
  let v29 : BitVec 32 := Scalar.divsi v27 c1_i32_13
  let v30 : BitVec 32 := Scalar.muli v29 c1_i32_13
  let v31 : BitVec 32 := Scalar.addi c0_i32_12 v30
  let c1_i32_15 : BitVec 32 := 1#32
  let arg14 : BitVec 32 := Scf.iv v31 c1_i32_15 k0_t4
  let c512_i32_264 : BitVec 32 := 512#32
  let v698 : BitVec 32 := Scalar.muli arg14 c512_i32_264
  let v699 : BitVec 32 := v698
  let v700 : Index := Scalar.indexCast v699
  let c0_266 : Index := 0#32
  ![0, v700.toNat, 0]
def k0_off23 (i : grid0.Coords) : Fin 3 → Nat :=
  let c0_18 : Index := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let c512_i32 : BitVec 32 := 512#32
  let v3 : BitVec 32 := Scalar.muli v2 c512_i32
  let v4 : BitVec 32 := v3
  let v35 : Index := Scalar.indexCast v4
  let c0_19 : Index := 0#32
  ![0, v35.toNat, 0]
def k0_off24 (i : grid0.Coords) : Fin 3 → Nat :=
  let c0_34 : Index := 0#32
  let arg2 : BitVec 32 := BitVec.ofNat 32 (i 2).val
  let c512_i32_1 : BitVec 32 := 512#32
  let v5 : BitVec 32 := Scalar.muli arg2 c512_i32_1
  let v6 : BitVec 32 := v5
  let v83 : Index := Scalar.indexCast v6
  let c0_35 : Index := 0#32
  ![0, v83.toNat, 0]
@[reducible] def k0_t5_loop (i : grid0.Coords) : Scf.Loop 32 :=
  let c0_i32_77 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v198 : BitVec 32 := Scalar.subi v2 c0_i32_77
  let c1_i32_78 : BitVec 32 := 1#32
  let v200 : BitVec 32 := Scalar.divsi v198 c1_i32_78
  let v201 : BitVec 32 := Scalar.muli v200 c1_i32_78
  let v202 : BitVec 32 := Scalar.addi c0_i32_77 v201
  let c1_i32_79 : BitVec 32 := 1#32
  ⟨c0_i32_77, v202, c1_i32_79⟩
def k0_mult13 (i : grid0.Coords) (k0_t5 : Fin (k0_t5_loop i).trips) : BitVec 32 :=
  let c0_i32_77 : BitVec 32 := 0#32
  let c1_i32_79 : BitVec 32 := 1#32
  let arg14 : BitVec 32 := Scf.iv c0_i32_77 c1_i32_79 k0_t5
  let c512_i32_264 : BitVec 32 := 512#32
  let v698 : BitVec 32 := Scalar.muli arg14 c512_i32_264
  v698
def k0_off25 (i : grid0.Coords) (k0_t5 : Fin (k0_t5_loop i).trips) : Fin 3 → Nat :=
  let c0_265 : Index := 0#32
  let c0_i32_77 : BitVec 32 := 0#32
  let c1_i32_79 : BitVec 32 := 1#32
  let arg14 : BitVec 32 := Scf.iv c0_i32_77 c1_i32_79 k0_t5
  let c512_i32_264 : BitVec 32 := 512#32
  let v698 : BitVec 32 := Scalar.muli arg14 c512_i32_264
  let v699 : BitVec 32 := v698
  let v700 : Index := Scalar.indexCast v699
  let c128_266 : Index := 128#32
  ![0, v700.toNat, 128]
@[reducible] def k0_t6_loop (i : grid0.Coords) : Scf.Loop 32 :=
  let c0_i32_77 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v198 : BitVec 32 := Scalar.subi v2 c0_i32_77
  let c1_i32_78 : BitVec 32 := 1#32
  let v200 : BitVec 32 := Scalar.divsi v198 c1_i32_78
  let v201 : BitVec 32 := Scalar.muli v200 c1_i32_78
  let v202 : BitVec 32 := Scalar.addi c0_i32_77 v201
  let v199 : BitVec 32 := Scalar.addi c0_i32_77 v198
  let c1_i32_80 : BitVec 32 := 1#32
  ⟨v202, v199, c1_i32_80⟩
def k0_mult14 (i : grid0.Coords) (k0_t6 : Fin (k0_t6_loop i).trips) : BitVec 32 :=
  let c0_i32_77 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v198 : BitVec 32 := Scalar.subi v2 c0_i32_77
  let c1_i32_78 : BitVec 32 := 1#32
  let v200 : BitVec 32 := Scalar.divsi v198 c1_i32_78
  let v201 : BitVec 32 := Scalar.muli v200 c1_i32_78
  let v202 : BitVec 32 := Scalar.addi c0_i32_77 v201
  let c1_i32_80 : BitVec 32 := 1#32
  let arg14 : BitVec 32 := Scf.iv v202 c1_i32_80 k0_t6
  let c512_i32_264 : BitVec 32 := 512#32
  let v698 : BitVec 32 := Scalar.muli arg14 c512_i32_264
  v698
def k0_off26 (i : grid0.Coords) (k0_t6 : Fin (k0_t6_loop i).trips) : Fin 3 → Nat :=
  let c0_265 : Index := 0#32
  let c0_i32_77 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v198 : BitVec 32 := Scalar.subi v2 c0_i32_77
  let c1_i32_78 : BitVec 32 := 1#32
  let v200 : BitVec 32 := Scalar.divsi v198 c1_i32_78
  let v201 : BitVec 32 := Scalar.muli v200 c1_i32_78
  let v202 : BitVec 32 := Scalar.addi c0_i32_77 v201
  let c1_i32_80 : BitVec 32 := 1#32
  let arg14 : BitVec 32 := Scf.iv v202 c1_i32_80 k0_t6
  let c512_i32_264 : BitVec 32 := 512#32
  let v698 : BitVec 32 := Scalar.muli arg14 c512_i32_264
  let v699 : BitVec 32 := v698
  let v700 : Index := Scalar.indexCast v699
  let c128_266 : Index := 128#32
  ![0, v700.toNat, 128]
def k0_off27 (i : grid0.Coords) : Fin 3 → Nat :=
  let c0_83 : Index := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let c512_i32 : BitVec 32 := 512#32
  let v3 : BitVec 32 := Scalar.muli v2 c512_i32
  let v4 : BitVec 32 := v3
  let v206 : Index := Scalar.indexCast v4
  let c128_84 : Index := 128#32
  ![0, v206.toNat, 128]
def k0_off28 (i : grid0.Coords) : Fin 3 → Nat :=
  let c0_98 : Index := 0#32
  let arg2 : BitVec 32 := BitVec.ofNat 32 (i 2).val
  let c512_i32_1 : BitVec 32 := 512#32
  let v5 : BitVec 32 := Scalar.muli arg2 c512_i32_1
  let v6 : BitVec 32 := v5
  let v254 : Index := Scalar.indexCast v6
  let c128_99 : Index := 128#32
  ![0, v254.toNat, 128]
@[reducible] def k0_t7_loop (i : grid0.Coords) : Scf.Loop 32 :=
  let c0_i32_142 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v369 : BitVec 32 := Scalar.subi v2 c0_i32_142
  let c1_i32_143 : BitVec 32 := 1#32
  let v371 : BitVec 32 := Scalar.divsi v369 c1_i32_143
  let v372 : BitVec 32 := Scalar.muli v371 c1_i32_143
  let v373 : BitVec 32 := Scalar.addi c0_i32_142 v372
  let c1_i32_144 : BitVec 32 := 1#32
  ⟨c0_i32_142, v373, c1_i32_144⟩
def k0_mult15 (i : grid0.Coords) (k0_t7 : Fin (k0_t7_loop i).trips) : BitVec 32 :=
  let c0_i32_142 : BitVec 32 := 0#32
  let c1_i32_144 : BitVec 32 := 1#32
  let arg14 : BitVec 32 := Scf.iv c0_i32_142 c1_i32_144 k0_t7
  let c512_i32_264 : BitVec 32 := 512#32
  let v698 : BitVec 32 := Scalar.muli arg14 c512_i32_264
  v698
def k0_off29 (i : grid0.Coords) (k0_t7 : Fin (k0_t7_loop i).trips) : Fin 3 → Nat :=
  let c0_265 : Index := 0#32
  let c0_i32_142 : BitVec 32 := 0#32
  let c1_i32_144 : BitVec 32 := 1#32
  let arg14 : BitVec 32 := Scf.iv c0_i32_142 c1_i32_144 k0_t7
  let c512_i32_264 : BitVec 32 := 512#32
  let v698 : BitVec 32 := Scalar.muli arg14 c512_i32_264
  let v699 : BitVec 32 := v698
  let v700 : Index := Scalar.indexCast v699
  let c256_266 : Index := 256#32
  ![0, v700.toNat, 256]
@[reducible] def k0_t8_loop (i : grid0.Coords) : Scf.Loop 32 :=
  let c0_i32_142 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v369 : BitVec 32 := Scalar.subi v2 c0_i32_142
  let c1_i32_143 : BitVec 32 := 1#32
  let v371 : BitVec 32 := Scalar.divsi v369 c1_i32_143
  let v372 : BitVec 32 := Scalar.muli v371 c1_i32_143
  let v373 : BitVec 32 := Scalar.addi c0_i32_142 v372
  let v370 : BitVec 32 := Scalar.addi c0_i32_142 v369
  let c1_i32_145 : BitVec 32 := 1#32
  ⟨v373, v370, c1_i32_145⟩
def k0_mult16 (i : grid0.Coords) (k0_t8 : Fin (k0_t8_loop i).trips) : BitVec 32 :=
  let c0_i32_142 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v369 : BitVec 32 := Scalar.subi v2 c0_i32_142
  let c1_i32_143 : BitVec 32 := 1#32
  let v371 : BitVec 32 := Scalar.divsi v369 c1_i32_143
  let v372 : BitVec 32 := Scalar.muli v371 c1_i32_143
  let v373 : BitVec 32 := Scalar.addi c0_i32_142 v372
  let c1_i32_145 : BitVec 32 := 1#32
  let arg14 : BitVec 32 := Scf.iv v373 c1_i32_145 k0_t8
  let c512_i32_264 : BitVec 32 := 512#32
  let v698 : BitVec 32 := Scalar.muli arg14 c512_i32_264
  v698
def k0_off30 (i : grid0.Coords) (k0_t8 : Fin (k0_t8_loop i).trips) : Fin 3 → Nat :=
  let c0_265 : Index := 0#32
  let c0_i32_142 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v369 : BitVec 32 := Scalar.subi v2 c0_i32_142
  let c1_i32_143 : BitVec 32 := 1#32
  let v371 : BitVec 32 := Scalar.divsi v369 c1_i32_143
  let v372 : BitVec 32 := Scalar.muli v371 c1_i32_143
  let v373 : BitVec 32 := Scalar.addi c0_i32_142 v372
  let c1_i32_145 : BitVec 32 := 1#32
  let arg14 : BitVec 32 := Scf.iv v373 c1_i32_145 k0_t8
  let c512_i32_264 : BitVec 32 := 512#32
  let v698 : BitVec 32 := Scalar.muli arg14 c512_i32_264
  let v699 : BitVec 32 := v698
  let v700 : Index := Scalar.indexCast v699
  let c256_266 : Index := 256#32
  ![0, v700.toNat, 256]
def k0_off31 (i : grid0.Coords) : Fin 3 → Nat :=
  let c0_148 : Index := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let c512_i32 : BitVec 32 := 512#32
  let v3 : BitVec 32 := Scalar.muli v2 c512_i32
  let v4 : BitVec 32 := v3
  let v377 : Index := Scalar.indexCast v4
  let c256_149 : Index := 256#32
  ![0, v377.toNat, 256]
def k0_off32 (i : grid0.Coords) : Fin 3 → Nat :=
  let c0_163 : Index := 0#32
  let arg2 : BitVec 32 := BitVec.ofNat 32 (i 2).val
  let c512_i32_1 : BitVec 32 := 512#32
  let v5 : BitVec 32 := Scalar.muli arg2 c512_i32_1
  let v6 : BitVec 32 := v5
  let v425 : Index := Scalar.indexCast v6
  let c256_164 : Index := 256#32
  ![0, v425.toNat, 256]
@[reducible] def k0_t9_loop (i : grid0.Coords) : Scf.Loop 32 :=
  let c0_i32_207 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v540 : BitVec 32 := Scalar.subi v2 c0_i32_207
  let c1_i32_208 : BitVec 32 := 1#32
  let v542 : BitVec 32 := Scalar.divsi v540 c1_i32_208
  let v543 : BitVec 32 := Scalar.muli v542 c1_i32_208
  let v544 : BitVec 32 := Scalar.addi c0_i32_207 v543
  let c1_i32_209 : BitVec 32 := 1#32
  ⟨c0_i32_207, v544, c1_i32_209⟩
def k0_mult17 (i : grid0.Coords) (k0_t9 : Fin (k0_t9_loop i).trips) : BitVec 32 :=
  let c0_i32_207 : BitVec 32 := 0#32
  let c1_i32_209 : BitVec 32 := 1#32
  let arg14 : BitVec 32 := Scf.iv c0_i32_207 c1_i32_209 k0_t9
  let c512_i32_264 : BitVec 32 := 512#32
  let v698 : BitVec 32 := Scalar.muli arg14 c512_i32_264
  v698
def k0_off33 (i : grid0.Coords) (k0_t9 : Fin (k0_t9_loop i).trips) : Fin 3 → Nat :=
  let c0_265 : Index := 0#32
  let c0_i32_207 : BitVec 32 := 0#32
  let c1_i32_209 : BitVec 32 := 1#32
  let arg14 : BitVec 32 := Scf.iv c0_i32_207 c1_i32_209 k0_t9
  let c512_i32_264 : BitVec 32 := 512#32
  let v698 : BitVec 32 := Scalar.muli arg14 c512_i32_264
  let v699 : BitVec 32 := v698
  let v700 : Index := Scalar.indexCast v699
  let c384_266 : Index := 384#32
  ![0, v700.toNat, 384]
@[reducible] def k0_t10_loop (i : grid0.Coords) : Scf.Loop 32 :=
  let c0_i32_207 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v540 : BitVec 32 := Scalar.subi v2 c0_i32_207
  let c1_i32_208 : BitVec 32 := 1#32
  let v542 : BitVec 32 := Scalar.divsi v540 c1_i32_208
  let v543 : BitVec 32 := Scalar.muli v542 c1_i32_208
  let v544 : BitVec 32 := Scalar.addi c0_i32_207 v543
  let v541 : BitVec 32 := Scalar.addi c0_i32_207 v540
  let c1_i32_210 : BitVec 32 := 1#32
  ⟨v544, v541, c1_i32_210⟩
def k0_mult18 (i : grid0.Coords) (k0_t10 : Fin (k0_t10_loop i).trips) : BitVec 32 :=
  let c0_i32_207 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v540 : BitVec 32 := Scalar.subi v2 c0_i32_207
  let c1_i32_208 : BitVec 32 := 1#32
  let v542 : BitVec 32 := Scalar.divsi v540 c1_i32_208
  let v543 : BitVec 32 := Scalar.muli v542 c1_i32_208
  let v544 : BitVec 32 := Scalar.addi c0_i32_207 v543
  let c1_i32_210 : BitVec 32 := 1#32
  let arg14 : BitVec 32 := Scf.iv v544 c1_i32_210 k0_t10
  let c512_i32_264 : BitVec 32 := 512#32
  let v698 : BitVec 32 := Scalar.muli arg14 c512_i32_264
  v698
def k0_off34 (i : grid0.Coords) (k0_t10 : Fin (k0_t10_loop i).trips) : Fin 3 → Nat :=
  let c0_265 : Index := 0#32
  let c0_i32_207 : BitVec 32 := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let v540 : BitVec 32 := Scalar.subi v2 c0_i32_207
  let c1_i32_208 : BitVec 32 := 1#32
  let v542 : BitVec 32 := Scalar.divsi v540 c1_i32_208
  let v543 : BitVec 32 := Scalar.muli v542 c1_i32_208
  let v544 : BitVec 32 := Scalar.addi c0_i32_207 v543
  let c1_i32_210 : BitVec 32 := 1#32
  let arg14 : BitVec 32 := Scf.iv v544 c1_i32_210 k0_t10
  let c512_i32_264 : BitVec 32 := 512#32
  let v698 : BitVec 32 := Scalar.muli arg14 c512_i32_264
  let v699 : BitVec 32 := v698
  let v700 : Index := Scalar.indexCast v699
  let c384_266 : Index := 384#32
  ![0, v700.toNat, 384]
def k0_off35 (i : grid0.Coords) : Fin 3 → Nat :=
  let c0_213 : Index := 0#32
  let arg2 : BitVec 32 := BitVec.ofNat 32 (i 2).val
  let c1_i32 : BitVec 32 := 1#32
  let v1 : BitVec 32 := Scalar.subi arg2 c1_i32
  let c0_i32_0 : BitVec 32 := 0#32
  let v2 : BitVec 32 := Scalar.maxsi v1 c0_i32_0
  let c512_i32 : BitVec 32 := 512#32
  let v3 : BitVec 32 := Scalar.muli v2 c512_i32
  let v4 : BitVec 32 := v3
  let v548 : Index := Scalar.indexCast v4
  let c384_214 : Index := 384#32
  ![0, v548.toNat, 384]
def k0_off36 (i : grid0.Coords) : Fin 3 → Nat :=
  let c0_228 : Index := 0#32
  let arg2 : BitVec 32 := BitVec.ofNat 32 (i 2).val
  let c512_i32_1 : BitVec 32 := 512#32
  let v5 : BitVec 32 := Scalar.muli arg2 c512_i32_1
  let v6 : BitVec 32 := v5
  let v596 : Index := Scalar.indexCast v6
  let c384_229 : Index := 384#32
  ![0, v596.toNat, 384]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S4x1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S1 : Shape := ⟨1, ![1]⟩
abbrev S2x8192x512 : Shape := ⟨3, ![2, 8192, 512]⟩
abbrev S32x4 : Shape := ⟨2, ![32, 4]⟩
abbrev S64 : Shape := ⟨1, ![64]⟩
abbrev S128 : Shape := ⟨1, ![128]⟩
abbrev S_ : Shape := ⟨0, ![]⟩
abbrev S8192 : Shape := ⟨1, ![8192]⟩
abbrev S2x8192x4x2x64 : Shape := ⟨5, ![2, 8192, 4, 2, 64]⟩
abbrev S2x8192x4x128 : Shape := ⟨4, ![2, 8192, 4, 128]⟩
abbrev S2x2x4x8192x8192 : Shape := ⟨5, ![2, 2, 4, 8192, 8192]⟩
abbrev S1x8192 : Shape := ⟨2, ![1, 8192]⟩
abbrev S8192x1 : Shape := ⟨2, ![8192, 1]⟩
abbrev S8192x8192 : Shape := ⟨2, ![8192, 8192]⟩
abbrev S8192x8192x1 : Shape := ⟨3, ![8192, 8192, 1]⟩
abbrev S8192x8192x4 : Shape := ⟨3, ![8192, 8192, 4]⟩
abbrev S4x8192x8192 : Shape := ⟨3, ![4, 8192, 8192]⟩
abbrev S1x1x4x8192x8192 : Shape := ⟨5, ![1, 1, 4, 8192, 8192]⟩
abbrev S2x2x4x8192 : Shape := ⟨4, ![2, 2, 4, 8192]⟩
abbrev S2x2x4x8192x1 : Shape := ⟨5, ![2, 2, 4, 8192, 1]⟩
abbrev S2x1x4x8192x8192 : Shape := ⟨5, ![2, 1, 4, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 185
  | .vmem => 0
  | .smem => 0
  | _ => 0

abbrev hbmTy0_0 (i : Nat) : BufTy := match i % 128 with
  | 0 => ⟨S1, .f32⟩
  | 1 => ⟨S2x8192x512, .f32⟩
  | 2 => ⟨S2x8192x512, .f32⟩
  | 3 => ⟨S2x8192x512, .f32⟩
  | 4 => ⟨S2x8192x512, .f32⟩
  | 5 => ⟨S32x4, .f32⟩
  | 6 => ⟨S64, .f32⟩
  | 7 => ⟨S64, .f32⟩
  | 8 => ⟨S64, .f32⟩
  | 9 => ⟨S64, .f32⟩
  | 10 => ⟨S128, .f32⟩
  | 11 => ⟨S64, .f32⟩
  | 12 => ⟨S_, .f32⟩
  | 13 => ⟨S_, .f32⟩
  | 14 => ⟨S_, .f32⟩
  | 15 => ⟨S64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S8192, .i32⟩
  | 23 => ⟨S2x8192x4x2x64, .f32⟩
  | 24 => ⟨S2x8192x4x2x64, .f32⟩
  | 25 => ⟨S2x8192x4x128, .f32⟩
  | 26 => ⟨S2x2x4x8192x8192, .f32⟩
  | 27 => ⟨S_, .f32⟩
  | 28 => ⟨S2x2x4x8192x8192, .f32⟩
  | 29 => ⟨S2x2x4x8192x8192, .f32⟩
  | 30 => ⟨S1x8192, .i32⟩
  | 31 => ⟨S8192x1, .i32⟩
  | 32 => ⟨S8192x8192, .i32⟩
  | 33 => ⟨S8192x8192, .i32⟩
  | 34 => ⟨S8192x8192, .i32⟩
  | 35 => ⟨S_, .i32⟩
  | 36 => ⟨S8192x8192, .i32⟩
  | 37 => ⟨S8192x8192, .i1⟩
  | 38 => ⟨S_, .i32⟩
  | 39 => ⟨S_, .i32⟩
  | 40 => ⟨S8192x8192, .i32⟩
  | 41 => ⟨S8192x8192, .i32⟩
  | 42 => ⟨S8192x8192, .i32⟩
  | 43 => ⟨S8192x8192, .i32⟩
  | 44 => ⟨S_, .i32⟩
  | 45 => ⟨S8192x8192, .i32⟩
  | 46 => ⟨S8192x8192, .i32⟩
  | 47 => ⟨S8192x8192, .f32⟩
  | 48 => ⟨S_, .f32⟩
  | 49 => ⟨S8192x8192, .f32⟩
  | 50 => ⟨S8192x8192, .f32⟩
  | 51 => ⟨S8192x8192, .f32⟩
  | 52 => ⟨S_, .f32⟩
  | 53 => ⟨S_, .f32⟩
  | 54 => ⟨S8192x8192, .f32⟩
  | 55 => ⟨S8192x8192, .f32⟩
  | 56 => ⟨S_, .f32⟩
  | 57 => ⟨S8192x8192, .f32⟩
  | 58 => ⟨S8192x8192, .f32⟩
  | 59 => ⟨S8192x8192, .i32⟩
  | 60 => ⟨S_, .i32⟩
  | 61 => ⟨S8192x8192, .i32⟩
  | 62 => ⟨S8192x8192, .i32⟩
  | 63 => ⟨S_, .i32⟩
  | 64 => ⟨S8192x8192, .i32⟩
  | 65 => ⟨S8192x8192, .i32⟩
  | 66 => ⟨S_, .i32⟩
  | 67 => ⟨S8192x8192, .i32⟩
  | 68 => ⟨S8192x8192, .i1⟩
  | 69 => ⟨S8192x8192, .i32⟩
  | 70 => ⟨S8192x8192, .i32⟩
  | 71 => ⟨S8192x8192, .i32⟩
  | 72 => ⟨S_, .i32⟩
  | 73 => ⟨S8192x8192, .i32⟩
  | 74 => ⟨S8192x8192, .i1⟩
  | 75 => ⟨S_, .i32⟩
  | 76 => ⟨S8192x8192, .i32⟩
  | 77 => ⟨S8192x8192, .i32⟩
  | 78 => ⟨S8192x8192, .i32⟩
  | 79 => ⟨S8192x8192x1, .i32⟩
  | 80 => ⟨S8192x8192x4, .f32⟩
  | 81 => ⟨S4x8192x8192, .f32⟩
  | 82 => ⟨S1x8192, .i32⟩
  | 83 => ⟨S_, .i32⟩
  | 84 => ⟨S_, .i32⟩
  | 85 => ⟨S1x8192, .i32⟩
  | 86 => ⟨S1x8192, .i32⟩
  | 87 => ⟨S1x8192, .i32⟩
  | 88 => ⟨S_, .i32⟩
  | 89 => ⟨S1x8192, .i32⟩
  | 90 => ⟨S1x8192, .i1⟩
  | 91 => ⟨S1x8192, .i32⟩
  | 92 => ⟨S1x8192, .i32⟩
  | 93 => ⟨S_, .i32⟩
  | 94 => ⟨S1x8192, .i32⟩
  | 95 => ⟨S1x8192, .i1⟩
  | 96 => ⟨S1x8192, .i1⟩
  | 97 => ⟨S_, .i32⟩
  | 98 => ⟨S1x8192, .i32⟩
  | 99 => ⟨S1x8192, .i32⟩
  | 100 => ⟨S1x8192, .i32⟩
  | 101 => ⟨S8192x1, .i32⟩
  | 102 => ⟨S_, .i32⟩
  | 103 => ⟨S_, .i32⟩
  | 104 => ⟨S8192x1, .i32⟩
  | 105 => ⟨S8192x1, .i32⟩
  | 106 => ⟨S8192x1, .i32⟩
  | 107 => ⟨S_, .i32⟩
  | 108 => ⟨S8192x1, .i32⟩
  | 109 => ⟨S8192x1, .i1⟩
  | 110 => ⟨S8192x1, .i32⟩
  | 111 => ⟨S8192x1, .i32⟩
  | 112 => ⟨S_, .i32⟩
  | 113 => ⟨S8192x1, .i32⟩
  | 114 => ⟨S8192x1, .i1⟩
  | 115 => ⟨S8192x1, .i1⟩
  | 116 => ⟨S_, .i32⟩
  | 117 => ⟨S8192x1, .i32⟩
  | 118 => ⟨S8192x1, .i32⟩
  | 119 => ⟨S8192x1, .i32⟩
  | 120 => ⟨S8192x8192, .i32⟩
  | 121 => ⟨S8192x8192, .i32⟩
  | 122 => ⟨S8192x8192, .i1⟩
  | 123 => ⟨S1x1x4x8192x8192, .f32⟩
  | 124 => ⟨S2x2x4x8192x8192, .f32⟩
  | 125 => ⟨S2x2x4x8192x8192, .f32⟩
  | 126 => ⟨S_, .f32⟩
  | 127 => ⟨S_, .f32⟩
  | _ => ⟨S1, .f32⟩

abbrev hbmTy0_1 (i : Nat) : BufTy := match i % 128 with
  | 0 => ⟨S2x2x4x8192x8192, .i1⟩
  | 1 => ⟨S2x2x4x8192x8192, .f32⟩
  | 2 => ⟨S2x2x4x8192x8192, .f32⟩
  | 3 => ⟨S_, .f32⟩
  | 4 => ⟨S2x2x4x8192, .f32⟩
  | 5 => ⟨S_, .f32⟩
  | 6 => ⟨S2x2x4x8192, .f32⟩
  | 7 => ⟨S2x2x4x8192, .f32⟩
  | 8 => ⟨S2x2x4x8192x1, .f32⟩
  | 9 => ⟨S2x2x4x8192x8192, .f32⟩
  | 10 => ⟨S2x2x4x8192x8192, .f32⟩
  | 11 => ⟨S2x2x4x8192x8192, .f32⟩
  | 12 => ⟨S_, .f32⟩
  | 13 => ⟨S2x2x4x8192, .f32⟩
  | 14 => ⟨S2x2x4x8192x1, .f32⟩
  | 15 => ⟨S2x2x4x8192x8192, .f32⟩
  | 16 => ⟨S2x2x4x8192x8192, .f32⟩
  | 17 => ⟨S2x1x4x8192x8192, .f32⟩
  | 18 => ⟨S2x4x8192x8192, .f32⟩
  | 19 => ⟨S2x1x4x8192x8192, .f32⟩
  | 20 => ⟨S2x4x8192x8192, .f32⟩
  | 21 => ⟨S2x4x8192x8192, .f32⟩
  | 22 => ⟨S2x4x8192x8192, .f32⟩
  | 23 => ⟨S2x4x8192x8192, .f32⟩
  | 24 => ⟨S2x4x128x8192, .f32⟩
  | 25 => ⟨S2x8192x4x128, .f32⟩
  | 26 => ⟨S2x8192x4x128, .f32⟩
  | 27 => ⟨S_, .f32⟩
  | 28 => ⟨S2x8192x4, .f32⟩
  | 29 => ⟨S2x8192x4x1, .f32⟩
  | 30 => ⟨S_, .f32⟩
  | 31 => ⟨S2x8192x4x1, .f32⟩
  | 32 => ⟨S2x8192x4x1, .f32⟩
  | 33 => ⟨S_, .f32⟩
  | 34 => ⟨S2x8192x4x1, .f32⟩
  | 35 => ⟨S2x8192x4x1, .f32⟩
  | 36 => ⟨S2x8192x4x1, .f32⟩
  | 37 => ⟨S2x8192x4x128, .f32⟩
  | 38 => ⟨S2x8192x4x128, .f32⟩
  | 39 => ⟨S1x1x1x128, .f32⟩
  | 40 => ⟨S2x8192x4x128, .f32⟩
  | 41 => ⟨S2x8192x4x128, .f32⟩
  | 42 => ⟨S_, .f32⟩
  | 43 => ⟨S2x8192x4x128, .f32⟩
  | 44 => ⟨S2x8192x4x128, .f32⟩
  | 45 => ⟨S2x8192x512, .f32⟩
  | 46 => ⟨S2x8192x512, .f32⟩
  | 47 => ⟨S2x8192x512, .f32⟩
  | 48 => ⟨S_, .f32⟩
  | 49 => ⟨S2x8192x512, .f32⟩
  | 50 => ⟨S2x8192x512, .f32⟩
  | 51 => ⟨S_, .f32⟩
  | 52 => ⟨S2x8192x512, .f32⟩
  | 53 => ⟨S2x8192x512, .f32⟩
  | 54 => ⟨S2x8192x512, .f32⟩
  | 55 => ⟨S2x8192x512, .f32⟩
  | 56 => ⟨S2x8192x512, .bf16⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_c_4 : Ref sig .tc := ⟨.hbm, 39, rfl⟩
abbrev main_call0_v0 : Ref sig .tc := ⟨.hbm, 40, rfl⟩
abbrev main_call0_v1 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_c_13 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_14 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_c : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_0 : Ref sig .tc := ⟨.hbm, 97, rfl⟩
abbrev main_call2_v12 : Ref sig .tc := ⟨.hbm, 98, rfl⟩
abbrev main_call2_v13 : Ref sig .tc := ⟨.hbm, 99, rfl⟩
abbrev main_v54 : Ref sig .tc := ⟨.hbm, 100, rfl⟩
abbrev main_v55 : Ref sig .tc := ⟨.hbm, 101, rfl⟩
abbrev main_c_15 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_c : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_0 : Ref sig .tc := ⟨.hbm, 116, rfl⟩
abbrev main_call3_v12 : Ref sig .tc := ⟨.hbm, 117, rfl⟩
abbrev main_call3_v13 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_cst_16 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_v63 : Ref sig .tc := ⟨.hbm, 130, rfl⟩
abbrev main_cst_17 : Ref sig .tc := ⟨.hbm, 131, rfl⟩
abbrev main_v64 : Ref sig .tc := ⟨.hbm, 132, rfl⟩
abbrev main_cst_18 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_cst_19 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_cst_20 : Ref sig .tc := ⟨.hbm, 155, rfl⟩
abbrev main_v85 : Ref sig .tc := ⟨.hbm, 156, rfl⟩
abbrev main_v86 : Ref sig .tc := ⟨.hbm, 157, rfl⟩
abbrev main_cst_21 : Ref sig .tc := ⟨.hbm, 158, rfl⟩
abbrev main_v87 : Ref sig .tc := ⟨.hbm, 159, rfl⟩
abbrev main_v88 : Ref sig .tc := ⟨.hbm, 160, rfl⟩
abbrev main_cst_22 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_cst_23 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_call5_v0 : Ref sig .tc := ⟨.hbm, 174, rfl⟩
abbrev main_call5_v1 : Ref sig .tc := ⟨.hbm, 175, rfl⟩
abbrev main_call5_cst : Ref sig .tc := ⟨.hbm, 176, rfl⟩
abbrev main_call5_v2 : Ref sig .tc := ⟨.hbm, 177, rfl⟩
abbrev main_call5_v3 : Ref sig .tc := ⟨.hbm, 178, rfl⟩
abbrev main_call5_cst_0 : Ref sig .tc := ⟨.hbm, 179, rfl⟩
abbrev main_call5_v4 : Ref sig .tc := ⟨.hbm, 180, rfl⟩
abbrev main_call5_v5 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩

abbrev nD : Nat := 1
abbrev τ : Topo := Topo.v7x

variable {F : FTy → Type} [FloatOps F]
-- ==== Project.lean ====
abbrev S2x8192x1024 : Shape := ⟨3, ![2, 8192, 1024]⟩
abbrev S2x1024 : Shape := ⟨2, ![2, 1024]⟩
abbrev S1024 : Shape := ⟨1, ![1024]⟩
abbrev S1024x6144 : Shape := ⟨2, ![1024, 6144]⟩
abbrev S64 : Shape := ⟨1, ![64]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S2x1x1024 : Shape := ⟨3, ![2, 1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x1024 : Shape := ⟨2, ![1, 1024]⟩
abbrev S2x8192x512 : Shape := ⟨3, ![2, 8192, 512]⟩
abbrev S2x32768x128 : Shape := ⟨3, ![2, 32768, 128]⟩
abbrev S2x8192x2048 : Shape := ⟨3, ![2, 8192, 2048]⟩
abbrev S1x512x1024 : Shape := ⟨3, ![1, 512, 1024]⟩
abbrev S1x1x1024 : Shape := ⟨3, ![1, 1, 1024]⟩
abbrev S1x512x512 : Shape := ⟨3, ![1, 512, 512]⟩
abbrev S1x2048x128 : Shape := ⟨3, ![1, 2048, 128]⟩
abbrev S1x512x2048 : Shape := ⟨3, ![1, 512, 2048]⟩
abbrev S1x512x1 : Shape := ⟨3, ![1, 512, 1]⟩
abbrev S512x1024 : Shape := ⟨2, ![512, 1024]⟩
abbrev S1024x512 : Shape := ⟨2, ![1024, 512]⟩
abbrev S512x512 : Shape := ⟨2, ![512, 512]⟩
abbrev S512x256 : Shape := ⟨2, ![512, 256]⟩
abbrev S512x128 : Shape := ⟨2, ![512, 128]⟩
abbrev S1x512x128 : Shape := ⟨3, ![1, 512, 128]⟩

abbrev nBuf : Space → Nat
  | .hbm => 88
  | .vmem => 39
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1024, .f32⟩
  | .hbm, ⟨4, _⟩ => ⟨S1024x6144, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S256, .i32⟩
  | .hbm, ⟨10, _⟩ => ⟨S256x1, .i32⟩
  | .hbm, ⟨11, _⟩ => ⟨S_, .i32⟩
  | .hbm, ⟨12, _⟩ => ⟨S_, .i32⟩
  | .hbm, ⟨13, _⟩ => ⟨S256x1, .i32⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S256x1, .i32⟩
  | .hbm, ⟨20, _⟩ => ⟨S256x1, .i32⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x1, .i1⟩
  | .hbm, ⟨25, _⟩ => ⟨S_, .i32⟩
  | .hbm, ⟨26, _⟩ => ⟨S256x1, .i32⟩
  | .hbm, ⟨27, _⟩ => ⟨S256x1, .i32⟩
  | .hbm, ⟨28, _⟩ => ⟨S256x1, .i32⟩
  | .hbm, ⟨29, _⟩ => ⟨S1x256, .i32⟩
  | .hbm, ⟨30, _⟩ => ⟨S_, .i32⟩
  | .hbm, ⟨31, _⟩ => ⟨S_, .i32⟩
  | .hbm, ⟨32, _⟩ => ⟨S1x256, .i32⟩
  | .hbm, ⟨33, _⟩ => ⟨S1x256, .i32⟩
  | .hbm, ⟨34, _⟩ => ⟨S1x256, .i32⟩
  | .hbm, ⟨35, _⟩ => ⟨S_, .i32⟩
  | .hbm, ⟨36, _⟩ => ⟨S1x256, .i32⟩
  | .hbm, ⟨37, _⟩ => ⟨S1x256, .i1⟩
  | .hbm, ⟨38, _⟩ => ⟨S1x256, .i32⟩
  | .hbm, ⟨39, _⟩ => ⟨S1x256, .i32⟩
  | .hbm, ⟨40, _⟩ => ⟨S_, .i32⟩
  | .hbm, ⟨41, _⟩ => ⟨S1x256, .i32⟩
  | .hbm, ⟨42, _⟩ => ⟨S1x256, .i1⟩
  | .hbm, ⟨43, _⟩ => ⟨S1x256, .i1⟩
  | .hbm, ⟨44, _⟩ => ⟨S_, .i32⟩
  | .hbm, ⟨45, _⟩ => ⟨S1x256, .i32⟩
  | .hbm, ⟨46, _⟩ => ⟨S1x256, .i32⟩
  | .hbm, ⟨47, _⟩ => ⟨S1x256, .i32⟩
  | .hbm, ⟨48, _⟩ => ⟨S256x256, .i32⟩
  | .hbm, ⟨49, _⟩ => ⟨S256x256, .i32⟩
  | .hbm, ⟨50, _⟩ => ⟨S256x256, .i1⟩
  | .hbm, ⟨51, _⟩ => ⟨S256x256, .bf16⟩
  | .hbm, ⟨52, _⟩ => ⟨S_, .bf16⟩
  | .hbm, ⟨53, _⟩ => ⟨S256x256, .bf16⟩
  | .hbm, ⟨54, _⟩ => ⟨S256x256, .bf16⟩
  | .hbm, ⟨55, _⟩ => ⟨S2x1x1024, .f32⟩
  | .hbm, ⟨56, _⟩ => ⟨S2x1x1024, .f32⟩
  | .hbm, ⟨57, _⟩ => ⟨S1024x6144, .bf16⟩
  | .hbm, ⟨58, _⟩ => ⟨S1x64, .f32⟩
  | .hbm, ⟨59, _⟩ => ⟨S8x64, .f32⟩
  | .hbm, ⟨60, _⟩ => ⟨S512, .f32⟩
  | .hbm, ⟨61, _⟩ => ⟨S1x512, .f32⟩
  | .hbm, ⟨62, _⟩ => ⟨S1x64, .f32⟩
  | .hbm, ⟨63, _⟩ => ⟨S8x64, .f32⟩
  | .hbm, ⟨64, _⟩ => ⟨S512, .f32⟩
  | .hbm, ⟨65, _⟩ => ⟨S1x512, .f32⟩
  | .hbm, ⟨66, _⟩ => ⟨S1x64, .f32⟩
  | .hbm, ⟨67, _⟩ => ⟨S8x64, .f32⟩
  | .hbm, ⟨68, _⟩ => ⟨S512, .f32⟩
  | .hbm, ⟨69, _⟩ => ⟨S1x512, .f32⟩
  | .hbm, ⟨70, _⟩ => ⟨S1x64, .f32⟩
  | .hbm, ⟨71, _⟩ => ⟨S8x64, .f32⟩
  | .hbm, ⟨72, _⟩ => ⟨S512, .f32⟩
  | .hbm, ⟨73, _⟩ => ⟨S1x512, .f32⟩
  | .hbm, ⟨74, _⟩ => ⟨S1x1024, .f32⟩
  | .hbm, ⟨75, _⟩ => ⟨S2x8192x512, .bf16⟩
  | .hbm, ⟨76, _⟩ => ⟨S2x32768x128, .f32⟩
  | .hbm, ⟨77, _⟩ => ⟨S2x8192x512, .bf16⟩
  | .hbm, ⟨78, _⟩ => ⟨S2x32768x128, .f32⟩
  | .hbm, ⟨79, _⟩ => ⟨S2x8192x512, .bf16⟩
  | .hbm, ⟨80, _⟩ => ⟨S2x8192x512, .bf16⟩
  | .hbm, ⟨81, _⟩ => ⟨S2x8192x512, .bf16⟩
  | .hbm, ⟨82, _⟩ => ⟨S2x8192x512, .f32⟩
  | .hbm, ⟨83, _⟩ => ⟨S2x8192x512, .bf16⟩
  | .hbm, ⟨84, _⟩ => ⟨S2x8192x512, .f32⟩
  | .hbm, ⟨85, _⟩ => ⟨S2x8192x512, .bf16⟩
  | .hbm, ⟨86, _⟩ => ⟨S2x8192x512, .bf16⟩
  | .hbm, ⟨87, _⟩ => ⟨S2x8192x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x6144, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x256, .bf16⟩
  | .local _ .vmem, ⟨13, _⟩ => ⟨S1x512x512, .bf16⟩
  | .local _ .vmem, ⟨14, _⟩ => ⟨S1x512x512, .bf16⟩
  | .local _ .vmem, ⟨15, _⟩ => ⟨S1x2048x128, .f32⟩
  | .local _ .vmem, ⟨16, _⟩ => ⟨S1x2048x128, .f32⟩
  | .local _ .vmem, ⟨17, _⟩ => ⟨S1x512x512, .bf16⟩
  | .local _ .vmem, ⟨18, _⟩ => ⟨S1x512x512, .bf16⟩
  | .local _ .vmem, ⟨19, _⟩ => ⟨S1x2048x128, .f32⟩
  | .local _ .vmem, ⟨20, _⟩ => ⟨S1x2048x128, .f32⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .f32⟩
  | .local _ .vmem, ⟨28, _⟩ => ⟨S1x512x512, .f32⟩
  | .local _ .vmem, ⟨29, _⟩ => ⟨S1x512x512, .bf16⟩
  | .local _ .vmem, ⟨30, _⟩ => ⟨S1x512x512, .bf16⟩
  | .local _ .vmem, ⟨31, _⟩ => ⟨S1x512x512, .f32⟩
  | .local _ .vmem, ⟨32, _⟩ => ⟨S1x512x512, .f32⟩
  | .local _ .vmem, ⟨33, _⟩ => ⟨S1x512x512, .bf16⟩
  | .local _ .vmem, ⟨34, _⟩ => ⟨S1x512x512, .bf16⟩
  | .local _ .vmem, ⟨35, _⟩ => ⟨S1x512x512, .bf16⟩
  | .local _ .vmem, ⟨36, _⟩ => ⟨S1x512x512, .bf16⟩
  | .local _ .vmem, ⟨37, _⟩ => ⟨S1x512x2048, .bf16⟩
  | .local _ .vmem, ⟨38, _⟩ => ⟨S1x512x2048, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v2 : Ref sig .tc := ⟨.hbm, 28, rfl⟩
abbrev main_v3 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_cst : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31_0 : Ref sig .tc := ⟨.hbm, 75, rfl⟩
abbrev main_v31_1 : Ref sig .tc := ⟨.hbm, 76, rfl⟩
abbrev main_v31_2 : Ref sig .tc := ⟨.hbm, 77, rfl⟩
abbrev main_v31_3 : Ref sig .tc := ⟨.hbm, 78, rfl⟩
abbrev main_v31_4 : Ref sig .tc := ⟨.hbm, 79, rfl⟩
abbrev main_v31_5 : Ref sig .tc := ⟨.hbm, 80, rfl⟩
abbrev main_v31_6 : Ref sig .tc := ⟨.hbm, 81, rfl⟩
abbrev main_v31_7 : Ref sig .tc := ⟨.hbm, 82, rfl⟩
abbrev main_v31_8 : Ref sig .tc := ⟨.hbm, 83, rfl⟩
abbrev main_v31_9 : Ref sig .tc := ⟨.hbm, 84, rfl⟩
abbrev main_v31_10 : Ref sig .tc := ⟨.hbm, 85, rfl⟩
abbrev main_v31_11 : Ref sig .tc := ⟨.hbm, 86, rfl⟩
abbrev main_v31_12 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== ProjectedIdeal.lean ====
abbrev S2x8192x1024 : Shape := ⟨3, ![2, 8192, 1024]⟩
abbrev S2x1024 : Shape := ⟨2, ![2, 1024]⟩
abbrev S1024 : Shape := ⟨1, ![1024]⟩
abbrev S1024x6144 : Shape := ⟨2, ![1024, 6144]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x6144 : Shape := ⟨3, ![2, 8192, 6144]⟩
abbrev S2x8192x512 : Shape := ⟨3, ![2, 8192, 512]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x32768x128 : Shape := ⟨3, ![2, 32768, 128]⟩
abbrev S2x8192x2048 : Shape := ⟨3, ![2, 8192, 2048]⟩

abbrev nBuf : Space → Nat
  | .hbm => 133
  | .vmem => 0
  | .smem => 0
  | _ => 0

abbrev hbmTy0_0 (i : Nat) : BufTy := match i % 128 with
  | 0 => ⟨S2x8192x1024, .f32⟩
  | 1 => ⟨S2x1024, .f32⟩
  | 2 => ⟨S2x1024, .f32⟩
  | 3 => ⟨S1024, .f32⟩
  | 4 => ⟨S1024x6144, .f32⟩
  | 5 => ⟨S64, .f32⟩
  | 6 => ⟨S64, .f32⟩
  | 7 => ⟨S64, .f32⟩
  | 8 => ⟨S64, .f32⟩
  | 9 => ⟨S2x8192x1024, .f32⟩
  | 10 => ⟨S_, .f32⟩
  | 11 => ⟨S2x8192, .f32⟩
  | 12 => ⟨S2x8192x1, .f32⟩
  | 13 => ⟨S_, .f32⟩
  | 14 => ⟨S2x8192x1, .f32⟩
  | 15 => ⟨S2x8192x1, .f32⟩
  | 16 => ⟨S_, .f32⟩
  | 17 => ⟨S2x8192x1, .f32⟩
  | 18 => ⟨S2x8192x1, .f32⟩
  | 19 => ⟨S2x8192x1, .f32⟩
  | 20 => ⟨S2x8192x1024, .f32⟩
  | 21 => ⟨S2x8192x1024, .f32⟩
  | 22 => ⟨S1x1x1024, .f32⟩
  | 23 => ⟨S2x8192x1024, .f32⟩
  | 24 => ⟨S2x8192x1024, .f32⟩
  | 25 => ⟨S2x1x1024, .f32⟩
  | 26 => ⟨S_, .f32⟩
  | 27 => ⟨S2x1x1024, .f32⟩
  | 28 => ⟨S2x1x1024, .f32⟩
  | 29 => ⟨S2x8192x1024, .f32⟩
  | 30 => ⟨S2x8192x1024, .f32⟩
  | 31 => ⟨S2x1x1024, .f32⟩
  | 32 => ⟨S2x8192x1024, .f32⟩
  | 33 => ⟨S2x8192x1024, .f32⟩
  | 34 => ⟨S2x8192x6144, .f32⟩
  | 35 => ⟨S2x8192x512, .f32⟩
  | 36 => ⟨S2x8192x512, .f32⟩
  | 37 => ⟨S2x8192x512, .f32⟩
  | 38 => ⟨S2x8192x512, .f32⟩
  | 39 => ⟨S2x8192x512, .f32⟩
  | 40 => ⟨S2x8192x512, .f32⟩
  | 41 => ⟨S2x8192x512, .f32⟩
  | 42 => ⟨S2x8192x512, .f32⟩
  | 43 => ⟨S2x8192x8x64, .f32⟩
  | 44 => ⟨S2x8192x8x64, .f32⟩
  | 45 => ⟨S_, .f32⟩
  | 46 => ⟨S2x8192x8, .f32⟩
  | 47 => ⟨S2x8192x8x1, .f32⟩
  | 48 => ⟨S_, .f32⟩
  | 49 => ⟨S2x8192x8x1, .f32⟩
  | 50 => ⟨S2x8192x8x1, .f32⟩
  | 51 => ⟨S_, .f32⟩
  | 52 => ⟨S2x8192x8x1, .f32⟩
  | 53 => ⟨S2x8192x8x1, .f32⟩
  | 54 => ⟨S2x8192x8x1, .f32⟩
  | 55 => ⟨S2x8192x8x64, .f32⟩
  | 56 => ⟨S2x8192x8x64, .f32⟩
  | 57 => ⟨S1x1x1x64, .f32⟩
  | 58 => ⟨S2x8192x8x64, .f32⟩
  | 59 => ⟨S2x8192x8x64, .f32⟩
  | 60 => ⟨S2x8192x512, .f32⟩
  | 61 => ⟨S_, .f32⟩
  | 62 => ⟨S2x8192x512, .f32⟩
  | 63 => ⟨S2x8192x512, .f32⟩
  | 64 => ⟨S2x8192x8x64, .f32⟩
  | 65 => ⟨S2x8192x8x64, .f32⟩
  | 66 => ⟨S_, .f32⟩
  | 67 => ⟨S2x8192x8, .f32⟩
  | 68 => ⟨S2x8192x8x1, .f32⟩
  | 69 => ⟨S_, .f32⟩
  | 70 => ⟨S2x8192x8x1, .f32⟩
  | 71 => ⟨S2x8192x8x1, .f32⟩
  | 72 => ⟨S_, .f32⟩
  | 73 => ⟨S2x8192x8x1, .f32⟩
  | 74 => ⟨S2x8192x8x1, .f32⟩
  | 75 => ⟨S2x8192x8x1, .f32⟩
  | 76 => ⟨S2x8192x8x64, .f32⟩
  | 77 => ⟨S2x8192x8x64, .f32⟩
  | 78 => ⟨S1x1x1x64, .f32⟩
  | 79 => ⟨S2x8192x8x64, .f32⟩
  | 80 => ⟨S2x8192x8x64, .f32⟩
  | 81 => ⟨S2x8192x512, .f32⟩
  | 82 => ⟨S2x8192x8x64, .f32⟩
  | 83 => ⟨S2x8192x8x64, .f32⟩
  | 84 => ⟨S_, .f32⟩
  | 85 => ⟨S2x8192x8, .f32⟩
  | 86 => ⟨S2x8192x8x1, .f32⟩
  | 87 => ⟨S_, .f32⟩
  | 88 => ⟨S2x8192x8x1, .f32⟩
  | 89 => ⟨S2x8192x8x1, .f32⟩
  | 90 => ⟨S_, .f32⟩
  | 91 => ⟨S2x8192x8x1, .f32⟩
  | 92 => ⟨S2x8192x8x1, .f32⟩
  | 93 => ⟨S2x8192x8x1, .f32⟩
  | 94 => ⟨S2x8192x8x64, .f32⟩
  | 95 => ⟨S2x8192x8x64, .f32⟩
  | 96 => ⟨S1x1x1x64, .f32⟩
  | 97 => ⟨S2x8192x8x64, .f32⟩
  | 98 => ⟨S2x8192x8x64, .f32⟩
  | 99 => ⟨S2x8192x512, .f32⟩
  | 100 => ⟨S_, .f32⟩
  | 101 => ⟨S2x8192x512, .f32⟩
  | 102 => ⟨S2x8192x512, .f32⟩
  | 103 => ⟨S2x8192x8x64, .f32⟩
  | 104 => ⟨S2x8192x8x64, .f32⟩
  | 105 => ⟨S_, .f32⟩
  | 106 => ⟨S2x8192x8, .f32⟩
  | 107 => ⟨S2x8192x8x1, .f32⟩
  | 108 => ⟨S_, .f32⟩
  | 109 => ⟨S2x8192x8x1, .f32⟩
  | 110 => ⟨S2x8192x8x1, .f32⟩
  | 111 => ⟨S_, .f32⟩
  | 112 => ⟨S2x8192x8x1, .f32⟩
  | 113 => ⟨S2x8192x8x1, .f32⟩
  | 114 => ⟨S2x8192x8x1, .f32⟩
  | 115 => ⟨S2x8192x8x64, .f32⟩
  | 116 => ⟨S2x8192x8x64, .f32⟩
  | 117 => ⟨S1x1x1x64, .f32⟩
  | 118 => ⟨S2x8192x8x64, .f32⟩
  | 119 => ⟨S2x8192x8x64, .f32⟩
  | 120 => ⟨S2x8192x512, .f32⟩
  | 121 => ⟨S2x8192x512, .bf16⟩
  | 122 => ⟨S2x32768x128, .f32⟩
  | 123 => ⟨S2x8192x512, .bf16⟩
  | 124 => ⟨S2x32768x128, .f32⟩
  | 125 => ⟨S2x8192x512, .bf16⟩
  | 126 => ⟨S2x8192x512, .bf16⟩
  | 127 => ⟨S2x8192x512, .bf16⟩
  | _ => ⟨S2x8192x1024, .f32⟩

abbrev hbmTy0_1 (i : Nat) : BufTy := match i % 128 with
  | 0 => ⟨S2x8192x512, .bf16⟩
  | 1 => ⟨S2x8192x512, .bf16⟩
  | 2 => ⟨S2x8192x512, .bf16⟩
  | 3 => ⟨S2x8192x2048, .f32⟩
  | 4 => ⟨S2x8192x2048, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_14 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_cst_16 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩

abbrev nD : Nat := 1
abbrev τ : Topo := Topo.v7x

variable {F : FTy → Type} [FloatOps F]
-- ==== Proof.Flag.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The flag the kernel branches on, as it reads it off the first operand. -/
def flag (arg3 : Memref sig .tc .smem S1 .f32) (harg3 : arg3.IsWhole) (x0 : Vec F S1 .f32) : BitVec 1 :=
  Scalar.cmpf .ogt (View.readAt (Elt F) arg3.view (Rect.unit (s := S1) ![0] S1.size inb_S1_S1_0).toLoadRect (harg3.unread x0) (Shape.Idx.first (Nat.lt_of_lt_of_eq Nat.one_pos numel1_S1.symm))) (FloatOps.ofBits .f32 1056964608#32)

theorem flag_pos {b : BitVec 1} (h : b = 1#1) : Scalar.cmpi .ne (Scalar.extui b) 0#32 = 1#1 := by subst h; rfl
theorem flag_neg {b : BitVec 1} (h : ¬ b = 1#1) : ¬ Scalar.cmpi .ne (Scalar.extui b) 0#32 = 1#1 := by
  have : b = 0#1 := by revert h; revert b; decide
  subst this; decide
theorem flag_xor_pos {b : BitVec 1} (h : b = 1#1) : ¬ Scalar.cmpi .ne (Scalar.extui (Scalar.xori b 1#1)) 0#32 = 1#1 := by subst h; decide
theorem flag_xor_neg {b : BitVec 1} (h : ¬ b = 1#1) : Scalar.cmpi .ne (Scalar.extui (Scalar.xori b 1#1)) 0#32 = 1#1 := by
  have : b = 0#1 := by revert h; revert b; decide
  subst this; decide

end Cert.KernelIdeal.Run

end
-- ==== Proof.Bounded.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Flag
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option warn.classDefReducibility false

/-- The invariant of the far-tile loop 1, at any values of the words its region does not read. -/
@[sl_loop] def farLoop1 (𝒱 : Variants) (c : Dev nD) (bd : Option 𝒱.V) (E : Set ℕ) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x512x512 .bf16) (harg7 : arg7.IsWhole) (arg8 : Memref sig .tc .vmem S4x1x512x1024 .f32) (harg8 : arg8.IsWhole) (arg9 : Memref sig .tc .vmem S4x64 .f32) (harg9 : arg9.IsWhole) (arg10 : Memref sig .tc .vmem S1x128 .f32) (harg10 : arg10.IsWhole) (arg11 : Memref sig .tc .vmem S1x512x512 .bf16) (harg11 : arg11.IsWhole) (arg12 : Memref sig .tc .vmem S4x2x512x128 .f32) (harg12 : arg12.IsWhole) (arg13 : Memref sig .tc .vmem S4x2x512x128 .f32) (harg13 : arg13.IsWhole) (v54 : FVec F S1024x128 .bf16) (v55 : FVec F S1024x128 .bf16) (v56 : FVec F S1024x128 .bf16) (v57 : FVec F S1024x128 .bf16) (X_arg5 : BufTy.Contents (Elt F) arg5.view.ty) (X_arg6 : BufTy.Contents (Elt F) arg6.view.ty) (G_arg12 : BufTy.Contents (Elt F) arg12.view.ty) (G_arg13 : BufTy.Contents (Elt F) arg13.view.ty) :
    Idealize.ShloMosaic.LoopInv (M := MT nD τ sig Unit (Elt F) ℕ (UR sig nD τ) ℕ) Idealize.ShloMosaic.frame (wpE (defs₀ (F := F)) 𝒱 (c : Thread nD τ) bd) E
      (k0_t1_loop i).lb (k0_t1_loop i).ub (k0_t1_loop i).st (k0_t1_ok i) () (k0_t1_body (F := F) i arg3 harg3 arg4 harg4 arg5 harg5 arg6 harg6 arg7 harg7 arg8 harg8 arg9 harg9 arg10 harg10 arg11 harg11 arg12 harg12 arg13 harg13 0#32 v54 v55 v56 v57 (fun _ => Scalar.ofBits .bf16 0#16) (fun _ => Scalar.ofBits .f32 0#32)) :=
  loopInv_k0_t1 𝒱 c bd E i arg3 harg3 arg4 harg4 arg5 harg5 arg6 harg6 arg7 harg7 arg8 harg8 arg9 harg9 arg10 harg10 arg11 harg11 arg12 harg12 arg13 harg13 0#32 v54 v55 v56 v57 (fun _ => Scalar.ofBits .bf16 0#16) (fun _ => Scalar.ofBits .f32 0#32) X_arg5 X_arg6 G_arg12 G_arg13

/-- The invariant of the far-tile loop 2, at any values of the words its region does not read. -/
@[sl_loop] def farLoop2 (𝒱 : Variants) (c : Dev nD) (bd : Option 𝒱.V) (E : Set ℕ) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x512x512 .bf16) (harg7 : arg7.IsWhole) (arg8 : Memref sig .tc .vmem S4x1x512x1024 .f32) (harg8 : arg8.IsWhole) (arg9 : Memref sig .tc .vmem S4x64 .f32) (harg9 : arg9.IsWhole) (arg10 : Memref sig .tc .vmem S1x128 .f32) (harg10 : arg10.IsWhole) (arg11 : Memref sig .tc .vmem S1x512x512 .bf16) (harg11 : arg11.IsWhole) (arg12 : Memref sig .tc .vmem S4x2x512x128 .f32) (harg12 : arg12.IsWhole) (arg13 : Memref sig .tc .vmem S4x2x512x128 .f32) (harg13 : arg13.IsWhole) (v54 : FVec F S1024x128 .bf16) (v55 : FVec F S1024x128 .bf16) (v56 : FVec F S1024x128 .bf16) (v57 : FVec F S1024x128 .bf16) (v219 : BitVec 32) (X_arg5 : BufTy.Contents (Elt F) arg5.view.ty) (X_arg6 : BufTy.Contents (Elt F) arg6.view.ty) (G_arg12 : BufTy.Contents (Elt F) arg12.view.ty) (G_arg13 : BufTy.Contents (Elt F) arg13.view.ty) :
    Idealize.ShloMosaic.LoopInv (M := MT nD τ sig Unit (Elt F) ℕ (UR sig nD τ) ℕ) Idealize.ShloMosaic.frame (wpE (defs₀ (F := F)) 𝒱 (c : Thread nD τ) bd) E
      (k0_t2_loop i).lb (k0_t2_loop i).ub (k0_t2_loop i).st (k0_t2_ok i) () (k0_t2_body (F := F) i arg3 harg3 arg4 harg4 arg5 harg5 arg6 harg6 arg7 harg7 arg8 harg8 arg9 harg9 arg10 harg10 arg11 harg11 arg12 harg12 arg13 harg13 0#32 v54 v55 v56 v57 (fun _ => Scalar.ofBits .bf16 0#16) (fun _ => Scalar.ofBits .f32 0#32) v219) :=
  loopInv_k0_t2 𝒱 c bd E i arg3 harg3 arg4 harg4 arg5 harg5 arg6 harg6 arg7 harg7 arg8 harg8 arg9 harg9 arg10 harg10 arg11 harg11 arg12 harg12 arg13 harg13 0#32 v54 v55 v56 v57 (fun _ => Scalar.ofBits .bf16 0#16) (fun _ => Scalar.ofBits .f32 0#32) v219 X_arg5 X_arg6 G_arg12 G_arg13

set_option maxHeartbeats 4000000 in
/-- The body's run at one point, the flag set: every head sums the exponentials as they are. What it stores into the output's block is found by the run. -/
@[irreducible] def bounded (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x512x512 .bf16) (harg7 : arg7.IsWhole) (arg8 : Memref sig .tc .vmem S4x1x512x1024 .f32) (harg8 : arg8.IsWhole) (arg9 : Memref sig .tc .vmem S4x64 .f32) (harg9 : arg9.IsWhole) (arg10 : Memref sig .tc .vmem S1x128 .f32) (harg10 : arg10.IsWhole) (arg11 : Memref sig .tc .vmem S1x512x512 .bf16) (harg11 : arg11.IsWhole) (arg12 : Memref sig .tc .vmem S4x2x512x128 .f32) (harg12 : arg12.IsWhole) (arg13 : Memref sig .tc .vmem S4x2x512x128 .f32) (harg13 : arg13.IsWhole)
    (x0 : Vec F S1 .f32) (x1 : Vec F S1x512x512 .bf16) (x2 : Vec F S1x8192x512 .bf16) (x3 : Vec F S1x8192x512 .bf16) (x4 : Vec F S1x512x512 .bf16) (x5 : Vec F S4x1x512x1024 .f32) (x6 : Vec F S4x64 .f32) (x7 : Vec F S1x128 .f32) (hb : flag arg3 harg3 x0 = 1#1) :
      { L : List (View.Piece (Elt F) S1x512x512 .bf16) // ∀ (E : Set ℕ) (f8 : BufTy.Contents (Elt F) arg11.view.ty) (fs0 : BufTy.Contents (Elt F) arg12.view.ty) (fs1 : BufTy.Contents (Elt F) arg13.view.ty) (K : PUnit → sProp 𝕄),
        iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} f8) ∗ (arg12.view.loc (c : Thread nD τ) ↦[arg12.view.set]{fullShare} fs0) ∗ (arg13.view.loc (c : Thread nD τ) ↦[arg13.view.set]{fullShare} fs1)
            ∗ (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} arg11.view.writes (Elt F) f8 L) ∗ (∃ f, (arg12.view.loc (c : Thread nD τ) ↦[arg12.view.set]{fullShare} f)) ∗ (∃ f, (arg13.view.loc (c : Thread nD τ) ↦[arg13.view.set]{fullShare} f))) -∗ K ⟨⟩))
          ⊢ wp frame (wpE (defs₀ (F := F)) Variants.none c none) E (cc0_diff_attn_prompt i arg3 harg3 arg4 harg4 arg5 harg5 arg6 harg6 arg7 harg7 arg8 harg8 arg9 harg9 arg10 harg10 arg11 harg11 arg12 harg12 arg13 harg13) K } := by
  refine ⟨?_, fun E f8 fs0 fs1 K => ?run⟩
  case run =>
    simp only [cc0_diff_attn_prompt_eq_skeleton]; unfold cc0_diff_attn_prompt_skel
    iintro ⟨H0, H1, H2, H3, H4, H5, H6, H7, H8, HS0, HS1, Hk⟩
    sl_exec
    sl_unfold_words
    unfold flag at hb
    rw [if_pos (flag_pos hb)]
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    have hx := flag_xor_pos hb
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexists _; iexact HS0
    iexists _; iexact HS1

/-- Those pieces are the four heads' column tiles of the output's block. -/
theorem bounded_cover (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x512x512 .bf16) (harg7 : arg7.IsWhole) (arg8 : Memref sig .tc .vmem S4x1x512x1024 .f32) (harg8 : arg8.IsWhole) (arg9 : Memref sig .tc .vmem S4x64 .f32) (harg9 : arg9.IsWhole) (arg10 : Memref sig .tc .vmem S1x128 .f32) (harg10 : arg10.IsWhole) (arg11 : Memref sig .tc .vmem S1x512x512 .bf16) (harg11 : arg11.IsWhole) (arg12 : Memref sig .tc .vmem S4x2x512x128 .f32) (harg12 : arg12.IsWhole) (arg13 : Memref sig .tc .vmem S4x2x512x128 .f32) (harg13 : arg13.IsWhole)
    (x0 : Vec F S1 .f32) (x1 : Vec F S1x512x512 .bf16) (x2 : Vec F S1x8192x512 .bf16) (x3 : Vec F S1x8192x512 .bf16) (x4 : Vec F S1x512x512 .bf16) (x5 : Vec F S4x1x512x1024 .f32) (x6 : Vec F S4x64 .f32) (x7 : Vec F S1x128 .f32) (hb : flag arg3 harg3 x0 = 1#1) (y : S1x512x512.Idx) :
    ∃ p ∈ (bounded (F := F) c i arg3 harg3 arg4 harg4 arg5 harg5 arg6 harg6 arg7 harg7 arg8 harg8 arg9 harg9 arg10 harg10 arg11 harg11 arg12 harg12 arg13 harg13 x0 x1 x2 x3 x4 x5 x6 x7 hb).1, y ∈ p.1.set :=
  View.cover_of_tiledL (bounded (F := F) c i arg3 harg3 arg4 harg4 arg5 harg5 arg6 harg6 arg7 harg7 arg8 harg8 arg9 harg9 arg10 harg10 arg11 harg11 arg12 harg12 arg13 harg13 x0 x1 x2 x3 x4 x5 x6 x7 hb).1 S1x512x128.size (by unfold bounded; sl_kernel_rfl) y

end Cert.KernelIdeal.Run

end
-- ==== Proof.Online.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Flag
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run at one point, the flag clear: every head sums the exponentials under a running maximum. What it stores into the output's block is found by the run. -/
@[irreducible] def online (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x512x512 .bf16) (harg7 : arg7.IsWhole) (arg8 : Memref sig .tc .vmem S4x1x512x1024 .f32) (harg8 : arg8.IsWhole) (arg9 : Memref sig .tc .vmem S4x64 .f32) (harg9 : arg9.IsWhole) (arg10 : Memref sig .tc .vmem S1x128 .f32) (harg10 : arg10.IsWhole) (arg11 : Memref sig .tc .vmem S1x512x512 .bf16) (harg11 : arg11.IsWhole) (arg12 : Memref sig .tc .vmem S4x2x512x128 .f32) (harg12 : arg12.IsWhole) (arg13 : Memref sig .tc .vmem S4x2x512x128 .f32) (harg13 : arg13.IsWhole)
    (x0 : Vec F S1 .f32) (x1 : Vec F S1x512x512 .bf16) (x2 : Vec F S1x8192x512 .bf16) (x3 : Vec F S1x8192x512 .bf16) (x4 : Vec F S1x512x512 .bf16) (x5 : Vec F S4x1x512x1024 .f32) (x6 : Vec F S4x64 .f32) (x7 : Vec F S1x128 .f32) (hb : ¬ flag arg3 harg3 x0 = 1#1) :
      { L : List (View.Piece (Elt F) S1x512x512 .bf16) // ∀ (E : Set ℕ) (f8 : BufTy.Contents (Elt F) arg11.view.ty) (fs0 : BufTy.Contents (Elt F) arg12.view.ty) (fs1 : BufTy.Contents (Elt F) arg13.view.ty) (K : PUnit → sProp 𝕄),
        iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} f8) ∗ (arg12.view.loc (c : Thread nD τ) ↦[arg12.view.set]{fullShare} fs0) ∗ (arg13.view.loc (c : Thread nD τ) ↦[arg13.view.set]{fullShare} fs1)
            ∗ (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} arg11.view.writes (Elt F) f8 L) ∗ (∃ f, (arg12.view.loc (c : Thread nD τ) ↦[arg12.view.set]{fullShare} f)) ∗ (∃ f, (arg13.view.loc (c : Thread nD τ) ↦[arg13.view.set]{fullShare} f))) -∗ K ⟨⟩))
          ⊢ wp frame (wpE (defs₀ (F := F)) Variants.none c none) E (cc0_diff_attn_prompt i arg3 harg3 arg4 harg4 arg5 harg5 arg6 harg6 arg7 harg7 arg8 harg8 arg9 harg9 arg10 harg10 arg11 harg11 arg12 harg12 arg13 harg13) K } := by
  refine ⟨?_, fun E f8 fs0 fs1 K => ?run⟩
  case run =>
    simp only [cc0_diff_attn_prompt_eq_skeleton]; unfold cc0_diff_attn_prompt_skel
    iintro ⟨H0, H1, H2, H3, H4, H5, H6, H7, H8, HS0, HS1, Hk⟩
    sl_exec
    sl_unfold_words
    unfold flag at hb
    rw [if_neg (flag_neg hb)]
    rw [if_pos (flag_xor_neg hb)]
    simp only [k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexists _; iexact HS0
    iexists _; iexact HS1

/-- Those pieces are the four heads' column tiles of the output's block. -/
theorem online_cover (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x512x512 .bf16) (harg7 : arg7.IsWhole) (arg8 : Memref sig .tc .vmem S4x1x512x1024 .f32) (harg8 : arg8.IsWhole) (arg9 : Memref sig .tc .vmem S4x64 .f32) (harg9 : arg9.IsWhole) (arg10 : Memref sig .tc .vmem S1x128 .f32) (harg10 : arg10.IsWhole) (arg11 : Memref sig .tc .vmem S1x512x512 .bf16) (harg11 : arg11.IsWhole) (arg12 : Memref sig .tc .vmem S4x2x512x128 .f32) (harg12 : arg12.IsWhole) (arg13 : Memref sig .tc .vmem S4x2x512x128 .f32) (harg13 : arg13.IsWhole)
    (x0 : Vec F S1 .f32) (x1 : Vec F S1x512x512 .bf16) (x2 : Vec F S1x8192x512 .bf16) (x3 : Vec F S1x8192x512 .bf16) (x4 : Vec F S1x512x512 .bf16) (x5 : Vec F S4x1x512x1024 .f32) (x6 : Vec F S4x64 .f32) (x7 : Vec F S1x128 .f32) (hb : ¬ flag arg3 harg3 x0 = 1#1) (y : S1x512x512.Idx) :
    ∃ p ∈ (online (F := F) c i arg3 harg3 arg4 harg4 arg5 harg5 arg6 harg6 arg7 harg7 arg8 harg8 arg9 harg9 arg10 harg10 arg11 harg11 arg12 harg12 arg13 harg13 x0 x1 x2 x3 x4 x5 x6 x7 hb).1, y ∈ p.1.set :=
  View.cover_of_tiledL (online (F := F) c i arg3 harg3 arg4 harg4 arg5 harg5 arg6 harg6 arg7 harg7 arg8 harg8 arg9 harg9 arg10 harg10 arg11 harg11 arg12 harg12 arg13 harg13 x0 x1 x2 x3 x4 x5 x6 x7 hb).1 S1x512x128.size (by unfold online; sl_kernel_rfl) y

end Cert.KernelIdeal.Run

end
-- ==== Proof.Launched.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Bounded
public import proofs.«01_k».proof.Proof.Online
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1x512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x512 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S4x2x512x128 .f32 := Memref.whole cc0_scratch0
abbrev scM0_1 : Memref sig .tc .vmem S4x2x512x128 .f32 := Memref.whole cc0_scratch1

variable (m : (ℓ : Loc nD τ sig) → Buf (Elt F) ℓ) (ρ : Dev nD → PrngReg)

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the output's block holds after the body at point `t`: the pieces of the case the flag selects. -/
def out (c : Dev nD) (t : Fin cfg0.N) : S1x512x512.Idx → Elt F .bf16 :=
  if hb : flag (ms0_0 t) (hs0_0 t) (iblk m c 0 t) = 1#1 then
    View.canon (bounded (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hb).1
  else View.canon (online (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hb).1

theorem out_bounded (c : Dev nD) (t : Fin cfg0.N) (hb : flag (ms0_0 t) (hs0_0 t) (iblk m c 0 t) = 1#1) :
    out m c t = View.canon (bounded (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hb).1 := dif_pos hb

theorem out_online (c : Dev nD) (t : Fin cfg0.N) (hb : ¬ flag (ms0_0 t) (hs0_0 t) (iblk m c 0 t) = 1#1) :
    out m c t = View.canon (online (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hb).1 := dif_neg hb

/-- The proof data of the one pipeline on core `c`: the arrays as the region finds them (`V`); after the body at
    point `t` each input's buffer at its block and the output's at what the run stored; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_8 (c : Dev nD) (t : Fin cfg0.N) : (dats m 0 c).after 8 t = out m c t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold owns
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, -, H8⟩
  icases HS0 with ⟨%ds0, %fs0, -, HS0⟩
  icases HS1 with ⟨%ds1, %fs1, -, HS1⟩
  by_cases hb : flag (ms0_0 t) (hs0_0 t) (iblk m c 0 t) = 1#1
  · rw [out_bounded m c t hb]
    obtain rfl := (hs0_0 t).eq_unread hf0; obtain rfl := (hs0_1 t).eq_unread hf1; obtain rfl := (hs0_2 t).eq_unread hf2; obtain rfl := (hs0_3 t).eq_unread hf3; obtain rfl := (hs0_4 t).eq_unread hf4; obtain rfl := (hs0_5 t).eq_unread hf5; obtain rfl := (hs0_6 t).eq_unread hf6; obtain rfl := (hs0_7 t).eq_unread hf7
    iapply ((bounded c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hb).2 Set.univ f8 fs0 fs1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, ⟨%g0, HS0⟩, ⟨%g1, HS1⟩⟩
    isplitl [HS0 HS1 Hg]
    · isplitl [HS0 HS1]
      · isplitl [HS0]
        · iexists _, _; isplitr; swap; · iexact HS0
          ipureintro; rfl
        iexists _, _; isplitr; swap; · iexact HS1
        ipureintro; rfl
      iexact Hg
    isplitl [Ho]; · iexact Ho
    isplitl [H0]
    · iexists _; isplitr; · ipureintro; exact (hs0_0 t).read_unread _
      iexact H0
    isplitl [H1]
    · iexists _; isplitr; · ipureintro; exact (hs0_1 t).read_unread _
      iexact H1
    isplitl [H2]
    · iexists _; isplitr; · ipureintro; exact (hs0_2 t).read_unread _
      iexact H2
    isplitl [H3]
    · iexists _; isplitr; · ipureintro; exact (hs0_3 t).read_unread _
      iexact H3
    isplitl [H4]
    · iexists _; isplitr; · ipureintro; exact (hs0_4 t).read_unread _
      iexact H4
    isplitl [H5]
    · iexists _; isplitr; · ipureintro; exact (hs0_5 t).read_unread _
      iexact H5
    isplitl [H6]
    · iexists _; isplitr; · ipureintro; exact (hs0_6 t).read_unread _
      iexact H6
    isplitl [H7]
    · iexists _; isplitr; · ipureintro; exact (hs0_7 t).read_unread _
      iexact H7
    iexists _; isplitr; swap; · iexact H8
    ipureintro
    exact View.read_writes_eq_canon _ _ _ (bounded_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hb)
  · rw [out_online m c t hb]
    obtain rfl := (hs0_0 t).eq_unread hf0; obtain rfl := (hs0_1 t).eq_unread hf1; obtain rfl := (hs0_2 t).eq_unread hf2; obtain rfl := (hs0_3 t).eq_unread hf3; obtain rfl := (hs0_4 t).eq_unread hf4; obtain rfl := (hs0_5 t).eq_unread hf5; obtain rfl := (hs0_6 t).eq_unread hf6; obtain rfl := (hs0_7 t).eq_unread hf7
    iapply ((online c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hb).2 Set.univ f8 fs0 fs1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, ⟨%g0, HS0⟩, ⟨%g1, HS1⟩⟩
    isplitl [HS0 HS1 Hg]
    · isplitl [HS0 HS1]
      · isplitl [HS0]
        · iexists _, _; isplitr; swap; · iexact HS0
          ipureintro; rfl
        iexists _, _; isplitr; swap; · iexact HS1
        ipureintro; rfl
      iexact Hg
    isplitl [Ho]; · iexact Ho
    isplitl [H0]
    · iexists _; isplitr; · ipureintro; exact (hs0_0 t).read_unread _
      iexact H0
    isplitl [H1]
    · iexists _; isplitr; · ipureintro; exact (hs0_1 t).read_unread _
      iexact H1
    isplitl [H2]
    · iexists _; isplitr; · ipureintro; exact (hs0_2 t).read_unread _
      iexact H2
    isplitl [H3]
    · iexists _; isplitr; · ipureintro; exact (hs0_3 t).read_unread _
      iexact H3
    isplitl [H4]
    · iexists _; isplitr; · ipureintro; exact (hs0_4 t).read_unread _
      iexact H4
    isplitl [H5]
    · iexists _; isplitr; · ipureintro; exact (hs0_5 t).read_unread _
      iexact H5
    isplitl [H6]
    · iexists _; isplitr; · ipureintro; exact (hs0_6 t).read_unread _
      iexact H6
    isplitl [H7]
    · iexists _; isplitr; · ipureintro; exact (hs0_7 t).read_unread _
      iexact H7
    iexists _; isplitr; swap; · iexact H8
    ipureintro
    exact View.read_writes_eq_canon _ _ _ (online_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hb)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every fair execution ends with the arrays at what the proof data states and every counter at zero. -/
theorem launch : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (launch m ρ)))
    ((θ_run defs _ _).mono (fun _ h => h.2) (launch m ρ))

end Cert.KernelIdeal.Run

end
-- ==== Proof.Heads.lean ====
module

public import proofs.«01_k».proof.Proof.Online
public import Idealize.ShloMosaic.Lib.Pipeline.ValueKit

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem

/-- What one head carries from tile to tile: of each of its two maps, the running maximum, the sum and the weighted values. -/
abbrev Carry : Type := FVec Ideal S512x1 .f32 × FVec Ideal S512x1 .f32 × FVec Ideal S512x128 .f32 × FVec Ideal S512x1 .f32 × FVec Ideal S512x1 .f32 × FVec Ideal S512x128 .f32

/-- Nothing seen yet. -/
def start : Carry := (k0_pay225, k0_pay226, k0_pay227, k0_pay225, k0_pay226, k0_pay227)

/-- One tile of keys taken into what is carried, given the tile's scores of either map. -/
def step (C : Carry) (s0 s1 : FVec Ideal S512x512 .f32) (v : FVec Ideal S512x128 .bf16) : Carry :=
  (k0_pay261 C.1 s0, k0_pay264 C.1 C.2.1 s0, k0_pay265 C.1 C.2.2.1 v s0,
   k0_pay266 C.2.2.2.1 s1, k0_pay269 C.2.2.2.1 C.2.2.2.2.1 s1, k0_pay270 C.2.2.2.1 C.2.2.2.2.2 v s1)

/-- A tile as it stands in the block of a batch's keys or values, as a matrix. -/
def mat (x : Vec Ideal S1x512x128 .bf16) : FVec Ideal S512x128 .bf16 := k0_pay257 x

/-- A far tile: no bias is left on it. -/
def farStep (q k v : Vec Ideal S1x512x128 .bf16) (C : Carry) : Carry :=
  step C (k0_pay230 q k) (k0_pay231 q k) (mat v)

/-- The tile before the queries' own, masked where there is none. -/
def nearStep (v0 : BitVec 1) (q k v : Vec Ideal S1x512x128 .bf16) (b : Vec Ideal S1x1x512x512 .f32) (C : Carry) : Carry :=
  step C (k0_pay259 v0 q k b) (k0_pay260 v0 q k b) (mat v)

/-- The queries' own tile. -/
def diagStep (q k v : Vec Ideal S1x512x128 .bf16) (b : Vec Ideal S1x1x512x512 .f32) (C : Carry) : Carry :=
  step C (k0_pay276 (k0_pay230 q k) (k0_pay275 b)) (k0_pay277 (k0_pay231 q k) (k0_pay275 b)) (mat v)

/-- A head's result from its sums: the two maps' quotients joined, normalised and gated. -/
def finish (l0 : FVec Ideal S512x1 .f32) (a0 : FVec Ideal S512x128 .f32) (l1 : FVec Ideal S512x1 .f32) (a1 : FVec Ideal S512x128 .f32)
    (g : Vec Ideal S1x512x128 .bf16) (lam : Vec Ideal S4x64 .f32) (gs : Vec Ideal S1x128 .f32) : FVec Ideal S1x512x128 .bf16 :=
  k0_pay293 l0 a0 l1 a1 (k0_pay288 g) (k0_pay290 lam) (k0_pay291 lam) (k0_pay292 lam) gs

def finishC (C : Carry) (g : Vec Ideal S1x512x128 .bf16) (lam : Vec Ideal S4x64 .f32) (gs : Vec Ideal S1x128 .f32) : FVec Ideal S1x512x128 .bf16 :=
  finish C.2.1 C.2.2.1 C.2.2.2.2.1 C.2.2.2.2.2 g lam gs

/-- Whether a tile of keys lies before the queries' own. -/
abbrev hasNear (i : grid0.Coords) : BitVec 1 := Scalar.cmpi CmpIPredicate.sgt (BitVec.ofNat 32 ↑(i 2)) 0#32
abbrev nFar (i : grid0.Coords) : BitVec 32 := Scalar.maxsi (Scalar.subi (BitVec.ofNat 32 ↑(i 2)) 1#32) 0#32

variable (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x512x512 .bf16) (harg7 : arg7.IsWhole) (arg8 : Memref sig .tc .vmem S4x1x512x1024 .f32) (harg8 : arg8.IsWhole) (arg9 : Memref sig .tc .vmem S4x64 .f32) (harg9 : arg9.IsWhole) (arg10 : Memref sig .tc .vmem S1x128 .f32) (harg10 : arg10.IsWhole) (arg11 : Memref sig .tc .vmem S1x512x512 .bf16) (harg11 : arg11.IsWhole) (arg12 : Memref sig .tc .vmem S4x2x512x128 .f32) (harg12 : arg12.IsWhole) (arg13 : Memref sig .tc .vmem S4x2x512x128 .f32) (harg13 : arg13.IsWhole) (x1 : Vec Ideal S1x512x512 .bf16) (x2 : Vec Ideal S1x8192x512 .bf16) (x3 : Vec Ideal S1x8192x512 .bf16) (x4 : Vec Ideal S1x512x512 .bf16) (x5 : Vec Ideal S4x1x512x1024 .f32) (x6 : Vec Ideal S4x64 .f32) (x7 : Vec Ideal S1x128 .f32)

/-- Head 0, its tiles taken in turn. -/
def head0 : FVec Ideal S1x512x128 .bf16 :=
  finishC (diagStep (View.readAt (Elt Ideal) arg4.view (Rect.unit (s := S1x512x512) ![0, 0, 0] S1x512x128.size inb_S1x512x512_S1x512x128_0_0_0).toLoadRect (harg4.unread x1)) (View.readAt (Elt Ideal) arg5.view (Rect.unit (s := S1x8192x512) (k0_off24 i) S1x512x128.size (k0_off24_inb i)).toLoadRect (harg5.unread x2)) (View.readAt (Elt Ideal) arg6.view (Rect.unit (s := S1x8192x512) (k0_off24 i) S1x512x128.size (k0_off24_inb i)).toLoadRect (harg6.unread x3)) (View.readAt (Elt Ideal) arg8.view (Rect.unit (s := S4x1x512x1024) ![0, 0, 0, 512] S1x1x512x512.size inb_S4x1x512x1024_S1x1x512x512_0_0_0_512).toLoadRect (harg8.unread x5))
    (nearStep (hasNear i) (View.readAt (Elt Ideal) arg4.view (Rect.unit (s := S1x512x512) ![0, 0, 0] S1x512x128.size inb_S1x512x512_S1x512x128_0_0_0).toLoadRect (harg4.unread x1)) (View.readAt (Elt Ideal) arg5.view (Rect.unit (s := S1x8192x512) (k0_off23 i) S1x512x128.size (k0_off23_inb i)).toLoadRect (harg5.unread x2)) (View.readAt (Elt Ideal) arg6.view (Rect.unit (s := S1x8192x512) (k0_off23 i) S1x512x128.size (k0_off23_inb i)).toLoadRect (harg6.unread x3)) (View.readAt (Elt Ideal) arg8.view (Rect.unit (s := S4x1x512x1024) ![0, 0, 0, 0] S1x1x512x512.size inb_S4x1x512x1024_S1x1x512x512_0_0_0_0).toLoadRect (harg8.unread x5))
      (st_k0_t4 (F := Ideal) Variants.none c none i arg3 harg3 arg4 harg4 arg5 harg5 arg6 harg6 arg7 harg7 arg8 harg8 arg9 harg9 arg10 harg10 arg11 harg11 arg12 harg12 arg13 harg13 (hasNear i) (nFar i) (Scalar.muli (nFar i) 512#32) (View.readAt (Elt Ideal) arg4.view (Rect.unit (s := S1x512x512) ![0, 0, 0] S1x512x128.size inb_S1x512x512_S1x512x128_0_0_0).toLoadRect (harg4.unread x1)) (harg5.unread x2) (harg6.unread x3)
      (st_k0_t3 (F := Ideal) Variants.none c none i arg3 harg3 arg4 harg4 arg5 harg5 arg6 harg6 arg7 harg7 arg8 harg8 arg9 harg9 arg10 harg10 arg11 harg11 arg12 harg12 arg13 harg13 (hasNear i) (nFar i) (Scalar.muli (nFar i) 512#32) (View.readAt (Elt Ideal) arg4.view (Rect.unit (s := S1x512x512) ![0, 0, 0] S1x512x128.size inb_S1x512x512_S1x512x128_0_0_0).toLoadRect (harg4.unread x1)) (harg5.unread x2) (harg6.unread x3) start (Scf.trips (k0_t3_loop i).lb (k0_t3_loop i).ub (k0_t3_loop i).st))
      (Scf.trips (k0_t4_loop i).lb (k0_t4_loop i).ub (k0_t4_loop i).st)))) (View.readAt (Elt Ideal) arg7.view (Rect.unit (s := S1x512x512) ![0, 0, 0] S1x512x128.size inb_S1x512x512_S1x512x128_0_0_0).toLoadRect (harg7.unread x4)) (View.readAt (Elt Ideal) arg9.view (Rect.unit (s := S4x64) ![0, 0] S4x64.size inb_S4x64_S4x64_0_0).toLoadRect (harg9.unread x6)) (View.readAt (Elt Ideal) arg10.view (Rect.unit (s := S1x128) ![0, 0] S1x128.size inb_S1x128_S1x128_0_0).toLoadRect (harg10.unread x7))

/-- Head 1, its tiles taken in turn. -/
def head1 : FVec Ideal S1x512x128 .bf16 :=
  finishC (diagStep (View.readAt (Elt Ideal) arg4.view (Rect.unit (s := S1x512x512) ![0, 0, 128] S1x512x128.size inb_S1x512x512_S1x512x128_0_0_128).toLoadRect (harg4.unread x1)) (View.readAt (Elt Ideal) arg5.view (Rect.unit (s := S1x8192x512) (k0_off28 i) S1x512x128.size (k0_off28_inb i)).toLoadRect (harg5.unread x2)) (View.readAt (Elt Ideal) arg6.view (Rect.unit (s := S1x8192x512) (k0_off28 i) S1x512x128.size (k0_off28_inb i)).toLoadRect (harg6.unread x3)) (View.readAt (Elt Ideal) arg8.view (Rect.unit (s := S4x1x512x1024) ![1, 0, 0, 512] S1x1x512x512.size inb_S4x1x512x1024_S1x1x512x512_1_0_0_512).toLoadRect (harg8.unread x5))
    (nearStep (hasNear i) (View.readAt (Elt Ideal) arg4.view (Rect.unit (s := S1x512x512) ![0, 0, 128] S1x512x128.size inb_S1x512x512_S1x512x128_0_0_128).toLoadRect (harg4.unread x1)) (View.readAt (Elt Ideal) arg5.view (Rect.unit (s := S1x8192x512) (k0_off27 i) S1x512x128.size (k0_off27_inb i)).toLoadRect (harg5.unread x2)) (View.readAt (Elt Ideal) arg6.view (Rect.unit (s := S1x8192x512) (k0_off27 i) S1x512x128.size (k0_off27_inb i)).toLoadRect (harg6.unread x3)) (View.readAt (Elt Ideal) arg8.view (Rect.unit (s := S4x1x512x1024) ![1, 0, 0, 0] S1x1x512x512.size inb_S4x1x512x1024_S1x1x512x512_1_0_0_0).toLoadRect (harg8.unread x5))
      (st_k0_t6 (F := Ideal) Variants.none c none i arg3 harg3 arg4 harg4 arg5 harg5 arg6 harg6 arg7 harg7 arg8 harg8 arg9 harg9 arg10 harg10 arg11 harg11 arg12 harg12 arg13 harg13 (hasNear i) (nFar i) (Scalar.muli (nFar i) 512#32) (View.readAt (Elt Ideal) arg4.view (Rect.unit (s := S1x512x512) ![0, 0, 128] S1x512x128.size inb_S1x512x512_S1x512x128_0_0_128).toLoadRect (harg4.unread x1)) (harg5.unread x2) (harg6.unread x3)
      (st_k0_t5 (F := Ideal) Variants.none c none i arg3 harg3 arg4 harg4 arg5 harg5 arg6 harg6 arg7 harg7 arg8 harg8 arg9 harg9 arg10 harg10 arg11 harg11 arg12 harg12 arg13 harg13 (hasNear i) (nFar i) (Scalar.muli (nFar i) 512#32) (View.readAt (Elt Ideal) arg4.view (Rect.unit (s := S1x512x512) ![0, 0, 128] S1x512x128.size inb_S1x512x512_S1x512x128_0_0_128).toLoadRect (harg4.unread x1)) (harg5.unread x2) (harg6.unread x3) start (Scf.trips (k0_t5_loop i).lb (k0_t5_loop i).ub (k0_t5_loop i).st))
      (Scf.trips (k0_t6_loop i).lb (k0_t6_loop i).ub (k0_t6_loop i).st)))) (View.readAt (Elt Ideal) arg7.view (Rect.unit (s := S1x512x512) ![0, 0, 128] S1x512x128.size inb_S1x512x512_S1x512x128_0_0_128).toLoadRect (harg7.unread x4)) (View.readAt (Elt Ideal) arg9.view (Rect.unit (s := S4x64) ![0, 0] S4x64.size inb_S4x64_S4x64_0_0).toLoadRect (harg9.unread x6)) (View.readAt (Elt Ideal) arg10.view (Rect.unit (s := S1x128) ![0, 0] S1x128.size inb_S1x128_S1x128_0_0).toLoadRect (harg10.unread x7))

/-- Head 2, its tiles taken in turn. -/
def head2 : FVec Ideal S1x512x128 .bf16 :=
  finishC (diagStep (View.readAt (Elt Ideal) arg4.view (Rect.unit (s := S1x512x512) ![0, 0, 256] S1x512x128.size inb_S1x512x512_S1x512x128_0_0_256).toLoadRect (harg4.unread x1)) (View.readAt (Elt Ideal) arg5.view (Rect.unit (s := S1x8192x512) (k0_off32 i) S1x512x128.size (k0_off32_inb i)).toLoadRect (harg5.unread x2)) (View.readAt (Elt Ideal) arg6.view (Rect.unit (s := S1x8192x512) (k0_off32 i) S1x512x128.size (k0_off32_inb i)).toLoadRect (harg6.unread x3)) (View.readAt (Elt Ideal) arg8.view (Rect.unit (s := S4x1x512x1024) ![2, 0, 0, 512] S1x1x512x512.size inb_S4x1x512x1024_S1x1x512x512_2_0_0_512).toLoadRect (harg8.unread x5))
    (nearStep (hasNear i) (View.readAt (Elt Ideal) arg4.view (Rect.unit (s := S1x512x512) ![0, 0, 256] S1x512x128.size inb_S1x512x512_S1x512x128_0_0_256).toLoadRect (harg4.unread x1)) (View.readAt (Elt Ideal) arg5.view (Rect.unit (s := S1x8192x512) (k0_off31 i) S1x512x128.size (k0_off31_inb i)).toLoadRect (harg5.unread x2)) (View.readAt (Elt Ideal) arg6.view (Rect.unit (s := S1x8192x512) (k0_off31 i) S1x512x128.size (k0_off31_inb i)).toLoadRect (harg6.unread x3)) (View.readAt (Elt Ideal) arg8.view (Rect.unit (s := S4x1x512x1024) ![2, 0, 0, 0] S1x1x512x512.size inb_S4x1x512x1024_S1x1x512x512_2_0_0_0).toLoadRect (harg8.unread x5))
      (st_k0_t8 (F := Ideal) Variants.none c none i arg3 harg3 arg4 harg4 arg5 harg5 arg6 harg6 arg7 harg7 arg8 harg8 arg9 harg9 arg10 harg10 arg11 harg11 arg12 harg12 arg13 harg13 (hasNear i) (nFar i) (Scalar.muli (nFar i) 512#32) (View.readAt (Elt Ideal) arg4.view (Rect.unit (s := S1x512x512) ![0, 0, 256] S1x512x128.size inb_S1x512x512_S1x512x128_0_0_256).toLoadRect (harg4.unread x1)) (harg5.unread x2) (harg6.unread x3)
      (st_k0_t7 (F := Ideal) Variants.none c none i arg3 harg3 arg4 harg4 arg5 harg5 arg6 harg6 arg7 harg7 arg8 harg8 arg9 harg9 arg10 harg10 arg11 harg11 arg12 harg12 arg13 harg13 (hasNear i) (nFar i) (Scalar.muli (nFar i) 512#32) (View.readAt (Elt Ideal) arg4.view (Rect.unit (s := S1x512x512) ![0, 0, 256] S1x512x128.size inb_S1x512x512_S1x512x128_0_0_256).toLoadRect (harg4.unread x1)) (harg5.unread x2) (harg6.unread x3) start (Scf.trips (k0_t7_loop i).lb (k0_t7_loop i).ub (k0_t7_loop i).st))
      (Scf.trips (k0_t8_loop i).lb (k0_t8_loop i).ub (k0_t8_loop i).st)))) (View.readAt (Elt Ideal) arg7.view (Rect.unit (s := S1x512x512) ![0, 0, 256] S1x512x128.size inb_S1x512x512_S1x512x128_0_0_256).toLoadRect (harg7.unread x4)) (View.readAt (Elt Ideal) arg9.view (Rect.unit (s := S4x64) ![0, 0] S4x64.size inb_S4x64_S4x64_0_0).toLoadRect (harg9.unread x6)) (View.readAt (Elt Ideal) arg10.view (Rect.unit (s := S1x128) ![0, 0] S1x128.size inb_S1x128_S1x128_0_0).toLoadRect (harg10.unread x7))

/-- Head 3, its tiles taken in turn. -/
def head3 : FVec Ideal S1x512x128 .bf16 :=
  finishC (diagStep (View.readAt (Elt Ideal) arg4.view (Rect.unit (s := S1x512x512) ![0, 0, 384] S1x512x128.size inb_S1x512x512_S1x512x128_0_0_384).toLoadRect (harg4.unread x1)) (View.readAt (Elt Ideal) arg5.view (Rect.unit (s := S1x8192x512) (k0_off36 i) S1x512x128.size (k0_off36_inb i)).toLoadRect (harg5.unread x2)) (View.readAt (Elt Ideal) arg6.view (Rect.unit (s := S1x8192x512) (k0_off36 i) S1x512x128.size (k0_off36_inb i)).toLoadRect (harg6.unread x3)) (View.readAt (Elt Ideal) arg8.view (Rect.unit (s := S4x1x512x1024) ![3, 0, 0, 512] S1x1x512x512.size inb_S4x1x512x1024_S1x1x512x512_3_0_0_512).toLoadRect (harg8.unread x5))
    (nearStep (hasNear i) (View.readAt (Elt Ideal) arg4.view (Rect.unit (s := S1x512x512) ![0, 0, 384] S1x512x128.size inb_S1x512x512_S1x512x128_0_0_384).toLoadRect (harg4.unread x1)) (View.readAt (Elt Ideal) arg5.view (Rect.unit (s := S1x8192x512) (k0_off35 i) S1x512x128.size (k0_off35_inb i)).toLoadRect (harg5.unread x2)) (View.readAt (Elt Ideal) arg6.view (Rect.unit (s := S1x8192x512) (k0_off35 i) S1x512x128.size (k0_off35_inb i)).toLoadRect (harg6.unread x3)) (View.readAt (Elt Ideal) arg8.view (Rect.unit (s := S4x1x512x1024) ![3, 0, 0, 0] S1x1x512x512.size inb_S4x1x512x1024_S1x1x512x512_3_0_0_0).toLoadRect (harg8.unread x5))
      (st_k0_t10 (F := Ideal) Variants.none c none i arg3 harg3 arg4 harg4 arg5 harg5 arg6 harg6 arg7 harg7 arg8 harg8 arg9 harg9 arg10 harg10 arg11 harg11 arg12 harg12 arg13 harg13 (hasNear i) (nFar i) (Scalar.muli (nFar i) 512#32) (View.readAt (Elt Ideal) arg4.view (Rect.unit (s := S1x512x512) ![0, 0, 384] S1x512x128.size inb_S1x512x512_S1x512x128_0_0_384).toLoadRect (harg4.unread x1)) (harg5.unread x2) (harg6.unread x3)
      (st_k0_t9 (F := Ideal) Variants.none c none i arg3 harg3 arg4 harg4 arg5 harg5 arg6 harg6 arg7 harg7 arg8 harg8 arg9 harg9 arg10 harg10 arg11 harg11 arg12 harg12 arg13 harg13 (hasNear i) (nFar i) (Scalar.muli (nFar i) 512#32) (View.readAt (Elt Ideal) arg4.view (Rect.unit (s := S1x512x512) ![0, 0, 384] S1x512x128.size inb_S1x512x512_S1x512x128_0_0_384).toLoadRect (harg4.unread x1)) (harg5.unread x2) (harg6.unread x3) start (Scf.trips (k0_t9_loop i).lb (k0_t9_loop i).ub (k0_t9_loop i).st))
      (Scf.trips (k0_t10_loop i).lb (k0_t10_loop i).ub (k0_t10_loop i).st)))) (View.readAt (Elt Ideal) arg7.view (Rect.unit (s := S1x512x512) ![0, 0, 384] S1x512x128.size inb_S1x512x512_S1x512x128_0_0_384).toLoadRect (harg7.unread x4)) (View.readAt (Elt Ideal) arg9.view (Rect.unit (s := S4x64) ![0, 0] S4x64.size inb_S4x64_S4x64_0_0).toLoadRect (harg9.unread x6)) (View.readAt (Elt Ideal) arg10.view (Rect.unit (s := S1x128) ![0, 0] S1x128.size inb_S1x128_S1x128_0_0).toLoadRect (harg10.unread x7))

/-- The four stores of the output's block, each a head. -/
theorem online_eq (x0 : Vec Ideal S1 .f32) (hb : ¬ flag arg3 harg3 x0 = 1#1) : (online (F := Ideal) c i arg3 harg3 arg4 harg4 arg5 harg5 arg6 harg6 arg7 harg7 arg8 harg8 arg9 harg9 arg10 harg10 arg11 harg11 arg12 harg12 arg13 harg13 x0 x1 x2 x3 x4 x5 x6 x7 hb).1 =
    [⟨Rect.unit (s := S1x512x512) ![0, 0, 384] ![1, 512, 128] inb_S1x512x512_S1x512x128_0_0_384, head3 c i arg3 harg3 arg4 harg4 arg5 harg5 arg6 harg6 arg7 harg7 arg8 harg8 arg9 harg9 arg10 harg10 arg11 harg11 arg12 harg12 arg13 harg13 x1 x2 x3 x4 x5 x6 x7⟩,
     ⟨Rect.unit (s := S1x512x512) ![0, 0, 256] ![1, 512, 128] inb_S1x512x512_S1x512x128_0_0_256, head2 c i arg3 harg3 arg4 harg4 arg5 harg5 arg6 harg6 arg7 harg7 arg8 harg8 arg9 harg9 arg10 harg10 arg11 harg11 arg12 harg12 arg13 harg13 x1 x2 x3 x4 x5 x6 x7⟩,
     ⟨Rect.unit (s := S1x512x512) ![0, 0, 128] ![1, 512, 128] inb_S1x512x512_S1x512x128_0_0_128, head1 c i arg3 harg3 arg4 harg4 arg5 harg5 arg6 harg6 arg7 harg7 arg8 harg8 arg9 harg9 arg10 harg10 arg11 harg11 arg12 harg12 arg13 harg13 x1 x2 x3 x4 x5 x6 x7⟩,
     ⟨Rect.unit (s := S1x512x512) ![0, 0, 0] ![1, 512, 128] inb_S1x512x512_S1x512x128_0_0_0, head0 c i arg3 harg3 arg4 harg4 arg5 harg5 arg6 harg6 arg7 harg7 arg8 harg8 arg9 harg9 arg10 harg10 arg11 harg11 arg12 harg12 arg13 harg13 x1 x2 x3 x4 x5 x6 x7⟩] := by
  unfold online
  dsimp only
  sl_kernel_rfl

end Cert.KernelIdeal.Val

end
-- ==== Proof.Weights.lean ====
module

public import Idealize.ShloMosaic.Lib.Pipeline.ValueKit

@[expose] public section

noncomputable section

namespace Cert.Weights

open Idealize.ShloMosaic

/-- The weight of a score in powers of two: none of a masked one. -/
def wt (s : EReal) : ℝ := (Ideal.exp2 s).toReal

theorem wt_bot : wt ⊥ = 0 := by simp [wt]

theorem wt_coe (x : ℝ) : wt (x : EReal) = (2 : ℝ) ^ x := by simp [wt, Ideal.exp2_coe]

theorem exp2_eq {s : EReal} (h : s ≠ ⊤) : Ideal.exp2 s = (wt s : EReal) := by
  induction s with
  | bot => simp [wt]
  | top => exact absurd rfl h
  | coe x => rw [wt_coe, Ideal.exp2_coe]; rfl

theorem wt_nonneg (s : EReal) : 0 ≤ wt s := by
  induction s with
  | bot => simp [wt_bot]
  | top => simp [wt]
  | coe x => rw [wt_coe]; positivity

theorem wt_pos (x : ℝ) : 0 < wt (x : EReal) := by rw [wt_coe]; positivity

theorem coe_sum {ι : Type*} (S : Finset ι) (f : ι → ℝ) : (((∑ i ∈ S, f i : ℝ)) : EReal) = ∑ i ∈ S, (f i : EReal) := by
  classical
  induction S using Finset.induction_on with
  | empty => simp
  | insert a S h ih => rw [Finset.sum_insert h, Finset.sum_insert h, EReal.coe_add, ih]

/-- A weight measured against a running maximum. -/
theorem exp2_sub {s : EReal} (h : s ≠ ⊤) (M : ℝ) : Ideal.exp2 (s - (M : EReal)) = (((2 : ℝ) ^ (-M) * wt s : ℝ) : EReal) := by
  induction s with
  | bot => simp [wt_bot]
  | top => exact absurd rfl h
  | coe x =>
    rw [← EReal.coe_sub, Ideal.exp2_coe, wt_coe, ← Real.rpow_add (by norm_num)]
    show (((2 : ℝ) ^ (x - M) : ℝ) : EReal) = _
    congr 2; ring

/-- What is carried along a row: the running maximum, and the sum of weights and of weighted values measured against it. -/
def Inv (m l a : EReal) (W A : ℝ) : Prop :=
  (m = ⊥ ∧ l = 0 ∧ a = 0 ∧ W = 0 ∧ A = 0) ∨
    ∃ M : ℝ, m = (M : EReal) ∧ l = (((2 : ℝ) ^ (-M) * W : ℝ) : EReal) ∧ a = (((2 : ℝ) ^ (-M) * A : ℝ) : EReal)

theorem Inv.start : Inv ⊥ 0 0 0 0 := Or.inl ⟨rfl, rfl, rfl, rfl, rfl⟩

theorem fold_max_ne_top {ι : Type*} (S : Finset ι) (s : ι → EReal) (hs : ∀ j, s j ≠ ⊤) : S.fold max ⊥ s ≠ ⊤ := by
  classical
  induction S using Finset.induction_on with
  | empty => simp
  | insert a S h ih => rw [Finset.fold_insert h]; intro he; rcases max_choice (s a) (S.fold max ⊥ s) with e | e <;> rw [e] at he <;> [exact hs a he; exact ih he]

theorem le_fold_max {ι : Type*} (S : Finset ι) (s : ι → EReal) (j : ι) (hj : j ∈ S) : s j ≤ S.fold max ⊥ s := by
  classical
  rw [Finset.le_fold_max]; exact Or.inr ⟨j, hj, le_rfl⟩

theorem Inv.ne_top {m l a : EReal} {W A : ℝ} (h : Inv m l a W A) : m ≠ ⊤ := by
  rcases h with ⟨h, -⟩ | ⟨M, h, -⟩ <;> simp [h]

/-- One tile of scores taken in. -/
theorem Inv.step {n : ℕ} {m l a : EReal} {W A : ℝ} (h : Inv m l a W A) (s : Fin n → EReal) (hs : ∀ j, s j ≠ ⊤) (v : Fin n → EReal) (v' : Fin n → ℝ)
    (hv : ∀ j, v j = (v' j : EReal)) {m' : EReal} (hm : m' = max m (Finset.univ.fold max ⊥ s)) :
    Inv m' (Ideal.exp2 (m - m') * l + ∑ j, Ideal.exp2 (s j - m')) (Ideal.exp2 (m - m') * a + ∑ j, Ideal.exp2 (s j - m') * v j)
      (W + ∑ j, wt (s j)) (A + ∑ j, wt (s j) * v' j) := by
  have htop : m' ≠ ⊤ := by
    rw [hm]; intro he
    rcases max_choice m (Finset.univ.fold max ⊥ s) with e | e <;> rw [e] at he
    exacts [h.ne_top he, fold_max_ne_top _ _ hs he]
  have hle : ∀ j, s j ≤ m' := fun j => by rw [hm]; exact le_max_of_le_right (le_fold_max _ s j (Finset.mem_univ j))
  have hlm : m ≤ m' := by rw [hm]; exact le_max_left _ _
  clear hm
  induction m' with
  | top => exact absurd rfl htop
  | bot =>
    have hm0 : m = ⊥ := le_bot_iff.mp hlm
    have hs0 : ∀ j, s j = ⊥ := fun j => le_bot_iff.mp (hle j)
    rcases h with ⟨-, hl, ha, hW, hA⟩ | ⟨M, hM, -⟩
    · exact Or.inl ⟨rfl, by simp [hl, hs0], by simp [ha, hs0], by simp [hW, hs0, wt_bot], by simp [hA, hs0, wt_bot]⟩
    · simp [hm0] at hM
  | coe M' =>
    refine Or.inr ⟨M', rfl, ?_, ?_⟩
    · have e : Ideal.exp2 (m - (M' : EReal)) * l = (((2 : ℝ) ^ (-M') * W : ℝ) : EReal) := by
        rcases h with ⟨hm, hl, ha, hW, hA⟩ | ⟨M, hM, hl, ha⟩
        · simp [hl, hW]
        · rw [hM, hl, exp2_sub (by simp), wt_coe, ← EReal.coe_mul]
          congr 1
          have : (2 : ℝ) ^ M * (2 : ℝ) ^ (-M) = 1 := by rw [← Real.rpow_add (by norm_num)]; simp
          linear_combination ((2 : ℝ) ^ (-M') * W) * this
      rw [e, mul_add, EReal.coe_add, Finset.mul_sum, coe_sum]
      exact congrArg _ (Finset.sum_congr rfl fun j _ => exp2_sub (hs j) M')
    · have e : Ideal.exp2 (m - (M' : EReal)) * a = (((2 : ℝ) ^ (-M') * A : ℝ) : EReal) := by
        rcases h with ⟨hm, hl, ha, hW, hA⟩ | ⟨M, hM, hl, ha⟩
        · simp [ha, hA]
        · rw [hM, ha, exp2_sub (by simp), wt_coe, ← EReal.coe_mul]
          congr 1
          have : (2 : ℝ) ^ M * (2 : ℝ) ^ (-M) = 1 := by rw [← Real.rpow_add (by norm_num)]; simp
          linear_combination ((2 : ℝ) ^ (-M') * A) * this
      rw [e, mul_add, EReal.coe_add, Finset.mul_sum, coe_sum]
      refine congrArg _ (Finset.sum_congr rfl fun j _ => ?_)
      rw [exp2_sub (hs j) M', hv, ← EReal.coe_mul, mul_assoc]

/-- The quotient carried out of a row that saw a key. -/
theorem Inv.quot {m l a : EReal} {W A : ℝ} (h : Inv m l a W A) (hW : W ≠ 0) : Ideal.div a l = ((A / W : ℝ) : EReal) := by
  rcases h with ⟨-, -, -, h, -⟩ | ⟨M, -, hl, ha⟩
  · exact absurd h hW
  · have hp : (2 : ℝ) ^ (-M) ≠ 0 := (Real.rpow_pos_of_pos (by norm_num) _).ne'
    rw [hl, ha, Ideal.div_coe (mul_ne_zero hp hW), ← EReal.coe_mul]
    congr 1; field_simp

/-- The same of sums that were never scaled. -/
theorem quot_plain {W A : ℝ} (hW : W ≠ 0) : Ideal.div (A : EReal) (W : EReal) = ((A / W : ℝ) : EReal) := by
  rw [Ideal.div_coe hW, ← EReal.coe_mul]; congr 1; field_simp

/-- Sixteen tiles of 512 keys are the 8192 keys. -/
theorem sum_tiles (f : ℕ → ℝ) : ∑ T ∈ Finset.range 16, ∑ j : Fin 512, f (512 * T + j) = ∑ k : Fin 8192, f k := by
  have h : ∀ n : ℕ, ∑ T ∈ Finset.range n, ∑ j : Fin 512, f (512 * T + j) = ∑ k ∈ Finset.range (512 * n), f k := by
    intro n
    induction n with
    | zero => simp
    | succ n ih =>
      rw [Finset.sum_range_succ, ih, Nat.mul_succ, Finset.sum_range_add, Finset.sum_range (f := fun x => f (512 * n + x))]
  rw [h 16, Finset.sum_range]

end Cert.Weights

end
-- ==== Proof.Tiles.lean ====
module

public import proofs.«01_k».proof.Proof.Heads
public import proofs.«01_k».proof.Proof.Weights

@[expose] public section

set_option maxRecDepth 16384

noncomputable section

/-! What one tile of keys adds to what a head carries. -/

namespace Cert.KernelIdeal.Val

open Cert.KernelIdeal Cert.KernelIdeal.Gen Cert.KernelIdeal.Run Cert.Weights
open Idealize.ShloMosaic Idealize.ShloMosaic.TcCoe

theorem bot_bits : Ideal.ofBits FTy.f32 4286578688#32 = ⊥ := by
  simp [Ideal.ofBits, Ideal.ieee]

/-! ### One map's products, over its own half of the head's lanes -/

theorem lanes (f : Fin 128 → EReal) : ∑ x, f x = ∑ x : Fin 64, f ⟨x.val, by omega⟩ + ∑ x : Fin 64, f ⟨64 + x.val, by omega⟩ :=
  Fin.sum_univ_add (a := 64) (b := 64) f

theorem below (x : Fin 64) (u v : EReal) : Scalar.select (IntOp.cmpi CmpIPredicate.slt (BitVec.ofNat 32 x.val) 64#32) u v = u := by
  have : ∀ x : Fin 64, IntOp.cmpi CmpIPredicate.slt (BitVec.ofNat 32 x.val) 64#32 = 1#1 := by decide +kernel
  rw [this]; rfl
theorem not_below (x : Fin 64) (u v : EReal) : Scalar.select (IntOp.cmpi CmpIPredicate.slt (BitVec.ofNat 32 (64 + x.val)) 64#32) u v = v := by
  have : ∀ x : Fin 64, IntOp.cmpi CmpIPredicate.slt (BitVec.ofNat 32 (64 + x.val)) 64#32 = 0#1 := by decide +kernel
  rw [this]; rfl
theorem above (x : Fin 64) (u v : EReal) : Scalar.select (IntOp.cmpi CmpIPredicate.sge (BitVec.ofNat 32 (64 + x.val)) 64#32) u v = u := by
  have : ∀ x : Fin 64, IntOp.cmpi CmpIPredicate.sge (BitVec.ofNat 32 (64 + x.val)) 64#32 = 1#1 := by decide +kernel
  rw [this]; rfl
theorem not_above (x : Fin 64) (u v : EReal) : Scalar.select (IntOp.cmpi CmpIPredicate.sge (BitVec.ofNat 32 x.val) 64#32) u v = v := by
  have : ∀ x : Fin 64, IntOp.cmpi CmpIPredicate.sge (BitVec.ofNat 32 x.val) 64#32 = 0#1 := by decide +kernel
  rw [this]; rfl

theorem half_lo (f : Fin 128 → EReal) : ∑ x : Fin 128, Scalar.select (IntOp.cmpi CmpIPredicate.slt (BitVec.ofNat 32 x.val) 64#32) (f x) (0 : EReal) = ∑ x : Fin 64, f ⟨x.val, by omega⟩ := by
  rw [lanes]; simp only [below, not_below, Finset.sum_const_zero, add_zero]
theorem half_hi (f : Fin 128 → EReal) : ∑ x : Fin 128, Scalar.select (IntOp.cmpi CmpIPredicate.sge (BitVec.ofNat 32 x.val) 64#32) (f x) (0 : EReal) = ∑ x : Fin 64, f ⟨64 + x.val, by omega⟩ := by
  rw [lanes]; simp only [above, not_above, Finset.sum_const_zero, zero_add]

theorem scores0_at (q k : Vec Ideal S1x512x128 .bf16) (r j : Fin 512) :
    (k0_pay230 q k (ix2 r j) : EReal) = ∑ x : Fin 64, (q (ix3 0 r ⟨x.val, by omega⟩) : EReal) * (k (ix3 0 j ⟨x.val, by omega⟩) : EReal) := by
  rw [← half_lo fun x => (q (ix3 0 r x) : EReal) * (k (ix3 0 j x) : EReal)]
  pointwise [k0_pay230, k0_pay223, k0_pay228, k0_pay221, k0_pay222]
theorem scores1_at (q k : Vec Ideal S1x512x128 .bf16) (r j : Fin 512) :
    (k0_pay231 q k (ix2 r j) : EReal) = ∑ x : Fin 64, (q (ix3 0 r ⟨64 + x.val, by omega⟩) : EReal) * (k (ix3 0 j ⟨64 + x.val, by omega⟩) : EReal) := by
  rw [← half_hi fun x => (q (ix3 0 r x) : EReal) * (k (ix3 0 j x) : EReal)]
  pointwise [k0_pay231, k0_pay224, k0_pay228, k0_pay221, k0_pay222]

theorem mask_bot : (Named.named (F := Ideal) (φ := .f32) κ "mask" 4048155338#32 : EReal) = ⊥ := IdealRules.named_const.ideal_named_scalar _ _ _ _ rfl

/-- What the near tile's mask adds to a bias. -/
def masked (v0 : BitVec 1) (z : EReal) : EReal := z + Scalar.select v0 (0 : EReal) ⊥

theorem near0_at (v0 : BitVec 1) (q k : Vec Ideal S1x512x128 .bf16) (b : Vec Ideal S1x1x512x512 .f32) (r j : Fin 512) :
    (k0_pay259 v0 q k b (ix2 r j) : EReal) = (k0_pay230 q k (ix2 r j) : EReal) + masked v0 (b (ix4 0 0 r j)) := by
  rw [masked, ← mask_bot]
  pointwise [k0_pay259, k0_pay258, k0_pay256, k0_pay230, k0_pay223, k0_pay228, k0_pay221, k0_pay222]
theorem near1_at (v0 : BitVec 1) (q k : Vec Ideal S1x512x128 .bf16) (b : Vec Ideal S1x1x512x512 .f32) (r j : Fin 512) :
    (k0_pay260 v0 q k b (ix2 r j) : EReal) = (k0_pay231 q k (ix2 r j) : EReal) + masked v0 (b (ix4 0 0 r j)) := by
  rw [masked, ← mask_bot]
  pointwise [k0_pay260, k0_pay258, k0_pay256, k0_pay231, k0_pay224, k0_pay228, k0_pay221, k0_pay222]
theorem diag0_at (s : FVec Ideal S512x512 .f32) (b : Vec Ideal S1x1x512x512 .f32) (r j : Fin 512) :
    (k0_pay276 s (k0_pay275 b) (ix2 r j) : EReal) = (s (ix2 r j) : EReal) + (b (ix4 0 0 r j) : EReal) := by
  pointwise [k0_pay276, k0_pay275]
theorem diag1_at (s : FVec Ideal S512x512 .f32) (b : Vec Ideal S1x1x512x512 .f32) (r j : Fin 512) :
    (k0_pay277 s (k0_pay275 b) (ix2 r j) : EReal) = (s (ix2 r j) : EReal) + (b (ix4 0 0 r j) : EReal) := by
  pointwise [k0_pay277, k0_pay275]
theorem mat_at (v : Vec Ideal S1x512x128 .bf16) (j : Fin 512) (e : Fin 128) : (mat v (ix2 j e) : EReal) = (v (ix3 0 j e) : EReal) := by
  unfold mat; pointwise [k0_pay257]

/-! ### One tile taken in -/

/-- What a row of what is carried amounts to, of either map: the weights so far and the weighted values of lane `e`. -/
def Carried (C : Carry) (r : Fin 512) (e : Fin 128) (W0 A0 W1 A1 : ℝ) : Prop :=
  Inv (C.1 (ix2 r 0)) (C.2.1 (ix2 r 0)) (C.2.2.1 (ix2 r e)) W0 A0 ∧ Inv (C.2.2.2.1 (ix2 r 0)) (C.2.2.2.2.1 (ix2 r 0)) (C.2.2.2.2.2 (ix2 r e)) W1 A1

theorem start_carried (r : Fin 512) (e : Fin 128) : Carried start r e 0 0 0 0 := by
  have h1 : (k0_pay225 (F := Ideal) (ix2 r 0) : EReal) = ⊥ := by rw [← bot_bits]; pointwise [k0_pay225]
  have h2 : (k0_pay226 (F := Ideal) (ix2 r 0) : EReal) = 0 := by pointwise [k0_pay226]
  have h3 : (k0_pay227 (F := Ideal) (ix2 r e) : EReal) = 0 := by pointwise [k0_pay227]
  unfold Carried start
  dsimp only
  rw [h1, h2, h3]
  exact ⟨Inv.start, Inv.start⟩

theorem new0 (m : FVec Ideal S512x1 .f32) (s : FVec Ideal S512x512 .f32) (r : Fin 512) :
    (k0_pay261 m s (ix2 r 0) : EReal) = max (m (ix2 r 0) : EReal) (Finset.univ.fold max ⊥ fun j => (s (ix2 r j) : EReal)) := by
  rw [← bot_bits]; pointwise [k0_pay261]
theorem new1 (m : FVec Ideal S512x1 .f32) (s : FVec Ideal S512x512 .f32) (r : Fin 512) :
    (k0_pay266 m s (ix2 r 0) : EReal) = max (m (ix2 r 0) : EReal) (Finset.univ.fold max ⊥ fun j => (s (ix2 r j) : EReal)) := by
  rw [← bot_bits]; pointwise [k0_pay266]
theorem sum0 (m l : FVec Ideal S512x1 .f32) (s : FVec Ideal S512x512 .f32) (r : Fin 512) :
    (k0_pay264 m l s (ix2 r 0) : EReal) = Ideal.exp2 ((m (ix2 r 0) : EReal) - k0_pay261 m s (ix2 r 0)) * (l (ix2 r 0) : EReal) + ∑ j, Ideal.exp2 ((s (ix2 r j) : EReal) - k0_pay261 m s (ix2 r 0)) := by
  pointwise [k0_pay264, k0_pay262, k0_pay263]
  try rfl
theorem sum1 (m l : FVec Ideal S512x1 .f32) (s : FVec Ideal S512x512 .f32) (r : Fin 512) :
    (k0_pay269 m l s (ix2 r 0) : EReal) = Ideal.exp2 ((m (ix2 r 0) : EReal) - k0_pay266 m s (ix2 r 0)) * (l (ix2 r 0) : EReal) + ∑ j, Ideal.exp2 ((s (ix2 r j) : EReal) - k0_pay266 m s (ix2 r 0)) := by
  pointwise [k0_pay269, k0_pay267, k0_pay268]
  try rfl
theorem val0 (m : FVec Ideal S512x1 .f32) (a : FVec Ideal S512x128 .f32) (v : FVec Ideal S512x128 .bf16) (s : FVec Ideal S512x512 .f32) (r : Fin 512) (e : Fin 128) :
    (k0_pay265 m a v s (ix2 r e) : EReal) = Ideal.exp2 ((m (ix2 r 0) : EReal) - k0_pay261 m s (ix2 r 0)) * (a (ix2 r e) : EReal) + ∑ j, Ideal.exp2 ((s (ix2 r j) : EReal) - k0_pay261 m s (ix2 r 0)) * (v (ix2 j e) : EReal) := by
  pointwise [k0_pay265, k0_pay262, k0_pay263]
  try rfl
theorem val1 (m : FVec Ideal S512x1 .f32) (a : FVec Ideal S512x128 .f32) (v : FVec Ideal S512x128 .bf16) (s : FVec Ideal S512x512 .f32) (r : Fin 512) (e : Fin 128) :
    (k0_pay270 m a v s (ix2 r e) : EReal) = Ideal.exp2 ((m (ix2 r 0) : EReal) - k0_pay266 m s (ix2 r 0)) * (a (ix2 r e) : EReal) + ∑ j, Ideal.exp2 ((s (ix2 r j) : EReal) - k0_pay266 m s (ix2 r 0)) * (v (ix2 j e) : EReal) := by
  pointwise [k0_pay270, k0_pay267, k0_pay268]
  try rfl

theorem step_carried {C : Carry} {r : Fin 512} {e : Fin 128} {W0 A0 W1 A1 : ℝ} (h : Carried C r e W0 A0 W1 A1)
    (s0 s1 : FVec Ideal S512x512 .f32) (v : FVec Ideal S512x128 .bf16) (v' : Fin 512 → ℝ)
    (h0 : ∀ j, (s0 (ix2 r j) : EReal) ≠ ⊤) (h1 : ∀ j, (s1 (ix2 r j) : EReal) ≠ ⊤) (hv : ∀ j, (v (ix2 j e) : EReal) = (v' j : EReal)) :
    Carried (step C s0 s1 v) r e (W0 + ∑ j, wt (s0 (ix2 r j))) (A0 + ∑ j, wt (s0 (ix2 r j)) * v' j) (W1 + ∑ j, wt (s1 (ix2 r j))) (A1 + ∑ j, wt (s1 (ix2 r j)) * v' j) := by
  have t0 := h.1.step (fun j => (s0 (ix2 r j) : EReal)) h0 (fun j => (v (ix2 j e) : EReal)) v' hv (new0 C.1 s0 r)
  have t1 := h.2.step (fun j => (s1 (ix2 r j) : EReal)) h1 (fun j => (v (ix2 j e) : EReal)) v' hv (new1 C.2.2.2.1 s1 r)
  rw [← sum0, ← val0] at t0
  rw [← sum1, ← val1] at t1
  exact ⟨t0, t1⟩

/-! ### A head's result -/

/-- The norm of a head's difference, its factors, and the gate: from the difference's lanes, the gain and the gate. -/
def gated (o gs : Fin 128 → EReal) (g : EReal) (e : Fin 128) : EReal :=
  o e * Ideal.rsqrt (Ideal.div (∑ x, o x * o x) (Ideal.ofBits .f32 1124073472#32) + Ideal.ofBits .f32 897988541#32) * gs e * Ideal.ofBits .f32 1061997773#32 * (g * Ideal.div 1 (1 + Ideal.exp (0 - g)))

/-- The factor of the second map, from the table of its four vectors. -/
def factor (lam : Vec Ideal S4x64 .f32) : EReal :=
  Ideal.exp (∑ x : Fin 64, (lam (ix2 0 x) : EReal) * (lam (ix2 1 x) : EReal)) - Ideal.exp (∑ x : Fin 64, (lam (ix2 2 x) : EReal) * (lam (ix2 3 x) : EReal)) + Ideal.ofBits .f32 1045220557#32

theorem finish_at (l0 : FVec Ideal S512x1 .f32) (a0 : FVec Ideal S512x128 .f32) (l1 : FVec Ideal S512x1 .f32) (a1 : FVec Ideal S512x128 .f32)
    (g : Vec Ideal S1x512x128 .bf16) (lam : Vec Ideal S4x64 .f32) (gs : Vec Ideal S1x128 .f32) (r : Fin 512) (e : Fin 128) :
    (finish l0 a0 l1 a1 g lam gs (ix3 0 r e) : EReal) = gated (fun x => Ideal.div (a0 (ix2 r x)) (l0 (ix2 r 0)) - factor lam * Ideal.div (a1 (ix2 r x)) (l1 (ix2 r 0))) (fun x => (gs (ix2 0 x) : EReal)) (g (ix3 0 r e)) e := by
  unfold finish gated factor
  pointwise [k0_pay293, k0_pay288, k0_pay290, k0_pay291, k0_pay292, k0_pay289]

end Cert.KernelIdeal.Val

end
-- ==== Proof.Stack.lean ====
module

public import proofs.«01_k».proof.Proof.Tiles

@[expose] public section

set_option maxRecDepth 16384

noncomputable section

/-! The exponentials as they are, of both maps at once: the two maps' queries stand one above the other, their lanes apart. -/

namespace Cert.KernelIdeal.Val

open Cert.KernelIdeal Cert.KernelIdeal.Gen
open Idealize.ShloMosaic Idealize.ShloMosaic.TcCoe

/-- Both maps' queries, one above the other. -/
def pair (q : Vec Ideal S1x512x128 .bf16) : FVec Ideal S1024x128 .bf16 := k0_pay75 (k0_pay223 q) (k0_pay224 q)

/-- The exponentials of a far tile. -/
def expFar (q2 : FVec Ideal S1024x128 .bf16) (k : Vec Ideal S1x512x128 .bf16) : FVec Ideal S1024x512 .f32 :=
  exp2 (matmul dot_S1024x128_S512x128_S1024x512_1_1_0_0_n_n none q2 (shapeCast S512x128 k shapeCasts_S1x512x128_S512x128 : FVec Ideal S512x128 .bf16) (constant S1024x512 .f32 0x00000000#32))

/-- Those of the tile before the queries' own. -/
def expNear (v0 : BitVec 1) (q2 : FVec Ideal S1024x128 .bf16) (k : Vec Ideal S1x512x128 .bf16) (b : Vec Ideal S1x1x512x512 .f32) : FVec Ideal S1024x512 .f32 :=
  k0_pay88 q2 (k0_pay79 (F := Ideal) v0) k b

/-- The sums of a tile's exponentials that stand in one lane. -/
def lanes4 (p : FVec Ideal S1024x512 .f32) : FVec Ideal S1024x128 .f32 :=
  addf (addf (addf (extractStridedSlice S1024x128 ![0, 0] p slices_S1024x512_o0_0_S1024x128) (extractStridedSlice S1024x128 ![0, 128] p slices_S1024x512_o0_128_S1024x128))
    (extractStridedSlice S1024x128 ![0, 256] p slices_S1024x512_o0_256_S1024x128)) (extractStridedSlice S1024x128 ![0, 384] p slices_S1024x512_o0_384_S1024x128)

/-- A tile's values, weighted. -/
def weighted (p : FVec Ideal S1024x512 .f32) (v : Vec Ideal S1x512x128 .bf16) : FVec Ideal S1024x128 .f32 :=
  matmul dot_S1024x512_S512x128_S1024x128_1_0_0_1_n_n none (truncf .bf16 p bitsLt_bf16_f32) (shapeCast S512x128 v shapeCasts_S1x512x128_S512x128 : FVec Ideal S512x128 .bf16) (constant S1024x128 .f32 0x00000000#32)

/-- The rows of either map. -/
def rowsOf (n : Fin 2) (x : FVec Ideal S1024x128 .f32) : FVec Ideal S512x128 .f32 :=
  (![extractStridedSlice S512x128 ![0, 0] x slices_S1024x128_o0_0_S512x128, extractStridedSlice S512x128 ![512, 0] x slices_S1024x128_o512_0_S512x128] : Fin 2 → FVec Ideal S512x128 .f32) n

/-- The upper half of the queries' own tile, which reaches the first half of its keys only. -/
def expUp (q : Vec Ideal S1x512x128 .bf16) (k : Vec Ideal S1x256x128 .bf16) (b : Vec Ideal S1x1x256x256 .f32) : FVec Ideal S512x256 .f32 :=
  exp2 (addf (matmul dot_S512x128_S256x128_S512x256_1_1_0_0_n_n none
      (concatenate S512x128 0 [⟨S256x128, extractStridedSlice S256x128 ![0, 0] (k0_pay223 q) slices_S512x128_o0_0_S256x128⟩, ⟨S256x128, extractStridedSlice S256x128 ![0, 0] (k0_pay224 q) slices_S512x128_o0_0_S256x128⟩] concatenates_S256x128_S256x128_S512x128_d0 : FVec Ideal S512x128 .bf16)
      (shapeCast S256x128 k shapeCasts_S1x256x128_S256x128 : FVec Ideal S256x128 .bf16) (constant S512x256 .f32 0x00000000#32))
    (concatenate S512x256 0 [⟨S256x256, shapeCast S256x256 b shapeCasts_S1x1x256x256_S256x256⟩, ⟨S256x256, shapeCast S256x256 b shapeCasts_S1x1x256x256_S256x256⟩] concatenates_S256x256_S256x256_S512x256_d0))

def lanes2 (p : FVec Ideal S512x256 .f32) : FVec Ideal S512x128 .f32 :=
  addf (extractStridedSlice S512x128 ![0, 0] p slices_S512x256_o0_0_S512x128) (extractStridedSlice S512x128 ![0, 128] p slices_S512x256_o0_128_S512x128)

def weightedUp (p : FVec Ideal S512x256 .f32) (v : Vec Ideal S1x256x128 .bf16) : FVec Ideal S512x128 .f32 :=
  matmul dot_S512x256_S256x128_S512x128_1_0_0_1_n_n none (truncf .bf16 p bitsLt_bf16_f32) (shapeCast S256x128 v shapeCasts_S1x256x128_S256x128 : FVec Ideal S256x128 .bf16) (constant S512x128 .f32 0x00000000#32)

/-- The lower half, which reaches all of them. -/
def expLow (q : Vec Ideal S1x512x128 .bf16) (k : Vec Ideal S1x512x128 .bf16) (b : Vec Ideal S1x1x256x512 .f32) : FVec Ideal S512x512 .f32 :=
  exp2 (addf (matmul dot_S512x128_S512x128_S512x512_1_1_0_0_n_n none
      (concatenate S512x128 0 [⟨S256x128, extractStridedSlice S256x128 ![256, 0] (k0_pay223 q) slices_S512x128_o256_0_S256x128⟩, ⟨S256x128, extractStridedSlice S256x128 ![256, 0] (k0_pay224 q) slices_S512x128_o256_0_S256x128⟩] concatenates_S256x128_S256x128_S512x128_d0 : FVec Ideal S512x128 .bf16)
      (shapeCast S512x128 k shapeCasts_S1x512x128_S512x128 : FVec Ideal S512x128 .bf16) (constant S512x512 .f32 0x00000000#32))
    (concatenate S512x512 0 [⟨S256x512, shapeCast S256x512 b shapeCasts_S1x1x256x512_S256x512⟩, ⟨S256x512, shapeCast S256x512 b shapeCasts_S1x1x256x512_S256x512⟩] concatenates_S256x512_S256x512_S512x512_d0))

def lanes4Low (p : FVec Ideal S512x512 .f32) : FVec Ideal S512x128 .f32 :=
  addf (addf (addf (extractStridedSlice S512x128 ![0, 0] p slices_S512x512_o0_0_S512x128) (extractStridedSlice S512x128 ![0, 128] p slices_S512x512_o0_128_S512x128))
    (extractStridedSlice S512x128 ![0, 256] p slices_S512x512_o0_256_S512x128)) (extractStridedSlice S512x128 ![0, 384] p slices_S512x512_o0_384_S512x128)

def weightedLow (p : FVec Ideal S512x512 .f32) (v : Vec Ideal S1x512x128 .bf16) : FVec Ideal S512x128 .f32 :=
  matmul dot_S512x512_S512x128_S512x128_1_0_0_1_n_n none (truncf .bf16 p bitsLt_bf16_f32) (shapeCast S512x128 v shapeCasts_S1x512x128_S512x128 : FVec Ideal S512x128 .bf16) (constant S512x128 .f32 0x00000000#32)

def halfOf (n : Fin 2) (x : FVec Ideal S512x128 .f32) : FVec Ideal S256x128 .f32 :=
  (![extractStridedSlice S256x128 ![0, 0] x slices_S512x128_o0_0_S256x128, extractStridedSlice S256x128 ![256, 0] x slices_S512x128_o256_0_S256x128] : Fin 2 → FVec Ideal S256x128 .f32) n

/-- What a buffer holds with a part added. -/
def plus512 (x : Vec Ideal S1x1x512x128 .f32) (d : FVec Ideal S512x128 .f32) : FVec Ideal S1x1x512x128 .f32 :=
  shapeCast S1x1x512x128 (addf (shapeCast S512x128 x shapeCasts_S1x1x512x128_S512x128) d) shapeCasts_S512x128_S1x1x512x128
def plus256 (x : Vec Ideal S1x1x256x128 .f32) (d : FVec Ideal S256x128 .f32) : FVec Ideal S1x1x256x128 .f32 :=
  shapeCast S1x1x256x128 (addf (shapeCast S256x128 x shapeCasts_S1x1x256x128_S256x128) d) shapeCasts_S256x128_S1x1x256x128
def put512 (d : FVec Ideal S512x128 .f32) : FVec Ideal S1x1x512x128 .f32 := shapeCast S1x1x512x128 d shapeCasts_S512x128_S1x1x512x128

/-- A head's sums over the lanes, and its values, out of the buffers. -/
def sums (x : Vec Ideal S1x1x512x128 .f32) : FVec Ideal S512x1 .f32 :=
  shapeCast S512x1 (multiReduction .add [1] S512 (shapeCast S512x128 x shapeCasts_S1x1x512x128_S512x128 : FVec Ideal S512x128 .f32) 0x00000000#32 reduces_S512x128_S512 (.inl rfl) rfl) shapeCasts_S512_S512x1
def vals (x : Vec Ideal S1x1x512x128 .f32) : FVec Ideal S512x128 .f32 := shapeCast S512x128 x shapeCasts_S1x1x512x128_S512x128

end Cert.KernelIdeal.Val

end
-- ==== Proof.Bound.lean ====
module

public import proofs.«01_k».proof.Proof.Stack
public import proofs.«01_k».proof.Proof.Bounded

@[expose] public section

set_option maxRecDepth 16384

noncomputable section

/-! The stores of a point whose scores are bounded. -/

namespace Cert.KernelIdeal.Val

open Cert.KernelIdeal Cert.KernelIdeal.Gen Cert.KernelIdeal.Run
open Idealize.ShloMosaic Idealize.ShloMosaic.TcCoe Idealize.SL.Sem

abbrev Store : Type := View.Piece (Elt Ideal) S4x2x512x128 .f32

theorem inb512 (h : Fin 4) (m : Fin 2) : ∀ a : Fin S4x2x512x128.rank, (![h.val, m.val, 0, 0] : Fin 4 → ℕ) a + S1x1x512x128.size a ≤ S4x2x512x128.size a := by
  revert h m; decide
theorem inb256 (h : Fin 4) (m : Fin 2) (a : Fin 2) : ∀ x : Fin S4x2x512x128.rank, (![h.val, m.val, 256 * a.val, 0] : Fin 4 → ℕ) x + S1x1x256x128.size x ≤ S4x2x512x128.size x := by
  revert h m a; decide

/-- A map's rows in the buffer, and a half of them. -/
abbrev rect512 (h : Fin 4) (m : Fin 2) : Rect S4x2x512x128 := Rect.unit ![h.val, m.val, 0, 0] S1x1x512x128.size (inb512 h m)
abbrev rect256 (h : Fin 4) (m a : Fin 2) : Rect S4x2x512x128 := Rect.unit ![h.val, m.val, 256 * a.val, 0] S1x1x256x128.size (inb256 h m a)

/-- A store to every head and map. -/
def eight (d : Fin 4 → Fin 2 → FVec Ideal S1x1x512x128 .f32) : List Store :=
  [⟨rect512 3 1, d 3 1⟩, ⟨rect512 3 0, d 3 0⟩, ⟨rect512 2 1, d 2 1⟩, ⟨rect512 2 0, d 2 0⟩, ⟨rect512 1 1, d 1 1⟩, ⟨rect512 1 0, d 1 0⟩, ⟨rect512 0 1, d 0 1⟩, ⟨rect512 0 0, d 0 0⟩]

section

variable (A : Memref sig .tc .vmem S4x2x512x128 .f32)

/-- A far tile's eight stores. -/
def far8 (f : BufTy.Contents (Elt Ideal) A.view.ty) (d : Fin 4 → Fin 2 → FVec Ideal S512x128 .f32) : List Store :=
  eight fun h m => plus512 (View.readAt (Elt Ideal) A.view (rect512 h m).toLoadRect f) (d h m)

def add256 (L : List Store) (h : Fin 4) (m a : Fin 2) (d : FVec Ideal S256x128 .f32) : List Store :=
  ⟨rect256 h m a, plus256 (A.view.readCov L (rect256 h m a).toLoadRect) d⟩ :: L

/-- A head's own tile: four stores. -/
def own4 (L : List Store) (h : Fin 4) (up low : FVec Ideal S512x128 .f32) : List Store :=
  add256 A (add256 A (add256 A (add256 A L h 0 0 (halfOf 0 up)) h 1 0 (halfOf 1 up)) h 0 1 (halfOf 0 low)) h 1 1 (halfOf 1 low)

end

/-- A head's result, from the two buffers. -/
def headB (A12 A13 : Memref sig .tc .vmem S4x2x512x128 .f32) (LS LA : List Store) (h : Fin 4) (g : Vec Ideal S1x512x128 .bf16) (lam : Vec Ideal S4x64 .f32) (gs : Vec Ideal S1x128 .f32) : FVec Ideal S1x512x128 .bf16 :=
  finish (sums (A12.view.readCov LS (rect512 h 0).toLoadRect)) (vals (A13.view.readCov LA (rect512 h 0).toLoadRect))
    (sums (A12.view.readCov LS (rect512 h 1).toLoadRect)) (vals (A13.view.readCov LA (rect512 h 1).toLoadRect)) g lam gs

variable (c : Dev nD) (i : grid0.Coords)
  (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x512x512 .bf16) (harg7 : arg7.IsWhole) (arg8 : Memref sig .tc .vmem S4x1x512x1024 .f32) (harg8 : arg8.IsWhole) (arg9 : Memref sig .tc .vmem S4x64 .f32) (harg9 : arg9.IsWhole) (arg10 : Memref sig .tc .vmem S1x128 .f32) (harg10 : arg10.IsWhole) (arg11 : Memref sig .tc .vmem S1x512x512 .bf16) (harg11 : arg11.IsWhole) (arg12 : Memref sig .tc .vmem S4x2x512x128 .f32) (harg12 : arg12.IsWhole) (arg13 : Memref sig .tc .vmem S4x2x512x128 .f32) (harg13 : arg13.IsWhole)
  (x1 : Vec Ideal S1x512x512 .bf16) (x2 : Vec Ideal S1x8192x512 .bf16) (x3 : Vec Ideal S1x8192x512 .bf16) (x4 : Vec Ideal S1x512x512 .bf16) (x5 : Vec Ideal S4x1x512x1024 .f32) (x6 : Vec Ideal S4x64 .f32) (x7 : Vec Ideal S1x128 .f32)

/-- The heads' lanes of a block of queries or gates. -/
def partR (A : Memref sig .tc .vmem S1x512x512 .bf16) (hA : A.IsWhole) (x : Vec Ideal S1x512x512 .bf16) : Fin 4 → Vec Ideal S1x512x128 .bf16 :=
  ![View.readAt (Elt Ideal) A.view (Rect.unit (s := S1x512x512) ![0, 0, 0] S1x512x128.size inb_S1x512x512_S1x512x128_0_0_0).toLoadRect (hA.unread x),
    View.readAt (Elt Ideal) A.view (Rect.unit (s := S1x512x512) ![0, 0, 128] S1x512x128.size inb_S1x512x512_S1x512x128_0_0_128).toLoadRect (hA.unread x),
    View.readAt (Elt Ideal) A.view (Rect.unit (s := S1x512x512) ![0, 0, 256] S1x512x128.size inb_S1x512x512_S1x512x128_0_0_256).toLoadRect (hA.unread x),
    View.readAt (Elt Ideal) A.view (Rect.unit (s := S1x512x512) ![0, 0, 384] S1x512x128.size inb_S1x512x512_S1x512x128_0_0_384).toLoadRect (hA.unread x)]

/-- A block of keys or values: a far tile, the tile before the queries' own, the first half of their own, their own. -/
def farR (A : Memref sig .tc .vmem S1x8192x512 .bf16) (X : BufTy.Contents (Elt Ideal) A.view.ty) (k : Fin (k0_t1_loop i).trips) : Fin 4 → Vec Ideal S1x512x128 .bf16 :=
  ![View.readAt (Elt Ideal) A.view (Rect.unit (s := S1x8192x512) (k0_off5 i k) S1x512x128.size (k0_off5_inb i k)).toLoadRect X,
    View.readAt (Elt Ideal) A.view (Rect.unit (s := S1x8192x512) (k0_off6 i k) S1x512x128.size (k0_off6_inb i k)).toLoadRect X,
    View.readAt (Elt Ideal) A.view (Rect.unit (s := S1x8192x512) (k0_off7 i k) S1x512x128.size (k0_off7_inb i k)).toLoadRect X,
    View.readAt (Elt Ideal) A.view (Rect.unit (s := S1x8192x512) (k0_off8 i k) S1x512x128.size (k0_off8_inb i k)).toLoadRect X]
def nearR (A : Memref sig .tc .vmem S1x8192x512 .bf16) (hA : A.IsWhole) (x : Vec Ideal S1x8192x512 .bf16) : Fin 4 → Vec Ideal S1x512x128 .bf16 :=
  ![View.readAt (Elt Ideal) A.view (Rect.unit (s := S1x8192x512) (k0_off1 i) S1x512x128.size (k0_off1_inb i)).toLoadRect (hA.unread x),
    View.readAt (Elt Ideal) A.view (Rect.unit (s := S1x8192x512) (k0_off2 i) S1x512x128.size (k0_off2_inb i)).toLoadRect (hA.unread x),
    View.readAt (Elt Ideal) A.view (Rect.unit (s := S1x8192x512) (k0_off3 i) S1x512x128.size (k0_off3_inb i)).toLoadRect (hA.unread x),
    View.readAt (Elt Ideal) A.view (Rect.unit (s := S1x8192x512) (k0_off4 i) S1x512x128.size (k0_off4_inb i)).toLoadRect (hA.unread x)]
def upR (A : Memref sig .tc .vmem S1x8192x512 .bf16) (hA : A.IsWhole) (x : Vec Ideal S1x8192x512 .bf16) : Fin 4 → Vec Ideal S1x256x128 .bf16 :=
  ![View.readAt (Elt Ideal) A.view (Rect.unit (s := S1x8192x512) (k0_off13 i) S1x256x128.size (k0_off13_inb i)).toLoadRect (hA.unread x),
    View.readAt (Elt Ideal) A.view (Rect.unit (s := S1x8192x512) (k0_off15 i) S1x256x128.size (k0_off15_inb i)).toLoadRect (hA.unread x),
    View.readAt (Elt Ideal) A.view (Rect.unit (s := S1x8192x512) (k0_off17 i) S1x256x128.size (k0_off17_inb i)).toLoadRect (hA.unread x),
    View.readAt (Elt Ideal) A.view (Rect.unit (s := S1x8192x512) (k0_off19 i) S1x256x128.size (k0_off19_inb i)).toLoadRect (hA.unread x)]
def lowR (A : Memref sig .tc .vmem S1x8192x512 .bf16) (hA : A.IsWhole) (x : Vec Ideal S1x8192x512 .bf16) : Fin 4 → Vec Ideal S1x512x128 .bf16 :=
  ![View.readAt (Elt Ideal) A.view (Rect.unit (s := S1x8192x512) (k0_off14 i) S1x512x128.size (k0_off14_inb i)).toLoadRect (hA.unread x),
    View.readAt (Elt Ideal) A.view (Rect.unit (s := S1x8192x512) (k0_off16 i) S1x512x128.size (k0_off16_inb i)).toLoadRect (hA.unread x),
    View.readAt (Elt Ideal) A.view (Rect.unit (s := S1x8192x512) (k0_off18 i) S1x512x128.size (k0_off18_inb i)).toLoadRect (hA.unread x),
    View.readAt (Elt Ideal) A.view (Rect.unit (s := S1x8192x512) (k0_off20 i) S1x512x128.size (k0_off20_inb i)).toLoadRect (hA.unread x)]

theorem inbN (h : Fin 4) : ∀ a : Fin S4x1x512x1024.rank, (![h.val, 0, 0, 0] : Fin 4 → ℕ) a + S1x1x512x512.size a ≤ S4x1x512x1024.size a := by revert h; decide
theorem inbU (h : Fin 4) : ∀ a : Fin S4x1x512x1024.rank, (![h.val, 0, 0, 512] : Fin 4 → ℕ) a + S1x1x256x256.size a ≤ S4x1x512x1024.size a := by revert h; decide
theorem inbL (h : Fin 4) : ∀ a : Fin S4x1x512x1024.rank, (![h.val, 0, 256, 512] : Fin 4 → ℕ) a + S1x1x256x512.size a ≤ S4x1x512x1024.size a := by revert h; decide
def nearBiasR (h : Fin 4) : Vec Ideal S1x1x512x512 .f32 := View.readAt (Elt Ideal) arg8.view (Rect.unit (s := S4x1x512x1024) ![h.val, 0, 0, 0] S1x1x512x512.size (inbN h)).toLoadRect (harg8.unread x5)
def upBiasR (h : Fin 4) : Vec Ideal S1x1x256x256 .f32 := View.readAt (Elt Ideal) arg8.view (Rect.unit (s := S4x1x512x1024) ![h.val, 0, 0, 512] S1x1x256x256.size (inbU h)).toLoadRect (harg8.unread x5)
def lowBiasR (h : Fin 4) : Vec Ideal S1x1x256x512 .f32 := View.readAt (Elt Ideal) arg8.view (Rect.unit (s := S4x1x512x1024) ![h.val, 0, 256, 512] S1x1x256x512.size (inbL h)).toLoadRect (harg8.unread x5)
def lamR : Vec Ideal S4x64 .f32 := View.readAt (Elt Ideal) arg9.view (Rect.unit (s := S4x64) ![0, 0] S4x64.size inb_S4x64_S4x64_0_0).toLoadRect (harg9.unread x6)
def gainR : Vec Ideal S1x128 .f32 := View.readAt (Elt Ideal) arg10.view (Rect.unit (s := S1x128) ![0, 0] S1x128.size inb_S1x128_S1x128_0_0).toLoadRect (harg10.unread x7)

/-- A trip of the loop over the far tiles. -/
theorem trip1 (v2 : BitVec 32) (q2 : Fin 4 → FVec Ideal S1024x128 .bf16) (v181 : FVec Ideal S512x128 .bf16) (X2 : BufTy.Contents (Elt Ideal) arg5.view.ty) (X3 : BufTy.Contents (Elt Ideal) arg6.view.ty) (k : Fin (k0_t1_loop i).trips) (f12 : BufTy.Contents (Elt Ideal) arg12.view.ty) (f13 : BufTy.Contents (Elt Ideal) arg13.view.ty) :
    tripL_k0_t1 (F := Ideal) Variants.none c none i arg3 harg3 arg4 harg4 arg5 harg5 arg6 harg6 arg7 harg7 arg8 harg8 arg9 harg9 arg10 harg10 arg11 harg11 arg12 harg12 arg13 harg13 v2 (q2 0) (q2 1) (q2 2) (q2 3) v181 (fun _ => Scalar.ofBits .f32 0#32) X2 X3 k f12 f13
      = (far8 arg12 f12 fun h m => rowsOf m (lanes4 (expFar (q2 h) (farR i arg5 X2 k h))), far8 arg13 f13 fun h m => rowsOf m (weighted (expFar (q2 h) (farR i arg5 X2 k h)) (farR i arg6 X3 k h))) := by
  unfold tripL_k0_t1 trip_k0_t1
  dsimp only
  sl_kernel_rfl

/-- The tile before the queries' own, which fills the buffers. -/
def near0L : List Store := eight fun h m => put512 (rowsOf m (lanes4 (expNear (hasNear i) (pair (partR arg4 harg4 x1 h)) (nearR i arg5 harg5 x2 h) (nearBiasR arg8 harg8 x5 h))))
def near1L : List Store := eight fun h m => put512 (rowsOf m (weighted (expNear (hasNear i) (pair (partR arg4 harg4 x1 h)) (nearR i arg5 harg5 x2 h) (nearBiasR arg8 harg8 x5 h)) (nearR i arg6 harg6 x3 h)))

/-- The stores of the far tiles before the `n`th. -/
def farL (n : ℕ) : List Store × List Store :=
  pb_k0_t1 (F := Ideal) Variants.none c none i arg3 harg3 arg4 harg4 arg5 harg5 arg6 harg6 arg7 harg7 arg8 harg8 arg9 harg9 arg10 harg10 arg11 harg11 arg12 harg12 arg13 harg13 0#32 (pair (partR arg4 harg4 x1 0)) (pair (partR arg4 harg4 x1 1)) (pair (partR arg4 harg4 x1 2)) (pair (partR arg4 harg4 x1 3)) (fun _ => Scalar.ofBits .bf16 0#16) (fun _ => Scalar.ofBits .f32 0#32) (harg5.unread x2) (harg6.unread x3)
    (arg12.view.writes (Elt Ideal) arg12.view.junk (near0L i arg4 harg4 arg5 harg5 arg8 harg8 x1 x2 x5)) (arg13.view.writes (Elt Ideal) arg13.view.junk (near1L i arg4 harg4 arg5 harg5 arg6 harg6 arg8 harg8 x1 x2 x3 x5)) n

/-- The second loop's upper bound; it makes no trip. -/
abbrev farEnd (i : grid0.Coords) : BitVec 32 := Scalar.addi 0#32 (Scalar.muli (Scalar.divsi (Scalar.subi (nFar i) 0#32) 1#32) 1#32)

def far0All : List Store := (farL c i arg3 harg3 arg4 harg4 arg5 harg5 arg6 harg6 arg7 harg7 arg8 harg8 arg9 harg9 arg10 harg10 arg11 harg11 arg12 harg12 arg13 harg13 x1 x2 x3 x5 (Scf.trips (k0_t1_loop i).lb (k0_t1_loop i).ub (k0_t1_loop i).st)).1 ++ near0L i arg4 harg4 arg5 harg5 arg8 harg8 x1 x2 x5
def far1All : List Store := (farL c i arg3 harg3 arg4 harg4 arg5 harg5 arg6 harg6 arg7 harg7 arg8 harg8 arg9 harg9 arg10 harg10 arg11 harg11 arg12 harg12 arg13 harg13 x1 x2 x3 x5 (Scf.trips (k0_t1_loop i).lb (k0_t1_loop i).ub (k0_t1_loop i).st)).2 ++ near1L i arg4 harg4 arg5 harg5 arg6 harg6 arg8 harg8 x1 x2 x3 x5

def lastL : List Store × List Store :=
  pb_k0_t2 (F := Ideal) Variants.none c none i arg3 harg3 arg4 harg4 arg5 harg5 arg6 harg6 arg7 harg7 arg8 harg8 arg9 harg9 arg10 harg10 arg11 harg11 arg12 harg12 arg13 harg13 0#32 (pair (partR arg4 harg4 x1 0)) (pair (partR arg4 harg4 x1 1)) (pair (partR arg4 harg4 x1 2)) (pair (partR arg4 harg4 x1 3)) (fun _ => Scalar.ofBits .bf16 0#16) (fun _ => Scalar.ofBits .f32 0#32) (farEnd i) (harg5.unread x2) (harg6.unread x3)
    (arg12.view.writes (Elt Ideal) arg12.view.junk (far0All c i arg3 harg3 arg4 harg4 arg5 harg5 arg6 harg6 arg7 harg7 arg8 harg8 arg9 harg9 arg10 harg10 arg11 harg11 arg12 harg12 arg13 harg13 x1 x2 x3 x5)) (arg13.view.writes (Elt Ideal) arg13.view.junk (far1All c i arg3 harg3 arg4 harg4 arg5 harg5 arg6 harg6 arg7 harg7 arg8 harg8 arg9 harg9 arg10 harg10 arg11 harg11 arg12 harg12 arg13 harg13 x1 x2 x3 x5))
    (Scf.trips (k0_t2_loop i).lb (k0_t2_loop i).ub (k0_t2_loop i).st)

/-- The stores after the first `h` heads' own tiles. -/
def own0L (L : List Store) : ℕ → List Store
  | 0 => L
  | h + 1 => own4 arg12 (own0L L h) (Fin.ofNat 4 h) (lanes2 (expUp (partR arg4 harg4 x1 (Fin.ofNat 4 h)) (upR i arg5 harg5 x2 (Fin.ofNat 4 h)) (upBiasR arg8 harg8 x5 (Fin.ofNat 4 h)))) (lanes4Low (expLow (partR arg4 harg4 x1 (Fin.ofNat 4 h)) (lowR i arg5 harg5 x2 (Fin.ofNat 4 h)) (lowBiasR arg8 harg8 x5 (Fin.ofNat 4 h))))
def own1L (L : List Store) : ℕ → List Store
  | 0 => L
  | h + 1 => own4 arg13 (own1L L h) (Fin.ofNat 4 h) (weightedUp (expUp (partR arg4 harg4 x1 (Fin.ofNat 4 h)) (upR i arg5 harg5 x2 (Fin.ofNat 4 h)) (upBiasR arg8 harg8 x5 (Fin.ofNat 4 h))) (upR i arg6 harg6 x3 (Fin.ofNat 4 h))) (weightedLow (expLow (partR arg4 harg4 x1 (Fin.ofNat 4 h)) (lowR i arg5 harg5 x2 (Fin.ofNat 4 h)) (lowBiasR arg8 harg8 x5 (Fin.ofNat 4 h))) (lowR i arg6 harg6 x3 (Fin.ofNat 4 h)))

def hd (LS LA : List Store) (h : Fin 4) : FVec Ideal S1x512x128 .bf16 :=
  headB arg12 arg13 (own0L i arg4 harg4 arg5 harg5 arg8 harg8 arg12 x1 x2 x5 LS (h.val + 1)) (own1L i arg4 harg4 arg5 harg5 arg6 harg6 arg8 harg8 arg13 x1 x2 x3 x5 LA (h.val + 1)) h (partR arg7 harg7 x4 h) (lamR arg9 harg9 x6) (gainR arg10 harg10 x7)

def out4 (LS LA : List Store) : List (View.Piece (Elt Ideal) S1x512x512 .bf16) :=
  [⟨Rect.unit (s := S1x512x512) ![0, 0, 384] ![1, 512, 128] inb_S1x512x512_S1x512x128_0_0_384, hd i arg4 harg4 arg5 harg5 arg6 harg6 arg7 harg7 arg8 harg8 arg9 harg9 arg10 harg10 arg12 arg13 x1 x2 x3 x4 x5 x6 x7 LS LA 3⟩,
   ⟨Rect.unit (s := S1x512x512) ![0, 0, 256] ![1, 512, 128] inb_S1x512x512_S1x512x128_0_0_256, hd i arg4 harg4 arg5 harg5 arg6 harg6 arg7 harg7 arg8 harg8 arg9 harg9 arg10 harg10 arg12 arg13 x1 x2 x3 x4 x5 x6 x7 LS LA 2⟩,
   ⟨Rect.unit (s := S1x512x512) ![0, 0, 128] ![1, 512, 128] inb_S1x512x512_S1x512x128_0_0_128, hd i arg4 harg4 arg5 harg5 arg6 harg6 arg7 harg7 arg8 harg8 arg9 harg9 arg10 harg10 arg12 arg13 x1 x2 x3 x4 x5 x6 x7 LS LA 1⟩,
   ⟨Rect.unit (s := S1x512x512) ![0, 0, 0] ![1, 512, 128] inb_S1x512x512_S1x512x128_0_0_0, hd i arg4 harg4 arg5 harg5 arg6 harg6 arg7 harg7 arg8 harg8 arg9 harg9 arg10 harg10 arg12 arg13 x1 x2 x3 x4 x5 x6 x7 LS LA 0⟩]

/-- The four stores of the output's block, each a head. -/
theorem bounded_eq (x0 : Vec Ideal S1 .f32) (hb : flag arg3 harg3 x0 = 1#1) : (bounded (F := Ideal) c i arg3 harg3 arg4 harg4 arg5 harg5 arg6 harg6 arg7 harg7 arg8 harg8 arg9 harg9 arg10 harg10 arg11 harg11 arg12 harg12 arg13 harg13 x0 x1 x2 x3 x4 x5 x6 x7 hb).1 =
    out4 i arg4 harg4 arg5 harg5 arg6 harg6 arg7 harg7 arg8 harg8 arg9 harg9 arg10 harg10 arg12 arg13 x1 x2 x3 x4 x5 x6 x7
      ((lastL c i arg3 harg3 arg4 harg4 arg5 harg5 arg6 harg6 arg7 harg7 arg8 harg8 arg9 harg9 arg10 harg10 arg11 harg11 arg12 harg12 arg13 harg13 x1 x2 x3 x5).1 ++ far0All c i arg3 harg3 arg4 harg4 arg5 harg5 arg6 harg6 arg7 harg7 arg8 harg8 arg9 harg9 arg10 harg10 arg11 harg11 arg12 harg12 arg13 harg13 x1 x2 x3 x5)
      ((lastL c i arg3 harg3 arg4 harg4 arg5 harg5 arg6 harg6 arg7 harg7 arg8 harg8 arg9 harg9 arg10 harg10 arg11 harg11 arg12 harg12 arg13 harg13 x1 x2 x3 x5).2 ++ far1All c i arg3 harg3 arg4 harg4 arg5 harg5 arg6 harg6 arg7 harg7 arg8 harg8 arg9 harg9 arg10 harg10 arg11 harg11 arg12 harg12 arg13 harg13 x1 x2 x3 x5) := by
  unfold bounded
  dsimp only
  sl_kernel_rfl

end Cert.KernelIdeal.Val

end
-- ==== Proof.Far.lean ====
module

public import proofs.«01_k».proof.Proof.Heads
public import Idealize.ShloMosaic.Lib.WholeRead

@[expose] public section

set_option maxRecDepth 16384

noncomputable section

/-! Every head is one function of the blocks: the far tiles in turn, then the tile before the queries' own, then their own. -/

namespace Cert.KernelIdeal.Val

open Cert.KernelIdeal Cert.KernelIdeal.Gen Cert.KernelIdeal.Run
open Idealize.ShloMosaic Idealize.ShloMosaic.TcCoe

/-! ### The tiles of the blocks -/

/-- Tile `m` of a batch's keys or values, at a head's lanes. -/
def tile (x : Vec Ideal S1x8192x512 .bf16) (h : Fin 4) (m : ℕ) : Vec Ideal S1x512x128 .bf16 := fun y =>
  x (ix3 (0 : Fin 1) (⟨(512 * m + (y 1).val) % 8192, Nat.mod_lt _ (by norm_num)⟩ : Fin 8192) (⟨h.val * 128 + (y 2).val, by have := (y 2).isLt; have : (y 2).val < 128 := this; omega⟩ : Fin 512))

/-- A head's lanes of a block of rows. -/
def part (x : Vec Ideal S1x512x512 .bf16) (h : Fin 4) : Vec Ideal S1x512x128 .bf16 := fun y =>
  x (ix3 (0 : Fin 1) (⟨(y 1).val, (y 1).isLt⟩ : Fin 512) (⟨h.val * 128 + (y 2).val, by have : (y 2).val < 128 := (y 2).isLt; omega⟩ : Fin 512))

/-- A head's biases: of the tile before the queries' own, and of their own. -/
def nearBias (x : Vec Ideal S4x1x512x1024 .f32) (h : Fin 4) : Vec Ideal S1x1x512x512 .f32 := fun y =>
  x (ix4 h (0 : Fin 1) (⟨(y 2).val, (y 2).isLt⟩ : Fin 512) (⟨(y 3).val, by have : (y 3).val < 512 := (y 3).isLt; omega⟩ : Fin 1024))
def diagBias (x : Vec Ideal S4x1x512x1024 .f32) (h : Fin 4) : Vec Ideal S1x1x512x512 .f32 := fun y =>
  x (ix4 h (0 : Fin 1) (⟨(y 2).val, (y 2).isLt⟩ : Fin 512) (⟨512 + (y 3).val, by have : (y 3).val < 512 := (y 3).isLt; omega⟩ : Fin 1024))

theorem tile_read {A : Memref sig .tc .vmem S1x8192x512 .bf16} (hA : A.IsWhole) (x : Vec Ideal S1x8192x512 .bf16) (h : Fin 4) (m : ℕ) (hm : m < 16) (off : Fin 3 → Nat) (inb)
    (ho : off = ![0, 512 * m, h.val * 128]) : View.readAt (Elt Ideal) A.view (Rect.unit (s := S1x8192x512) off S1x512x128.size inb).toLoadRect (hA.unread x) = tile x h m := by
  subst ho
  funext y
  refine (Memref.IsWhole.readAt_unread hA x _ y).trans (congrArg x ?_)
  have h0 : (y 0).val < 1 := (y 0).isLt
  have h1 : (y 1).val < 512 := (y 1).isLt
  funext a; apply Fin.ext
  match a with
  | ⟨0, _⟩ => show 0 + 1 * (y 0).val = 0; omega
  | ⟨1, _⟩ => show 512 * m + 1 * (y 1).val = (512 * m + (y 1).val) % 8192; omega
  | ⟨2, _⟩ => show h.val * 128 + 1 * (y 2).val = h.val * 128 + (y 2).val; omega

theorem part_read {A : Memref sig .tc .vmem S1x512x512 .bf16} (hA : A.IsWhole) (x : Vec Ideal S1x512x512 .bf16) (h : Fin 4) (off : Fin 3 → Nat) (inb)
    (ho : off = ![0, 0, h.val * 128]) : View.readAt (Elt Ideal) A.view (Rect.unit (s := S1x512x512) off S1x512x128.size inb).toLoadRect (hA.unread x) = part x h := by
  subst ho
  funext y
  refine (Memref.IsWhole.readAt_unread hA x _ y).trans (congrArg x ?_)
  have h0 : (y 0).val < 1 := (y 0).isLt
  funext a; apply Fin.ext
  match a with
  | ⟨0, _⟩ => show 0 + 1 * (y 0).val = 0; omega
  | ⟨1, _⟩ => show 0 + 1 * (y 1).val = (y 1).val; omega
  | ⟨2, _⟩ => show h.val * 128 + 1 * (y 2).val = h.val * 128 + (y 2).val; omega

theorem nearBias_read {A : Memref sig .tc .vmem S4x1x512x1024 .f32} (hA : A.IsWhole) (x : Vec Ideal S4x1x512x1024 .f32) (h : Fin 4) (off : Fin 4 → Nat) (inb)
    (ho : off = ![h.val, 0, 0, 0]) : View.readAt (Elt Ideal) A.view (Rect.unit (s := S4x1x512x1024) off S1x1x512x512.size inb).toLoadRect (hA.unread x) = nearBias x h := by
  subst ho
  funext y
  refine (Memref.IsWhole.readAt_unread hA x _ y).trans (congrArg x ?_)
  have h0 : (y 0).val < 1 := (y 0).isLt
  have h1 : (y 1).val < 1 := (y 1).isLt
  funext a; apply Fin.ext
  match a with
  | ⟨0, _⟩ => show h.val + 1 * (y 0).val = h.val; omega
  | ⟨1, _⟩ => show 0 + 1 * (y 1).val = 0; omega
  | ⟨2, _⟩ => show 0 + 1 * (y 2).val = (y 2).val; omega
  | ⟨3, _⟩ => show 0 + 1 * (y 3).val = (y 3).val; omega

theorem diagBias_read {A : Memref sig .tc .vmem S4x1x512x1024 .f32} (hA : A.IsWhole) (x : Vec Ideal S4x1x512x1024 .f32) (h : Fin 4) (off : Fin 4 → Nat) (inb)
    (ho : off = ![h.val, 0, 0, 512]) : View.readAt (Elt Ideal) A.view (Rect.unit (s := S4x1x512x1024) off S1x1x512x512.size inb).toLoadRect (hA.unread x) = diagBias x h := by
  subst ho
  funext y
  refine (Memref.IsWhole.readAt_unread hA x _ y).trans (congrArg x ?_)
  have h0 : (y 0).val < 1 := (y 0).isLt
  have h1 : (y 1).val < 1 := (y 1).isLt
  funext a; apply Fin.ext
  match a with
  | ⟨0, _⟩ => show h.val + 1 * (y 0).val = h.val; omega
  | ⟨1, _⟩ => show 0 + 1 * (y 1).val = 0; omega
  | ⟨2, _⟩ => show 0 + 1 * (y 2).val = (y 2).val; omega
  | ⟨3, _⟩ => show 512 + 1 * (y 3).val = 512 + (y 3).val; omega

/-- A block read whole. -/
theorem lam_read {A : Memref sig .tc .vmem S4x64 .f32} (hA : A.IsWhole) (x : Vec Ideal S4x64 .f32) (inb) :
    View.readAt (Elt Ideal) A.view (Rect.unit (s := S4x64) ![0, 0] S4x64.size inb).toLoadRect (hA.unread x) = x := by
  funext y
  refine (Memref.IsWhole.readAt_unread hA x _ y).trans (congrArg x ?_)
  funext a; apply Fin.ext
  match a with
  | ⟨0, _⟩ => show 0 + 1 * (y 0).val = (y 0).val; omega
  | ⟨1, _⟩ => show 0 + 1 * (y 1).val = (y 1).val; omega
theorem gain_read {A : Memref sig .tc .vmem S1x128 .f32} (hA : A.IsWhole) (x : Vec Ideal S1x128 .f32) (inb) :
    View.readAt (Elt Ideal) A.view (Rect.unit (s := S1x128) ![0, 0] S1x128.size inb).toLoadRect (hA.unread x) = x := by
  funext y
  refine (Memref.IsWhole.readAt_unread hA x _ y).trans (congrArg x ?_)
  funext a; apply Fin.ext
  match a with
  | ⟨0, _⟩ => show 0 + 1 * (y 0).val = (y 0).val; omega
  | ⟨1, _⟩ => show 0 + 1 * (y 1).val = (y 1).val; omega

/-- The far tiles in turn. -/
def far (q : Vec Ideal S1x512x128 .bf16) (k v : ℕ → Vec Ideal S1x512x128 .bf16) : ℕ → Carry
  | 0 => start
  | m + 1 => farStep q (k m) (v m) (far q k v m)

/-- A head, from the blocks of a point whose queries are tile `T`. -/
def head (v0 : BitVec 1) (T : ℕ) (h : Fin 4) (x1 : Vec Ideal S1x512x512 .bf16) (x2 x3 : Vec Ideal S1x8192x512 .bf16) (x4 : Vec Ideal S1x512x512 .bf16) (x5 : Vec Ideal S4x1x512x1024 .f32) (x6 : Vec Ideal S4x64 .f32) (x7 : Vec Ideal S1x128 .f32) : FVec Ideal S1x512x128 .bf16 :=
  finishC (diagStep (part x1 h) (tile x2 h T) (tile x3 h T) (diagBias x5 h)
    (nearStep v0 (part x1 h) (tile x2 h (T - 1)) (tile x3 h (T - 1)) (nearBias x5 h)
      (far (part x1 h) (tile x2 h) (tile x3 h) (T - 1)))) (part x4 h) x6 x7

variable (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x512x512 .bf16) (harg7 : arg7.IsWhole) (arg8 : Memref sig .tc .vmem S4x1x512x1024 .f32) (harg8 : arg8.IsWhole) (arg9 : Memref sig .tc .vmem S4x64 .f32) (harg9 : arg9.IsWhole) (arg10 : Memref sig .tc .vmem S1x128 .f32) (harg10 : arg10.IsWhole) (arg11 : Memref sig .tc .vmem S1x512x512 .bf16) (harg11 : arg11.IsWhole) (arg12 : Memref sig .tc .vmem S4x2x512x128 .f32) (harg12 : arg12.IsWhole) (arg13 : Memref sig .tc .vmem S4x2x512x128 .f32) (harg13 : arg13.IsWhole) (x1 : Vec Ideal S1x512x512 .bf16) (x2 : Vec Ideal S1x8192x512 .bf16) (x3 : Vec Ideal S1x8192x512 .bf16) (x4 : Vec Ideal S1x512x512 .bf16) (x5 : Vec Ideal S4x1x512x1024 .f32) (x6 : Vec Ideal S4x64 .f32) (x7 : Vec Ideal S1x128 .f32)

/-! ### Head 0 -/

theorem trips3 : ∀ i : grid0.Coords, (k0_t3_loop i).trips = (i 2).val - 1 ∧ (k0_t4_loop i).trips = 0 := by decide +kernel
theorem off21 : ∀ (i : grid0.Coords) (k : Fin (k0_t3_loop i).trips), k0_off21 i k = ![0, 512 * k.val, 0 * 128] := by decide +kernel
theorem off23 : ∀ i : grid0.Coords, k0_off23 i = ![0, 512 * ((i 2).val - 1), 0 * 128] ∧ k0_off24 i = ![0, 512 * (i 2).val, 0 * 128] := by decide +kernel

theorem trip3 (v0 : BitVec 1) (v2 v4 : BitVec 32) (v14 : Vec Ideal S1x512x128 .bf16) (X2 : BufTy.Contents (Elt Ideal) arg5.view.ty) (X3 : BufTy.Contents (Elt Ideal) arg6.view.ty) (k : Fin (k0_t3_loop i).trips) (C : Carry) :
    tripR_k0_t3 (F := Ideal) Variants.none c none i arg3 harg3 arg4 harg4 arg5 harg5 arg6 harg6 arg7 harg7 arg8 harg8 arg9 harg9 arg10 harg10 arg11 harg11 arg12 harg12 arg13 harg13 v0 v2 v4 v14 X2 X3 k C
      = farStep v14 (View.readAt (Elt Ideal) arg5.view (Rect.unit (s := S1x8192x512) (k0_off21 i k) S1x512x128.size (k0_off21_inb i k)).toLoadRect X2) (View.readAt (Elt Ideal) arg6.view (Rect.unit (s := S1x8192x512) (k0_off21 i k) S1x512x128.size (k0_off21_inb i k)).toLoadRect X3) C := by
  unfold tripR_k0_t3 trip_k0_t3
  sl_kernel_rfl

theorem far3 (v0 : BitVec 1) (v2 v4 : BitVec 32) (v14 : Vec Ideal S1x512x128 .bf16) : ∀ m : ℕ, m ≤ (k0_t3_loop i).trips →
    st_k0_t3 (F := Ideal) Variants.none c none i arg3 harg3 arg4 harg4 arg5 harg5 arg6 harg6 arg7 harg7 arg8 harg8 arg9 harg9 arg10 harg10 arg11 harg11 arg12 harg12 arg13 harg13 v0 v2 v4 v14 (harg5.unread x2) (harg6.unread x3) start m = far v14 (tile x2 0) (tile x3 0) m
  | 0, _ => by rw [st_k0_t3_zero]; rfl
  | m + 1, hm => by
    have ht := trips3 i
    have hi : (i 2).val < 16 := (i 2).isLt
    rw [st_k0_t3_succ (k := ⟨m, hm⟩), far3 v0 v2 v4 v14 m (by omega), trip3,
      tile_read harg5 x2 0 m (by omega) _ _ (off21 i ⟨m, hm⟩), tile_read harg6 x3 0 m (by omega) _ _ (off21 i ⟨m, hm⟩)]
    rfl

theorem head0_eq : head0 c i arg3 harg3 arg4 harg4 arg5 harg5 arg6 harg6 arg7 harg7 arg8 harg8 arg9 harg9 arg10 harg10 arg11 harg11 arg12 harg12 arg13 harg13 x1 x2 x3 x4 x5 x6 x7 = head (hasNear i) (i 2).val 0 x1 x2 x3 x4 x5 x6 x7 := by
  have hi : (i 2).val < 16 := (i 2).isLt
  have hn := off23 i
  have ht := trips3 i
  unfold head0 head
  rw [part_read harg4 x1 0 ![0, 0, 0] _ rfl, part_read harg7 x4 0 ![0, 0, 0] _ rfl, nearBias_read harg8 x5 0 ![0, 0, 0, 0] _ rfl, diagBias_read harg8 x5 0 ![0, 0, 0, 512] _ rfl, lam_read, gain_read,
    tile_read harg5 x2 0 _ hi _ _ hn.2, tile_read harg6 x3 0 _ hi _ _ hn.2, tile_read harg5 x2 0 _ (by omega) _ _ hn.1, tile_read harg6 x3 0 _ (by omega) _ _ hn.1]
  have e : Scf.trips (k0_t4_loop i).lb (k0_t4_loop i).ub (k0_t4_loop i).st = 0 := ht.2
  have e' : Scf.trips (k0_t3_loop i).lb (k0_t3_loop i).ub (k0_t3_loop i).st = (i 2).val - 1 := ht.1
  rw [e, st_k0_t4_zero, e', far3 _ _ _ _ _ _ _ _ _ _ _ _ _ _ _ _ _ _ _ _ _ _ _ _ _ _ _ _ _ _ _ (by omega)]

/-! ### Head 1 -/

theorem trips5 : ∀ i : grid0.Coords, (k0_t5_loop i).trips = (i 2).val - 1 ∧ (k0_t6_loop i).trips = 0 := by decide +kernel
theorem off25 : ∀ (i : grid0.Coords) (k : Fin (k0_t5_loop i).trips), k0_off25 i k = ![0, 512 * k.val, 1 * 128] := by decide +kernel
theorem off27 : ∀ i : grid0.Coords, k0_off27 i = ![0, 512 * ((i 2).val - 1), 1 * 128] ∧ k0_off28 i = ![0, 512 * (i 2).val, 1 * 128] := by decide +kernel

theorem trip5 (v0 : BitVec 1) (v2 v4 : BitVec 32) (v14 : Vec Ideal S1x512x128 .bf16) (X2 : BufTy.Contents (Elt Ideal) arg5.view.ty) (X3 : BufTy.Contents (Elt Ideal) arg6.view.ty) (k : Fin (k0_t5_loop i).trips) (C : Carry) :
    tripR_k0_t5 (F := Ideal) Variants.none c none i arg3 harg3 arg4 harg4 arg5 harg5 arg6 harg6 arg7 harg7 arg8 harg8 arg9 harg9 arg10 harg10 arg11 harg11 arg12 harg12 arg13 harg13 v0 v2 v4 v14 X2 X3 k C
      = farStep v14 (View.readAt (Elt Ideal) arg5.view (Rect.unit (s := S1x8192x512) (k0_off25 i k) S1x512x128.size (k0_off25_inb i k)).toLoadRect X2) (View.readAt (Elt Ideal) arg6.view (Rect.unit (s := S1x8192x512) (k0_off25 i k) S1x512x128.size (k0_off25_inb i k)).toLoadRect X3) C := by
  unfold tripR_k0_t5 trip_k0_t5
  sl_kernel_rfl

theorem far5 (v0 : BitVec 1) (v2 v4 : BitVec 32) (v14 : Vec Ideal S1x512x128 .bf16) : ∀ m : ℕ, m ≤ (k0_t5_loop i).trips →
    st_k0_t5 (F := Ideal) Variants.none c none i arg3 harg3 arg4 harg4 arg5 harg5 arg6 harg6 arg7 harg7 arg8 harg8 arg9 harg9 arg10 harg10 arg11 harg11 arg12 harg12 arg13 harg13 v0 v2 v4 v14 (harg5.unread x2) (harg6.unread x3) start m = far v14 (tile x2 1) (tile x3 1) m
  | 0, _ => by rw [st_k0_t5_zero]; rfl
  | m + 1, hm => by
    have ht := trips5 i
    have hi : (i 2).val < 16 := (i 2).isLt
    rw [st_k0_t5_succ (k := ⟨m, hm⟩), far5 v0 v2 v4 v14 m (by omega), trip5,
      tile_read harg5 x2 1 m (by omega) _ _ (off25 i ⟨m, hm⟩), tile_read harg6 x3 1 m (by omega) _ _ (off25 i ⟨m, hm⟩)]
    rfl

theorem head1_eq : head1 c i arg3 harg3 arg4 harg4 arg5 harg5 arg6 harg6 arg7 harg7 arg8 harg8 arg9 harg9 arg10 harg10 arg11 harg11 arg12 harg12 arg13 harg13 x1 x2 x3 x4 x5 x6 x7 = head (hasNear i) (i 2).val 1 x1 x2 x3 x4 x5 x6 x7 := by
  have hi : (i 2).val < 16 := (i 2).isLt
  have hn := off27 i
  have ht := trips5 i
  unfold head1 head
  rw [part_read harg4 x1 1 ![0, 0, 128] _ rfl, part_read harg7 x4 1 ![0, 0, 128] _ rfl, nearBias_read harg8 x5 1 ![1, 0, 0, 0] _ rfl, diagBias_read harg8 x5 1 ![1, 0, 0, 512] _ rfl, lam_read, gain_read,
    tile_read harg5 x2 1 _ hi _ _ hn.2, tile_read harg6 x3 1 _ hi _ _ hn.2, tile_read harg5 x2 1 _ (by omega) _ _ hn.1, tile_read harg6 x3 1 _ (by omega) _ _ hn.1]
  have e : Scf.trips (k0_t6_loop i).lb (k0_t6_loop i).ub (k0_t6_loop i).st = 0 := ht.2
  have e' : Scf.trips (k0_t5_loop i).lb (k0_t5_loop i).ub (k0_t5_loop i).st = (i 2).val - 1 := ht.1
  rw [e, st_k0_t6_zero, e', far5 _ _ _ _ _ _ _ _ _ _ _ _ _ _ _ _ _ _ _ _ _ _ _ _ _ _ _ _ _ _ _ (by omega)]

/-! ### Head 2 -/

theorem trips7 : ∀ i : grid0.Coords, (k0_t7_loop i).trips = (i 2).val - 1 ∧ (k0_t8_loop i).trips = 0 := by decide +kernel
theorem off29 : ∀ (i : grid0.Coords) (k : Fin (k0_t7_loop i).trips), k0_off29 i k = ![0, 512 * k.val, 2 * 128] := by decide +kernel
theorem off31 : ∀ i : grid0.Coords, k0_off31 i = ![0, 512 * ((i 2).val - 1), 2 * 128] ∧ k0_off32 i = ![0, 512 * (i 2).val, 2 * 128] := by decide +kernel

theorem trip7 (v0 : BitVec 1) (v2 v4 : BitVec 32) (v14 : Vec Ideal S1x512x128 .bf16) (X2 : BufTy.Contents (Elt Ideal) arg5.view.ty) (X3 : BufTy.Contents (Elt Ideal) arg6.view.ty) (k : Fin (k0_t7_loop i).trips) (C : Carry) :
    tripR_k0_t7 (F := Ideal) Variants.none c none i arg3 harg3 arg4 harg4 arg5 harg5 arg6 harg6 arg7 harg7 arg8 harg8 arg9 harg9 arg10 harg10 arg11 harg11 arg12 harg12 arg13 harg13 v0 v2 v4 v14 X2 X3 k C
      = farStep v14 (View.readAt (Elt Ideal) arg5.view (Rect.unit (s := S1x8192x512) (k0_off29 i k) S1x512x128.size (k0_off29_inb i k)).toLoadRect X2) (View.readAt (Elt Ideal) arg6.view (Rect.unit (s := S1x8192x512) (k0_off29 i k) S1x512x128.size (k0_off29_inb i k)).toLoadRect X3) C := by
  unfold tripR_k0_t7 trip_k0_t7
  sl_kernel_rfl

theorem far7 (v0 : BitVec 1) (v2 v4 : BitVec 32) (v14 : Vec Ideal S1x512x128 .bf16) : ∀ m : ℕ, m ≤ (k0_t7_loop i).trips →
    st_k0_t7 (F := Ideal) Variants.none c none i arg3 harg3 arg4 harg4 arg5 harg5 arg6 harg6 arg7 harg7 arg8 harg8 arg9 harg9 arg10 harg10 arg11 harg11 arg12 harg12 arg13 harg13 v0 v2 v4 v14 (harg5.unread x2) (harg6.unread x3) start m = far v14 (tile x2 2) (tile x3 2) m
  | 0, _ => by rw [st_k0_t7_zero]; rfl
  | m + 1, hm => by
    have ht := trips7 i
    have hi : (i 2).val < 16 := (i 2).isLt
    rw [st_k0_t7_succ (k := ⟨m, hm⟩), far7 v0 v2 v4 v14 m (by omega), trip7,
      tile_read harg5 x2 2 m (by omega) _ _ (off29 i ⟨m, hm⟩), tile_read harg6 x3 2 m (by omega) _ _ (off29 i ⟨m, hm⟩)]
    rfl

theorem head2_eq : head2 c i arg3 harg3 arg4 harg4 arg5 harg5 arg6 harg6 arg7 harg7 arg8 harg8 arg9 harg9 arg10 harg10 arg11 harg11 arg12 harg12 arg13 harg13 x1 x2 x3 x4 x5 x6 x7 = head (hasNear i) (i 2).val 2 x1 x2 x3 x4 x5 x6 x7 := by
  have hi : (i 2).val < 16 := (i 2).isLt
  have hn := off31 i
  have ht := trips7 i
  unfold head2 head
  rw [part_read harg4 x1 2 ![0, 0, 256] _ rfl, part_read harg7 x4 2 ![0, 0, 256] _ rfl, nearBias_read harg8 x5 2 ![2, 0, 0, 0] _ rfl, diagBias_read harg8 x5 2 ![2, 0, 0, 512] _ rfl, lam_read, gain_read,
    tile_read harg5 x2 2 _ hi _ _ hn.2, tile_read harg6 x3 2 _ hi _ _ hn.2, tile_read harg5 x2 2 _ (by omega) _ _ hn.1, tile_read harg6 x3 2 _ (by omega) _ _ hn.1]
  have e : Scf.trips (k0_t8_loop i).lb (k0_t8_loop i).ub (k0_t8_loop i).st = 0 := ht.2
  have e' : Scf.trips (k0_t7_loop i).lb (k0_t7_loop i).ub (k0_t7_loop i).st = (i 2).val - 1 := ht.1
  rw [e, st_k0_t8_zero, e', far7 _ _ _ _ _ _ _ _ _ _ _ _ _ _ _ _ _ _ _ _ _ _ _ _ _ _ _ _ _ _ _ (by omega)]

/-! ### Head 3 -/

theorem trips9 : ∀ i : grid0.Coords, (k0_t9_loop i).trips = (i 2).val - 1 ∧ (k0_t10_loop i).trips = 0 := by decide +kernel
theorem off33 : ∀ (i : grid0.Coords) (k : Fin (k0_t9_loop i).trips), k0_off33 i k = ![0, 512 * k.val, 3 * 128] := by decide +kernel
theorem off35 : ∀ i : grid0.Coords, k0_off35 i = ![0, 512 * ((i 2).val - 1), 3 * 128] ∧ k0_off36 i = ![0, 512 * (i 2).val, 3 * 128] := by decide +kernel

theorem trip9 (v0 : BitVec 1) (v2 v4 : BitVec 32) (v14 : Vec Ideal S1x512x128 .bf16) (X2 : BufTy.Contents (Elt Ideal) arg5.view.ty) (X3 : BufTy.Contents (Elt Ideal) arg6.view.ty) (k : Fin (k0_t9_loop i).trips) (C : Carry) :
    tripR_k0_t9 (F := Ideal) Variants.none c none i arg3 harg3 arg4 harg4 arg5 harg5 arg6 harg6 arg7 harg7 arg8 harg8 arg9 harg9 arg10 harg10 arg11 harg11 arg12 harg12 arg13 harg13 v0 v2 v4 v14 X2 X3 k C
      = farStep v14 (View.readAt (Elt Ideal) arg5.view (Rect.unit (s := S1x8192x512) (k0_off33 i k) S1x512x128.size (k0_off33_inb i k)).toLoadRect X2) (View.readAt (Elt Ideal) arg6.view (Rect.unit (s := S1x8192x512) (k0_off33 i k) S1x512x128.size (k0_off33_inb i k)).toLoadRect X3) C := by
  unfold tripR_k0_t9 trip_k0_t9
  sl_kernel_rfl

theorem far9 (v0 : BitVec 1) (v2 v4 : BitVec 32) (v14 : Vec Ideal S1x512x128 .bf16) : ∀ m : ℕ, m ≤ (k0_t9_loop i).trips →
    st_k0_t9 (F := Ideal) Variants.none c none i arg3 harg3 arg4 harg4 arg5 harg5 arg6 harg6 arg7 harg7 arg8 harg8 arg9 harg9 arg10 harg10 arg11 harg11 arg12 harg12 arg13 harg13 v0 v2 v4 v14 (harg5.unread x2) (harg6.unread x3) start m = far v14 (tile x2 3) (tile x3 3) m
  | 0, _ => by rw [st_k0_t9_zero]; rfl
  | m + 1, hm => by
    have ht := trips9 i
    have hi : (i 2).val < 16 := (i 2).isLt
    rw [st_k0_t9_succ (k := ⟨m, hm⟩), far9 v0 v2 v4 v14 m (by omega), trip9,
      tile_read harg5 x2 3 m (by omega) _ _ (off33 i ⟨m, hm⟩), tile_read harg6 x3 3 m (by omega) _ _ (off33 i ⟨m, hm⟩)]
    rfl

theorem head3_eq : head3 c i arg3 harg3 arg4 harg4 arg5 harg5 arg6 harg6 arg7 harg7 arg8 harg8 arg9 harg9 arg10 harg10 arg11 harg11 arg12 harg12 arg13 harg13 x1 x2 x3 x4 x5 x6 x7 = head (hasNear i) (i 2).val 3 x1 x2 x3 x4 x5 x6 x7 := by
  have hi : (i 2).val < 16 := (i 2).isLt
  have hn := off35 i
  have ht := trips9 i
  unfold head3 head
  rw [part_read harg4 x1 3 ![0, 0, 384] _ rfl, part_read harg7 x4 3 ![0, 0, 384] _ rfl, nearBias_read harg8 x5 3 ![3, 0, 0, 0] _ rfl, diagBias_read harg8 x5 3 ![3, 0, 0, 512] _ rfl, lam_read, gain_read,
    tile_read harg5 x2 3 _ hi _ _ hn.2, tile_read harg6 x3 3 _ hi _ _ hn.2, tile_read harg5 x2 3 _ (by omega) _ _ hn.1, tile_read harg6 x3 3 _ (by omega) _ _ hn.1]
  have e : Scf.trips (k0_t10_loop i).lb (k0_t10_loop i).ub (k0_t10_loop i).st = 0 := ht.2
  have e' : Scf.trips (k0_t9_loop i).lb (k0_t9_loop i).ub (k0_t9_loop i).st = (i 2).val - 1 := ht.1
  rw [e, st_k0_t10_zero, e', far9 _ _ _ _ _ _ _ _ _ _ _ _ _ _ _ _ _ _ _ _ _ _ _ _ _ _ _ _ _ _ _ (by omega)]

end Cert.KernelIdeal.Val

end
-- ==== Proof.Bucket.lean ====
module

public import proofs.«01_k».proof.Proof.Weights

@[expose] public section

set_option maxRecDepth 16384

noncomputable section

/-! The relative-position bucket of the layer: a whole number below 32 for every signed distance, computed by the
kernel from comparisons of squares and by the reference from a logarithm. Both are the function `bkt` below. -/

namespace Cert.Bucket

open Idealize.ShloMosaic

/-- How many of the seven thresholds the square of a distance has reached. -/
def lg (n : ℕ) : ℕ :=
  (if 128 ≤ n * n then 1 else 0) + (if 256 ≤ n * n then 1 else 0) + (if 512 ≤ n * n then 1 else 0) + (if 1024 ≤ n * n then 1 else 0)
    + (if 2048 ≤ n * n then 1 else 0) + (if 4096 ≤ n * n then 1 else 0) + (if 8192 ≤ n * n then 1 else 0)

/-- The bucket of a distance without its sign: exact below eight, then one bucket per half octave. -/
def size (n : ℕ) : ℕ := if n < 8 then n else min (8 + lg n) 15

/-- The bucket of a signed distance: keys ahead of the query use the upper sixteen. -/
def bkt (z : ℤ) : ℕ := (if 0 < z then 16 else 0) + size z.natAbs

theorem size_lt (n : ℕ) : size n < 16 := by
  unfold size; split <;> omega

theorem bkt_lt (z : ℤ) : bkt z < 32 := by
  have := size_lt z.natAbs
  unfold bkt; split <;> omega

/-- Far behind the query there is one bucket only. -/
theorem bkt_far {z : ℤ} (h : z ≤ -128) : bkt z = 15 := by
  have hn : 128 ≤ z.natAbs := by omega
  have hq : 16384 ≤ z.natAbs * z.natAbs := by nlinarith
  unfold bkt size lg
  rw [if_neg (by omega), if_neg (by omega), if_pos (by omega), if_pos (by omega), if_pos (by omega), if_pos (by omega), if_pos (by omega),
    if_pos (by omega), if_pos (by omega)]
  rfl

/-! ### The kernel's word -/

/-- The kernel's bucket word, from the word of the distance: comparisons of its square. -/
def word (x : BitVec 32) : BitVec 32 :=
  IntOp.addi (Scalar.select (IntOp.cmpi .sgt x 0#32) 16#32 0#32)
    (Scalar.select (IntOp.cmpi .slt (IntOp.absi x) 8#32) (IntOp.absi x)
      (IntOp.minsi (IntOp.addi 8#32
        (IntOp.addi (IntOp.addi (IntOp.addi (IntOp.addi (IntOp.addi (IntOp.addi (IntOp.addi 0#32
          (BitVec.setWidth 32 (IntOp.cmpi .sge (IntOp.muli (IntOp.absi x) (IntOp.absi x)) 128#32)))
          (BitVec.setWidth 32 (IntOp.cmpi .sge (IntOp.muli (IntOp.absi x) (IntOp.absi x)) 256#32)))
          (BitVec.setWidth 32 (IntOp.cmpi .sge (IntOp.muli (IntOp.absi x) (IntOp.absi x)) 512#32)))
          (BitVec.setWidth 32 (IntOp.cmpi .sge (IntOp.muli (IntOp.absi x) (IntOp.absi x)) 1024#32)))
          (BitVec.setWidth 32 (IntOp.cmpi .sge (IntOp.muli (IntOp.absi x) (IntOp.absi x)) 2048#32)))
          (BitVec.setWidth 32 (IntOp.cmpi .sge (IntOp.muli (IntOp.absi x) (IntOp.absi x)) 4096#32)))
          (BitVec.setWidth 32 (IntOp.cmpi .sge (IntOp.muli (IntOp.absi x) (IntOp.absi x)) 8192#32)))) 15#32))

theorem word_table : ∀ t : Fin 1535, word (BitVec.ofNat 32 t.val - 1023#32) = BitVec.ofNat 32 (bkt ((t.val : ℤ) - 1023)) := by
  decide +kernel

/-- The kernel's word for key column `j` and query row `r` of a near tile. -/
theorem word_near (r : Fin 512) (j : Fin 1024) :
    word (BitVec.ofNat 32 j.val - (BitVec.ofNat 32 r.val + 512#32)) = BitVec.ofNat 32 (bkt ((j.val : ℤ) - (r.val + 512))) := by
  have e : BitVec.ofNat 32 j.val - (BitVec.ofNat 32 r.val + 512#32) = BitVec.ofNat 32 (j.val + 511 - r.val) - 1023#32 := by
    have := j.isLt; have := r.isLt
    apply BitVec.eq_of_toNat_eq
    simp only [BitVec.toNat_sub, BitVec.toNat_add, BitVec.toNat_ofNat]
    omega
  have h := word_table ⟨j.val + 511 - r.val, by omega⟩
  rw [e]
  refine h.trans ?_
  congr 2
  have := r.isLt
  show ((j.val + 511 - r.val : ℕ) : ℤ) - 1023 = _
  omega

/-! ### The reference's word -/

theorem toInt_small {n : ℕ} (h : n < 2 ^ 31) : (BitVec.ofNat 32 n).toInt = n := by
  rw [BitVec.toInt_eq_toNat_of_lt (by simp only [BitVec.toNat_ofNat]; omega), BitVec.toNat_ofNat, Nat.mod_eq_of_lt (by omega)]

theorem toInt_sub {k r : ℕ} (hk : k < 8192) (hr : r < 8192) : (BitVec.ofNat 32 k - BitVec.ofNat 32 r).toInt = (k : ℤ) - r := by
  rw [BitVec.toInt_sub, toInt_small (by omega), toInt_small (by omega)]
  exact Int.bmod_eq_of_le (by omega) (by omega)

theorem abs_sub {k r : ℕ} (hk : k < 8192) (hr : r < 8192) :
    IntOp.absi (BitVec.ofNat 32 k - BitVec.ofNat 32 r) = BitVec.ofNat 32 ((k : ℤ) - r).natAbs := by
  have e := toInt_sub hk hr
  unfold IntOp.absi
  apply BitVec.eq_of_toInt_eq
  rw [toInt_small (by omega)]
  rw [BitVec.msb_eq_toInt, e]
  by_cases h : (k : ℤ) - r < 0
  · rw [if_pos (by simpa using h), BitVec.toInt_neg, e, Int.bmod_eq_of_le (by omega) (by omega)]
    omega
  · rw [if_neg (by simpa using h), e]
    omega

theorem sgt_eq {x : BitVec 32} {z : ℤ} (h : x.toInt = z) (a b : BitVec 32) :
    Scalar.select (IntOp.cmpi .sgt x 0#32) a b = if 0 < z then a else b := by
  unfold Scalar.select IntOp.cmpi
  subst h
  by_cases h : 0 < x.toInt <;> simp [BitVec.slt, h]

theorem slt_eq {x y : BitVec 32} {a b : ℤ} (ha : x.toInt = a) (hb : y.toInt = b) {α : Type} (u v : α) :
    Scalar.select (IntOp.cmpi .slt x y) u v = if a < b then u else v := by
  unfold Scalar.select IntOp.cmpi
  subst ha hb
  by_cases h : x.toInt < y.toInt <;> simp [BitVec.slt, h]

theorem sle_eq {x y : BitVec 32} {a b : ℤ} (ha : x.toInt = a) (hb : y.toInt = b) {α : Type} (u v : α) :
    Scalar.select (IntOp.cmpi .sle x y) u v = if a ≤ b then u else v := by
  unfold Scalar.select IntOp.cmpi
  subst ha hb
  by_cases h : x.toInt ≤ y.toInt <;> simp [BitVec.sle, h]

theorem minsi_eq {a b : ℕ} (ha : a < 2 ^ 31) (hb : b < 2 ^ 31) : IntOp.minsi (BitVec.ofNat 32 a) (BitVec.ofNat 32 b) = BitVec.ofNat 32 (min a b) := by
  unfold IntOp.minsi BitVec.slt
  rw [toInt_small ha, toInt_small hb]
  by_cases h : a < b
  · rw [if_pos (by simpa using h), min_eq_left h.le]
  · rw [if_neg (by simpa using h), min_eq_right (by omega)]

theorem maxsi_eq {a b : ℕ} (ha : a < 2 ^ 31) (hb : b < 2 ^ 31) : IntOp.maxsi (BitVec.ofNat 32 a) (BitVec.ofNat 32 b) = BitVec.ofNat 32 (max a b) := by
  unfold IntOp.maxsi BitVec.slt
  rw [toInt_small ha, toInt_small hb]
  by_cases h : b < a
  · rw [if_pos (by simpa using h), max_eq_left h.le]
  · rw [if_neg (by simpa using h), max_eq_right (by omega)]

/-- The real number whose whole part the reference takes. -/
def lgr (n : ℕ) : ℝ := Real.log (n / 8) / Real.log 16 * 8

theorem le_lgr {n : ℕ} (hn : 1 ≤ n) (j : ℕ) : (j : ℝ) ≤ lgr n ↔ 64 * 2 ^ j ≤ n * n := by
  have h2 : 0 < Real.log 2 := Real.log_pos (by norm_num)
  have h16 : Real.log 16 = 4 * Real.log 2 := by
    rw [show (16 : ℝ) = 2 ^ 4 by norm_num, Real.log_pow]; norm_num
  have hn' : (0 : ℝ) < n := by exact_mod_cast hn
  have hx : (0 : ℝ) < (n : ℝ) / 8 := by positivity
  have e : lgr n = Real.log (((n : ℝ) / 8) ^ 2) / Real.log 2 := by
    unfold lgr; rw [h16, Real.log_pow]; field_simp; ring
  rw [e, le_div_iff₀ h2, ← Real.log_pow, Real.log_le_log_iff (by positivity) (by positivity)]
  constructor
  · intro h
    have : (64 * 2 ^ j : ℝ) ≤ n * n := by
      have := mul_le_mul_of_nonneg_left h (by norm_num : (0 : ℝ) ≤ 64)
      calc (64 * 2 ^ j : ℝ) ≤ 64 * ((n : ℝ) / 8) ^ 2 := this
        _ = n * n := by ring
    exact_mod_cast this
  · intro h
    have h' : (64 * 2 ^ j : ℝ) ≤ n * n := by exact_mod_cast h
    have : ((n : ℝ) / 8) ^ 2 = n * n / 64 := by ring
    rw [this, le_div_iff₀ (by norm_num)]
    linarith

theorem lg_eq {n : ℕ} (hn : 8 ≤ n) : lg n = min ⌊lgr n⌋₊ 7 := by
  have hp : 0 ≤ lgr n := by simpa using (le_lgr (by omega) 0).mpr (by nlinarith)
  have key : ∀ j : ℕ, (64 * 2 ^ j ≤ n * n) ↔ j ≤ ⌊lgr n⌋₊ := fun j => by rw [Nat.le_floor_iff hp, le_lgr (by omega)]
  have k1 : 128 ≤ n * n ↔ 1 ≤ ⌊lgr n⌋₊ := key 1
  have k2 : 256 ≤ n * n ↔ 2 ≤ ⌊lgr n⌋₊ := key 2
  have k3 : 512 ≤ n * n ↔ 3 ≤ ⌊lgr n⌋₊ := key 3
  have k4 : 1024 ≤ n * n ↔ 4 ≤ ⌊lgr n⌋₊ := key 4
  have k5 : 2048 ≤ n * n ↔ 5 ≤ ⌊lgr n⌋₊ := key 5
  have k6 : 4096 ≤ n * n ↔ 6 ≤ ⌊lgr n⌋₊ := key 6
  have k7 : 8192 ≤ n * n ↔ 7 ≤ ⌊lgr n⌋₊ := key 7
  unfold lg
  simp only [k1, k2, k3, k4, k5, k6, k7]
  generalize ⌊lgr n⌋₊ = f
  clear k1 k2 k3 k4 k5 k6 k7 key hp
  split_ifs <;> omega

theorem floor_le {n : ℕ} (hn : 8 ≤ n) (hn' : n < 8192) : ⌊lgr n⌋₊ < 20 := by
  rw [Nat.floor_lt' (by norm_num)]
  by_contra h
  have := (le_lgr (n := n) (by omega) 20).mp (by exact_mod_cast not_lt.mp h)
  nlinarith

/-- The reference's word, from the word of the distance. -/
def rword (x : BitVec 32) : BitVec 32 :=
  IntOp.addi (Scalar.select (IntOp.cmpi .sgt x 0#32) 16#32 0#32)
    (Scalar.select (IntOp.cmpi .slt (IntOp.absi x) 8#32) (IntOp.absi x)
      (IntOp.minsi (IntOp.addi 8#32 (Ideal.fptosi 32
        (Ideal.div (Ideal.log (Ideal.div (((IntOp.maxsi (IntOp.absi x) 1#32).toInt : ℝ) : EReal) (Ideal.ofBits .f32 1090519040#32)))
          (Ideal.log (Ideal.ofBits .f32 1098907648#32)) * Ideal.ofBits .f32 1090519040#32))) 15#32))

theorem ofBits_8 : Ideal.ofBits .f32 1090519040#32 = ((8 : ℝ) : EReal) := by
  simp [Ideal.ofBits, Ideal.ieee, -EReal.coe_mul]; norm_num
theorem ofBits_16 : Ideal.ofBits .f32 1098907648#32 = ((16 : ℝ) : EReal) := by
  simp [Ideal.ofBits, Ideal.ieee, -EReal.coe_mul]; norm_num

theorem fptosi_lgr {n : ℕ} (hn : 8 ≤ n) (hn' : n < 8192) :
    Ideal.fptosi 32 (Ideal.div (Ideal.log (Ideal.div ((n : ℝ) : EReal) (Ideal.ofBits .f32 1090519040#32)))
      (Ideal.log (Ideal.ofBits .f32 1098907648#32)) * Ideal.ofBits .f32 1090519040#32) = BitVec.ofNat 32 ⌊lgr n⌋₊ := by
  have hx : ¬ ((n : ℝ) * (1 / 8) ≤ 0) := by
    have : (0 : ℝ) < n := by exact_mod_cast (by omega : 0 < n)
    push Not; positivity
  have hp : 0 ≤ lgr n := by simpa using (le_lgr (by omega) 0).mpr (by nlinarith)
  rw [ofBits_8, ofBits_16, Ideal.div_coe (by norm_num), ← EReal.coe_mul, Ideal.log_coe, Ideal.log_coe, if_neg hx, if_neg (by norm_num),
    Ideal.div_coe (Real.log_pos (by norm_num)).ne', ← EReal.coe_mul, ← EReal.coe_mul]
  have e : Real.log (↑n * (1 / 8)) * (1 / Real.log 16) * 8 = lgr n := by unfold lgr; rw [mul_one_div, mul_one_div]
  rw [e]
  unfold Ideal.fptosi
  have hf : ⌊lgr n⌋ = ((⌊lgr n⌋₊ : ℕ) : ℤ) := (Int.natCast_floor_eq_floor hp).symm
  have hb := floor_le hn hn'
  have : Ideal.toIntClamped (-(2 ^ (32 - 1) : Nat)) ((2 ^ (32 - 1) : Nat) - 1) ((lgr n : ℝ) : EReal) = (⌊lgr n⌋₊ : ℤ) := by
    show max _ (min _ (if 0 ≤ lgr n then ⌊lgr n⌋ else ⌈lgr n⌉)) = _
    rw [if_pos hp, hf]
    norm_num
    omega
  rw [this, BitVec.ofInt_natCast]

theorem rword_eq {k r : ℕ} (hk : k < 8192) (hr : r < 8192) :
    rword (BitVec.ofNat 32 k - BitVec.ofNat 32 r) = BitVec.ofNat 32 (bkt ((k : ℤ) - r)) := by
  unfold rword bkt
  rw [sgt_eq (toInt_sub hk hr), abs_sub hk hr]
  have hn : ((k : ℤ) - r).natAbs < 8192 := by omega
  generalize ((k : ℤ) - r).natAbs = n at hn ⊢
  have hs : Scalar.select (IntOp.cmpi .slt (BitVec.ofNat 32 n) 8#32) (BitVec.ofNat 32 n)
      (IntOp.minsi (IntOp.addi 8#32 (Ideal.fptosi 32
        (Ideal.div (Ideal.log (Ideal.div (((IntOp.maxsi (BitVec.ofNat 32 n) 1#32).toInt : ℝ) : EReal) (Ideal.ofBits .f32 1090519040#32)))
          (Ideal.log (Ideal.ofBits .f32 1098907648#32)) * Ideal.ofBits .f32 1090519040#32))) 15#32) = BitVec.ofNat 32 (size n) := by
    rw [slt_eq (toInt_small (by omega)) (b := 8) (by decide)]
    unfold size
    by_cases h : n < 8
    · rw [if_pos (by omega), if_pos h]
    · rw [if_neg (by omega), if_neg h]
      rw [show (1#32 : BitVec 32) = BitVec.ofNat 32 1 from rfl, maxsi_eq (by omega) (by omega), max_eq_left (by omega), toInt_small (by omega)]
      rw [Int.cast_natCast, fptosi_lgr (by omega) hn, lg_eq (by omega)]
      have hb := floor_le (n := n) (by omega) hn
      generalize ⌊lgr n⌋₊ = f at hb ⊢
      have : IntOp.addi 8#32 (BitVec.ofNat 32 f) = BitVec.ofNat 32 (8 + f) := by
        unfold IntOp.addi; rw [BitVec.ofNat_add]
      rw [this, show (15#32 : BitVec 32) = BitVec.ofNat 32 15 from rfl, minsi_eq (by omega) (by omega)]
      congr 1; omega
  rw [hs]
  unfold IntOp.addi
  by_cases h : (0 : ℤ) < (k : ℤ) - r
  · rw [if_pos h, if_pos h, BitVec.ofNat_add]
  · rw [if_neg h, if_neg h, BitVec.ofNat_add]

/-- A bucket word is not negative, so the wrap of negative indices leaves it. -/
theorem wrap_eq {n : ℕ} (hn : n < 32) :
    Scalar.select (IntOp.cmpi .slt (BitVec.ofNat 32 n) 0#32) (IntOp.addi (BitVec.ofNat 32 n) 32#32) (BitVec.ofNat 32 n) = BitVec.ofNat 32 n := by
  rw [slt_eq (toInt_small (by omega)) (b := 0) (by decide), if_neg (by omega)]

/-! ### Chunks of sixty-four positions -/

theorem div_table : ∀ n : Fin 8192, IntOp.divsi ArithUnit.host (BitVec.ofNat 32 n.val) 64#32 = BitVec.ofNat 32 (n.val / 64) := by
  decide +kernel

end Cert.Bucket

end
-- ==== Proof.Spec.lean ====
module

public import proofs.«01_k».proof.Proof.Bucket

@[expose] public section

set_option maxRecDepth 16384

noncomputable section

/-! The layer's differential attention as real numbers: the weight of every key for every query, in base two and less
the far bucket's bias (a common factor of all keys, which the quotient drops), and the two quotients. -/

namespace Cert.Spec

open Cert.Bucket

/-- The arguments as real numbers: queries, keys, values, and the table of position biases. -/
structure In where
  q : Fin 2 → Fin 8192 → Fin 512 → ℝ
  k : Fin 2 → Fin 8192 → Fin 512 → ℝ
  v : Fin 2 → Fin 8192 → Fin 512 → ℝ
  t : Fin 32 → Fin 4 → ℝ

/-- Lane `x` of map `n` of head `h`. -/
def lane (h : Fin 4) (n : Fin 2) (x : Fin 64) : Fin 512 := ⟨h.val * 128 + n.val * 64 + x.val, by omega⟩
/-- Value lane `e` of head `h`. -/
def vlane (h : Fin 4) (e : Fin 128) : Fin 512 := ⟨h.val * 128 + e.val, by omega⟩

variable (I : In) (b : Fin 2) (h : Fin 4) (n : Fin 2) (r κ : Fin 8192)

/-- The product of a query and a key, over one map's lanes of one head. -/
def dot : ℝ := ∑ x : Fin 64, I.q b r (lane h n x) * I.k b κ (lane h n x)

/-- The bias of a key for a query. -/
def bias : ℝ := I.t ⟨bkt ((κ.val : ℤ) - r.val), bkt_lt _⟩ h

/-- The score in base two, less the far bucket's bias. -/
def score : ℝ := dot I b h n r κ * (1 / 8 * (1 / Real.log 2)) + (bias I h r κ - I.t 15 h) * (1 / Real.log 2)

/-- A key's weight: none beyond the query's own chunk of sixty-four positions. -/
def w : ℝ := if κ.val / 64 ≤ r.val / 64 then (2 : ℝ) ^ score I b h n r κ else 0

def W : ℝ := ∑ κ, w I b h n r κ
def A (e : Fin 128) : ℝ := ∑ κ, w I b h n r κ * I.v b κ (vlane h e)

theorem w_nonneg : 0 ≤ w I b h n r κ := by
  unfold w; split
  · positivity
  · exact le_rfl

theorem W_pos : 0 < W I b h n r := by
  refine Finset.sum_pos' (fun κ _ => w_nonneg I b h n r κ) ⟨r, Finset.mem_univ _, ?_⟩
  unfold w; rw [if_pos le_rfl]; positivity

/-- The difference of the two maps' averages of the values, with the factor `L` on the second. -/
def o (L : ℝ) (e : Fin 128) : ℝ := A I b h 0 r e / W I b h 0 r - L * (A I b h 1 r e / W I b h 1 r)

theorem exp_score (M : ℝ) : Real.exp (dot I b h n r κ * (1 / 8) + bias I h r κ - M) = Real.exp (I.t 15 h - M) * (2 : ℝ) ^ score I b h n r κ := by
  have h2 : Real.log 2 ≠ 0 := (Real.log_pos (by norm_num)).ne'
  rw [Real.rpow_def_of_pos (by norm_num), ← Real.exp_add]
  congr 1
  unfold score
  field_simp
  ring

end Cert.Spec

end
-- ==== Proof.Point.lean ====
module

public import proofs.«01_k».proof.Proof.Far
public import proofs.«01_k».proof.Proof.Tiles
public import proofs.«01_k».proof.Proof.Spec

@[expose] public section

set_option maxRecDepth 16384

noncomputable section

/-! What the blocks of a point hold, and the weights its scores amount to. -/

namespace Cert.KernelIdeal.Val

open Cert.KernelIdeal Cert.KernelIdeal.Gen Cert.KernelIdeal.Run Cert.Weights Cert.Spec Cert.Bucket
open Idealize.ShloMosaic Idealize.ShloMosaic.TcCoe

/-- The position of row `r` of tile `T`. -/
def row (T : Fin 16) (r : Fin 512) : Fin 8192 := ⟨512 * T.val + r.val, by omega⟩

/-- The factor on the queries. -/
def qscale : ℝ := 1 / 8 * (1 / Real.log 2)

/-- The blocks of a point of batch `b` whose queries are tile `T`. -/
structure Holds (I : In) (b : Fin 2) (T : Fin 16) (x1 : Vec Ideal S1x512x512 .bf16) (x2 x3 : Vec Ideal S1x8192x512 .bf16) (x5 : Vec Ideal S4x1x512x1024 .f32) : Prop where
  q : ∀ (r d : Fin 512), (x1 (ix3 0 r d) : EReal) = ((I.q b (row T r) d * qscale : ℝ) : EReal)
  k : ∀ (κ : Fin 8192) (d : Fin 512), (x2 (ix3 0 κ d) : EReal) = (I.k b κ d : EReal)
  v : ∀ (κ : Fin 8192) (d : Fin 512), (x3 (ix3 0 κ d) : EReal) = (I.v b κ d : EReal)
  bias : ∀ (h : Fin 4) (r : Fin 512) (j : Fin 1024), (x5 (ix4 h 0 r j) : EReal) =
    if j.val / 64 ≤ (r.val + 512) / 64 then (((I.t ⟨bkt ((j.val : ℤ) - (r.val + 512)), bkt_lt _⟩ h - I.t 15 h) * (1 / Real.log 2) : ℝ) : EReal) else ⊥

/-- Either map's products of the queries and a tile of keys. -/
def sc (n : Fin 2) (q k : Vec Ideal S1x512x128 .bf16) : FVec Ideal S512x512 .f32 := ![k0_pay230 q k, k0_pay231 q k] n

/-- A key's weight at a position counted from the first, none past the last. -/
def wAt (I : In) (b : Fin 2) (h : Fin 4) (n : Fin 2) (R : Fin 8192) (κ : ℕ) : ℝ := if hκ : κ < 8192 then w I b h n R ⟨κ, hκ⟩ else 0
def vAt (I : In) (b : Fin 2) (h : Fin 4) (e : Fin 128) (κ : ℕ) : ℝ := if hκ : κ < 8192 then I.v b ⟨κ, hκ⟩ (vlane h e) else 0

variable {I : In} {b : Fin 2} {T : Fin 16} {x1 : Vec Ideal S1x512x512 .bf16} {x2 x3 : Vec Ideal S1x8192x512 .bf16} {x5 : Vec Ideal S4x1x512x1024 .f32}

theorem part_at (x : Vec Ideal S1x512x512 .bf16) (h : Fin 4) (r : Fin 512) (d : Fin 128) : part x h (ix3 0 r d) = x (ix3 0 r (vlane h d)) := rfl

theorem tile_at (x : Vec Ideal S1x8192x512 .bf16) (h : Fin 4) (m : ℕ) (hm : m < 16) (j : Fin 512) (d : Fin 128) :
    tile x h m (ix3 0 j d) = x (ix3 0 (row ⟨m, hm⟩ j) (vlane h d)) := by
  have : (⟨(512 * m + j.val) % 8192, Nat.mod_lt _ (by norm_num)⟩ : Fin 8192) = row ⟨m, hm⟩ j := Fin.ext (Nat.mod_eq_of_lt (by omega))
  exact congrArg (fun z => x (ix3 (0 : Fin 1) z (vlane h d))) this

theorem sc_at (n : Fin 2) (q k : Vec Ideal S1x512x128 .bf16) (r j : Fin 512) :
    (sc n q k (ix2 r j) : EReal) = ∑ x : Fin 64, (q (ix3 0 r (⟨n.val * 64 + x.val, by omega⟩ : Fin 128)) : EReal) * (k (ix3 0 j (⟨n.val * 64 + x.val, by omega⟩ : Fin 128)) : EReal) := by
  match n with
  | 0 => exact (scores0_at q k r j).trans (by simp)
  | 1 => exact (scores1_at q k r j).trans (by simp)

theorem sc_real (hp : Holds I b T x1 x2 x3 x5) (h : Fin 4) (n : Fin 2) (m : ℕ) (hm : m < 16) (r j : Fin 512) :
    (sc n (part x1 h) (tile x2 h m) (ix2 r j) : EReal) = ((dot I b h n (row T r) (row ⟨m, hm⟩ j) * qscale : ℝ) : EReal) := by
  rw [sc_at]
  have e : ∀ x : Fin 64, (part x1 h (ix3 0 r (⟨n.val * 64 + x.val, by omega⟩ : Fin 128)) : EReal) * (tile x2 h m (ix3 0 j (⟨n.val * 64 + x.val, by omega⟩ : Fin 128)) : EReal)
      = ((I.q b (row T r) (lane h n x) * I.k b (row ⟨m, hm⟩ j) (lane h n x) * qscale : ℝ) : EReal) := fun x => by
    rw [part_at, tile_at _ _ _ hm, hp.q, hp.k, ← EReal.coe_mul]
    have : vlane h (⟨n.val * 64 + x.val, by omega⟩ : Fin 128) = lane h n x := Fin.ext (by simp only [vlane, lane]; omega)
    rw [this]; congr 1; ring
  rw [Finset.sum_congr rfl fun x _ => e x, ← coe_sum, ← Finset.sum_mul]; rfl

/-- A product and a bias amount to the key's weight, where the bias is the table's and the mask the reference's. -/
theorem wt_sum (h : Fin 4) (n : Fin 2) (R κ : Fin 8192) (z : ℝ) (p : Prop) [Decidable p] (hz : p → z = (bias I h R κ - I.t 15 h) * (1 / Real.log 2)) (hv : p ↔ κ.val / 64 ≤ R.val / 64) :
    wt (((dot I b h n R κ * qscale : ℝ) : EReal) + if p then (z : EReal) else ⊥) = w I b h n R κ ∧ (((dot I b h n R κ * qscale : ℝ) : EReal) + if p then (z : EReal) else ⊥) ≠ ⊤ := by
  by_cases hp : p
  · rw [if_pos hp, ← EReal.coe_add, wt_coe]
    refine ⟨?_, EReal.coe_ne_top _⟩
    unfold w score; rw [if_pos (hv.mp hp), hz hp]; rfl
  · rw [if_neg hp, EReal.add_bot, wt_bot]
    refine ⟨?_, bot_ne_top⟩
    unfold w; rw [if_neg fun hc => hp (hv.mpr hc)]

theorem wAt_row (h : Fin 4) (n : Fin 2) (R : Fin 8192) (m : ℕ) (hm : m < 16) (j : Fin 512) : wAt I b h n R (512 * m + j) = w I b h n R (row ⟨m, hm⟩ j) := dif_pos (by omega)
theorem vAt_row (h : Fin 4) (e : Fin 128) (m : ℕ) (hm : m < 16) (j : Fin 512) : vAt I b h e (512 * m + j) = I.v b (row ⟨m, hm⟩ j) (vlane h e) := dif_pos (by omega)

/-- A far tile's scores. -/
theorem far_wt (hp : Holds I b T x1 x2 x3 x5) (h : Fin 4) (n : Fin 2) (m : ℕ) (hm : m + 1 < T.val) (r j : Fin 512) :
    wt (sc n (part x1 h) (tile x2 h m) (ix2 r j)) = wAt I b h n (row T r) (512 * m + j) ∧ (sc n (part x1 h) (tile x2 h m) (ix2 r j) : EReal) ≠ ⊤ := by
  have hm' : m < 16 := by omega
  rw [sc_real hp h n m hm', wAt_row h n _ m hm' j]
  have := wt_sum (I := I) (b := b) h n (row T r) (row ⟨m, hm'⟩ j) 0 True (fun _ => by
    have : bkt (((row ⟨m, hm'⟩ j).val : ℤ) - (row T r).val) = 15 := bkt_far (by simp only [row]; omega)
    unfold bias; simp only [this]; rw [show (⟨15, by norm_num⟩ : Fin 32) = 15 from rfl, sub_self, zero_mul]) ⟨fun _ => by simp only [row]; omega, fun _ => trivial⟩
  simpa using this

/-- The scores of the tile before the queries' own. -/
theorem near_wt (hp : Holds I b T x1 x2 x3 x5) (v0 : BitVec 1) (h1 : 0 < T.val → v0 = 1#1) (h0 : T.val = 0 → v0 = 0#1) (h : Fin 4) (n : Fin 2) (r j : Fin 512) :
    wt ((sc n (part x1 h) (tile x2 h (T.val - 1)) (ix2 r j) : EReal) + masked v0 (nearBias x5 h (ix4 0 0 r j))) = (if 0 < T.val then wAt I b h n (row T r) (512 * (T.val - 1) + j) else 0)
      ∧ (sc n (part x1 h) (tile x2 h (T.val - 1)) (ix2 r j) : EReal) + masked v0 (nearBias x5 h (ix4 0 0 r j)) ≠ ⊤ := by
  have hm' : T.val - 1 < 16 := by omega
  rw [sc_real hp h n _ hm', wAt_row h n _ _ hm' j]
  by_cases hT : 0 < T.val
  · rw [if_pos hT, h1 hT]
    have hs : masked 1#1 (nearBias x5 h (ix4 0 0 r j)) = nearBias x5 h (ix4 0 0 r j) := by
      unfold masked; exact add_zero (M := EReal) _
    rw [hs]
    show wt (_ + x5 (ix4 h 0 r (⟨j.val, by omega⟩ : Fin 1024))) = _ ∧ (_ : EReal) + x5 (ix4 h 0 r (⟨j.val, by omega⟩ : Fin 1024)) ≠ ⊤
    rw [hp.bias]
    refine wt_sum h n (row T r) (row ⟨T.val - 1, hm'⟩ j) _ _ (fun _ => ?_) ?_
    · have : ((j.val : ℤ) - (r.val + 512)) = ((row ⟨T.val - 1, hm'⟩ j).val : ℤ) - (row T r).val := by simp only [row]; omega
      unfold bias; simp only [this]
    · simp only [row]; omega
  · rw [if_neg hT, h0 (by omega)]
    have hs : masked 0#1 (nearBias x5 h (ix4 0 0 r j)) = ⊥ := by
      unfold masked; exact EReal.add_bot _
    rw [hs, EReal.add_bot]
    exact ⟨wt_bot, bot_ne_top⟩

/-- The scores of the queries' own tile. -/
theorem diag_wt (hp : Holds I b T x1 x2 x3 x5) (h : Fin 4) (n : Fin 2) (r j : Fin 512) :
    wt ((sc n (part x1 h) (tile x2 h T.val) (ix2 r j) : EReal) + (diagBias x5 h (ix4 0 0 r j) : EReal)) = wAt I b h n (row T r) (512 * T.val + j)
      ∧ (sc n (part x1 h) (tile x2 h T.val) (ix2 r j) : EReal) + (diagBias x5 h (ix4 0 0 r j) : EReal) ≠ ⊤ := by
  rw [sc_real hp h n _ T.isLt, wAt_row h n _ _ T.isLt j]
  show wt (_ + x5 (ix4 h 0 r (⟨512 + j.val, by omega⟩ : Fin 1024))) = _ ∧ (_ : EReal) + x5 (ix4 h 0 r (⟨512 + j.val, by omega⟩ : Fin 1024)) ≠ ⊤
  rw [hp.bias]
  refine wt_sum h n (row T r) (row T j) _ _ (fun _ => ?_) ?_
  · have : ((((⟨512 + j.val, by omega⟩ : Fin 1024)).val : ℤ) - (r.val + 512)) = ((row T j).val : ℤ) - (row T r).val := by simp only [row]; push_cast; omega
    unfold bias; simp only [this]
  · simp only [row]; omega

/-- The values of a tile. -/
theorem val_real (hp : Holds I b T x1 x2 x3 x5) (h : Fin 4) (m : ℕ) (hm : m < 16) (j : Fin 512) (e : Fin 128) :
    (tile x3 h m (ix3 0 j e) : EReal) = (vAt I b h e (512 * m + j) : EReal) := by
  rw [tile_at _ _ _ hm, hp.v, vAt_row h e m hm]

/-! ### The sums over all keys -/

/-- The sum of a function of the keys over the far tiles, the tile before the queries' own, and their own. -/
def overTiles (T : ℕ) (f : ℕ → ℝ) : ℝ :=
  (∑ m ∈ Finset.range (T - 1), ∑ j : Fin 512, f (512 * m + j)) + (∑ j : Fin 512, if 0 < T then f (512 * (T - 1) + j) else 0) + ∑ j : Fin 512, f (512 * T + j)

theorem overTiles_eq (T : Fin 16) (f : ℕ → ℝ) (hf : ∀ κ, 512 * (T.val + 1) ≤ κ → f κ = 0) : overTiles T.val f = ∑ κ : Fin 8192, f κ := by
  have h1 : overTiles T.val f = ∑ m ∈ Finset.range (T.val + 1), ∑ j : Fin 512, f (512 * m + j) := by
    unfold overTiles
    rw [Finset.sum_range_succ]
    congr 1
    rcases Nat.eq_zero_or_pos T.val with h | h
    · simp [h]
    · conv_rhs => rw [show T.val = (T.val - 1) + 1 by omega, Finset.sum_range_succ]
      simp [h]
  rw [h1, ← sum_tiles]
  refine (Finset.sum_subset (Finset.range_mono (by omega)) fun m hm hn => ?_)
  refine Finset.sum_eq_zero fun j _ => hf _ ?_
  simp only [Finset.mem_range] at hm hn
  nlinarith

theorem wAt_past (h : Fin 4) (n : Fin 2) (T : Fin 16) (r : Fin 512) (κ : ℕ) (hκ : 512 * (T.val + 1) ≤ κ) : wAt I b h n (row T r) κ = 0 := by
  unfold wAt
  split
  · unfold w; rw [if_neg]; simp only [row]; omega
  · rfl

theorem overTiles_W (h : Fin 4) (n : Fin 2) (T : Fin 16) (r : Fin 512) : overTiles T.val (wAt I b h n (row T r)) = W I b h n (row T r) := by
  rw [overTiles_eq T _ fun κ hκ => wAt_past h n T r κ hκ]
  exact Finset.sum_congr rfl fun κ _ => dif_pos κ.isLt

theorem overTiles_A (h : Fin 4) (n : Fin 2) (T : Fin 16) (r : Fin 512) (e : Fin 128) : overTiles T.val (fun κ => wAt I b h n (row T r) κ * vAt I b h e κ) = A I b h n (row T r) e := by
  rw [overTiles_eq T _ fun κ hκ => by rw [wAt_past h n T r κ hκ, zero_mul]]
  refine Finset.sum_congr rfl fun κ _ => ?_
  unfold wAt vAt; rw [dif_pos κ.isLt, dif_pos κ.isLt]

/-! ### The heads whose maxima are carried -/

theorem far_carried (hp : Holds I b T x1 x2 x3 x5) (h : Fin 4) (r : Fin 512) (e : Fin 128) : ∀ m : ℕ, m ≤ T.val - 1 →
    Carried (far (part x1 h) (tile x2 h) (tile x3 h) m) r e
      (∑ k ∈ Finset.range m, ∑ j : Fin 512, wAt I b h 0 (row T r) (512 * k + j)) (∑ k ∈ Finset.range m, ∑ j : Fin 512, wAt I b h 0 (row T r) (512 * k + j) * vAt I b h e (512 * k + j))
      (∑ k ∈ Finset.range m, ∑ j : Fin 512, wAt I b h 1 (row T r) (512 * k + j)) (∑ k ∈ Finset.range m, ∑ j : Fin 512, wAt I b h 1 (row T r) (512 * k + j) * vAt I b h e (512 * k + j))
  | 0, _ => by simp only [Finset.range_zero, Finset.sum_empty]; exact start_carried r e
  | m + 1, hm => by
    have ih := far_carried hp h r e m (by omega)
    have s := step_carried ih (sc 0 (part x1 h) (tile x2 h m)) (sc 1 (part x1 h) (tile x2 h m)) (mat (tile x3 h m)) (fun j => vAt I b h e (512 * m + j))
      (fun j => (far_wt hp h 0 m (by omega) r j).2) (fun j => (far_wt hp h 1 m (by omega) r j).2) (fun j => by rw [mat_at, val_real hp h m (by omega)])
    simp only [fun j => (far_wt hp h 0 m (by omega) r j).1, fun j => (far_wt hp h 1 m (by omega) r j).1] at s
    simp only [Finset.sum_range_succ]
    exact s

theorem head_carried (hp : Holds I b T x1 x2 x3 x5) (v0 : BitVec 1) (h1 : 0 < T.val → v0 = 1#1) (h0 : T.val = 0 → v0 = 0#1) (h : Fin 4) (r : Fin 512) (e : Fin 128) :
    Carried (diagStep (part x1 h) (tile x2 h T.val) (tile x3 h T.val) (diagBias x5 h)
      (nearStep v0 (part x1 h) (tile x2 h (T.val - 1)) (tile x3 h (T.val - 1)) (nearBias x5 h) (far (part x1 h) (tile x2 h) (tile x3 h) (T.val - 1)))) r e
      (W I b h 0 (row T r)) (A I b h 0 (row T r) e) (W I b h 1 (row T r)) (A I b h 1 (row T r) e) := by
  have e0 : ∀ j, (k0_pay259 v0 (part x1 h) (tile x2 h (T.val - 1)) (nearBias x5 h) (ix2 r j) : EReal) = (sc 0 (part x1 h) (tile x2 h (T.val - 1)) (ix2 r j) : EReal) + masked v0 (nearBias x5 h (ix4 0 0 r j)) := fun j => near0_at _ _ _ _ _ _
  have e1 : ∀ j, (k0_pay260 v0 (part x1 h) (tile x2 h (T.val - 1)) (nearBias x5 h) (ix2 r j) : EReal) = (sc 1 (part x1 h) (tile x2 h (T.val - 1)) (ix2 r j) : EReal) + masked v0 (nearBias x5 h (ix4 0 0 r j)) := fun j => near1_at _ _ _ _ _ _
  have d0 : ∀ j, (k0_pay276 (k0_pay230 (part x1 h) (tile x2 h T.val)) (k0_pay275 (diagBias x5 h)) (ix2 r j) : EReal) = (sc 0 (part x1 h) (tile x2 h T.val) (ix2 r j) : EReal) + (diagBias x5 h (ix4 0 0 r j) : EReal) := fun j => diag0_at _ _ _ _
  have d1 : ∀ j, (k0_pay277 (k0_pay231 (part x1 h) (tile x2 h T.val)) (k0_pay275 (diagBias x5 h)) (ix2 r j) : EReal) = (sc 1 (part x1 h) (tile x2 h T.val) (ix2 r j) : EReal) + (diagBias x5 h (ix4 0 0 r j) : EReal) := fun j => diag1_at _ _ _ _
  have s := step_carried (far_carried hp h r e (T.val - 1) le_rfl) (k0_pay259 v0 (part x1 h) (tile x2 h (T.val - 1)) (nearBias x5 h)) (k0_pay260 v0 (part x1 h) (tile x2 h (T.val - 1)) (nearBias x5 h)) (mat (tile x3 h (T.val - 1))) (fun j => vAt I b h e (512 * (T.val - 1) + j))
    (fun j => by rw [e0]; exact (near_wt hp v0 h1 h0 h 0 r j).2) (fun j => by rw [e1]; exact (near_wt hp v0 h1 h0 h 1 r j).2) (fun j => by rw [mat_at, val_real hp h _ (by omega)])
  have s' := step_carried s (k0_pay276 (k0_pay230 (part x1 h) (tile x2 h T.val)) (k0_pay275 (diagBias x5 h))) (k0_pay277 (k0_pay231 (part x1 h) (tile x2 h T.val)) (k0_pay275 (diagBias x5 h))) (mat (tile x3 h T.val)) (fun j => vAt I b h e (512 * T.val + j))
    (fun j => by rw [d0]; exact (diag_wt hp h 0 r j).2) (fun j => by rw [d1]; exact (diag_wt hp h 1 r j).2) (fun j => by rw [mat_at, val_real hp h _ T.isLt])
  simp only [e0, e1, d0, d1, fun j => (near_wt hp v0 h1 h0 h 0 r j).1, fun j => (near_wt hp v0 h1 h0 h 1 r j).1, fun j => (diag_wt hp h 0 r j).1, fun j => (diag_wt hp h 1 r j).1, ite_mul, zero_mul] at s'
  rw [← overTiles_W, ← overTiles_W, ← overTiles_A, ← overTiles_A]
  exact s'

/-- A head's entry, from the layer's real attention. -/
theorem head_at (hp : Holds I b T x1 x2 x3 x5) (v0 : BitVec 1) (h1 : 0 < T.val → v0 = 1#1) (h0 : T.val = 0 → v0 = 0#1) (x4 : Vec Ideal S1x512x512 .bf16) (x6 : Vec Ideal S4x64 .f32) (x7 : Vec Ideal S1x128 .f32)
    (L : ℝ) (hL : factor x6 = (L : EReal)) (h : Fin 4) (r : Fin 512) (e : Fin 128) :
    (head v0 T.val h x1 x2 x3 x4 x5 x6 x7 (ix3 0 r e) : EReal) = gated (fun x => (o I b h (row T r) L x : EReal)) (fun x => (x7 (ix2 0 x) : EReal)) (x4 (ix3 0 r (vlane h e))) e := by
  unfold head finishC
  rw [finish_at, hL, part_at]
  congr 1
  funext x
  have c := head_carried hp v0 h1 h0 h r x
  rw [c.1.quot (W_pos I b h 0 (row T r)).ne', c.2.quot (W_pos I b h 1 (row T r)).ne', ← EReal.coe_mul, ← EReal.coe_sub]
  rfl

end Cert.KernelIdeal.Val

end
-- ==== Proof.Sums.lean ====
module

public import proofs.«01_k».proof.Proof.Stack
public import proofs.«01_k».proof.Proof.Point

@[expose] public section

set_option maxRecDepth 16384

noncomputable section

/-! The plain exponentials and their sums, entry by entry. -/

namespace Cert.KernelIdeal.Val

open Cert.KernelIdeal Cert.KernelIdeal.Gen Cert.Weights Cert.Spec
open Idealize.ShloMosaic Idealize.ShloMosaic.TcCoe

/-- Row `r` of map `n` in a pair of 512 rows each, and in a pair of 256. -/
def two512 (n : Fin 2) (r : Fin 512) : Fin 1024 := ⟨512 * n.val + r.val, by omega⟩
def two256 (n : Fin 2) (r : Fin 256) : Fin 512 := ⟨256 * n.val + r.val, by omega⟩

theorem pair_lo (q : Vec Ideal S1x512x128 .bf16) (r : Fin 512) (x : Fin 128) : (pair q (ix2 (⟨r.val, by omega⟩ : Fin 1024) x) : EReal) = (k0_pay223 q (ix2 r x) : EReal) := by
  pointwise [pair, k0_pay75]
theorem pair_hi (q : Vec Ideal S1x512x128 .bf16) (r : Fin 512) (x : Fin 128) : (pair q (ix2 (⟨512 + r.val, by omega⟩ : Fin 1024) x) : EReal) = (k0_pay224 q (ix2 r x) : EReal) := by
  pointwise [pair, k0_pay75]

theorem expFar_sum (q2 : FVec Ideal S1024x128 .bf16) (k : Vec Ideal S1x512x128 .bf16) (R : Fin 1024) (j : Fin 512) :
    (expFar q2 k (ix2 R j) : EReal) = Ideal.exp2 (∑ x : Fin 128, (q2 (ix2 R x) : EReal) * (k (ix3 0 j x) : EReal)) := by
  pointwise [expFar]
  rfl
theorem sc0_sum (q k : Vec Ideal S1x512x128 .bf16) (r j : Fin 512) :
    (sc 0 q k (ix2 r j) : EReal) = ∑ x : Fin 128, (k0_pay223 q (ix2 r x) : EReal) * (k (ix3 0 j x) : EReal) := by
  show (k0_pay230 q k (ix2 r j) : EReal) = _
  pointwise [k0_pay230, k0_pay228]
theorem sc1_sum (q k : Vec Ideal S1x512x128 .bf16) (r j : Fin 512) :
    (sc 1 q k (ix2 r j) : EReal) = ∑ x : Fin 128, (k0_pay224 q (ix2 r x) : EReal) * (k (ix3 0 j x) : EReal) := by
  show (k0_pay231 q k (ix2 r j) : EReal) = _
  pointwise [k0_pay231, k0_pay228]
theorem expNear_sum (v0 : BitVec 1) (q2 : FVec Ideal S1024x128 .bf16) (k : Vec Ideal S1x512x128 .bf16) (b : Vec Ideal S1x1x512x512 .f32) (r : Fin 512) (j : Fin 512) :
    (expNear v0 q2 k b (ix2 (⟨r.val, by omega⟩ : Fin 1024) j) : EReal) = Ideal.exp2 (∑ x : Fin 128, (q2 (ix2 (⟨r.val, by omega⟩ : Fin 1024) x) : EReal) * (k (ix3 0 j x) : EReal) + masked v0 (b (ix4 0 0 r j))) := by
  rw [masked, ← mask_bot]
  pointwise [expNear, k0_pay88, k0_pay79]
  rfl
theorem expNear_sum' (v0 : BitVec 1) (q2 : FVec Ideal S1024x128 .bf16) (k : Vec Ideal S1x512x128 .bf16) (b : Vec Ideal S1x1x512x512 .f32) (r : Fin 512) (j : Fin 512) :
    (expNear v0 q2 k b (ix2 (⟨512 + r.val, by omega⟩ : Fin 1024) j) : EReal) = Ideal.exp2 (∑ x : Fin 128, (q2 (ix2 (⟨512 + r.val, by omega⟩ : Fin 1024) x) : EReal) * (k (ix3 0 j x) : EReal) + masked v0 (b (ix4 0 0 r j))) := by
  rw [masked, ← mask_bot]
  pointwise [expNear, k0_pay88, k0_pay79]
  rfl

/-- The first half of a tile's keys, and of the bias for either half of the queries. -/
def top256 (x : Vec Ideal S1x512x128 .bf16) : Vec Ideal S1x256x128 .bf16 := fun y => x (ix3 (0 : Fin 1) (⟨(y (1 : Fin 3)).val, lt_trans (y (1 : Fin 3)).isLt (by decide : 256 < 512)⟩ : Fin 512) (y (2 : Fin 3)))
def upBias (b : Vec Ideal S1x1x512x512 .f32) : Vec Ideal S1x1x256x256 .f32 := fun y => b (ix4 (0 : Fin 1) (0 : Fin 1) (⟨(y (2 : Fin 4)).val, lt_trans (y (2 : Fin 4)).isLt (by decide : 256 < 512)⟩ : Fin 512) (⟨(y (3 : Fin 4)).val, lt_trans (y (3 : Fin 4)).isLt (by decide : 256 < 512)⟩ : Fin 512))
def lowBias (b : Vec Ideal S1x1x512x512 .f32) : Vec Ideal S1x1x256x512 .f32 := fun y => b (ix4 (0 : Fin 1) (0 : Fin 1) (⟨256 + (y (2 : Fin 4)).val, Nat.add_lt_add_left (y (2 : Fin 4)).isLt 256⟩ : Fin 512) (y (3 : Fin 4)))

theorem expUp_lo (q : Vec Ideal S1x512x128 .bf16) (k : Vec Ideal S1x256x128 .bf16) (b : Vec Ideal S1x1x256x256 .f32) (r j : Fin 256) :
    (expUp q k b (ix2 (⟨r.val, by omega⟩ : Fin 512) j) : EReal) = Ideal.exp2 (∑ x : Fin 128, (k0_pay223 q (ix2 (⟨r.val, by omega⟩ : Fin 512) x) : EReal) * (k (ix3 0 j x) : EReal) + (b (ix4 0 0 r j) : EReal)) := by
  pointwise [expUp]
  rfl
theorem expUp_hi (q : Vec Ideal S1x512x128 .bf16) (k : Vec Ideal S1x256x128 .bf16) (b : Vec Ideal S1x1x256x256 .f32) (r j : Fin 256) :
    (expUp q k b (ix2 (⟨256 + r.val, by omega⟩ : Fin 512) j) : EReal) = Ideal.exp2 (∑ x : Fin 128, (k0_pay224 q (ix2 (⟨r.val, by omega⟩ : Fin 512) x) : EReal) * (k (ix3 0 j x) : EReal) + (b (ix4 0 0 r j) : EReal)) := by
  pointwise [expUp]
  rfl
theorem expLow_lo (q : Vec Ideal S1x512x128 .bf16) (k : Vec Ideal S1x512x128 .bf16) (b : Vec Ideal S1x1x256x512 .f32) (r : Fin 256) (j : Fin 512) :
    (expLow q k b (ix2 (⟨r.val, by omega⟩ : Fin 512) j) : EReal) = Ideal.exp2 (∑ x : Fin 128, (k0_pay223 q (ix2 (⟨256 + r.val, by omega⟩ : Fin 512) x) : EReal) * (k (ix3 0 j x) : EReal) + (b (ix4 0 0 r j) : EReal)) := by
  pointwise [expLow]
  rfl
theorem expLow_hi (q : Vec Ideal S1x512x128 .bf16) (k : Vec Ideal S1x512x128 .bf16) (b : Vec Ideal S1x1x256x512 .f32) (r : Fin 256) (j : Fin 512) :
    (expLow q k b (ix2 (⟨256 + r.val, by omega⟩ : Fin 512) j) : EReal) = Ideal.exp2 (∑ x : Fin 128, (k0_pay224 q (ix2 (⟨256 + r.val, by omega⟩ : Fin 512) x) : EReal) * (k (ix3 0 j x) : EReal) + (b (ix4 0 0 r j) : EReal)) := by
  pointwise [expLow]
  rfl

/-- The four places of a tile that share lane `l`, and the two of its first half. -/
def fold4 {α : Type} [Add α] (u : Fin 512 → α) (l : Fin 128) : α := u ⟨l.val, by omega⟩ + u ⟨128 + l.val, by omega⟩ + u ⟨256 + l.val, by omega⟩ + u ⟨384 + l.val, by omega⟩
def fold2 {α : Type} [Add α] (u : Fin 256 → α) (l : Fin 128) : α := u ⟨l.val, by omega⟩ + u ⟨128 + l.val, by omega⟩

theorem lanes4_at (p : FVec Ideal S1024x512 .f32) (R : Fin 1024) (l : Fin 128) : (lanes4 p (ix2 R l) : EReal) = fold4 (fun j => (p (ix2 R j) : EReal)) l := by
  unfold fold4; pointwise [lanes4]
theorem lanes2_at (p : FVec Ideal S512x256 .f32) (R : Fin 512) (l : Fin 128) : (lanes2 p (ix2 R l) : EReal) = fold2 (fun j => (p (ix2 R j) : EReal)) l := by
  unfold fold2; pointwise [lanes2]
theorem lanes4Low_at (p : FVec Ideal S512x512 .f32) (R : Fin 512) (l : Fin 128) : (lanes4Low p (ix2 R l) : EReal) = fold4 (fun j => (p (ix2 R j) : EReal)) l := by
  unfold fold4; pointwise [lanes4Low]
theorem weighted_at (p : FVec Ideal S1024x512 .f32) (v : Vec Ideal S1x512x128 .bf16) (R : Fin 1024) (e : Fin 128) : (weighted p v (ix2 R e) : EReal) = ∑ j : Fin 512, (p (ix2 R j) : EReal) * (v (ix3 0 j e) : EReal) := by
  pointwise [weighted]
theorem weightedUp_at (p : FVec Ideal S512x256 .f32) (v : Vec Ideal S1x256x128 .bf16) (R : Fin 512) (e : Fin 128) : (weightedUp p v (ix2 R e) : EReal) = ∑ j : Fin 256, (p (ix2 R j) : EReal) * (v (ix3 0 j e) : EReal) := by
  pointwise [weightedUp]
theorem weightedLow_at (p : FVec Ideal S512x512 .f32) (v : Vec Ideal S1x512x128 .bf16) (R : Fin 512) (e : Fin 128) : (weightedLow p v (ix2 R e) : EReal) = ∑ j : Fin 512, (p (ix2 R j) : EReal) * (v (ix3 0 j e) : EReal) := by
  pointwise [weightedLow]
theorem rows0_at (x : FVec Ideal S1024x128 .f32) (r : Fin 512) (l : Fin 128) : (rowsOf 0 x (ix2 r l) : EReal) = (x (ix2 (⟨r.val, by omega⟩ : Fin 1024) l) : EReal) := by
  show (extractStridedSlice S512x128 ![0, 0] x slices_S1024x128_o0_0_S512x128 (ix2 r l) : EReal) = _
  pointwise
theorem rows1_at (x : FVec Ideal S1024x128 .f32) (r : Fin 512) (l : Fin 128) : (rowsOf 1 x (ix2 r l) : EReal) = (x (ix2 (⟨512 + r.val, by omega⟩ : Fin 1024) l) : EReal) := by
  show (extractStridedSlice S512x128 ![512, 0] x slices_S1024x128_o512_0_S512x128 (ix2 r l) : EReal) = _
  pointwise
theorem half0_at (x : FVec Ideal S512x128 .f32) (r : Fin 256) (l : Fin 128) : (halfOf 0 x (ix2 r l) : EReal) = (x (ix2 (⟨r.val, by omega⟩ : Fin 512) l) : EReal) := by
  show (extractStridedSlice S256x128 ![0, 0] x slices_S512x128_o0_0_S256x128 (ix2 r l) : EReal) = _
  pointwise
theorem half1_at (x : FVec Ideal S512x128 .f32) (r : Fin 256) (l : Fin 128) : (halfOf 1 x (ix2 r l) : EReal) = (x (ix2 (⟨256 + r.val, by omega⟩ : Fin 512) l) : EReal) := by
  show (extractStridedSlice S256x128 ![256, 0] x slices_S512x128_o256_0_S256x128 (ix2 r l) : EReal) = _
  pointwise
theorem plus512_at (x : Vec Ideal S1x1x512x128 .f32) (d : FVec Ideal S512x128 .f32) (r : Fin 512) (l : Fin 128) : (plus512 x d (ix4 0 0 r l) : EReal) = (x (ix4 0 0 r l) : EReal) + (d (ix2 r l) : EReal) := by
  pointwise [plus512]
theorem plus256_at (x : Vec Ideal S1x1x256x128 .f32) (d : FVec Ideal S256x128 .f32) (r : Fin 256) (l : Fin 128) : (plus256 x d (ix4 0 0 r l) : EReal) = (x (ix4 0 0 r l) : EReal) + (d (ix2 r l) : EReal) := by
  pointwise [plus256]
theorem put512_at (d : FVec Ideal S512x128 .f32) (r : Fin 512) (l : Fin 128) : (put512 d (ix4 0 0 r l) : EReal) = (d (ix2 r l) : EReal) := by
  pointwise [put512]
theorem sums_at (x : Vec Ideal S1x1x512x128 .f32) (r : Fin 512) : (sums x (ix2 r 0) : EReal) = ∑ l : Fin 128, (x (ix4 0 0 r l) : EReal) := by
  pointwise [sums]
theorem vals_at (x : Vec Ideal S1x1x512x128 .f32) (r : Fin 512) (e : Fin 128) : (vals x (ix2 r e) : EReal) = (x (ix4 0 0 r e) : EReal) := by
  pointwise [vals]

end Cert.KernelIdeal.Val

end
-- ==== Proof.Lanes.lean ====
module

public import proofs.«01_k».proof.Proof.Sums

@[expose] public section

set_option maxRecDepth 16384

noncomputable section

/-! What every tile adds to the two buffers, as real numbers. -/

namespace Cert.KernelIdeal.Val

open Cert.KernelIdeal Cert.KernelIdeal.Gen Cert.Weights Cert.Spec
open Idealize.ShloMosaic Idealize.ShloMosaic.TcCoe

theorem rowsOf_at (n : Fin 2) (x : FVec Ideal S1024x128 .f32) (r : Fin 512) (l : Fin 128) : (rowsOf n x (ix2 r l) : EReal) = (x (ix2 (two512 n r) l) : EReal) := by
  match n with
  | 0 => exact (rows0_at x r l).trans (congrArg (fun z => (x (ix2 z l) : EReal)) (Fin.ext (by simp [two512])))
  | 1 => exact (rows1_at x r l).trans (congrArg (fun z => (x (ix2 z l) : EReal)) (Fin.ext (by simp [two512])))

theorem halfOf_at (n : Fin 2) (x : FVec Ideal S512x128 .f32) (r : Fin 256) (l : Fin 128) : (halfOf n x (ix2 r l) : EReal) = (x (ix2 (two256 n r) l) : EReal) := by
  match n with
  | 0 => exact (half0_at x r l).trans (congrArg (fun z => (x (ix2 z l) : EReal)) (Fin.ext (by simp [two256])))
  | 1 => exact (half1_at x r l).trans (congrArg (fun z => (x (ix2 z l) : EReal)) (Fin.ext (by simp [two256])))

theorem expFar_sc (n : Fin 2) (q k : Vec Ideal S1x512x128 .bf16) (r j : Fin 512) : (expFar (pair q) k (ix2 (two512 n r) j) : EReal) = Ideal.exp2 (sc n q k (ix2 r j)) := by
  rw [expFar_sum]
  match n with
  | 0 =>
    rw [show two512 0 r = (⟨r.val, by omega⟩ : Fin 1024) from Fin.ext (by simp [two512]), sc0_sum]
    exact congrArg Ideal.exp2 (Finset.sum_congr rfl fun x _ => by rw [pair_lo])
  | 1 =>
    rw [show two512 1 r = (⟨512 + r.val, by omega⟩ : Fin 1024) from Fin.ext (by simp [two512]), sc1_sum]
    exact congrArg Ideal.exp2 (Finset.sum_congr rfl fun x _ => by rw [pair_hi])

theorem expNear_sc (v0 : BitVec 1) (n : Fin 2) (q k : Vec Ideal S1x512x128 .bf16) (b : Vec Ideal S1x1x512x512 .f32) (r j : Fin 512) :
    (expNear v0 (pair q) k b (ix2 (two512 n r) j) : EReal) = Ideal.exp2 ((sc n q k (ix2 r j) : EReal) + masked v0 (b (ix4 0 0 r j))) := by
  match n with
  | 0 =>
    rw [show two512 0 r = (⟨r.val, by omega⟩ : Fin 1024) from Fin.ext (by simp [two512]), sc0_sum, expNear_sum]
    exact congrArg (fun z : EReal => Ideal.exp2 (z + masked v0 (b (ix4 0 0 r j)))) (Finset.sum_congr rfl fun x _ => by rw [pair_lo])
  | 1 =>
    rw [show two512 1 r = (⟨512 + r.val, by omega⟩ : Fin 1024) from Fin.ext (by simp [two512]), sc1_sum, expNear_sum']
    exact congrArg (fun z : EReal => Ideal.exp2 (z + masked v0 (b (ix4 0 0 r j)))) (Finset.sum_congr rfl fun x _ => by rw [pair_hi])

theorem expUp_sc (n : Fin 2) (q k : Vec Ideal S1x512x128 .bf16) (b : Vec Ideal S1x1x512x512 .f32) (r j : Fin 256) :
    (expUp q (top256 k) (upBias b) (ix2 (two256 n r) j) : EReal) = Ideal.exp2 ((sc n q k (ix2 (⟨r.val, by omega⟩ : Fin 512) (⟨j.val, by omega⟩ : Fin 512)) : EReal) + (b (ix4 0 0 (⟨r.val, by omega⟩ : Fin 512) (⟨j.val, by omega⟩ : Fin 512)) : EReal)) := by
  match n with
  | 0 => rw [show two256 0 r = (⟨r.val, by omega⟩ : Fin 512) from Fin.ext (by simp [two256]), sc0_sum, expUp_lo]; rfl
  | 1 => rw [show two256 1 r = (⟨256 + r.val, by omega⟩ : Fin 512) from Fin.ext (by simp [two256]), sc1_sum, expUp_hi]; rfl

theorem expLow_sc (n : Fin 2) (q k : Vec Ideal S1x512x128 .bf16) (b : Vec Ideal S1x1x512x512 .f32) (r : Fin 256) (j : Fin 512) :
    (expLow q k (lowBias b) (ix2 (two256 n r) j) : EReal) = Ideal.exp2 ((sc n q k (ix2 (⟨256 + r.val, by omega⟩ : Fin 512) j) : EReal) + (b (ix4 0 0 (⟨256 + r.val, by omega⟩ : Fin 512) j) : EReal)) := by
  match n with
  | 0 => rw [show two256 0 r = (⟨r.val, by omega⟩ : Fin 512) from Fin.ext (by simp [two256]), sc0_sum, expLow_lo]; rfl
  | 1 => rw [show two256 1 r = (⟨256 + r.val, by omega⟩ : Fin 512) from Fin.ext (by simp [two256]), sc1_sum, expLow_hi]; rfl

/-! ### Sums over the lanes -/

theorem sum_fold2 (u : Fin 256 → ℝ) : ∑ l, fold2 u l = ∑ j, u j := by
  rw [show ∑ j, u j = ∑ l : Fin 128, u ⟨l.val, by omega⟩ + ∑ l : Fin 128, u ⟨128 + l.val, by omega⟩ from Fin.sum_univ_add (a := 128) (b := 128) u, ← Finset.sum_add_distrib]
  rfl

theorem sum_fold4 (u : Fin 512 → ℝ) : ∑ l, fold4 u l = ∑ j, u j := by
  rw [show ∑ j, u j = ∑ x : Fin 256, u ⟨x.val, by omega⟩ + ∑ x : Fin 256, u ⟨256 + x.val, by omega⟩ from Fin.sum_univ_add (a := 256) (b := 256) u, ← sum_fold2, ← sum_fold2, ← Finset.sum_add_distrib]
  refine Finset.sum_congr rfl fun l _ => ?_
  unfold fold4 fold2
  dsimp only
  rw [show (⟨256 + (128 + l.val), by omega⟩ : Fin 512) = ⟨384 + l.val, by omega⟩ from by apply Fin.ext; show 256 + (128 + l.val) = 384 + l.val; omega]
  ring

theorem fold4_coe (u : Fin 512 → ℝ) (l : Fin 128) : fold4 (fun j => (u j : EReal)) l = ((fold4 u l : ℝ) : EReal) := by
  unfold fold4; push_cast; rfl
theorem fold2_coe (u : Fin 256 → ℝ) (l : Fin 128) : fold2 (fun j => (u j : EReal)) l = ((fold2 u l : ℝ) : EReal) := by
  unfold fold2; push_cast; rfl

variable {I : In} {b : Fin 2} {T : Fin 16} {x1 : Vec Ideal S1x512x512 .bf16} {x2 x3 : Vec Ideal S1x8192x512 .bf16} {x5 : Vec Ideal S4x1x512x1024 .f32}

theorem expFar_wt (hp : Holds I b T x1 x2 x3 x5) (h : Fin 4) (n : Fin 2) (m : ℕ) (hm : m + 1 < T.val) (r j : Fin 512) :
    (expFar (pair (part x1 h)) (tile x2 h m) (ix2 (two512 n r) j) : EReal) = (wAt I b h n (row T r) (512 * m + j) : EReal) := by
  have := far_wt hp h n m hm r j
  rw [expFar_sc, exp2_eq this.2, this.1]

theorem expNear_wt (hp : Holds I b T x1 x2 x3 x5) (v0 : BitVec 1) (h1 : 0 < T.val → v0 = 1#1) (h0 : T.val = 0 → v0 = 0#1) (h : Fin 4) (n : Fin 2) (r j : Fin 512) :
    (expNear v0 (pair (part x1 h)) (tile x2 h (T.val - 1)) (nearBias x5 h) (ix2 (two512 n r) j) : EReal) = ((if 0 < T.val then wAt I b h n (row T r) (512 * (T.val - 1) + j) else 0 : ℝ) : EReal) := by
  have := near_wt hp v0 h1 h0 h n r j
  rw [expNear_sc, exp2_eq this.2, this.1]

theorem expUp_wt (hp : Holds I b T x1 x2 x3 x5) (h : Fin 4) (n : Fin 2) (r j : Fin 256) :
    (expUp (part x1 h) (top256 (tile x2 h T.val)) (upBias (diagBias x5 h)) (ix2 (two256 n r) j) : EReal) = (wAt I b h n (row T ⟨r.val, by omega⟩) (512 * T.val + j) : EReal) := by
  have := diag_wt hp h n ⟨r.val, by omega⟩ ⟨j.val, by omega⟩
  rw [expUp_sc, exp2_eq this.2, this.1]

theorem expLow_wt (hp : Holds I b T x1 x2 x3 x5) (h : Fin 4) (n : Fin 2) (r : Fin 256) (j : Fin 512) :
    (expLow (part x1 h) (tile x2 h T.val) (lowBias (diagBias x5 h)) (ix2 (two256 n r) j) : EReal) = (wAt I b h n (row T ⟨256 + r.val, by omega⟩) (512 * T.val + j) : EReal) := by
  have := diag_wt hp h n ⟨256 + r.val, by omega⟩ j
  rw [expLow_sc, exp2_eq this.2, this.1]

theorem far_lane (hp : Holds I b T x1 x2 x3 x5) (h : Fin 4) (n : Fin 2) (m : ℕ) (hm : m + 1 < T.val) (r : Fin 512) (l : Fin 128) :
    (rowsOf n (lanes4 (expFar (pair (part x1 h)) (tile x2 h m))) (ix2 r l) : EReal) = ((fold4 (fun j : Fin 512 => wAt I b h n (row T r) (512 * m + j)) l : ℝ) : EReal) := by
  rw [rowsOf_at, lanes4_at, ← fold4_coe]
  simp only [expFar_wt hp h n m hm]

theorem far_value (hp : Holds I b T x1 x2 x3 x5) (h : Fin 4) (n : Fin 2) (m : ℕ) (hm : m + 1 < T.val) (r : Fin 512) (e : Fin 128) :
    (rowsOf n (weighted (expFar (pair (part x1 h)) (tile x2 h m)) (tile x3 h m)) (ix2 r e) : EReal) = ((∑ j : Fin 512, wAt I b h n (row T r) (512 * m + j) * vAt I b h e (512 * m + j) : ℝ) : EReal) := by
  rw [rowsOf_at, weighted_at, coe_sum]
  exact Finset.sum_congr rfl fun j _ => by rw [expFar_wt hp h n m hm, val_real hp h m (by omega), ← EReal.coe_mul]

theorem near_lane (hp : Holds I b T x1 x2 x3 x5) (v0 : BitVec 1) (h1 : 0 < T.val → v0 = 1#1) (h0 : T.val = 0 → v0 = 0#1) (h : Fin 4) (n : Fin 2) (r : Fin 512) (l : Fin 128) :
    (rowsOf n (lanes4 (expNear v0 (pair (part x1 h)) (tile x2 h (T.val - 1)) (nearBias x5 h))) (ix2 r l) : EReal)
      = ((fold4 (fun j : Fin 512 => if 0 < T.val then wAt I b h n (row T r) (512 * (T.val - 1) + j) else 0) l : ℝ) : EReal) := by
  rw [rowsOf_at, lanes4_at, ← fold4_coe]
  simp only [expNear_wt hp v0 h1 h0 h n]

theorem near_value (hp : Holds I b T x1 x2 x3 x5) (v0 : BitVec 1) (h1 : 0 < T.val → v0 = 1#1) (h0 : T.val = 0 → v0 = 0#1) (h : Fin 4) (n : Fin 2) (r : Fin 512) (e : Fin 128) :
    (rowsOf n (weighted (expNear v0 (pair (part x1 h)) (tile x2 h (T.val - 1)) (nearBias x5 h)) (tile x3 h (T.val - 1))) (ix2 r e) : EReal)
      = ((∑ j : Fin 512, (if 0 < T.val then wAt I b h n (row T r) (512 * (T.val - 1) + j) else 0) * vAt I b h e (512 * (T.val - 1) + j) : ℝ) : EReal) := by
  rw [rowsOf_at, weighted_at, coe_sum]
  exact Finset.sum_congr rfl fun j _ => by rw [expNear_wt hp v0 h1 h0 h n, val_real hp h _ (by omega), ← EReal.coe_mul]

/-- What the queries' own tile adds to a row: the upper rows reach the first half of the keys only. -/
def ownOf (up low : FVec Ideal S512x128 .f32) (n : Fin 2) (r : Fin 512) (l : Fin 128) : EReal :=
  if hr : r.val < 256 then up (ix2 (two256 n ⟨r.val, hr⟩) l) else low (ix2 (two256 n ⟨r.val - 256, by omega⟩) l)

theorem wAt_upper (h : Fin 4) (n : Fin 2) (r : Fin 512) (hr : r.val < 256) (j : ℕ) (hj : 256 ≤ j) : wAt I b h n (row T r) (512 * T.val + j) = 0 := by
  unfold wAt
  split
  · unfold w; rw [if_neg]; simp only [row]; omega
  · rfl

/-- The own tile's lane sums of a row, as they are added. -/
def ownLane (I : In) (b : Fin 2) (T : Fin 16) (h : Fin 4) (n : Fin 2) (r : Fin 512) (l : Fin 128) : ℝ :=
  if r.val < 256 then fold2 (fun j : Fin 256 => wAt I b h n (row T r) (512 * T.val + j)) l else fold4 (fun j : Fin 512 => wAt I b h n (row T r) (512 * T.val + j)) l

theorem own_lane (hp : Holds I b T x1 x2 x3 x5) (h : Fin 4) (n : Fin 2) (r : Fin 512) (l : Fin 128) :
    ownOf (lanes2 (expUp (part x1 h) (top256 (tile x2 h T.val)) (upBias (diagBias x5 h)))) (lanes4Low (expLow (part x1 h) (tile x2 h T.val) (lowBias (diagBias x5 h)))) n r l = (ownLane I b T h n r l : EReal) := by
  unfold ownOf ownLane
  by_cases hr : r.val < 256
  · rw [dif_pos hr, if_pos hr, lanes2_at, ← fold2_coe]
    simp only [expUp_wt hp h n]
  · rw [dif_neg hr, if_neg hr, lanes4Low_at, ← fold4_coe]
    simp only [expLow_wt hp h n]
    rw [show (⟨256 + (r.val - 256), by omega⟩ : Fin 512) = r from Fin.ext (by simp only; omega)]

theorem sum_half (f : ℕ → ℝ) (hf : ∀ j, 256 ≤ j → f j = 0) : ∑ j : Fin 256, f j = ∑ j : Fin 512, f j := by
  rw [show ∑ j : Fin 512, f j = ∑ x : Fin 256, f x.val + ∑ x : Fin 256, f (256 + x.val) from Fin.sum_univ_add (a := 256) (b := 256) fun j : Fin 512 => f j.val]
  rw [Finset.sum_eq_zero (s := Finset.univ) (f := fun x : Fin 256 => f (256 + x.val)) fun x _ => hf _ (by omega), add_zero]

theorem sum_ownLane (h : Fin 4) (n : Fin 2) (r : Fin 512) : ∑ l, ownLane I b T h n r l = ∑ j : Fin 512, wAt I b h n (row T r) (512 * T.val + j) := by
  unfold ownLane
  by_cases hr : r.val < 256
  · simp only [if_pos hr]
    rw [sum_fold2]; exact sum_half (fun j => wAt I b h n (row T r) (512 * T.val + j)) fun j hj => wAt_upper h n r hr j hj
  · simp only [if_neg hr]; rw [sum_fold4]

theorem own_value (hp : Holds I b T x1 x2 x3 x5) (h : Fin 4) (n : Fin 2) (r : Fin 512) (e : Fin 128) :
    ownOf (weightedUp (expUp (part x1 h) (top256 (tile x2 h T.val)) (upBias (diagBias x5 h))) (top256 (tile x3 h T.val))) (weightedLow (expLow (part x1 h) (tile x2 h T.val) (lowBias (diagBias x5 h))) (tile x3 h T.val)) n r e
      = ((∑ j : Fin 512, wAt I b h n (row T r) (512 * T.val + j) * vAt I b h e (512 * T.val + j) : ℝ) : EReal) := by
  unfold ownOf
  by_cases hr : r.val < 256
  · rw [dif_pos hr, weightedUp_at, ← sum_half (fun j => wAt I b h n (row T r) (512 * T.val + j) * vAt I b h e (512 * T.val + j)) fun j hj => by rw [wAt_upper h n r hr j hj, zero_mul], coe_sum]
    refine Finset.sum_congr rfl fun j _ => ?_
    rw [expUp_wt hp h n, show top256 (tile x3 h T.val) (ix3 0 j e) = tile x3 h T.val (ix3 0 (⟨j.val, by omega⟩ : Fin 512) e) from rfl, val_real hp h _ T.isLt, ← EReal.coe_mul]
  · rw [dif_neg hr, weightedLow_at, coe_sum]
    refine Finset.sum_congr rfl fun j _ => ?_
    rw [expLow_wt hp h n, val_real hp h _ T.isLt, ← EReal.coe_mul, show (⟨256 + ((⟨r.val - 256, by omega⟩ : Fin 256)).val, by simp only; omega⟩ : Fin 512) = r from Fin.ext (by simp only; omega)]

end Cert.KernelIdeal.Val

end
-- ==== Proof.Buffer.lean ====
module

public import proofs.«01_k».proof.Proof.Bound
public import proofs.«01_k».proof.Proof.Lanes
public import Idealize.ShloMosaic.Lib.WritesUnit

@[expose] public section

set_option maxRecDepth 16384

noncomputable section

/-! The two buffers, read an entry at a time after the stores. -/

namespace Cert.KernelIdeal.Val

open Cert.KernelIdeal Cert.KernelIdeal.Gen Cert.KernelIdeal.Run
open Idealize.ShloMosaic Idealize.ShloMosaic.TcCoe

section

variable (A : Memref sig .tc .vmem S4x2x512x128 .f32)

/-- An entry of a buffer. -/
def rd (f : BufTy.Contents (Elt Ideal) A.view.ty) (h : Fin 4) (m : Fin 2) (r : Fin 512) (l : Fin 128) : EReal := A.view.read (Elt Ideal) f (ix4 h m r l)

theorem rd_512 (f : BufTy.Contents (Elt Ideal) A.view.ty) (h : Fin 4) (m : Fin 2) (r : Fin 512) (l : Fin 128) :
    (View.readAt (Elt Ideal) A.view (rect512 h m).toLoadRect f (ix4 0 0 r l) : EReal) = rd A f h m r l := by
  refine congrArg (A.view.read (Elt Ideal) f) ?_
  funext a; apply Fin.ext
  match a with
  | ⟨0, _⟩ => show h.val + 1 * 0 = h.val; omega
  | ⟨1, _⟩ => show m.val + 1 * 0 = m.val; omega
  | ⟨2, _⟩ => show 0 + 1 * r.val = r.val; omega
  | ⟨3, _⟩ => show 0 + 1 * l.val = l.val; omega

theorem rd_256 (f : BufTy.Contents (Elt Ideal) A.view.ty) (h : Fin 4) (m a : Fin 2) (r : Fin 256) (l : Fin 128) :
    (View.readAt (Elt Ideal) A.view (rect256 h m a).toLoadRect f (ix4 0 0 r l) : EReal) = rd A f h m (two256 a r) l := by
  refine congrArg (A.view.read (Elt Ideal) f) ?_
  funext x; apply Fin.ext
  match x with
  | ⟨0, _⟩ => show h.val + 1 * 0 = h.val; omega
  | ⟨1, _⟩ => show m.val + 1 * 0 = m.val; omega
  | ⟨2, _⟩ => show 256 * a.val + 1 * r.val = 256 * a.val + r.val; omega
  | ⟨3, _⟩ => show 0 + 1 * l.val = l.val; omega

theorem rd_cons512 (f : BufTy.Contents (Elt Ideal) A.view.ty) (h' : Fin 4) (m' : Fin 2) (w : FVec Ideal S1x1x512x128 .f32) (L : List Store) (h : Fin 4) (m : Fin 2) (r : Fin 512) (l : Fin 128) :
    rd A (A.view.writes (Elt Ideal) f (⟨rect512 h' m', w⟩ :: L)) h m r l = if h = h' ∧ m = m' then w (ix4 0 0 r l) else rd A (A.view.writes (Elt Ideal) f L) h m r l := by
  split
  · rename_i hh
    obtain ⟨rfl, rfl⟩ := hh
    refine View.read_writes_cons_unit_of_mem A.view f (inb512 h m) w L (ix4 h m r l) (ix4 (0 : Fin 1) (0 : Fin 1) r l) rfl fun a => ?_
    match a with
    | ⟨0, _⟩ => show h.val = h.val + 0; omega
    | ⟨1, _⟩ => show m.val = m.val + 0; omega
    | ⟨2, _⟩ => show r.val = 0 + r.val; omega
    | ⟨3, _⟩ => show l.val = 0 + l.val; omega
  · rename_i hh
    by_cases e : h = h'
    · have hm : m ≠ m' := fun hm => hh ⟨e, hm⟩
      refine View.read_writes_cons_unit_of_not_mem A.view f (inb512 h' m') w L (ix4 h m r l) rfl (1 : Fin 4) ?_
      show m.val < m'.val ∨ m'.val + 1 ≤ m.val
      have : m.val ≠ m'.val := fun hc => hm (Fin.ext hc)
      omega
    · refine View.read_writes_cons_unit_of_not_mem A.view f (inb512 h' m') w L (ix4 h m r l) rfl (0 : Fin 4) ?_
      show h.val < h'.val ∨ h'.val + 1 ≤ h.val
      have : h.val ≠ h'.val := fun hc => e (Fin.ext hc)
      omega

theorem rd_eight (f : BufTy.Contents (Elt Ideal) A.view.ty) (d : Fin 4 → Fin 2 → FVec Ideal S1x1x512x128 .f32) (h : Fin 4) (m : Fin 2) (r : Fin 512) (l : Fin 128) :
    rd A (A.view.writes (Elt Ideal) f (eight d)) h m r l = d h m (ix4 0 0 r l) := by
  unfold eight
  rw [rd_cons512, rd_cons512, rd_cons512, rd_cons512, rd_cons512, rd_cons512, rd_cons512, rd_cons512]
  fin_cases h <;> fin_cases m <;> rfl

theorem rd_far8 (f : BufTy.Contents (Elt Ideal) A.view.ty) (d : Fin 4 → Fin 2 → FVec Ideal S512x128 .f32) (h : Fin 4) (m : Fin 2) (r : Fin 512) (l : Fin 128) :
    rd A (A.view.writes (Elt Ideal) f (far8 A f d)) h m r l = rd A f h m r l + (d h m (ix2 r l) : EReal) := by
  unfold far8
  rw [rd_eight, plus512_at, rd_512]

/-- What a list of stores leaves. -/
abbrev after (L : List Store) : BufTy.Contents (Elt Ideal) A.view.ty := A.view.writes (Elt Ideal) A.view.junk L

theorem rd_add256 (L : List Store) (h' : Fin 4) (m' a : Fin 2) (d : FVec Ideal S256x128 .f32) (h : Fin 4) (m : Fin 2) (c : Fin 2) (r : Fin 256) (l : Fin 128) :
    rd A (after A (add256 A L h' m' a d)) h m (two256 c r) l = rd A (after A L) h m (two256 c r) l + if h = h' ∧ m = m' ∧ c = a then (d (ix2 r l) : EReal) else 0 := by
  unfold add256
  split
  · rename_i hh
    obtain ⟨rfl, rfl, rfl⟩ := hh
    have e := View.read_writes_cons_unit_of_mem A.view A.view.junk (inb256 h m c) (plus256 (A.view.readCov L (rect256 h m c).toLoadRect) d) L (ix4 h m (two256 c r) l) (ix4 (0 : Fin 1) (0 : Fin 1) r l) rfl fun x => by
      match x with
      | ⟨0, _⟩ => show h.val = h.val + 0; omega
      | ⟨1, _⟩ => show m.val = m.val + 0; omega
      | ⟨2, _⟩ => show 256 * c.val + r.val = 256 * c.val + r.val; rfl
      | ⟨3, _⟩ => show l.val = 0 + l.val; omega
    refine e.trans ((plus256_at _ _ r l).trans ?_)
    exact congrArg (fun z : EReal => z + (d (ix2 r l) : EReal)) (rd_256 A (after A L) h m c r l)
  · rename_i hh
    rw [add_zero]
    by_cases e : h = h'
    · by_cases e' : m = m'
      · have hc : c ≠ a := fun hc => hh ⟨e, e', hc⟩
        refine View.read_writes_cons_unit_of_not_mem A.view A.view.junk (inb256 h' m' a) _ L (ix4 h m (two256 c r) l) rfl (2 : Fin 4) ?_
        show 256 * c.val + r.val < 256 * a.val ∨ 256 * a.val + 256 ≤ 256 * c.val + r.val
        have : c.val ≠ a.val := fun hc' => hc (Fin.ext hc')
        omega
      · refine View.read_writes_cons_unit_of_not_mem A.view A.view.junk (inb256 h' m' a) _ L (ix4 h m (two256 c r) l) rfl (1 : Fin 4) ?_
        show m.val < m'.val ∨ m'.val + 1 ≤ m.val
        have : m.val ≠ m'.val := fun hc => e' (Fin.ext hc)
        omega
    · refine View.read_writes_cons_unit_of_not_mem A.view A.view.junk (inb256 h' m' a) _ L (ix4 h m (two256 c r) l) rfl (0 : Fin 4) ?_
      show h.val < h'.val ∨ h'.val + 1 ≤ h.val
      have : h.val ≠ h'.val := fun hc => e (Fin.ext hc)
      omega

theorem rd_own4 (L : List Store) (h' : Fin 4) (up low : FVec Ideal S512x128 .f32) (h : Fin 4) (m : Fin 2) (r : Fin 512) (l : Fin 128) :
    rd A (after A (own4 A L h' up low)) h m r l = rd A (after A L) h m r l + if h = h' then ownOf up low m r l else 0 := by
  unfold own4 ownOf
  by_cases hr : r.val < 256
  · have e : r = two256 0 ⟨r.val, hr⟩ := Fin.ext (by simp [two256])
    rw [dif_pos hr]
    conv_lhs => rw [e]
    conv_rhs => rw [show rd A (after A L) h m r l = rd A (after A L) h m (two256 0 ⟨r.val, hr⟩) l from congrArg (fun z => rd A (after A L) h m z l) e]
    simp only [rd_add256, halfOf_at]
    fin_cases m <;> by_cases hh : h = h' <;> simp [hh]
  · have e : r = two256 1 ⟨r.val - 256, by omega⟩ := Fin.ext (by simp [two256]; omega)
    rw [dif_neg hr]
    conv_lhs => rw [e]
    conv_rhs => rw [show rd A (after A L) h m r l = rd A (after A L) h m (two256 1 ⟨r.val - 256, by omega⟩) l from congrArg (fun z => rd A (after A L) h m z l) e]
    simp only [rd_add256, halfOf_at]
    fin_cases m <;> by_cases hh : h = h' <;> simp [hh]

end

end Cert.KernelIdeal.Val

end
-- ==== Proof.Total.lean ====
module

public import proofs.«01_k».proof.Proof.Buffer

@[expose] public section

set_option maxRecDepth 16384

noncomputable section

/-! A head whose scores are bounded: what the two buffers hold at the end, and their quotients. -/

namespace Cert.KernelIdeal.Val

open Cert.KernelIdeal Cert.KernelIdeal.Gen Cert.KernelIdeal.Run Cert.Weights Cert.Spec
open Idealize.ShloMosaic Idealize.ShloMosaic.TcCoe

variable (c : Dev nD) (i : grid0.Coords)
  (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x512x512 .bf16) (harg7 : arg7.IsWhole) (arg8 : Memref sig .tc .vmem S4x1x512x1024 .f32) (harg8 : arg8.IsWhole) (arg9 : Memref sig .tc .vmem S4x64 .f32) (harg9 : arg9.IsWhole) (arg10 : Memref sig .tc .vmem S1x128 .f32) (harg10 : arg10.IsWhole) (arg11 : Memref sig .tc .vmem S1x512x512 .bf16) (harg11 : arg11.IsWhole) (arg12 : Memref sig .tc .vmem S4x2x512x128 .f32) (harg12 : arg12.IsWhole) (arg13 : Memref sig .tc .vmem S4x2x512x128 .f32) (harg13 : arg13.IsWhole)
  (x1 : Vec Ideal S1x512x512 .bf16) (x2 : Vec Ideal S1x8192x512 .bf16) (x3 : Vec Ideal S1x8192x512 .bf16) (x4 : Vec Ideal S1x512x512 .bf16) (x5 : Vec Ideal S4x1x512x1024 .f32) (x6 : Vec Ideal S4x64 .f32) (x7 : Vec Ideal S1x128 .f32)

/-! ### The blocks read -/

theorem partR_eq (A : Memref sig .tc .vmem S1x512x512 .bf16) (hA : A.IsWhole) (x : Vec Ideal S1x512x512 .bf16) : partR A hA x = part x := by
  funext h
  match h with
  | 0 => exact part_read hA x 0 ![0, 0, 0] _ rfl
  | 1 => exact part_read hA x 1 ![0, 0, 128] _ rfl
  | 2 => exact part_read hA x 2 ![0, 0, 256] _ rfl
  | 3 => exact part_read hA x 3 ![0, 0, 384] _ rfl

theorem offFar : ∀ (i : grid0.Coords) (k : Fin (k0_t1_loop i).trips), k0_off5 i k = ![0, 512 * k.val, 0 * 128] ∧ k0_off6 i k = ![0, 512 * k.val, 1 * 128] ∧ k0_off7 i k = ![0, 512 * k.val, 2 * 128] ∧ k0_off8 i k = ![0, 512 * k.val, 3 * 128] := by decide +kernel
theorem offNear : ∀ i : grid0.Coords, k0_off1 i = ![0, 512 * ((i 2).val - 1), 0 * 128] ∧ k0_off2 i = ![0, 512 * ((i 2).val - 1), 1 * 128] ∧ k0_off3 i = ![0, 512 * ((i 2).val - 1), 2 * 128] ∧ k0_off4 i = ![0, 512 * ((i 2).val - 1), 3 * 128] := by decide +kernel
theorem offUp : ∀ i : grid0.Coords, k0_off13 i = ![0, 512 * (i 2).val, 0 * 128] ∧ k0_off15 i = ![0, 512 * (i 2).val, 1 * 128] ∧ k0_off17 i = ![0, 512 * (i 2).val, 2 * 128] ∧ k0_off19 i = ![0, 512 * (i 2).val, 3 * 128] := by decide +kernel
theorem offLow : ∀ i : grid0.Coords, k0_off14 i = ![0, 512 * (i 2).val, 0 * 128] ∧ k0_off16 i = ![0, 512 * (i 2).val, 1 * 128] ∧ k0_off18 i = ![0, 512 * (i 2).val, 2 * 128] ∧ k0_off20 i = ![0, 512 * (i 2).val, 3 * 128] := by decide +kernel
theorem trips1 : ∀ i : grid0.Coords, (k0_t1_loop i).trips = (i 2).val - 1 ∧ (k0_t2_loop i).trips = 0 := by decide +kernel

theorem farR_eq (A : Memref sig .tc .vmem S1x8192x512 .bf16) (hA : A.IsWhole) (x : Vec Ideal S1x8192x512 .bf16) (k : Fin (k0_t1_loop i).trips) (hk : k.val < 16) : farR i A (hA.unread x) k = fun h => tile x h k.val := by
  have o := offFar i k
  funext h
  match h with
  | 0 => exact tile_read hA x 0 _ hk _ _ o.1
  | 1 => exact tile_read hA x 1 _ hk _ _ o.2.1
  | 2 => exact tile_read hA x 2 _ hk _ _ o.2.2.1
  | 3 => exact tile_read hA x 3 _ hk _ _ o.2.2.2
theorem nearR_eq (A : Memref sig .tc .vmem S1x8192x512 .bf16) (hA : A.IsWhole) (x : Vec Ideal S1x8192x512 .bf16) : nearR i A hA x = fun h => tile x h ((i 2).val - 1) := by
  have o := offNear i
  have hi : (i 2).val < 16 := (i 2).isLt
  have hk : (i 2).val - 1 < 16 := by omega
  funext h
  match h with
  | 0 => exact tile_read hA x 0 _ hk _ _ o.1
  | 1 => exact tile_read hA x 1 _ hk _ _ o.2.1
  | 2 => exact tile_read hA x 2 _ hk _ _ o.2.2.1
  | 3 => exact tile_read hA x 3 _ hk _ _ o.2.2.2
theorem lowR_eq (A : Memref sig .tc .vmem S1x8192x512 .bf16) (hA : A.IsWhole) (x : Vec Ideal S1x8192x512 .bf16) : lowR i A hA x = fun h => tile x h (i 2).val := by
  have o := offLow i
  have hk : (i 2).val < 16 := (i 2).isLt
  funext h
  match h with
  | 0 => exact tile_read hA x 0 _ hk _ _ o.1
  | 1 => exact tile_read hA x 1 _ hk _ _ o.2.1
  | 2 => exact tile_read hA x 2 _ hk _ _ o.2.2.1
  | 3 => exact tile_read hA x 3 _ hk _ _ o.2.2.2

theorem top_read {A : Memref sig .tc .vmem S1x8192x512 .bf16} (hA : A.IsWhole) (x : Vec Ideal S1x8192x512 .bf16) (h : Fin 4) (m : ℕ) (hm : m < 16) (off : Fin 3 → Nat) (inb)
    (ho : off = ![0, 512 * m, h.val * 128]) : View.readAt (Elt Ideal) A.view (Rect.unit (s := S1x8192x512) off S1x256x128.size inb).toLoadRect (hA.unread x) = top256 (tile x h m) := by
  subst ho
  funext y
  refine (Memref.IsWhole.readAt_unread hA x _ y).trans (congrArg x ?_)
  have h0 : (y 0).val < 1 := (y 0).isLt
  have h1 : (y 1).val < 256 := (y 1).isLt
  funext a; apply Fin.ext
  match a with
  | ⟨0, _⟩ => show 0 + 1 * (y 0).val = 0; omega
  | ⟨1, _⟩ => show 512 * m + 1 * (y 1).val = (512 * m + (y 1).val) % 8192; omega
  | ⟨2, _⟩ => show h.val * 128 + 1 * (y 2).val = h.val * 128 + (y 2).val; omega
theorem upR_eq (A : Memref sig .tc .vmem S1x8192x512 .bf16) (hA : A.IsWhole) (x : Vec Ideal S1x8192x512 .bf16) : upR i A hA x = fun h => top256 (tile x h (i 2).val) := by
  have o := offUp i
  have hk : (i 2).val < 16 := (i 2).isLt
  funext h
  match h with
  | 0 => exact top_read hA x 0 _ hk _ _ o.1
  | 1 => exact top_read hA x 1 _ hk _ _ o.2.1
  | 2 => exact top_read hA x 2 _ hk _ _ o.2.2.1
  | 3 => exact top_read hA x 3 _ hk _ _ o.2.2.2

theorem nearBiasR_eq : nearBiasR arg8 harg8 x5 = nearBias x5 := by
  funext h; exact nearBias_read harg8 x5 h ![h.val, 0, 0, 0] _ rfl
theorem upBiasR_eq : upBiasR arg8 harg8 x5 = fun h => upBias (diagBias x5 h) := by
  funext h y
  refine (Memref.IsWhole.readAt_unread harg8 x5 (Rect.unit (s := S4x1x512x1024) ![h.val, 0, 0, 512] S1x1x256x256.size (inbU h)).toLoadRect y).trans (congrArg x5 ?_)
  have h0 : (y 0).val < 1 := (y 0).isLt
  have h1 : (y 1).val < 1 := (y 1).isLt
  funext a; apply Fin.ext
  match a with
  | ⟨0, _⟩ => show h.val + 1 * (y 0).val = h.val; omega
  | ⟨1, _⟩ => show 0 + 1 * (y 1).val = 0; omega
  | ⟨2, _⟩ => show 0 + 1 * (y 2).val = (y 2).val; omega
  | ⟨3, _⟩ => show 512 + 1 * (y 3).val = 512 + (y 3).val; omega
theorem lowBiasR_eq : lowBiasR arg8 harg8 x5 = fun h => lowBias (diagBias x5 h) := by
  funext h y
  refine (Memref.IsWhole.readAt_unread harg8 x5 (Rect.unit (s := S4x1x512x1024) ![h.val, 0, 256, 512] S1x1x256x512.size (inbL h)).toLoadRect y).trans (congrArg x5 ?_)
  have h0 : (y 0).val < 1 := (y 0).isLt
  have h1 : (y 1).val < 1 := (y 1).isLt
  funext a; apply Fin.ext
  match a with
  | ⟨0, _⟩ => show h.val + 1 * (y 0).val = h.val; omega
  | ⟨1, _⟩ => show 0 + 1 * (y 1).val = 0; omega
  | ⟨2, _⟩ => show 256 + 1 * (y 2).val = 256 + (y 2).val; omega
  | ⟨3, _⟩ => show 512 + 1 * (y 3).val = 512 + (y 3).val; omega

/-! ### The far tiles' stores -/

theorem farL_succ (n : ℕ) (hn : n < (k0_t1_loop i).trips) : farL c i arg3 harg3 arg4 harg4 arg5 harg5 arg6 harg6 arg7 harg7 arg8 harg8 arg9 harg9 arg10 harg10 arg11 harg11 arg12 harg12 arg13 harg13 x1 x2 x3 x5 (n + 1)
    = (far8 arg12 (arg12.view.writes (Elt Ideal) (after arg12 (near0L i arg4 harg4 arg5 harg5 arg8 harg8 x1 x2 x5)) (farL c i arg3 harg3 arg4 harg4 arg5 harg5 arg6 harg6 arg7 harg7 arg8 harg8 arg9 harg9 arg10 harg10 arg11 harg11 arg12 harg12 arg13 harg13 x1 x2 x3 x5 n).1) (fun h m => rowsOf m (lanes4 (expFar (pair (part x1 h)) (tile x2 h n)))) ++ (farL c i arg3 harg3 arg4 harg4 arg5 harg5 arg6 harg6 arg7 harg7 arg8 harg8 arg9 harg9 arg10 harg10 arg11 harg11 arg12 harg12 arg13 harg13 x1 x2 x3 x5 n).1,
       far8 arg13 (arg13.view.writes (Elt Ideal) (after arg13 (near1L i arg4 harg4 arg5 harg5 arg6 harg6 arg8 harg8 x1 x2 x3 x5)) (farL c i arg3 harg3 arg4 harg4 arg5 harg5 arg6 harg6 arg7 harg7 arg8 harg8 arg9 harg9 arg10 harg10 arg11 harg11 arg12 harg12 arg13 harg13 x1 x2 x3 x5 n).2) (fun h m => rowsOf m (weighted (expFar (pair (part x1 h)) (tile x2 h n)) (tile x3 h n))) ++ (farL c i arg3 harg3 arg4 harg4 arg5 harg5 arg6 harg6 arg7 harg7 arg8 harg8 arg9 harg9 arg10 harg10 arg11 harg11 arg12 harg12 arg13 harg13 x1 x2 x3 x5 n).2) := by
  have hi : (i 2).val < 16 := (i 2).isLt
  have ht := trips1 i
  have e := trip1 c i arg3 harg3 arg4 harg4 arg5 harg5 arg6 harg6 arg7 harg7 arg8 harg8 arg9 harg9 arg10 harg10 arg11 harg11 arg12 harg12 arg13 harg13 0#32 (fun h => pair (partR arg4 harg4 x1 h)) (fun _ => Scalar.ofBits .bf16 0#16) (harg5.unread x2) (harg6.unread x3) ⟨n, hn⟩
    (arg12.view.writes (Elt Ideal) (after arg12 (near0L i arg4 harg4 arg5 harg5 arg8 harg8 x1 x2 x5)) (farL c i arg3 harg3 arg4 harg4 arg5 harg5 arg6 harg6 arg7 harg7 arg8 harg8 arg9 harg9 arg10 harg10 arg11 harg11 arg12 harg12 arg13 harg13 x1 x2 x3 x5 n).1) (arg13.view.writes (Elt Ideal) (after arg13 (near1L i arg4 harg4 arg5 harg5 arg6 harg6 arg8 harg8 x1 x2 x3 x5)) (farL c i arg3 harg3 arg4 harg4 arg5 harg5 arg6 harg6 arg7 harg7 arg8 harg8 arg9 harg9 arg10 harg10 arg11 harg11 arg12 harg12 arg13 harg13 x1 x2 x3 x5 n).2)
  rw [farR_eq i arg5 harg5 x2 ⟨n, hn⟩ (by simp only; omega), farR_eq i arg6 harg6 x3 ⟨n, hn⟩ (by simp only; omega)] at e
  have s : farL c i arg3 harg3 arg4 harg4 arg5 harg5 arg6 harg6 arg7 harg7 arg8 harg8 arg9 harg9 arg10 harg10 arg11 harg11 arg12 harg12 arg13 harg13 x1 x2 x3 x5 (n + 1) = _ := pb_k0_t1_succ (F := Ideal) Variants.none c none i arg3 harg3 arg4 harg4 arg5 harg5 arg6 harg6 arg7 harg7 arg8 harg8 arg9 harg9 arg10 harg10 arg11 harg11 arg12 harg12 arg13 harg13 0#32 _ _ _ _ _ _ _ _ _ _ ⟨n, hn⟩
  refine s.trans ((congrArg₂ Prod.mk (congrArg (fun z : List Store × List Store => z.1 ++ (farL c i arg3 harg3 arg4 harg4 arg5 harg5 arg6 harg6 arg7 harg7 arg8 harg8 arg9 harg9 arg10 harg10 arg11 harg11 arg12 harg12 arg13 harg13 x1 x2 x3 x5 n).1) e) (congrArg (fun z : List Store × List Store => z.2 ++ (farL c i arg3 harg3 arg4 harg4 arg5 harg5 arg6 harg6 arg7 harg7 arg8 harg8 arg9 harg9 arg10 harg10 arg11 harg11 arg12 harg12 arg13 harg13 x1 x2 x3 x5 n).2) e)).trans ?_)
  rw [partR_eq]

theorem farL_zero : farL c i arg3 harg3 arg4 harg4 arg5 harg5 arg6 harg6 arg7 harg7 arg8 harg8 arg9 harg9 arg10 harg10 arg11 harg11 arg12 harg12 arg13 harg13 x1 x2 x3 x5 0 = ([], []) := rfl

variable {I : In} {b : Fin 2}

/-- The tile the queries of a point are. -/
abbrev tileOf (i : grid0.Coords) : Fin 16 := ⟨(i 2).val, (i 2).isLt⟩

theorem near_flag : ∀ i : grid0.Coords, (0 < (tileOf i).val → hasNear i = 1#1) ∧ ((tileOf i).val = 0 → hasNear i = 0#1) := by decide +kernel

/-- A lane's sums over the tile before the queries' own and the first `n` far ones, and the values weighted. -/
def laneTo (I : In) (b : Fin 2) (T : Fin 16) (n : ℕ) (h : Fin 4) (m : Fin 2) (r : Fin 512) (l : Fin 128) : ℝ :=
  fold4 (fun j : Fin 512 => if 0 < T.val then wAt I b h m (row T r) (512 * (T.val - 1) + j) else 0) l + ∑ k ∈ Finset.range n, fold4 (fun j : Fin 512 => wAt I b h m (row T r) (512 * k + j)) l
def valueTo (I : In) (b : Fin 2) (T : Fin 16) (n : ℕ) (h : Fin 4) (m : Fin 2) (r : Fin 512) (e : Fin 128) : ℝ :=
  ∑ j : Fin 512, (if 0 < T.val then wAt I b h m (row T r) (512 * (T.val - 1) + j) else 0) * vAt I b h e (512 * (T.val - 1) + j) + ∑ k ∈ Finset.range n, ∑ j : Fin 512, wAt I b h m (row T r) (512 * k + j) * vAt I b h e (512 * k + j)

theorem writes_nil (A : Memref sig .tc .vmem S4x2x512x128 .f32) (f : BufTy.Contents (Elt Ideal) A.view.ty) : A.view.writes (Elt Ideal) f [] = f := rfl

theorem far_rd (hp : Holds I b (tileOf i) x1 x2 x3 x5) : ∀ n : ℕ, n ≤ (k0_t1_loop i).trips →
    (∀ h m r l, rd arg12 (arg12.view.writes (Elt Ideal) (after arg12 (near0L i arg4 harg4 arg5 harg5 arg8 harg8 x1 x2 x5)) (farL c i arg3 harg3 arg4 harg4 arg5 harg5 arg6 harg6 arg7 harg7 arg8 harg8 arg9 harg9 arg10 harg10 arg11 harg11 arg12 harg12 arg13 harg13 x1 x2 x3 x5 n).1) h m r l = (laneTo I b (tileOf i) n h m r l : EReal))
    ∧ (∀ h m r l, rd arg13 (arg13.view.writes (Elt Ideal) (after arg13 (near1L i arg4 harg4 arg5 harg5 arg6 harg6 arg8 harg8 x1 x2 x3 x5)) (farL c i arg3 harg3 arg4 harg4 arg5 harg5 arg6 harg6 arg7 harg7 arg8 harg8 arg9 harg9 arg10 harg10 arg11 harg11 arg12 harg12 arg13 harg13 x1 x2 x3 x5 n).2) h m r l = (valueTo I b (tileOf i) n h m r l : EReal))
  | 0, _ => by
    have hf := near_flag i
    constructor
    · intro h m r l
      rw [farL_zero, writes_nil]
      unfold near0L laneTo
      rw [after, rd_eight, put512_at, partR_eq, nearR_eq, nearBiasR_eq, Finset.range_zero, Finset.sum_empty, add_zero]
      exact near_lane hp (hasNear i) hf.1 hf.2 h m r l
    · intro h m r l
      rw [farL_zero, writes_nil]
      unfold near1L valueTo
      rw [after, rd_eight, put512_at, partR_eq, nearR_eq, nearR_eq, nearBiasR_eq, Finset.range_zero, Finset.sum_empty, add_zero]
      exact near_value hp (hasNear i) hf.1 hf.2 h m r l
  | n + 1, hn => by
    have ih := far_rd hp n (by omega)
    have ht := trips1 i
    have hm : n + 1 < (tileOf i).val := by show n + 1 < (i 2).val; omega
    rw [farL_succ c i arg3 harg3 arg4 harg4 arg5 harg5 arg6 harg6 arg7 harg7 arg8 harg8 arg9 harg9 arg10 harg10 arg11 harg11 arg12 harg12 arg13 harg13 x1 x2 x3 x5 n (by omega)]
    constructor
    · intro h m r l
      rw [View.writes_append, rd_far8, ih.1, far_lane hp h m n hm r l, ← EReal.coe_add]
      unfold laneTo; rw [Finset.sum_range_succ, add_assoc]
    · intro h m r l
      rw [View.writes_append, rd_far8, ih.2, far_value hp h m n hm r l, ← EReal.coe_add]
      unfold valueTo; rw [Finset.sum_range_succ, add_assoc]

theorem lastL_eq : lastL c i arg3 harg3 arg4 harg4 arg5 harg5 arg6 harg6 arg7 harg7 arg8 harg8 arg9 harg9 arg10 harg10 arg11 harg11 arg12 harg12 arg13 harg13 x1 x2 x3 x5 = ([], []) := by
  have e : Scf.trips (k0_t2_loop i).lb (k0_t2_loop i).ub (k0_t2_loop i).st = 0 := (trips1 i).2
  unfold lastL
  rw [e]; rfl

theorem all_rd (hp : Holds I b (tileOf i) x1 x2 x3 x5) :
    (∀ h m r l, rd arg12 (after arg12 ((lastL c i arg3 harg3 arg4 harg4 arg5 harg5 arg6 harg6 arg7 harg7 arg8 harg8 arg9 harg9 arg10 harg10 arg11 harg11 arg12 harg12 arg13 harg13 x1 x2 x3 x5).1 ++ far0All c i arg3 harg3 arg4 harg4 arg5 harg5 arg6 harg6 arg7 harg7 arg8 harg8 arg9 harg9 arg10 harg10 arg11 harg11 arg12 harg12 arg13 harg13 x1 x2 x3 x5)) h m r l = (laneTo I b (tileOf i) ((i 2).val - 1) h m r l : EReal))
    ∧ (∀ h m r l, rd arg13 (after arg13 ((lastL c i arg3 harg3 arg4 harg4 arg5 harg5 arg6 harg6 arg7 harg7 arg8 harg8 arg9 harg9 arg10 harg10 arg11 harg11 arg12 harg12 arg13 harg13 x1 x2 x3 x5).2 ++ far1All c i arg3 harg3 arg4 harg4 arg5 harg5 arg6 harg6 arg7 harg7 arg8 harg8 arg9 harg9 arg10 harg10 arg11 harg11 arg12 harg12 arg13 harg13 x1 x2 x3 x5)) h m r l = (valueTo I b (tileOf i) ((i 2).val - 1) h m r l : EReal)) := by
  have e' : Scf.trips (k0_t1_loop i).lb (k0_t1_loop i).ub (k0_t1_loop i).st = (i 2).val - 1 := (trips1 i).1
  have f := far_rd c i arg3 harg3 arg4 harg4 arg5 harg5 arg6 harg6 arg7 harg7 arg8 harg8 arg9 harg9 arg10 harg10 arg11 harg11 arg12 harg12 arg13 harg13 x1 x2 x3 x5 hp ((i 2).val - 1) (le_of_eq (trips1 i).1.symm)
  rw [lastL_eq, List.nil_append, List.nil_append]
  unfold far0All far1All
  rw [e', after, after, View.writes_append, View.writes_append]
  exact f

/-! ### The queries' own tile, and the quotients -/

theorem rd_hit (A : Memref sig .tc .vmem S4x2x512x128 .f32) (L : List Store) (h : Fin 4) (up low : FVec Ideal S512x128 .f32) (m : Fin 2) (r : Fin 512) (l : Fin 128) :
    rd A (after A (own4 A L h up low)) h m r l = rd A (after A L) h m r l + ownOf up low m r l := by
  rw [rd_own4, if_pos rfl]
theorem rd_skip (A : Memref sig .tc .vmem S4x2x512x128 .f32) (L : List Store) (h' h : Fin 4) (up low : FVec Ideal S512x128 .f32) (m : Fin 2) (r : Fin 512) (l : Fin 128) (hh : h ≠ h') :
    rd A (after A (own4 A L h' up low)) h m r l = rd A (after A L) h m r l := by
  rw [rd_own4, if_neg hh, add_zero]

theorem rd_own0L (L : List Store) (h : Fin 4) (m : Fin 2) (r : Fin 512) (l : Fin 128) :
    rd arg12 (after arg12 (own0L i arg4 harg4 arg5 harg5 arg8 harg8 arg12 x1 x2 x5 L (h.val + 1))) h m r l = rd arg12 (after arg12 L) h m r l
      + ownOf (lanes2 (expUp (part x1 h) (top256 (tile x2 h (i 2).val)) (upBias (diagBias x5 h)))) (lanes4Low (expLow (part x1 h) (tile x2 h (i 2).val) (lowBias (diagBias x5 h)))) m r l := by
  have e : rd arg12 (after arg12 (own0L i arg4 harg4 arg5 harg5 arg8 harg8 arg12 x1 x2 x5 L (h.val + 1))) h m r l = rd arg12 (after arg12 L) h m r l
      + ownOf (lanes2 (expUp (partR arg4 harg4 x1 h) (upR i arg5 harg5 x2 h) (upBiasR arg8 harg8 x5 h))) (lanes4Low (expLow (partR arg4 harg4 x1 h) (lowR i arg5 harg5 x2 h) (lowBiasR arg8 harg8 x5 h))) m r l := by
    match h with
    | 0 => exact rd_hit _ _ 0 _ _ m r l
    | 1 => exact (rd_hit _ _ 1 _ _ m r l).trans (congrArg (· + _) (rd_skip _ _ 0 1 _ _ m r l (by decide)))
    | 2 => exact (rd_hit _ _ 2 _ _ m r l).trans (congrArg (· + _) ((rd_skip _ _ 1 2 _ _ m r l (by decide)).trans (rd_skip _ _ 0 2 _ _ m r l (by decide))))
    | 3 => exact (rd_hit _ _ 3 _ _ m r l).trans (congrArg (· + _) ((rd_skip _ _ 2 3 _ _ m r l (by decide)).trans ((rd_skip _ _ 1 3 _ _ m r l (by decide)).trans (rd_skip _ _ 0 3 _ _ m r l (by decide)))))
  rw [partR_eq, upR_eq, lowR_eq, upBiasR_eq, lowBiasR_eq] at e
  exact e

theorem rd_own1L (L : List Store) (h : Fin 4) (m : Fin 2) (r : Fin 512) (l : Fin 128) :
    rd arg13 (after arg13 (own1L i arg4 harg4 arg5 harg5 arg6 harg6 arg8 harg8 arg13 x1 x2 x3 x5 L (h.val + 1))) h m r l = rd arg13 (after arg13 L) h m r l
      + ownOf (weightedUp (expUp (part x1 h) (top256 (tile x2 h (i 2).val)) (upBias (diagBias x5 h))) (top256 (tile x3 h (i 2).val))) (weightedLow (expLow (part x1 h) (tile x2 h (i 2).val) (lowBias (diagBias x5 h))) (tile x3 h (i 2).val)) m r l := by
  have e : rd arg13 (after arg13 (own1L i arg4 harg4 arg5 harg5 arg6 harg6 arg8 harg8 arg13 x1 x2 x3 x5 L (h.val + 1))) h m r l = rd arg13 (after arg13 L) h m r l
      + ownOf (weightedUp (expUp (partR arg4 harg4 x1 h) (upR i arg5 harg5 x2 h) (upBiasR arg8 harg8 x5 h)) (upR i arg6 harg6 x3 h)) (weightedLow (expLow (partR arg4 harg4 x1 h) (lowR i arg5 harg5 x2 h) (lowBiasR arg8 harg8 x5 h)) (lowR i arg6 harg6 x3 h)) m r l := by
    match h with
    | 0 => exact rd_hit _ _ 0 _ _ m r l
    | 1 => exact (rd_hit _ _ 1 _ _ m r l).trans (congrArg (· + _) (rd_skip _ _ 0 1 _ _ m r l (by decide)))
    | 2 => exact (rd_hit _ _ 2 _ _ m r l).trans (congrArg (· + _) ((rd_skip _ _ 1 2 _ _ m r l (by decide)).trans (rd_skip _ _ 0 2 _ _ m r l (by decide))))
    | 3 => exact (rd_hit _ _ 3 _ _ m r l).trans (congrArg (· + _) ((rd_skip _ _ 2 3 _ _ m r l (by decide)).trans ((rd_skip _ _ 1 3 _ _ m r l (by decide)).trans (rd_skip _ _ 0 3 _ _ m r l (by decide)))))
  rw [partR_eq, upR_eq, upR_eq, lowR_eq, lowR_eq, upBiasR_eq, lowBiasR_eq] at e
  exact e

theorem lane_total (T : Fin 16) (h : Fin 4) (m : Fin 2) (r : Fin 512) : ∑ l : Fin 128, (laneTo I b T (T.val - 1) h m r l + ownLane I b T h m r l) = W I b h m (row T r) := by
  rw [← overTiles_W, Finset.sum_add_distrib, sum_ownLane]
  unfold laneTo overTiles
  rw [Finset.sum_add_distrib, sum_fold4, Finset.sum_comm]
  simp only [sum_fold4]
  ring

theorem value_total (T : Fin 16) (h : Fin 4) (m : Fin 2) (r : Fin 512) (e : Fin 128) :
    valueTo I b T (T.val - 1) h m r e + ∑ j : Fin 512, wAt I b h m (row T r) (512 * T.val + j) * vAt I b h e (512 * T.val + j) = A I b h m (row T r) e := by
  rw [← overTiles_A]
  unfold valueTo overTiles
  simp only [ite_mul, zero_mul]
  ring

theorem sums_total (hp : Holds I b (tileOf i) x1 x2 x3 x5) (L : List Store) (hL : ∀ h m r l, rd arg12 (after arg12 L) h m r l = (laneTo I b (tileOf i) ((i 2).val - 1) h m r l : EReal)) (h : Fin 4) (m : Fin 2) (r : Fin 512) :
    (sums (arg12.view.readCov (own0L i arg4 harg4 arg5 harg5 arg8 harg8 arg12 x1 x2 x5 L (h.val + 1)) (rect512 h m).toLoadRect) (ix2 r 0) : EReal) = (W I b h m (row (tileOf i) r) : EReal) := by
  rw [sums_at, ← lane_total (tileOf i) h m r, coe_sum]
  refine Finset.sum_congr rfl fun l _ => ?_
  refine (rd_512 arg12 _ h m r l).trans ((rd_own0L i arg4 harg4 arg5 harg5 arg8 harg8 arg12 x1 x2 x5 L h m r l).trans ?_)
  rw [hL, own_lane hp h m r l, ← EReal.coe_add]

theorem vals_total (hp : Holds I b (tileOf i) x1 x2 x3 x5) (L : List Store) (hL : ∀ h m r l, rd arg13 (after arg13 L) h m r l = (valueTo I b (tileOf i) ((i 2).val - 1) h m r l : EReal)) (h : Fin 4) (m : Fin 2) (r : Fin 512) (e : Fin 128) :
    (vals (arg13.view.readCov (own1L i arg4 harg4 arg5 harg5 arg6 harg6 arg8 harg8 arg13 x1 x2 x3 x5 L (h.val + 1)) (rect512 h m).toLoadRect) (ix2 r e) : EReal) = (A I b h m (row (tileOf i) r) e : EReal) := by
  rw [vals_at, ← value_total (tileOf i) h m r e]
  refine (rd_512 arg13 _ h m r e).trans ((rd_own1L i arg4 harg4 arg5 harg5 arg6 harg6 arg8 harg8 arg13 x1 x2 x3 x5 L h m r e).trans ?_)
  rw [hL, own_value hp h m r e, ← EReal.coe_add]

/-- A head's entry, from the layer's real attention. -/
theorem hd_at (hp : Holds I b (tileOf i) x1 x2 x3 x5) (LS LA : List Store)
    (hS : ∀ h m r l, rd arg12 (after arg12 LS) h m r l = (laneTo I b (tileOf i) ((i 2).val - 1) h m r l : EReal))
    (hA : ∀ h m r l, rd arg13 (after arg13 LA) h m r l = (valueTo I b (tileOf i) ((i 2).val - 1) h m r l : EReal))
    (L : ℝ) (hL : factor x6 = (L : EReal)) (h : Fin 4) (r : Fin 512) (e : Fin 128) :
    (hd i arg4 harg4 arg5 harg5 arg6 harg6 arg7 harg7 arg8 harg8 arg9 harg9 arg10 harg10 arg12 arg13 x1 x2 x3 x4 x5 x6 x7 LS LA h (ix3 0 r e) : EReal) = gated (fun x => (o I b h (row (tileOf i) r) L x : EReal)) (fun x => (x7 (ix2 0 x) : EReal)) (x4 (ix3 0 r (vlane h e))) e := by
  unfold hd headB
  rw [finish_at, show lamR arg9 harg9 x6 = x6 from lam_read harg9 x6 _, show gainR arg10 harg10 x7 = x7 from gain_read harg10 x7 _, partR_eq, hL, part_at]
  congr 1
  funext x
  rw [sums_total i arg4 harg4 arg5 harg5 arg8 harg8 arg12 x1 x2 x3 x5 hp LS hS h 0 r, sums_total i arg4 harg4 arg5 harg5 arg8 harg8 arg12 x1 x2 x3 x5 hp LS hS h 1 r,
    vals_total i arg4 harg4 arg5 harg5 arg6 harg6 arg8 harg8 arg13 x1 x2 x3 x5 hp LA hA h 0 r x, vals_total i arg4 harg4 arg5 harg5 arg6 harg6 arg8 harg8 arg13 x1 x2 x3 x5 hp LA hA h 1 r x,
    quot_plain (W_pos I b h 0 (row (tileOf i) r)).ne', quot_plain (W_pos I b h 1 (row (tileOf i) r)).ne', ← EReal.coe_mul, ← EReal.coe_sub]
  rfl

end Cert.KernelIdeal.Val

end
-- ==== Proof.Host.lean ====
module

public import proofs.«01_k».proof.Proof.Gen.KernelIdeal.Frame
public import Idealize.ShloMosaic.Lib.Pipeline.ValueKit
public import Idealize.ShloMosaic.Lib.Claim
public import Idealize.ShloMosaic.Lib.StableHlo.ReadAt
public import proofs.«01_k».proof.Proof.Bucket

@[expose] public section

set_option maxRecDepth 16384

noncomputable section

/-! What the host operations before the kernel leave in the kernel's operands, read at an index: the scaled queries, the
rows of the four weight vectors, the norm's weight, and the bias of the two tiles next to the diagonal, with `−∞` on
the keys of later chunks. -/

namespace Cert.KernelIdeal.Val

open Cert.KernelIdeal Cert.KernelIdeal.Gen Cert.Bucket
open Idealize.ShloMosaic Idealize.ShloMosaic.TcCoe Idealize.SL.Sem

/-- A cell of the bias table, a cell of the far bias, a cell of a word array: the buffers' contents with their types written out. -/
abbrev cell5 (σ : Valuation τ sig (Elt Ideal)) (n : Fin 32) (h : Fin 4) : EReal := (σ (Proc.devRef .tc main_arg5) : FVec Ideal S32x4 .f32) (ix2 n h)
abbrev cell62 (σ : Valuation τ sig (Elt Ideal)) (h : Fin 4) : EReal := (σ (Proc.devRef .tc main_v62) : FVec Ideal S4 .f32) (ix1 h)
abbrev word17 (σ : Valuation τ sig (Elt Ideal)) (r : Fin 512) (j : Fin 1024) : BitVec 32 := (σ (Proc.devRef .tc main_v17) : IVec S512x1024 32) (ix2 r j)
abbrev word16 (σ : Valuation τ sig (Elt Ideal)) (r : Fin 512) (j : Fin 1024) : BitVec 32 := (σ (Proc.devRef .tc main_v16) : IVec S512x1024 32) (ix2 r j)

section Stages

variable (σ : Valuation τ sig (Elt Ideal))

theorem keep6_v66 : StableHlo.after hostOps0_6 σ (no_index (Proc.devRef .tc main_v66)) = σ (Proc.devRef .tc main_v66) := by after_reads_simp
theorem keep7_v66 : StableHlo.after hostOps0_7 σ (no_index (Proc.devRef .tc main_v66)) = σ (Proc.devRef .tc main_v66) := by after_reads_simp
theorem keep5_v62 : StableHlo.after hostOps0_5 σ (no_index (Proc.devRef .tc main_v62)) = σ (Proc.devRef .tc main_v62) := by after_reads_simp
theorem keep6_v62 : StableHlo.after hostOps0_6 σ (no_index (Proc.devRef .tc main_v62)) = σ (Proc.devRef .tc main_v62) := by after_reads_simp
theorem keep7_v62 : StableHlo.after hostOps0_7 σ (no_index (Proc.devRef .tc main_v62)) = σ (Proc.devRef .tc main_v62) := by after_reads_simp
theorem keep1_v17 : StableHlo.after hostOps0_1 σ (no_index (Proc.devRef .tc main_v17)) = σ (Proc.devRef .tc main_v17) := by after_reads_simp
theorem keep2_v17 : StableHlo.after hostOps0_2 σ (no_index (Proc.devRef .tc main_v17)) = σ (Proc.devRef .tc main_v17) := by after_reads_simp
theorem keep3_v17 : StableHlo.after hostOps0_3 σ (no_index (Proc.devRef .tc main_v17)) = σ (Proc.devRef .tc main_v17) := by after_reads_simp
theorem keep4_v17 : StableHlo.after hostOps0_4 σ (no_index (Proc.devRef .tc main_v17)) = σ (Proc.devRef .tc main_v17) := by after_reads_simp
theorem keep5_v17 : StableHlo.after hostOps0_5 σ (no_index (Proc.devRef .tc main_v17)) = σ (Proc.devRef .tc main_v17) := by after_reads_simp
theorem keep6_v17 : StableHlo.after hostOps0_6 σ (no_index (Proc.devRef .tc main_v17)) = σ (Proc.devRef .tc main_v17) := by after_reads_simp
theorem keep7_v17 : StableHlo.after hostOps0_7 σ (no_index (Proc.devRef .tc main_v17)) = σ (Proc.devRef .tc main_v17) := by after_reads_simp
theorem keep1_v16 : StableHlo.after hostOps0_1 σ (no_index (Proc.devRef .tc main_v16)) = σ (Proc.devRef .tc main_v16) := by after_reads_simp
theorem keep2_v16 : StableHlo.after hostOps0_2 σ (no_index (Proc.devRef .tc main_v16)) = σ (Proc.devRef .tc main_v16) := by after_reads_simp
theorem keep3_v16 : StableHlo.after hostOps0_3 σ (no_index (Proc.devRef .tc main_v16)) = σ (Proc.devRef .tc main_v16) := by after_reads_simp
theorem keep4_v16 : StableHlo.after hostOps0_4 σ (no_index (Proc.devRef .tc main_v16)) = σ (Proc.devRef .tc main_v16) := by after_reads_simp
theorem keep5_v16 : StableHlo.after hostOps0_5 σ (no_index (Proc.devRef .tc main_v16)) = σ (Proc.devRef .tc main_v16) := by after_reads_simp
theorem keep6_v16 : StableHlo.after hostOps0_6 σ (no_index (Proc.devRef .tc main_v16)) = σ (Proc.devRef .tc main_v16) := by after_reads_simp
theorem keep7_v16 : StableHlo.after hostOps0_7 σ (no_index (Proc.devRef .tc main_v16)) = σ (Proc.devRef .tc main_v16) := by after_reads_simp
theorem keep0_arg5 : StableHlo.after hostOps0 σ (no_index (Proc.devRef .tc main_arg5)) = σ (Proc.devRef .tc main_arg5) := by after_reads_simp
theorem keep1_arg5 : StableHlo.after hostOps0_1 σ (no_index (Proc.devRef .tc main_arg5)) = σ (Proc.devRef .tc main_arg5) := by after_reads_simp
theorem keep2_arg5 : StableHlo.after hostOps0_2 σ (no_index (Proc.devRef .tc main_arg5)) = σ (Proc.devRef .tc main_arg5) := by after_reads_simp
theorem keep3_arg5 : StableHlo.after hostOps0_3 σ (no_index (Proc.devRef .tc main_arg5)) = σ (Proc.devRef .tc main_arg5) := by after_reads_simp
theorem keep4_arg5 : StableHlo.after hostOps0_4 σ (no_index (Proc.devRef .tc main_arg5)) = σ (Proc.devRef .tc main_arg5) := by after_reads_simp
theorem keep5_arg5 : StableHlo.after hostOps0_5 σ (no_index (Proc.devRef .tc main_arg5)) = σ (Proc.devRef .tc main_arg5) := by after_reads_simp
theorem keep6_arg5 : StableHlo.after hostOps0_6 σ (no_index (Proc.devRef .tc main_arg5)) = σ (Proc.devRef .tc main_arg5) := by after_reads_simp
theorem keep7_arg5 : StableHlo.after hostOps0_7 σ (no_index (Proc.devRef .tc main_arg5)) = σ (Proc.devRef .tc main_arg5) := by after_reads_simp
theorem keep5_v63 : StableHlo.after hostOps0_5 σ (no_index (Proc.devRef .tc main_v63)) = σ (Proc.devRef .tc main_v63) := by after_reads_simp
theorem keep2_v19 : StableHlo.after hostOps0_2 σ (no_index (Proc.devRef .tc main_v19)) = σ (Proc.devRef .tc main_v19) := by after_reads_simp
theorem keep3_v19 : StableHlo.after hostOps0_3 σ (no_index (Proc.devRef .tc main_v19)) = σ (Proc.devRef .tc main_v19) := by after_reads_simp

theorem s10 (h : Fin 4) (r : Fin 512) (j : Fin 1024) : ((StableHlo.after hostOps0_10 σ (Proc.devRef .tc main_v134) : FVec Ideal S4x1x512x1024 .f32) (ix4 h 0 r j) : EReal) = (σ (Proc.devRef .tc main_v133) : FVec Ideal S4x512x1024 .f32) (ix3 h r j) := by
  after_reads_at

theorem s9 (h : Fin 4) (r : Fin 512) (j : Fin 1024) : ((StableHlo.after hostOps0_9 σ (Proc.devRef .tc main_v133) : FVec Ideal S4x512x1024 .f32) (ix3 h r j) : EReal) =
    Scalar.select ((σ (Proc.devRef .tc main_v132) : IVec S512x1024 1) (ix2 r j)) ((σ (Proc.devRef .tc main_v127) : FVec Ideal S4x512x1024 .f32) (ix3 h r j)) ((σ (Proc.devRef .tc main_cst_45) : FVec Ideal S_ .f32) ix0) := by
  after_reads_at
  rfl

/-- The bias table read at a bucket word. -/
theorem gather_at (x : FVec Ideal S32x4 .f32) (idx : IVec S512x1024x1 32) (r : Fin 512) (j : Fin 1024) (h : Fin 4) {n : ℕ} (hn : n < 32)
    (e : idx (ix3 r j 0) = BitVec.ofNat 32 n) :
    Host.gather gather_S32x4_S512x1024x1_S512x1024x4_2_0_n_n_0_2_14 x idx (ix3 r j h) = x (ix2 ⟨n, hn⟩ h) := by
  unfold Host.gather
  congr 1
  have hsi : (gather_S32x4_S512x1024x1_S512x1024x4_2_0_n_n_0_2_14).siIdx (ix3 r j h) ⟨0, by decide⟩ = ix3 r j 0 := by
    funext a; apply Fin.ext
    match a with
    | ⟨0, _⟩ => rfl
    | ⟨1, _⟩ => rfl
    | ⟨2, _⟩ => rfl
  funext a; apply Fin.ext
  show (gather_S32x4_S512x1024x1_S512x1024x4_2_0_n_n_0_2_14).start (ix3 r j h) idx a + (gather_S32x4_S512x1024x1_S512x1024x4_2_0_n_n_0_2_14).batchCoord (ix3 r j h) a
    + (gather_S32x4_S512x1024x1_S512x1024x4_2_0_n_n_0_2_14).offCoord (ix3 r j h) a = _
  rw [GatherDims.batchCoord_eq_zero _ _ _ List.not_mem_nil]
  match a with
  | ⟨0, _⟩ =>
    show gather_S32x4_S512x1024x1_S512x1024x4_2_0_n_n_0_2_14.start (ix3 r j h) idx (0 : Fin 2) + 0 + gather_S32x4_S512x1024x1_S512x1024x4_2_0_n_n_0_2_14.offCoord (ix3 r j h) (0 : Fin 2) = n
    rw [GatherDims.offCoord_eq_zero _ _ _ (show (0 : Fin 2) ∉ gather_S32x4_S512x1024x1_S512x1024x4_2_0_n_n_0_2_14.sKept by decide)]
    unfold GatherDims.start
    rw [dif_pos (show (0 : Fin 2) ∈ gather_S32x4_S512x1024x1_S512x1024x4_2_0_n_n_0_2_14.startIndexMap by decide)]
    have : ∀ w : BitVec 32, w = BitVec.ofNat 32 n → min w.toInt.toNat 31 = n := by
      rintro _ rfl; rw [toInt_small (by omega)]; omega
    exact this _ ((congrArg idx hsi).trans e)
  | ⟨1, _⟩ =>
    show gather_S32x4_S512x1024x1_S512x1024x4_2_0_n_n_0_2_14.start (ix3 r j h) idx (1 : Fin 2) + 0 + gather_S32x4_S512x1024x1_S512x1024x4_2_0_n_n_0_2_14.offCoord (ix3 r j h) (1 : Fin 2) = h.val
    unfold GatherDims.start
    rw [dif_neg (show (1 : Fin 2) ∉ gather_S32x4_S512x1024x1_S512x1024x4_2_0_n_n_0_2_14.startIndexMap by decide)]
    show 0 + 0 + h.val = h.val
    omega

theorem s8a (h : Fin 4) (r : Fin 512) (j : Fin 1024) {n : ℕ} (hn : n < 32)
    (e : IntOp.addi ((σ (Proc.devRef .tc main_v66) : IVec S512x1024 32) (ix2 r j)) ((σ (Proc.devRef .tc main_v110) : IVec S512x1024 32) (ix2 r j)) = BitVec.ofNat 32 n) :
    ((StableHlo.after hostOps0_8 σ (Proc.devRef .tc main_v127) : FVec Ideal S4x512x1024 .f32) (ix3 h r j) : EReal) =
      (cell5 σ ⟨n, hn⟩ h - cell62 σ h)
        * Ideal.div 1 (Ideal.log (Ideal.ofBits .f32 1073741824#32)) := by
  after_reads_at
  rw [gather_at _ _ r j h hn]
  pointwise
  simp only [id]
  rw [e]
  exact wrap_eq hn

theorem s8b (r : Fin 512) (j : Fin 1024) : (StableHlo.after hostOps0_8 σ (Proc.devRef .tc main_v132) : IVec S512x1024 1) (ix2 r j) =
    IntOp.cmpi CmpIPredicate.sle (IntOp.divsi ArithUnit.host ((σ (Proc.devRef .tc main_v17) : IVec S512x1024 32) (ix2 r j)) 64#32)
      (IntOp.divsi ArithUnit.host ((σ (Proc.devRef .tc main_v16) : IVec S512x1024 32) (ix2 r j)) 64#32) := by
  after_reads_at

theorem s8c : ((StableHlo.after hostOps0_8 σ (Proc.devRef .tc main_cst_45) : FVec Ideal S_ .f32) ix0 : EReal) = Ideal.ofBits .f32 4286578688#32 := by
  after_reads_at

/-- The bucket word of the near tiles, two stages on from the distances. -/
theorem s67 (r : Fin 512) (j : Fin 1024) (x : BitVec 32) (hx : (σ (Proc.devRef .tc main_v63) : IVec S512x1024 32) (ix2 r j) = x) :
    IntOp.addi (Scalar.select (IntOp.cmpi .sgt x 0#32) 16#32 0#32)
      ((StableHlo.after hostOps0_7 (StableHlo.after hostOps0_6 σ) (Proc.devRef .tc main_v110) : IVec S512x1024 32) (ix2 r j)) = word x := by
  subst hx
  after_reads_at
  rfl

theorem s45 (r : Fin 512) (j : Fin 1024) : (StableHlo.after hostOps0_5 (StableHlo.after hostOps0_4 σ) (Proc.devRef .tc main_v66) : IVec S512x1024 32) (ix2 r j) =
    Scalar.select (IntOp.cmpi .sgt ((StableHlo.after hostOps0_4 σ (Proc.devRef .tc main_v63) : IVec S512x1024 32) (ix2 r j)) 0#32) 16#32 0#32 := by
  after_reads_at

theorem s4a (r : Fin 512) (j : Fin 1024) : (StableHlo.after hostOps0_4 σ (Proc.devRef .tc main_v63) : IVec S512x1024 32) (ix2 r j) =
    word17 σ r j - word16 σ r j := by
  after_reads_at
  rfl

theorem s4c (h19 : (σ (Proc.devRef .tc main_v19) : IVec S_ 32) = fun _ => 0#32) (h52 : (σ (Proc.devRef .tc main_v52) : IVec S_ 32) = fun _ => 15#32) :
    (StableHlo.upto hostOps0_4 σ 15 (Proc.devRef .tc main_v57) : IVec S_ 32) = fun _ => 15#32 := by
  after_reads_simp
  rw [h19, h52]
  funext i
  pointwise
  simp only [id]
  decide +kernel

theorem s4d : (StableHlo.upto hostOps0_4 σ 15 (Proc.devRef .tc main_v60) : IVec S_ 32) = fun _ => 0#32 := by
  after_reads_simp
  funext i
  pointwise
  decide +kernel

theorem s4b (h19 : (σ (Proc.devRef .tc main_v19) : IVec S_ 32) = fun _ => 0#32) (h52 : (σ (Proc.devRef .tc main_v52) : IVec S_ 32) = fun _ => 15#32) (h : Fin 4) :
    ((StableHlo.after hostOps0_4 σ (Proc.devRef .tc main_v62) : FVec Ideal S4 .f32) (ix1 h) : EReal) = (σ (Proc.devRef .tc main_arg5) : FVec Ideal S32x4 .f32) (ix2 15 h) := by
  have key : ∀ (f : Fin 2 → ℤ) (p : _) (q : _), f = ![15, 0] →
      (σ (Proc.devRef .tc main_arg5) : FVec Ideal S32x4 .f32) (ix2 ⟨Host.clampedStart S32x4 S1x4 rfl f 0, p⟩ ⟨Host.clampedStart S32x4 S1x4 rfl f 1 + h.val, q⟩)
        = (σ (Proc.devRef .tc main_arg5) : FVec Ideal S32x4 .f32) (ix2 15 h) := by
    rintro _ p q rfl
    congr 2
    apply Fin.ext
    show 0 + h.val = h.val
    omega
  after_reads_at
  refine key _ _ _ (funext fun k => ?_)
  match k with
  | ⟨0, _⟩ =>
    exact (congrArg BitVec.toInt (congrFun ((cast_eq rfl (StableHlo.upto hostOps0_4 σ 15 (Proc.devRef .tc main_v57))).trans (s4c σ h19 h52)) _)).trans (show (15#32 : BitVec 32).toInt = (15 : ℤ) by decide)
  | ⟨1, _⟩ =>
    exact (congrArg BitVec.toInt (congrFun ((cast_eq rfl (StableHlo.upto hostOps0_4 σ 15 (Proc.devRef .tc main_v60))).trans (s4d σ)) _)).trans (show (0#32 : BitVec 32).toInt = (0 : ℤ) by decide)

theorem s1 : (StableHlo.after hostOps0_1 (StableHlo.after hostOps0 σ) (Proc.devRef .tc main_v19) : IVec S_ 32) = fun _ => 0#32 := by
  refine funext fun (i : S_.Idx) => ?_
  obtain rfl : i = ix0 := Subsingleton.elim _ _
  after_reads_at
  decide +kernel

theorem s23 : (StableHlo.after hostOps0_3 (StableHlo.after hostOps0_2 σ) (Proc.devRef .tc main_v52) : IVec S_ 32) = fun _ => 15#32 := by
  refine funext fun (i : S_.Idx) => ?_
  obtain rfl : i = ix0 := Subsingleton.elim _ _
  after_reads_at
  decide +kernel

theorem s0a (r : Fin 512) (j : Fin 1024) : (StableHlo.after hostOps0 σ (Proc.devRef .tc main_v17) : IVec S512x1024 32) (ix2 r j) = BitVec.ofNat 32 j.val := by
  after_reads_at

theorem s0b (r : Fin 512) (j : Fin 1024) : (StableHlo.after hostOps0 σ (Proc.devRef .tc main_v16) : IVec S512x1024 32) (ix2 r j) = BitVec.ofNat 32 r.val + 512#32 := by
  after_reads_at
  rfl

end Stages

variable (m : (ℓ : Loc nD τ sig) → Buf (Elt Ideal) ℓ) (c : Dev nD)

/-- The kernel's arguments, cell by cell. -/
abbrev argQ (b : Fin 2) (r : Fin 8192) (d : Fin 512) : EReal := (m ((c : Thread nD τ).loc main_arg1) : FVec Ideal S2x8192x512 .f32) (ix3 b r d)
abbrev argK (b : Fin 2) (r : Fin 8192) (d : Fin 512) : EReal := (m ((c : Thread nD τ).loc main_arg2) : FVec Ideal S2x8192x512 .f32) (ix3 b r d)
abbrev argV (b : Fin 2) (r : Fin 8192) (d : Fin 512) : EReal := (m ((c : Thread nD τ).loc main_arg3) : FVec Ideal S2x8192x512 .f32) (ix3 b r d)
abbrev argG (b : Fin 2) (r : Fin 8192) (d : Fin 512) : EReal := (m ((c : Thread nD τ).loc main_arg4) : FVec Ideal S2x8192x512 .f32) (ix3 b r d)
abbrev argT (n : Fin 32) (h : Fin 4) : EReal := (m ((c : Thread nD τ).loc main_arg5) : FVec Ideal S32x4 .f32) (ix2 n h)
abbrev argL0 (x : Fin 64) : EReal := (m ((c : Thread nD τ).loc main_arg6) : FVec Ideal S64 .f32) (ix1 x)
abbrev argL1 (x : Fin 64) : EReal := (m ((c : Thread nD τ).loc main_arg7) : FVec Ideal S64 .f32) (ix1 x)
abbrev argL2 (x : Fin 64) : EReal := (m ((c : Thread nD τ).loc main_arg8) : FVec Ideal S64 .f32) (ix1 x)
abbrev argL3 (x : Fin 64) : EReal := (m ((c : Thread nD τ).loc main_arg9) : FVec Ideal S64 .f32) (ix1 x)
abbrev argS (e : Fin 128) : EReal := (m ((c : Thread nD τ).loc main_arg10) : FVec Ideal S128 .f32) (ix1 e)

abbrev hostQ (b : Fin 2) (r : Fin 8192) (d : Fin 512) : EReal := (V m c main_v5 : FVec Ideal S2x8192x512 .bf16) (ix3 b r d)
abbrev hostB (h : Fin 4) (r : Fin 512) (j : Fin 1024) : EReal := (V m c main_v134 : FVec Ideal S4x1x512x1024 .f32) (ix4 h 0 r j)

theorem lam0_at (x : Fin 64) : ((V m c main_v10 : FVec Ideal S4x64 .f32) (ix2 0 x) : EReal) = argL0 m c x := by
  unfold V
  simp only [List.flatten_cons, List.flatten_nil, List.append_nil, StableHlo.after_append]
  after_reads_at
  after_results_simp
  after_reads_at

theorem lam1_at (x : Fin 64) : ((V m c main_v10 : FVec Ideal S4x64 .f32) (ix2 1 x) : EReal) = argL1 m c x := by
  unfold V
  simp only [List.flatten_cons, List.flatten_nil, List.append_nil, StableHlo.after_append]
  after_reads_at
  after_results_simp
  after_reads_at

theorem lam2_at (x : Fin 64) : ((V m c main_v10 : FVec Ideal S4x64 .f32) (ix2 2 x) : EReal) = argL2 m c x := by
  unfold V
  simp only [List.flatten_cons, List.flatten_nil, List.append_nil, StableHlo.after_append]
  after_reads_at
  after_results_simp
  after_reads_at

theorem lam3_at (x : Fin 64) : ((V m c main_v10 : FVec Ideal S4x64 .f32) (ix2 3 x) : EReal) = argL3 m c x := by
  unfold V
  simp only [List.flatten_cons, List.flatten_nil, List.append_nil, StableHlo.after_append]
  after_reads_at
  after_results_simp
  after_reads_at

theorem log_two : Ideal.div 1 (Ideal.log (Ideal.ofBits FTy.f32 1073741824#32)) = ((1 / Real.log 2 : ℝ) : EReal) := by
  have h2 : Ideal.ofBits FTy.f32 1073741824#32 = ((2 : ℝ) : EReal) := by
    simp [Ideal.ofBits, Ideal.ieee, -EReal.coe_mul]; norm_num
  rw [h2, Ideal.log_coe, if_neg (by norm_num), Ideal.div_coe (Real.log_pos (by norm_num)).ne', one_mul]

theorem ofBits_eighth : Ideal.ofBits FTy.f32 1040187392#32 = ((1 / 8 : ℝ) : EReal) := by
  simp [Ideal.ofBits, Ideal.ieee, -EReal.coe_mul]; norm_num

theorem ofBits_bot : Ideal.ofBits FTy.f32 4286578688#32 = ⊥ := by
  simp [Ideal.ofBits, Ideal.ieee]

/-- The queries the kernel reads: scaled by the softmax's factor and by the change of base from `e` to two. -/
theorem qa_at (b : Fin 2) (r : Fin 8192) (d : Fin 512) : hostQ m c b r d =
    argQ m c b r d * ((1 / 8 * (1 / Real.log 2) : ℝ) : EReal) := by
  unfold hostQ V
  simp only [List.flatten_cons, List.flatten_nil, List.append_nil, StableHlo.after_append]
  after_reads_at
  rw [log_two, ofBits_eighth, ← EReal.coe_mul]

theorem ka_at (b : Fin 2) (r : Fin 8192) (d : Fin 512) : ((V m c main_v11 : FVec Ideal S2x8192x512 .bf16) (ix3 b r d) : EReal) =
    argK m c b r d := by
  unfold V
  simp only [List.flatten_cons, List.flatten_nil, List.append_nil, StableHlo.after_append]
  after_reads_at

theorem va_at (b : Fin 2) (r : Fin 8192) (d : Fin 512) : ((V m c main_v12 : FVec Ideal S2x8192x512 .bf16) (ix3 b r d) : EReal) =
    argV m c b r d := by
  unfold V
  simp only [List.flatten_cons, List.flatten_nil, List.append_nil, StableHlo.after_append]
  after_reads_at

theorem ga_at (b : Fin 2) (r : Fin 8192) (d : Fin 512) : ((V m c main_v13 : FVec Ideal S2x8192x512 .bf16) (ix3 b r d) : EReal) =
    argG m c b r d := by
  unfold V
  simp only [List.flatten_cons, List.flatten_nil, List.append_nil, StableHlo.after_append]
  after_reads_at

theorem gs_at (e : Fin 128) : ((V m c main_v135 : FVec Ideal S1x128 .f32) (ix2 0 e) : EReal) = argS m c e := by
  unfold V
  simp only [List.flatten_cons, List.flatten_nil, List.append_nil, StableHlo.after_append]
  after_reads_at

/-- The bias of the two tiles next to the diagonal, in base two and less the far bucket's bias. -/
theorem bias_at (h : Fin 4) (r : Fin 512) (j : Fin 1024) : hostB m c h r j =
    if j.val / 64 ≤ (r.val + 512) / 64 then
      (argT m c ⟨bkt ((j.val : ℤ) - (r.val + 512)), bkt_lt _⟩ h
        - argT m c 15 h) * ((1 / Real.log 2 : ℝ) : EReal)
    else ⊥ := by
  unfold hostB V
  simp only [List.flatten_cons, List.flatten_nil, List.append_nil, StableHlo.after_append]
  rw [s10, s9, s8a _ h r j (bkt_lt ((j.val : ℤ) - (r.val + 512))), s8b, s8c]
  · simp only [cell5, cell62, word16, word17, keep6_v66, keep7_v66, keep5_v62, keep6_v62, keep7_v62, keep1_v17, keep2_v17, keep3_v17, keep4_v17, keep5_v17, keep6_v17, keep7_v17, keep1_v16, keep2_v16, keep3_v16, keep4_v16, keep5_v16, keep6_v16, keep7_v16, keep0_arg5, keep1_arg5, keep2_arg5, keep3_arg5, keep4_arg5, keep5_arg5, keep6_arg5, keep7_arg5, keep5_v63, keep2_v19, keep3_v19]
    rw [s0a, s0b, s4b _ (by simp only [cell5, cell62, word16, word17, keep6_v66, keep7_v66, keep5_v62, keep6_v62, keep7_v62, keep1_v17, keep2_v17, keep3_v17, keep4_v17, keep5_v17, keep6_v17, keep7_v17, keep1_v16, keep2_v16, keep3_v16, keep4_v16, keep5_v16, keep6_v16, keep7_v16, keep0_arg5, keep1_arg5, keep2_arg5, keep3_arg5, keep4_arg5, keep5_arg5, keep6_arg5, keep7_arg5, keep5_v63, keep2_v19, keep3_v19]; exact s1 _) (s23 _), log_two, ofBits_bot]
    simp only [cell5, cell62, word16, word17, keep6_v66, keep7_v66, keep5_v62, keep6_v62, keep7_v62, keep1_v17, keep2_v17, keep3_v17, keep4_v17, keep5_v17, keep6_v17, keep7_v17, keep1_v16, keep2_v16, keep3_v16, keep4_v16, keep5_v16, keep6_v16, keep7_v16, keep0_arg5, keep1_arg5, keep2_arg5, keep3_arg5, keep4_arg5, keep5_arg5, keep6_arg5, keep7_arg5, keep5_v63, keep2_v19, keep3_v19]
    have e : BitVec.ofNat 32 r.val + 512#32 = BitVec.ofNat 32 (r.val + 512) := (BitVec.ofNat_add ..).symm
    have d1 := div_table ⟨j.val, by omega⟩
    have d2 := div_table ⟨r.val + 512, by omega⟩
    dsimp only at d1 d2
    rw [e, d1, d2, sle_eq (toInt_small (by omega)) (toInt_small (by omega))]
    simp only [Nat.cast_le]
  · simp only [cell5, cell62, word16, word17, keep6_v66, keep7_v66, keep5_v62, keep6_v62, keep7_v62, keep1_v17, keep2_v17, keep3_v17, keep4_v17, keep5_v17, keep6_v17, keep7_v17, keep1_v16, keep2_v16, keep3_v16, keep4_v16, keep5_v16, keep6_v16, keep7_v16, keep0_arg5, keep1_arg5, keep2_arg5, keep3_arg5, keep4_arg5, keep5_arg5, keep6_arg5, keep7_arg5, keep5_v63, keep2_v19, keep3_v19]
    rw [s45, s67 _ r j _ (congrFun (keep5_v63 _) _), s4a]
    simp only [cell5, cell62, word16, word17, keep6_v66, keep7_v66, keep5_v62, keep6_v62, keep7_v62, keep1_v17, keep2_v17, keep3_v17, keep4_v17, keep5_v17, keep6_v17, keep7_v17, keep1_v16, keep2_v16, keep3_v16, keep4_v16, keep5_v16, keep6_v16, keep7_v16, keep0_arg5, keep1_arg5, keep2_arg5, keep3_arg5, keep4_arg5, keep5_arg5, keep6_arg5, keep7_arg5, keep5_v63, keep2_v19, keep3_v19]
    rw [s0a, s0b]
    exact word_near r j

end Cert.KernelIdeal.Val

end
-- ==== Proof.Blocks.lean ====
module

public import proofs.«01_k».proof.Proof.Total
public import proofs.«01_k».proof.Proof.Host
public import proofs.«01_k».proof.Proof.Launched
public import Idealize.ShloMosaic.Lib.Pipeline.ValueKit

@[expose] public section

set_option maxRecDepth 16384

noncomputable section

/-! The blocks of a point as parts of the kernel's operands, and what the point leaves in the output's block. -/

namespace Cert.KernelIdeal.Val

open Cert.KernelIdeal Cert.KernelIdeal.Gen Cert.KernelIdeal.Run Cert.Weights Cert.Spec Cert.Bucket
open Idealize.ShloMosaic Idealize.ShloMosaic.TcCoe Idealize.SL.Sem
open Idealize.ShloMosaic.Pipeline (Dat)

/-- A block's lanes, from those of the four heads. -/
def lanesOf (f : Fin 4 → FVec Ideal S1x512x128 .bf16) : S1x512x512.Idx → Elt Ideal .bf16 := fun y =>
  f ⟨(y 2).val / 128, by have h2 : (y 2).val < 512 := (y 2).isLt; omega⟩ (ix3 (0 : Fin 1) (⟨(y 1).val, (y 1).isLt⟩ : Fin 512) (⟨(y 2).val % 128, Nat.mod_lt _ (by norm_num)⟩ : Fin 128))

theorem piece_lanes (f : Fin 4 → FVec Ideal S1x512x128 .bf16) (h : Fin 4) (o : ℕ) (ho : o = h.val * 128) (inb) (x : S1x512x128.Idx) :
    f h x = lanesOf f ((Rect.unit (s := S1x512x512) ![0, 0, o] ![1, 512, 128] inb).idx x) := by
  subst ho
  have h0 : (x 0).val < 1 := (x 0).isLt
  have h1 : (x 1).val < 512 := (x 1).isLt
  have h2 : (x 2).val < 128 := (x 2).isLt
  unfold lanesOf
  have e : ∀ (k : Fin 4) (z : S1x512x128.Idx), k = h → z = x → f h x = f k z := by rintro k z rfl rfl; rfl
  refine e _ _ (Fin.ext (show (h.val * 128 + 1 * (x 2).val) / 128 = h.val by omega)) ?_
  funext a; apply Fin.ext
  match a with
  | ⟨0, _⟩ => show 0 = (x 0).val; omega
  | ⟨1, _⟩ => show 0 + 1 * (x 1).val = (x 1).val; omega
  | ⟨2, _⟩ => show (h.val * 128 + 1 * (x 2).val) % 128 = (x 2).val; omega

theorem canon4 (f : Fin 4 → FVec Ideal S1x512x128 .bf16) (r : Fin 512) (h : Fin 4) (e : Fin 128) :
    View.canon (Val := Elt Ideal) (e := .bf16) [⟨Rect.unit (s := S1x512x512) ![0, 0, 384] ![1, 512, 128] inb_S1x512x512_S1x512x128_0_0_384, f 3⟩, ⟨Rect.unit (s := S1x512x512) ![0, 0, 256] ![1, 512, 128] inb_S1x512x512_S1x512x128_0_0_256, f 2⟩, ⟨Rect.unit (s := S1x512x512) ![0, 0, 128] ![1, 512, 128] inb_S1x512x512_S1x512x128_0_0_128, f 1⟩, ⟨Rect.unit (s := S1x512x512) ![0, 0, 0] ![1, 512, 128] inb_S1x512x512_S1x512x128_0_0_0, f 0⟩] (ix3 0 r (vlane h e)) = f h (ix3 0 r e) := by
  refine (View.canon_apply_of_pieces (lanesOf f) _ ?_ (ix3 0 r (vlane h e)) ?_).trans ?_
  · intro p hp x
    rcases List.mem_cons.mp hp with rfl | hp
    · exact piece_lanes f 3 384 rfl inb_S1x512x512_S1x512x128_0_0_384 x
    rcases List.mem_cons.mp hp with rfl | hp
    · exact piece_lanes f 2 256 rfl inb_S1x512x512_S1x512x128_0_0_256 x
    rcases List.mem_cons.mp hp with rfl | hp
    · exact piece_lanes f 1 128 rfl inb_S1x512x512_S1x512x128_0_0_128 x
    rcases List.mem_cons.mp hp with rfl | hp
    · exact piece_lanes f 0 0 rfl inb_S1x512x512_S1x512x128_0_0_0 x
    nomatch hp
  · have key : ∀ (o : ℕ) (inb) (ho : o = h.val * 128), (ix3 (0 : Fin 1) r (vlane h e) : S1x512x512.Idx) ∈ (Rect.unit (s := S1x512x512) ![0, 0, o] ![1, 512, 128] inb).set := by
      intro o inb ho
      rw [Rect.mem_set_unit]
      intro a
      match a with
      | ⟨0, _⟩ => exact ⟨Nat.zero_le _, Nat.zero_lt_one⟩
      | ⟨1, _⟩ => show 0 ≤ r.val ∧ r.val < 0 + 512; omega
      | ⟨2, _⟩ => show o ≤ h.val * 128 + e.val ∧ h.val * 128 + e.val < o + 128; omega
    match h, key with
    | 3, key => exact ⟨_, List.mem_cons_self, key 384 inb_S1x512x512_S1x512x128_0_0_384 rfl⟩
    | 2, key => exact ⟨_, List.mem_cons_of_mem _ List.mem_cons_self, key 256 inb_S1x512x512_S1x512x128_0_0_256 rfl⟩
    | 1, key => exact ⟨_, List.mem_cons_of_mem _ (List.mem_cons_of_mem _ List.mem_cons_self), key 128 inb_S1x512x512_S1x512x128_0_0_128 rfl⟩
    | 0, key => exact ⟨_, List.mem_cons_of_mem _ (List.mem_cons_of_mem _ (List.mem_cons_of_mem _ List.mem_cons_self)), key 0 inb_S1x512x512_S1x512x128_0_0_0 rfl⟩
  · have k : ∀ (k : Fin 4) (z : S1x512x128.Idx), k = h → z = ix3 0 r e → f k z = f h (ix3 0 r e) := by rintro k z rfl rfl; rfl
    refine k _ _ (Fin.ext (show (h.val * 128 + e.val) / 128 = h.val by omega)) ?_
    funext a; apply Fin.ext
    match a with
    | ⟨0, _⟩ => rfl
    | ⟨1, _⟩ => rfl
    | ⟨2, _⟩ => show (h.val * 128 + e.val) % 128 = e.val; omega

theorem idx : ∀ t : Fin cfg0.N, win0_1.index t = ![(grid0.coords t 0).val, (grid0.coords t 2).val, 0] ∧ win0_2.index t = ![(grid0.coords t 0).val, 0, 0] ∧ win0_3.index t = ![(grid0.coords t 0).val, 0, 0]
    ∧ win0_4.index t = ![(grid0.coords t 0).val, (grid0.coords t 2).val, 0] ∧ win0_5.index t = ![0, 0, 0, 0] ∧ win0_6.index t = ![0, 0] ∧ win0_7.index t = ![0, 0] ∧ win0_8.index t = ![(grid0.coords t 0).val, (grid0.coords t 2).val, 0] :=
  (by decide +kernel : ∀ t : Fin grid0.N, _)

variable (m : (ℓ : Loc nD τ sig) → Buf (Elt Ideal) ℓ) (c : Dev nD) (t : Fin cfg0.N)

/-- The batch of a point. -/
abbrev batchOf (i : grid0.Coords) : Fin 2 := ⟨(i 0).val, (i 0).isLt⟩

theorem blk1 (r d : Fin 512) : ((iblk m c 1 t : Vec Ideal S1x512x512 .bf16) (ix3 0 r d) : EReal) = hostQ m c (batchOf (grid0.coords t)) (row (tileOf (grid0.coords t)) r) d := by
  blk_ext [iblk, idx t, row]
theorem blk2 (κ : Fin 8192) (d : Fin 512) : ((iblk m c 2 t : Vec Ideal S1x8192x512 .bf16) (ix3 0 κ d) : EReal) = (V m c main_v11 : FVec Ideal S2x8192x512 .bf16) (ix3 (batchOf (grid0.coords t)) κ d) := by
  blk_ext [iblk, idx t]
theorem blk3 (κ : Fin 8192) (d : Fin 512) : ((iblk m c 3 t : Vec Ideal S1x8192x512 .bf16) (ix3 0 κ d) : EReal) = (V m c main_v12 : FVec Ideal S2x8192x512 .bf16) (ix3 (batchOf (grid0.coords t)) κ d) := by
  blk_ext [iblk, idx t]
theorem blk4 (r d : Fin 512) : ((iblk m c 4 t : Vec Ideal S1x512x512 .bf16) (ix3 0 r d) : EReal) = (V m c main_v13 : FVec Ideal S2x8192x512 .bf16) (ix3 (batchOf (grid0.coords t)) (row (tileOf (grid0.coords t)) r) d) := by
  blk_ext [iblk, idx t, row]
theorem blk5 (h : Fin 4) (r : Fin 512) (j : Fin 1024) : ((iblk m c 5 t : Vec Ideal S4x1x512x1024 .f32) (ix4 h 0 r j) : EReal) = hostB m c h r j := by
  blk_ext [iblk, idx t]
theorem blk6 (x : Fin 4) (y : Fin 64) : ((iblk m c 6 t : Vec Ideal S4x64 .f32) (ix2 x y) : EReal) = (V m c main_v10 : FVec Ideal S4x64 .f32) (ix2 x y) := by
  blk_ext [iblk, idx t]
theorem blk7 (e : Fin 128) : ((iblk m c 7 t : Vec Ideal S1x128 .f32) (ix2 0 e) : EReal) = (V m c main_v135 : FVec Ideal S1x128 .f32) (ix2 0 e) := by
  blk_ext [iblk, idx t]

/-- The arguments are the real numbers `I`. -/
structure Args (I : In) : Prop where
  q : ∀ b r d, argQ m c b r d = (I.q b r d : EReal)
  k : ∀ b r d, argK m c b r d = (I.k b r d : EReal)
  v : ∀ b r d, argV m c b r d = (I.v b r d : EReal)
  t : ∀ n h, argT m c n h = (I.t n h : EReal)

/-- The factor on the second map, from the arguments. -/
def lamArg : EReal := Ideal.exp (∑ x : Fin 64, argL0 m c x * argL1 m c x) - Ideal.exp (∑ x : Fin 64, argL2 m c x * argL3 m c x) + Ideal.ofBits .f32 1045220557#32

theorem factor_at : factor (iblk m c 6 t : Vec Ideal S4x64 .f32) = lamArg m c := by
  unfold factor lamArg
  have p : ∀ (a b : Fin 4) (x : Fin 64) (u v : EReal), ((V m c main_v10 : FVec Ideal S4x64 .f32) (ix2 a x) : EReal) = u → ((V m c main_v10 : FVec Ideal S4x64 .f32) (ix2 b x) : EReal) = v →
      (fun y z : EReal => y * z) ((iblk m c 6 t : Vec Ideal S4x64 .f32) (ix2 a x)) ((iblk m c 6 t : Vec Ideal S4x64 .f32) (ix2 b x)) = u * v := by
    intro a b x u v hu hv
    exact congrArg₂ (fun y z : EReal => y * z) ((blk6 m c t a x).trans hu) ((blk6 m c t b x).trans hv)
  exact congrArg₂ (fun y z : EReal => Ideal.exp y - Ideal.exp z + Ideal.ofBits .f32 1045220557#32) (Finset.sum_congr rfl fun x _ => p 0 1 x _ _ (lam0_at m c x) (lam1_at m c x)) (Finset.sum_congr rfl fun x _ => p 2 3 x _ _ (lam2_at m c x) (lam3_at m c x))

variable {m c} {I : In}

theorem holds (ha : Args m c I) : Holds I (batchOf (grid0.coords t)) (tileOf (grid0.coords t)) (iblk m c 1 t : Vec Ideal S1x512x512 .bf16) (iblk m c 2 t : Vec Ideal S1x8192x512 .bf16) (iblk m c 3 t : Vec Ideal S1x8192x512 .bf16) (iblk m c 5 t : Vec Ideal S4x1x512x1024 .f32) where
  q r d := by rw [blk1, qa_at, ha.q, ← EReal.coe_mul]; rfl
  k κ d := by rw [blk2, ka_at, ha.k]
  v κ d := by rw [blk3, va_at, ha.v]
  bias h r j := by
    rw [blk5, bias_at]
    split
    · rw [ha.t, ha.t, ← EReal.coe_sub, ← EReal.coe_mul]
    · rfl

/-- An entry of the block a point leaves. -/
theorem out_at (ha : Args m c I) (L : ℝ) (hL : lamArg m c = (L : EReal)) (r : Fin 512) (h : Fin 4) (e : Fin 128) :
    (out m c t (ix3 0 r (vlane h e)) : EReal) = gated (fun x => (o I (batchOf (grid0.coords t)) h (row (tileOf (grid0.coords t)) r) L x : EReal)) (argS m c) (argG m c (batchOf (grid0.coords t)) (row (tileOf (grid0.coords t)) r) (vlane h e)) e := by
  have hp := holds t ha
  have hf := near_flag (grid0.coords t)
  have hl : factor (iblk m c 6 t : Vec Ideal S4x64 .f32) = (L : EReal) := (factor_at m c t).trans hL
  have hg : (fun x => ((iblk m c 7 t : Vec Ideal S1x128 .f32) (ix2 0 x) : EReal)) = argS m c := funext fun x => by rw [blk7, gs_at]
  have hG : ((iblk m c 4 t : Vec Ideal S1x512x512 .bf16) (ix3 0 r (vlane h e)) : EReal) = argG m c (batchOf (grid0.coords t)) (row (tileOf (grid0.coords t)) r) (vlane h e) := by rw [blk4, ga_at]
  rw [← hg, ← hG]
  by_cases hb : flag (ms0_0 t) (hs0_0 t) (iblk m c 0 t) = 1#1
  · rw [out_bounded m c t hb, bounded_eq]
    have rd := all_rd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 1 t) (iblk m c 2 t) (iblk m c 3 t) (iblk m c 5 t) hp
    refine (canon4 (fun h => hd (grid0.coords t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 scM0_1 (iblk m c 1 t) (iblk m c 2 t) (iblk m c 3 t) (iblk m c 4 t) (iblk m c 5 t) (iblk m c 6 t) (iblk m c 7 t) _ _ h) r h e).trans ?_
    exact hd_at (grid0.coords t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 scM0_1 (iblk m c 1 t) (iblk m c 2 t) (iblk m c 3 t) (iblk m c 4 t) (iblk m c 5 t) (iblk m c 6 t) (iblk m c 7 t) hp _ _ rd.1 rd.2 L hl h r e
  · rw [out_online m c t hb, online_eq, head0_eq, head1_eq, head2_eq, head3_eq]
    refine (canon4 (fun h => head (hasNear (grid0.coords t)) (grid0.coords t 2).val h (iblk m c 1 t) (iblk m c 2 t) (iblk m c 3 t) (iblk m c 4 t) (iblk m c 5 t) (iblk m c 6 t) (iblk m c 7 t)) r h e).trans ?_
    exact head_at hp (hasNear (grid0.coords t)) hf.1 hf.2 (iblk m c 4 t) (iblk m c 6 t) (iblk m c 7 t) L hl h r e

/-- The kernel's result. -/
def result (I : In) (L : ℝ) (S : Fin 128 → EReal) (G : Fin 2 → Fin 8192 → Fin 512 → EReal) : FVec Ideal S2x8192x512 .bf16 := fun y =>
  (gated (fun x => (o I ⟨(y 0).val, (y 0).isLt⟩ ⟨(y 2).val / 128, by have h2 : (y 2).val < 512 := (y 2).isLt; omega⟩ ⟨(y 1).val, (y 1).isLt⟩ L x : EReal)) S (G ⟨(y 0).val, (y 0).isLt⟩ ⟨(y 1).val, (y 1).isLt⟩ ⟨(y 2).val, (y 2).isLt⟩) ⟨(y 2).val % 128, Nat.mod_lt _ (by norm_num)⟩ : EReal)

theorem result_at (I : In) (L : ℝ) (S : Fin 128 → EReal) (G : Fin 2 → Fin 8192 → Fin 512 → EReal) (y : S2x8192x512.Idx) (b : Fin 2) (R : Fin 8192) (h : Fin 4) (e : Fin 128)
    (h0 : (y 0).val = b.val) (h1 : (y 1).val = R.val) (h2 : (y 2).val = h.val * 128 + e.val) :
    (result I L S G y : EReal) = gated (fun x => (o I b h R L x : EReal)) S (G b R (vlane h e)) e := by
  have k : ∀ (b' : Fin 2) (R' : Fin 8192) (h' : Fin 4) (d' : Fin 512) (e' : Fin 128), b' = b → R' = R → h' = h → d' = vlane h e → e' = e →
      gated (fun x => (o I b' h' R' L x : EReal)) S (G b' R' d') e' = gated (fun x => (o I b h R L x : EReal)) S (G b R (vlane h e)) e := by
    rintro _ _ _ _ _ rfl rfl rfl rfl rfl; rfl
  exact k _ _ _ _ _ (Fin.ext h0) (Fin.ext h1) (Fin.ext (show (y 2).val / 128 = h.val by omega)) (Fin.ext (show (y 2).val = h.val * 128 + e.val from h2)) (Fin.ext (show (y 2).val % 128 = e.val by omega))

theorem blk_eq (y : S1x512x512.Idx) : y = ix3 (0 : Fin 1) (⟨(y 1).val, (y 1).isLt⟩ : Fin 512) (vlane (⟨(y 2).val / 128, by have h2 : (y 2).val < 512 := (y 2).isLt; omega⟩ : Fin 4) (⟨(y 2).val % 128, Nat.mod_lt _ (by norm_num)⟩ : Fin 128)) := by
  have h0 : (y 0).val < 1 := (y 0).isLt
  funext a; apply Fin.ext
  match a with
  | ⟨0, _⟩ => show (y 0).val = 0; omega
  | ⟨1, _⟩ => rfl
  | ⟨2, _⟩ => show (y 2).val = (y 2).val / 128 * 128 + (y 2).val % 128; omega

theorem final (ha : Args m c I) (L : ℝ) (hL : lamArg m c = (L : EReal)) : (dats m 0 c).arrAt 8 (cfgs 0).N = result I L (argS m c) (argG m c) := by
  refine (dats m 0 c).arrAt_eq_of_covers 8 _ (by decide +kernel) fun t _ y => ?_
  blk_simp
  rw [after0_8]
  refine (congrArg (out m c t) (blk_eq y)).trans ((out_at t ha L hL _ _ _).trans (result_at I L (argS m c) (argG m c) _ _ _ _ _ ?_ ?_ ?_).symm)
  · blk_simp [idx t]
  · blk_simp [idx t]
    show (grid0.coords t 2).val * 512 + (y 1).val = 512 * (grid0.coords t 2).val + (y 1).val
    omega
  · blk_simp [idx t]
    show (y 2).val = (y 2).val / 128 * 128 + (y 2).val % 128
    omega

end Cert.KernelIdeal.Val

end
-- ==== Proof.RefValue.lean ====
module

public import proofs.«01_k».proof.Proof.Gen.ReferenceIdeal.Run
public import Idealize.ShloMosaic.Lib.Pipeline.ValueKit
public import proofs.«01_k».proof.Proof.Spec

@[expose] public section

set_option maxRecDepth 16384

noncomputable section

/-! The reference's attention read at an index: its softmax quotients are the weights of `Spec` over their sum. -/

namespace Cert.ReferenceIdeal.Val

open Cert.ReferenceIdeal Cert.ReferenceIdeal.Gen Cert.ReferenceIdeal.Value Cert.Bucket Cert.Spec Cert.Weights
open Idealize.ShloMosaic Idealize.ShloMosaic.TcCoe Idealize.SL.Sem

variable (V : Valuation τ sig (Elt Ideal))

abbrev argQ (b : Fin 2) (r : Fin 8192) (d : Fin 512) : EReal := (V (Proc.devRef .tc main_arg1) : FVec Ideal S2x8192x512 .f32) (ix3 b r d)
abbrev argK (b : Fin 2) (r : Fin 8192) (d : Fin 512) : EReal := (V (Proc.devRef .tc main_arg2) : FVec Ideal S2x8192x512 .f32) (ix3 b r d)
abbrev argV (b : Fin 2) (r : Fin 8192) (d : Fin 512) : EReal := (V (Proc.devRef .tc main_arg3) : FVec Ideal S2x8192x512 .f32) (ix3 b r d)
abbrev argT (n : Fin 32) (h : Fin 4) : EReal := (V (Proc.devRef .tc main_arg5) : FVec Ideal S32x4 .f32) (ix2 n h)
abbrev argL0 (x : Fin 64) : EReal := (V (Proc.devRef .tc main_arg6) : FVec Ideal S64 .f32) (ix1 x)
abbrev argL1 (x : Fin 64) : EReal := (V (Proc.devRef .tc main_arg7) : FVec Ideal S64 .f32) (ix1 x)
abbrev argL2 (x : Fin 64) : EReal := (V (Proc.devRef .tc main_arg8) : FVec Ideal S64 .f32) (ix1 x)
abbrev argL3 (x : Fin 64) : EReal := (V (Proc.devRef .tc main_arg9) : FVec Ideal S64 .f32) (ix1 x)

/-- The scores, their exponentials and the softmax quotients, cell by cell. -/
abbrev logit (b n : Fin 2) (h : Fin 4) (r k : Fin 8192) : EReal := (res_main_v63 V : FVec Ideal S2x2x4x8192x8192 .f32) (ix5 b n h r k)
abbrev ex (b n : Fin 2) (h : Fin 4) (r k : Fin 8192) : EReal := (res_main_v70 V : FVec Ideal S2x2x4x8192x8192 .f32) (ix5 b n h r k)
abbrev soft (b n : Fin 2) (h : Fin 4) (r k : Fin 8192) : EReal := (res_main_v74 V : FVec Ideal S2x2x4x8192x8192 .f32) (ix5 b n h r k)
abbrev diff (b : Fin 2) (r : Fin 8192) (h : Fin 4) (e : Fin 128) : EReal := (res_main_v83 V : FVec Ideal S2x8192x4x128 .f32) (ix4 b r h e)
/-- The largest score of a query, as the reference takes it. -/
abbrev top (b n : Fin 2) (h : Fin 4) (r : Fin 8192) : EReal :=
  Finset.fold max (⊥ : EReal) (fun i => (res_main_v63 V : FVec Ideal S2x2x4x8192x8192 .f32) i)
    (Finset.univ.filter fun i => reducesTo_S2x2x4x8192x8192_S2x2x4x8192_d4.drop i = ix4 b n h r)

theorem rel_at (r k : Fin 8192) : (res_main_v19 V : IVec S8192x8192 32) (ix2 r k) = BitVec.ofNat 32 k.val - BitVec.ofNat 32 r.val := by
  pointwise [res_main_v19, res_main_v8]
  rfl

theorem bucket_at (r k : Fin 8192) : (res_main_v44 V : IVec S8192x8192 32) (ix2 r k) = BitVec.ofNat 32 (bkt ((k.val : ℤ) - r.val)) := by
  rw [← rword_eq k.isLt r.isLt, ← rel_at V r k]
  pointwise [res_main_v44, res_main_v23]
  rfl

/-- The bias table read at a bucket word. -/
theorem gather_at (x : FVec Ideal S32x4 .f32) (idx : IVec S8192x8192x1 32) (r j : Fin 8192) (h : Fin 4) {n : ℕ} (hn : n < 32)
    (e : idx (ix3 r j 0) = BitVec.ofNat 32 n) :
    Host.gather gather_S32x4_S8192x8192x1_S8192x8192x4_2_0_n_n_0_2_14 x idx (ix3 r j h) = x (ix2 ⟨n, hn⟩ h) := by
  unfold Host.gather
  congr 1
  have hsi : (gather_S32x4_S8192x8192x1_S8192x8192x4_2_0_n_n_0_2_14).siIdx (ix3 r j h) ⟨0, by decide⟩ = ix3 r j 0 := by
    funext a; apply Fin.ext
    match a with
    | ⟨0, _⟩ => rfl
    | ⟨1, _⟩ => rfl
    | ⟨2, _⟩ => rfl
  funext a; apply Fin.ext
  show (gather_S32x4_S8192x8192x1_S8192x8192x4_2_0_n_n_0_2_14).start (ix3 r j h) idx a + (gather_S32x4_S8192x8192x1_S8192x8192x4_2_0_n_n_0_2_14).batchCoord (ix3 r j h) a
    + (gather_S32x4_S8192x8192x1_S8192x8192x4_2_0_n_n_0_2_14).offCoord (ix3 r j h) a = _
  rw [GatherDims.batchCoord_eq_zero _ _ _ List.not_mem_nil]
  match a with
  | ⟨0, _⟩ =>
    show gather_S32x4_S8192x8192x1_S8192x8192x4_2_0_n_n_0_2_14.start (ix3 r j h) idx (0 : Fin 2) + 0 + gather_S32x4_S8192x8192x1_S8192x8192x4_2_0_n_n_0_2_14.offCoord (ix3 r j h) (0 : Fin 2) = n
    rw [GatherDims.offCoord_eq_zero _ _ _ (show (0 : Fin 2) ∉ gather_S32x4_S8192x8192x1_S8192x8192x4_2_0_n_n_0_2_14.sKept by decide)]
    unfold GatherDims.start
    rw [dif_pos (show (0 : Fin 2) ∈ gather_S32x4_S8192x8192x1_S8192x8192x4_2_0_n_n_0_2_14.startIndexMap by decide)]
    have : ∀ w : BitVec 32, w = BitVec.ofNat 32 n → min w.toInt.toNat 31 = n := by
      rintro _ rfl; rw [toInt_small (by omega)]; omega
    exact this _ ((congrArg idx hsi).trans e)
  | ⟨1, _⟩ =>
    show gather_S32x4_S8192x8192x1_S8192x8192x4_2_0_n_n_0_2_14.start (ix3 r j h) idx (1 : Fin 2) + 0 + gather_S32x4_S8192x8192x1_S8192x8192x4_2_0_n_n_0_2_14.offCoord (ix3 r j h) (1 : Fin 2) = h.val
    unfold GatherDims.start
    rw [dif_neg (show (1 : Fin 2) ∉ gather_S32x4_S8192x8192x1_S8192x8192x4_2_0_n_n_0_2_14.startIndexMap by decide)]
    show 0 + 0 + h.val = h.val
    omega

/-- The reference's chunk number of a position: a division rounded down. -/
def chunk (x : BitVec 32) : BitVec 32 :=
  Scalar.select (IntOp.andi (IntOp.cmpi .ne (if x = 0 then (0 : BitVec 32) else if x.msb then -1 else 1) (if (64#32 : BitVec 32) = 0 then (0 : BitVec 32) else if (64#32 : BitVec 32).msb then -1 else 1))
    (IntOp.cmpi .ne (IntOp.remsi ArithUnit.host x 64#32) 0#32)) (IntOp.subi (IntOp.divsi ArithUnit.host x 64#32) 1#32) (IntOp.divsi ArithUnit.host x 64#32)

theorem chunk_table : ∀ n : Fin 8192, chunk (BitVec.ofNat 32 n.val) = BitVec.ofNat 32 (n.val / 64) := by
  decide +kernel

theorem ofBits_eighth : Ideal.ofBits FTy.f32 1040187392#32 = ((1 / 8 : ℝ) : EReal) := by
  simp [Ideal.ofBits, Ideal.ieee, -EReal.coe_mul]; norm_num

theorem ofBits_bot : Ideal.ofBits FTy.f32 4286578688#32 = ⊥ := by
  simp [Ideal.ofBits, Ideal.ieee]

theorem logits_at (b n : Fin 2) (h : Fin 4) (r k : Fin 8192) : logit V b n h r k =
    if k.val / 64 ≤ r.val / 64 then (∑ x : Fin 64, argQ V b r (lane h n x) * argK V b k (lane h n x)) * ((1 / 8 : ℝ) : EReal) + argT V ⟨bkt ((k.val : ℤ) - r.val), bkt_lt _⟩ h else ⊥ := by
  unfold logit
  pointwise [res_main_v63, res_main_v53, res_main_v55, res_main_v8, res_main_call2_v0, res_main_call2_v2, res_main_call3_v0, res_main_call3_v2]
  rw [gather_at _ _ r k h (bkt_lt ((k.val : ℤ) - r.val))]
  · have key : ∀ (x : EReal) (u : EReal), Scalar.select (IntOp.cmpi .sle (chunk (BitVec.ofNat 32 k.val)) (chunk (BitVec.ofNat 32 r.val))) x u
        = if k.val / 64 ≤ r.val / 64 then x else u := by
      intro x u
      rw [chunk_table k, chunk_table r, sle_eq (toInt_small (by omega)) (toInt_small (by omega))]
      simp only [Nat.cast_le]
    refine (key _ _).trans ?_
    rw [ofBits_eighth]
    refine if_congr Iff.rfl rfl ?_
    exact ofBits_bot
  · pointwise
    rw [bucket_at]
    exact wrap_eq (bkt_lt _)

/-- The exponential of scores less a row value, at an index, whatever the two arrays hold. -/
theorem exp_entry (X : FVec Ideal S2x2x4x8192x8192 .f32) (R : FVec Ideal S2x2x4x8192 .f32) (b n : Fin 2) (h : Fin 4) (r k : Fin 8192) :
    ((Host.exp (subf X (broadcastInDim S2x2x4x8192x8192 ![0, 1, 2, 3, 4] bcast_S2x2x4x8192x1_S2x2x4x8192x8192_0_1_2_3_4 (broadcastInDim S2x2x4x8192x1 ![0, 1, 2, 3] bcast_S2x2x4x8192_S2x2x4x8192x1_0_1_2_3 (maximumf (broadcastInDim S2x2x4x8192 ![] bcast_S_S2x2x4x8192 (constant S_ .f32 0xFF800000#32)) R)))) : FVec Ideal S2x2x4x8192x8192 .f32) (ix5 b n h r k) : EReal)
      = Ideal.exp ((X (ix5 b n h r k) : EReal) - max (Ideal.ofBits .f32 4286578688#32) (R (ix4 b n h r) : EReal)) := by
  pointwise

/-- The greatest score of a row, whatever the scores are. -/
theorem max_entry (X : FVec Ideal S2x2x4x8192x8192 .f32) (b n : Fin 2) (h : Fin 4) (r : Fin 8192) :
    ((Host.reduce FloatOps.maximumf X (constant S_ .f32 0xFF800000#32) reducesTo_S2x2x4x8192x8192_S2x2x4x8192_d4 h_S_ : FVec Ideal S2x2x4x8192 .f32) (ix4 b n h r) : EReal)
      = Finset.fold max (Ideal.ofBits .f32 4286578688#32) (fun i => (X i : EReal)) (Finset.univ.filter fun i => reducesTo_S2x2x4x8192x8192_S2x2x4x8192_d4.drop i = ix4 b n h r) := by
  rw [Host.reduce_eq_fold]
  rfl

theorem exp_at (b n : Fin 2) (h : Fin 4) (r k : Fin 8192) : ex V b n h r k = Ideal.exp (logit V b n h r k - max ⊥ (top V b n h r)) := by
  unfold ex logit top
  rw [← ofBits_bot]
  refine (exp_entry (res_main_v63 V) (Host.reduce FloatOps.maximumf (res_main_v63 V : FVec Ideal S2x2x4x8192x8192 .f32) (constant S_ .f32 0xFF800000#32) reducesTo_S2x2x4x8192x8192_S2x2x4x8192_d4 h_S_) b n h r k).trans ?_
  exact congrArg (fun z : EReal => Ideal.exp (logit V b n h r k - max (Ideal.ofBits .f32 4286578688#32) z)) (max_entry (res_main_v63 V) b n h r)

theorem soft_at (b n : Fin 2) (h : Fin 4) (r k : Fin 8192) : soft V b n h r k = Ideal.div (ex V b n h r k) (∑ x : Fin 8192, ex V b n h r x) := by
  unfold soft ex
  pointwise [res_main_v74]

/-- The factor on the second map. -/
def lam : EReal := Ideal.exp (∑ x : Fin 64, argL0 V x * argL1 V x) - Ideal.exp (∑ x : Fin 64, argL2 V x * argL3 V x) + Ideal.ofBits .f32 1045220557#32

/-- The first map less `L` times the second, at an index, whatever the maps are. -/
theorem maps_entry (X : FVec Ideal S2x2x4x8192x8192 .f32) (L : FVec Ideal S_ .f32) (b : Fin 2) (h : Fin 4) (r x : Fin 8192) :
    ((subf (shapeCast _ (extractStridedSlice S2x1x4x8192x8192 ![0, 0, 0, 0, 0] X slices_S2x2x4x8192x8192_S2x1x4x8192x8192_0_0_0_0_0) shapeCasts_S2x1x4x8192x8192_S2x4x8192x8192) (mulf (broadcastInDim S2x4x8192x8192 ![] bcast_S_S2x4x8192x8192 L) (shapeCast _ (extractStridedSlice S2x1x4x8192x8192 ![0, 1, 0, 0, 0] X slices_S2x2x4x8192x8192_S2x1x4x8192x8192_0_1_0_0_0) shapeCasts_S2x1x4x8192x8192_S2x4x8192x8192)) : FVec Ideal S2x4x8192x8192 .f32) (ix4 b h r x) : EReal)
      = (X (ix5 b 0 h r x) : EReal) - (L ix0 : EReal) * (X (ix5 b 1 h r x) : EReal) := by
  pointwise

/-- The product of a map with the values, at an index, whatever the map is. -/
theorem values_entry (v : FVec Ideal S2x8192x512 .f32) (P : FVec Ideal S2x4x8192x8192 .f32) (b : Fin 2) (r : Fin 8192) (h : Fin 4) (e : Fin 128) :
    ((transpose S2x8192x4x128 [0, 3, 1, 2] (Host.dotGeneral dot_S2x8192x4x128_S2x4x8192x8192_S2x4x128x8192_1_3_3_2_02_01 none (shapeCast _ v shapeCasts_S2x8192x512_S2x8192x4x128) P) transposes_S2x4x128x8192_S2x8192x4x128_0_3_1_2 : FVec Ideal S2x8192x4x128 .f32) (ix4 b r h e) : EReal)
      = ∑ x : Fin 8192, (v (ix3 b x (vlane h e)) : EReal) * (P (ix4 b h r x) : EReal) := by
  pointwise
  rfl

/-- The factor of the second map as the program computes it. -/
theorem factor_entry (a b c d : FVec Ideal S64 .f32) :
    ((addf (subf (Host.exp (Host.reduceAdd (mulf a b) (constant S_ .f32 0x00000000#32) reducesTo_S64_S_d0 h_S_)) (Host.exp (Host.reduceAdd (mulf c d) (constant S_ .f32 0x00000000#32) reducesTo_S64_S_d0 h_S_))) (constant S_ .f32 0x3E4CCCCD#32) : FVec Ideal S_ .f32) ix0 : EReal)
      = Ideal.exp (∑ x : Fin 64, (a (ix1 x) : EReal) * (b (ix1 x) : EReal)) - Ideal.exp (∑ x : Fin 64, (c (ix1 x) : EReal) * (d (ix1 x) : EReal)) + Ideal.ofBits .f32 1045220557#32 := by
  pointwise

theorem diff_at (b : Fin 2) (r : Fin 8192) (h : Fin 4) (e : Fin 128) : diff V b r h e =
    ∑ x : Fin 8192, argV V b x (vlane h e) * (soft V b 0 h r x - lam V * soft V b 1 h r x) := by
  unfold diff soft lam res_main_v83
  refine (values_entry _ _ b r h e).trans (Finset.sum_congr rfl fun x _ => ?_)
  rw [maps_entry, factor_entry]

/-! ### The quotients as real numbers -/

variable (I : In) (hq : ∀ b r d, argQ V b r d = (I.q b r d : EReal)) (hk : ∀ b r d, argK V b r d = (I.k b r d : EReal))
  (hv : ∀ b r d, argV V b r d = (I.v b r d : EReal)) (ht : ∀ n h, argT V n h = (I.t n h : EReal))

include hq hk ht in
theorem logits_real (b n : Fin 2) (h : Fin 4) (r k : Fin 8192) : logit V b n h r k =
    if k.val / 64 ≤ r.val / 64 then ((dot I b h n r k * (1 / 8) + bias I h r k : ℝ) : EReal) else ⊥ := by
  rw [logits_at]
  refine if_congr Iff.rfl ?_ rfl
  simp only [hq, hk, ht]
  unfold dot bias
  rw [EReal.coe_add, EReal.coe_mul, coe_sum]
  simp only [EReal.coe_mul]

include hq hk ht in
theorem top_real (b n : Fin 2) (h : Fin 4) (r : Fin 8192) : ∃ M : ℝ, max ⊥ (top V b n h r) = (M : EReal) := by
  have h1 : top V b n h r ≠ ⊤ := by
    refine fold_max_ne_top _ _ fun i => ?_
    obtain ⟨b', n', h', r', k', rfl⟩ : ∃ b' n' h' r' k', i = ix5 b' n' h' r' k' := ⟨i 0, i 1, i 2, i 3, i 4, by
      funext a; match a with
      | ⟨0, _⟩ => rfl
      | ⟨1, _⟩ => rfl
      | ⟨2, _⟩ => rfl
      | ⟨3, _⟩ => rfl
      | ⟨4, _⟩ => rfl⟩
    show logit V b' n' h' r' k' ≠ ⊤
    rw [logits_real V I hq hk ht]
    split
    · exact EReal.coe_ne_top _
    · exact bot_ne_top
  have h2 : logit V b n h r r ≤ top V b n h r := by
    refine le_fold_max _ (fun i => (res_main_v63 V : FVec Ideal S2x2x4x8192x8192 .f32) i) (ix5 b n h r r) ?_
    rw [Finset.mem_filter]
    refine ⟨Finset.mem_univ _, ?_⟩
    funext a; match a with
      | ⟨0, _⟩ => rfl
      | ⟨1, _⟩ => rfl
      | ⟨2, _⟩ => rfl
      | ⟨3, _⟩ => rfl
  rw [logits_real V I hq hk ht, if_pos le_rfl] at h2
  rw [max_eq_right bot_le]
  generalize top V b n h r = M at h1 h2 ⊢
  induction M with
  | bot => exact absurd h2 (not_le.mpr (EReal.bot_lt_coe _))
  | top => exact absurd rfl h1
  | coe M => exact ⟨M, rfl⟩

include hq hk ht in
theorem soft_real (b n : Fin 2) (h : Fin 4) (r k : Fin 8192) : soft V b n h r k = ((w I b h n r k / W I b h n r : ℝ) : EReal) := by
  obtain ⟨M, hM⟩ := top_real V I hq hk ht b n h r
  have e : ∀ k, ex V b n h r k = ((Real.exp (I.t 15 h - M) * w I b h n r k : ℝ) : EReal) := by
    intro k
    rw [exp_at, hM, logits_real V I hq hk ht]
    unfold w
    split
    · rw [← EReal.coe_sub, Ideal.exp_coe, exp_score]
    · simp
  rw [soft_at]
  simp only [e]
  rw [← coe_sum, ← Finset.mul_sum]
  have hp := (Real.exp_pos (I.t 15 h - M)).ne'
  have hW := (W_pos I b h n r).ne'
  change Ideal.div _ ((Real.exp (I.t 15 h - M) * W I b h n r : ℝ) : EReal) = _
  rw [quot_plain (mul_ne_zero hp hW)]
  congr 1
  exact mul_div_mul_left _ _ hp

include hq hk hv ht in
/-- The reference's difference of averages. -/
theorem diff_real (L : ℝ) (hL : lam V = (L : EReal)) (b : Fin 2) (r : Fin 8192) (h : Fin 4) (e : Fin 128) :
    diff V b r h e = ((o I b h r L e : ℝ) : EReal) := by
  rw [diff_at]
  simp only [soft_real V I hq hk ht, hv, hL, ← EReal.coe_mul, ← EReal.coe_sub]
  rw [← coe_sum]
  congr 1
  unfold o A
  rw [Finset.sum_div, Finset.sum_div, Finset.mul_sum, ← Finset.sum_sub_distrib]
  refine Finset.sum_congr rfl fun κ _ => ?_
  ring

end Cert.ReferenceIdeal.Val

end
-- ==== Proof.RefEnd.lean ====
module

public import proofs.«01_k».proof.Proof.RefValue

@[expose] public section

set_option maxRecDepth 16384

noncomputable section

/-! What the reference does after its attention: the norm, its factors and the gate, at an index. -/

namespace Cert.ReferenceIdeal.Val

open Cert.ReferenceIdeal Cert.ReferenceIdeal.Gen Cert.ReferenceIdeal.Value Cert.Spec
open Idealize.ShloMosaic Idealize.ShloMosaic.TcCoe

/-- The reference's last steps, from any difference, gain and gate. -/
def tail (D : FVec Ideal S2x8192x4x128 .f32) (S : FVec Ideal S128 .f32) (G : FVec Ideal S2x8192x512 .f32) : FVec Ideal S2x8192x512 .bf16 :=
  truncf .bf16 (mulf (shapeCast _ (mulf (mulf (mulf D (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf D D) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32)))))) (broadcastInDim S2x8192x4x128 ![0, 1, 2, 3] bcast_S1x1x1x128_S2x8192x4x128_0_1_2_3 (broadcastInDim S1x1x1x128 ![3] bcast_S128_S1x1x1x128_3 S))) (broadcastInDim S2x8192x4x128 ![] bcast_S_S2x8192x4x128 (constant S_ .f32 0x3F4CCCCD#32))) shapeCasts_S2x8192x4x128_S2x8192x512) (mulf G (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf G)))))) bitsLt_bf16_f32

theorem vlane_div (h : Fin 4) (e : Fin 128) (p) : (⟨(vlane h e).val / 128, p⟩ : Fin 4) = h := Fin.ext (show (h.val * 128 + e.val) / 128 = h.val by omega)
theorem vlane_mod (h : Fin 4) (e : Fin 128) (p) : (⟨(vlane h e).val % 128, p⟩ : Fin 128) = e := Fin.ext (show (h.val * 128 + e.val) % 128 = e.val by omega)

theorem tail_at (D : FVec Ideal S2x8192x4x128 .f32) (S : FVec Ideal S128 .f32) (G : FVec Ideal S2x8192x512 .f32) (b : Fin 2) (r : Fin 8192) (h : Fin 4) (e : Fin 128) :
    (tail D S G (ix3 b r (vlane h e)) : EReal) = (D (ix4 b r h e) : EReal) * Ideal.rsqrt (Ideal.div (∑ x : Fin 128, (D (ix4 b r h x) : EReal) * (D (ix4 b r h x) : EReal)) (Ideal.ofBits .f32 1124073472#32) + Ideal.ofBits .f32 897988541#32) * (S (ix1 e) : EReal) * Ideal.ofBits .f32 1061997773#32
      * ((G (ix3 b r (vlane h e)) : EReal) * Ideal.div 1 (1 + Ideal.exp (-(G (ix3 b r (vlane h e)) : EReal)))) := by
  unfold tail
  pointwise
  simp only [vlane_div, vlane_mod]

end Cert.ReferenceIdeal.Val

end
-- ==== Proof.Finite.lean ====
module

public import proofs.«01_k».proof.Pre_finite
public import Idealize.ShloMosaic.Lib.Pipeline.ValueKit

@[expose] public section

set_option maxRecDepth 16384

noncomputable section

/-! The precondition read: an array whose absolute values are below infinity holds real numbers. -/

namespace Cert.Pre_finite.Val

open Cert.Pre_finite
open Idealize.ShloMosaic Idealize.ShloMosaic.TcCoe

theorem inf_bits : Ideal.ofBits FTy.f32 0x7F800000#32 = ⊤ := by
  simp [Ideal.ofBits, Ideal.ieee]

theorem real_of_olt (z : EReal) (e : Ideal.cmp .olt (max z (-z)) ⊤ = 1#1) : z = (z.toReal : EReal) := by
  induction z with
  | bot => exact absurd e (by simp [Ideal.cmp])
  | top => exact absurd e (by simp [Ideal.cmp])
  | coe r => rfl

/-- An array that passes the comparison is real. -/
theorem real_of {S : Shape} (x : FVec Ideal S .f32) (hS : S_.BroadcastsInDim S (![] : Fin 0 → Fin S.rank))
    (h : cmpf .olt (Host.absf x) (broadcastInDim S ![] hS (constant S_ .f32 0x7F800000#32)) = fun _ => 1#1) (i : S.Idx) : (x i : EReal) = ((x i : EReal).toReal : EReal) := by
  have e := congrFun h i
  simp [cmpf, Host.absf, broadcastInDim, constant, inf_bits] at e
  exact real_of_olt (x i) e

/-- The precondition's shape relations. -/
theorem facts : Cert.Pre_finite.Facts where
  bcast_S_S2x8192x512 := by decide
  bcast_S_S32x4 := by decide
  bcast_S_S64 := by decide

end Cert.Pre_finite.Val

end
-- ==== Proof.Value.lean ====
module

public import proofs.«01_k».proof.Defs
public import proofs.«01_k».proof.Proof.Blocks
public import proofs.«01_k».proof.Proof.RefEnd
public import proofs.«01_k».proof.Proof.Finite
public import proofs.«01_k».proof.Proof.Gen.ReferenceIdeal.Run

@[expose] public section

set_option maxRecDepth 16384

noncomputable section

/-! The two programs' results are one array: the real inputs named, the mixing weight a real, and each run read at
    its result. -/

namespace Cert.Value

open Cert.KernelIdeal.Val Cert.KernelIdeal.Run Cert.Spec Cert.Weights
open Idealize.ShloMosaic Idealize.ShloMosaic.TcCoe Idealize.SL.Sem

section Inputs
open Cert.KernelIdeal Cert.KernelIdeal.Gen

variable (m : (ℓ : Loc nD τ sig) → Buf (Elt Ideal) ℓ) (c : Dev nD)

/-- The real inputs of the attention. -/
def inputs : In where
  q b r d := (argQ m c b r d).toReal
  k b r d := (argK m c b r d).toReal
  v b r d := (argV m c b r d).toReal
  t n h := (argT m c n h).toReal

/-- The mixing weight, as a real. -/
def weight : ℝ := (lamArg m c).toReal

theorem args_of (h : Pre_KernelIdeal_finite (hPre_finite := Cert.Pre_finite.Val.facts) m) : Args m c (inputs m c) where
  q b r d := Cert.Pre_finite.Val.real_of (m ((c : Thread nD τ).loc main_arg1)) Cert.Pre_finite.Val.facts.bcast_S_S2x8192x512 (h c).1 (ix3 b r d)
  k b r d := Cert.Pre_finite.Val.real_of (m ((c : Thread nD τ).loc main_arg2)) Cert.Pre_finite.Val.facts.bcast_S_S2x8192x512 (h c).2.1 (ix3 b r d)
  v b r d := Cert.Pre_finite.Val.real_of (m ((c : Thread nD τ).loc main_arg3)) Cert.Pre_finite.Val.facts.bcast_S_S2x8192x512 (h c).2.2.1 (ix3 b r d)
  t n g := Cert.Pre_finite.Val.real_of (m ((c : Thread nD τ).loc main_arg5)) Cert.Pre_finite.Val.facts.bcast_S_S32x4 (h c).2.2.2.1 (ix2 n g)

/-- The exponential of a sum of products of reals is real. -/
theorem exp_dot (f g : Fin 64 → EReal) (hf : ∀ x, f x = ((f x).toReal : EReal)) (hg : ∀ x, g x = ((g x).toReal : EReal)) :
    Ideal.exp (∑ x, f x * g x) = ((Real.exp (∑ x, (f x).toReal * (g x).toReal) : ℝ) : EReal) := by
  have e : ∀ x, f x * g x = (((f x).toReal * (g x).toReal : ℝ) : EReal) := fun x => by
    rw [EReal.coe_mul, ← hf, ← hg]
  simp only [e]
  rw [← coe_sum, Ideal.exp_coe]

theorem start_real : ∃ s : ℝ, Ideal.ofBits .f32 1045220557#32 = (s : EReal) := by
  have h1 : Ideal.ofBits .f32 1045220557#32 ≠ ⊤ := by
    simp only [Ideal.ofBits, Ideal.ieee]
    simp
    exact EReal.coe_ne_top _
  have h2 : Ideal.ofBits .f32 1045220557#32 ≠ ⊥ := by
    simp only [Ideal.ofBits, Ideal.ieee]
    simp
    exact EReal.coe_ne_bot _
  exact ⟨_, (EReal.coe_toReal h1 h2).symm⟩

theorem weight_of (h : Pre_KernelIdeal_finite (hPre_finite := Cert.Pre_finite.Val.facts) m) : lamArg m c = (weight m c : EReal) := by
  have l0 := fun x : Fin 64 => Cert.Pre_finite.Val.real_of (m ((c : Thread nD τ).loc main_arg6)) Cert.Pre_finite.Val.facts.bcast_S_S64 (h c).2.2.2.2.1 (ix1 x)
  have l1 := fun x : Fin 64 => Cert.Pre_finite.Val.real_of (m ((c : Thread nD τ).loc main_arg7)) Cert.Pre_finite.Val.facts.bcast_S_S64 (h c).2.2.2.2.2.1 (ix1 x)
  have l2 := fun x : Fin 64 => Cert.Pre_finite.Val.real_of (m ((c : Thread nD τ).loc main_arg8)) Cert.Pre_finite.Val.facts.bcast_S_S64 (h c).2.2.2.2.2.2.1 (ix1 x)
  have l3 := fun x : Fin 64 => Cert.Pre_finite.Val.real_of (m ((c : Thread nD τ).loc main_arg9)) Cert.Pre_finite.Val.facts.bcast_S_S64 (h c).2.2.2.2.2.2.2 (ix1 x)
  obtain ⟨s, hs⟩ := start_real
  obtain ⟨u, hu⟩ : ∃ u : ℝ, Ideal.exp (∑ x, argL0 m c x * argL1 m c x) = (u : EReal) := ⟨_, exp_dot _ _ l0 l1⟩
  obtain ⟨w, hw⟩ : ∃ w : ℝ, Ideal.exp (∑ x, argL2 m c x * argL3 m c x) = (w : EReal) := ⟨_, exp_dot _ _ l2 l3⟩
  have e : ∃ x : ℝ, lamArg m c = (x : EReal) := ⟨u - w + s, by
    unfold lamArg
    rw [hs, hu, hw, ← EReal.coe_sub, ← EReal.coe_add]⟩
  obtain ⟨x, hx⟩ := e
  unfold weight
  rw [hx, EReal.toReal_coe]

end Inputs

section Same
open Cert.ReferenceIdeal Cert.ReferenceIdeal.Val Cert.ReferenceIdeal.Value

/-- The reference's last array is the kernel's, for buffers holding the kernel's arguments. -/
theorem same (m : (ℓ : Loc Cert.KernelIdeal.nD Cert.KernelIdeal.τ Cert.KernelIdeal.sig) → Buf (Elt Ideal) ℓ) (c : Dev Cert.KernelIdeal.nD)
    (I : In) (L : ℝ) (ha : Args m c I) (hL : lamArg m c = (L : EReal)) (W : Valuation τ sig (Elt Ideal))
    (h1 : W (Proc.devRef .tc main_arg1) = m ((c : Thread Cert.KernelIdeal.nD Cert.KernelIdeal.τ).loc Cert.KernelIdeal.main_arg1))
    (h2 : W (Proc.devRef .tc main_arg2) = m ((c : Thread Cert.KernelIdeal.nD Cert.KernelIdeal.τ).loc Cert.KernelIdeal.main_arg2))
    (h3 : W (Proc.devRef .tc main_arg3) = m ((c : Thread Cert.KernelIdeal.nD Cert.KernelIdeal.τ).loc Cert.KernelIdeal.main_arg3))
    (h4 : W (Proc.devRef .tc main_arg4) = m ((c : Thread Cert.KernelIdeal.nD Cert.KernelIdeal.τ).loc Cert.KernelIdeal.main_arg4))
    (h5 : W (Proc.devRef .tc main_arg5) = m ((c : Thread Cert.KernelIdeal.nD Cert.KernelIdeal.τ).loc Cert.KernelIdeal.main_arg5))
    (h6 : W (Proc.devRef .tc main_arg6) = m ((c : Thread Cert.KernelIdeal.nD Cert.KernelIdeal.τ).loc Cert.KernelIdeal.main_arg6))
    (h7 : W (Proc.devRef .tc main_arg7) = m ((c : Thread Cert.KernelIdeal.nD Cert.KernelIdeal.τ).loc Cert.KernelIdeal.main_arg7))
    (h8 : W (Proc.devRef .tc main_arg8) = m ((c : Thread Cert.KernelIdeal.nD Cert.KernelIdeal.τ).loc Cert.KernelIdeal.main_arg8))
    (h9 : W (Proc.devRef .tc main_arg9) = m ((c : Thread Cert.KernelIdeal.nD Cert.KernelIdeal.τ).loc Cert.KernelIdeal.main_arg9))
    (h10 : W (Proc.devRef .tc main_arg10) = m ((c : Thread Cert.KernelIdeal.nD Cert.KernelIdeal.τ).loc Cert.KernelIdeal.main_arg10)) :
    tail (res_main_v83 W) (W (Proc.devRef .tc main_arg10)) (W (Proc.devRef .tc main_arg4)) = result I L (Cert.KernelIdeal.Val.argS m c) (Cert.KernelIdeal.Val.argG m c) := by
  have q : ∀ b r d, Cert.ReferenceIdeal.Val.argQ W b r d = (I.q b r d : EReal) := fun b r d => (congrFun h1 (ix3 b r d)).trans (ha.q b r d)
  have k : ∀ b r d, Cert.ReferenceIdeal.Val.argK W b r d = (I.k b r d : EReal) := fun b r d => (congrFun h2 (ix3 b r d)).trans (ha.k b r d)
  have v : ∀ b r d, Cert.ReferenceIdeal.Val.argV W b r d = (I.v b r d : EReal) := fun b r d => (congrFun h3 (ix3 b r d)).trans (ha.v b r d)
  have t : ∀ n h, Cert.ReferenceIdeal.Val.argT W n h = (I.t n h : EReal) := fun n h => (congrFun h5 (ix2 n h)).trans (ha.t n h)
  have l0 : Cert.ReferenceIdeal.Val.argL0 W = Cert.KernelIdeal.Val.argL0 m c := funext fun x => congrFun h6 (ix1 x)
  have l1 : Cert.ReferenceIdeal.Val.argL1 W = Cert.KernelIdeal.Val.argL1 m c := funext fun x => congrFun h7 (ix1 x)
  have l2 : Cert.ReferenceIdeal.Val.argL2 W = Cert.KernelIdeal.Val.argL2 m c := funext fun x => congrFun h8 (ix1 x)
  have l3 : Cert.ReferenceIdeal.Val.argL3 W = Cert.KernelIdeal.Val.argL3 m c := funext fun x => congrFun h9 (ix1 x)
  have l : lam W = (L : EReal) := by
    rw [← hL]
    unfold lam lamArg
    rw [l0, l1, l2, l3]
  have d := diff_real W I q k v t L l
  funext y
  obtain ⟨b, r, h, e, rfl⟩ : ∃ b r h e, y = ix3 b r (vlane h e) := ⟨y 0, y 1, ⟨(y 2).val / 128, by have h2 : (y 2).val < 512 := (y 2).isLt; omega⟩, ⟨(y 2).val % 128, Nat.mod_lt _ (by norm_num)⟩, by
    funext a
    match a with
    | ⟨0, _⟩ => rfl
    | ⟨1, _⟩ => rfl
    | ⟨2, _⟩ => apply Fin.ext; show (y 2).val = (y 2).val / 128 * 128 + (y 2).val % 128; omega⟩
  refine (tail_at _ _ _ b r h e).trans ?_
  refine .trans ?_ (result_at I L _ _ (ix3 b r (vlane h e)) b r h e rfl rfl rfl).symm
  have d' : ∀ x, (res_main_v83 W (ix4 b r h x) : EReal) = (o I b h r L x : EReal) := fun x => d b r h x
  have g : (W (Proc.devRef .tc main_arg4) (ix3 b r (vlane h e)) : EReal) = Cert.KernelIdeal.Val.argG m c b r (vlane h e) := congrFun h4 _
  have s : (W (Proc.devRef .tc main_arg10) (ix1 e) : EReal) = Cert.KernelIdeal.Val.argS m c e := congrFun h10 _
  unfold gated
  simp only [d', g, s, zero_sub]

end Same

/-- The results agree. -/
theorem algebraic : algebraic_KernelIdeal_ReferenceIdeal_pre_finite (hKernelIdeal := Cert.KernelIdeal.Gen.facts) (hReferenceIdeal := Cert.ReferenceIdeal.Gen.facts) (hPre_finite := Cert.Pre_finite.Val.facts) := by
  intro m g m' g' hpre hagree
  refine ⟨fun c => result (inputs m c) (weight m c) (Cert.KernelIdeal.Val.argS m c) (Cert.KernelIdeal.Val.argG m c), ?_, ?_⟩
  · exact (θ_run Cert.KernelIdeal.defs _ _).mono (fun r h c => ⟨((h.1.1 c).1 8).trans (final (args_of m c hpre) (weight m c) (weight_of m c hpre)), h.2.1 c⟩)
      (θ_run_and (Cert.KernelIdeal.Run.launch (F := Ideal) m g) (Cert.KernelIdeal.Run.frame (F := Ideal) m g))
  · refine (θ_run Cert.ReferenceIdeal.defs _ _).mono (fun r h c => ⟨(h c).1.trans ?_, (h c).2⟩) (Cert.ReferenceIdeal.Value.run (F := Ideal) m' g')
    obtain ⟨-, a1, a2, a3, a4, a5, a6, a7, a8, a9, a10⟩ := hagree c
    exact same m c (inputs m c) (weight m c) (args_of m c hpre) (weight_of m c hpre) (StableHlo.launchContents m' c) a1 a2 a3 a4 a5 a6 a7 a8 a9 a10

end Cert.Value

end
-- ==== Proof.ProjStep.lean ====
module

public import proofs.«01_k».proof.Proof.Gen.ProjectIdeal.Frame
public import Idealize.ShloMosaic.Lib.Claim

@[expose] public section

set_option maxRecDepth 16384

noncomputable section

/-! The projection's step on one tile of 512 rows: the vectors it computes, and the step as the sequence of its loads
    and stores over them. -/

namespace Cert.ProjectIdeal.Tile

open Cert.ProjectIdeal Cert.ProjectIdeal.Gen
open Idealize.ShloMosaic Idealize.SL.Sem

variable {F : FTy → Type} [FloatOps F]

/-- The tile's rows divided by their root mean square, times the gain, then scaled and shifted. -/
def modulated (x : Vec F S1x512x1024 .f32) (g : Vec F S1x1024 .f32) (scale shift : Vec F S1x1x1024 .f32) : FVec F S512x1024 .bf16 :=
  truncf .bf16 (shapeCast S512x1024 (addf (mulf (mulf (mulf x (broadcastTo S1x512x1024 (rsqrt (addf (divf (shapeCast S1x512x1 (multiReduction .add [2] S1x512 (mulf x x) 0x00000000#32 reduces_S1x512x1024_S1x512 (.inl rfl) rfl) shapeCasts_S1x512_S1x512x1)
      (broadcast S1x512x1 (Scalar.ofBits .f32 0x44800000#32))) (broadcast S1x512x1 (Scalar.ofBits .f32 0x358637BD#32)))) broadcasts_S1x512x1_S1x512x1024))
      (broadcastTo S1x512x1024 (shapeCast S1x1x1024 (shapeCast S1x1024 g shapeCasts_S1x1024_S1x1024) shapeCasts_S1x1024_S1x1x1024) broadcasts_S1x1x1024_S1x512x1024))
      (broadcastTo S1x512x1024 (addf (broadcast S1x1x1024 (Scalar.ofBits .f32 0x3F800000#32)) (shapeCast S1x1x1024 scale shapeCasts_S1x1x1024_S1x1x1024)) broadcasts_S1x1x1024_S1x512x1024))
      (broadcastTo S1x512x1024 (shapeCast S1x1x1024 shift shapeCasts_S1x1x1024_S1x1x1024) broadcasts_S1x1x1024_S1x512x1024)) shapeCasts_S1x512x1024_S512x1024) bitsLt_bf16_f32

/-- The rows times 512 columns of the weights. -/
def segment (h : FVec F S512x1024 .bf16) (w : Vec F S1024x512 .bf16) : FVec F S512x512 .f32 :=
  matmul dot_S512x1024_S1024x512_S512x512_1_0_0_1_n_n none h (shapeCast S1024x512 w shapeCasts_S1024x512_S1024x512) (constant S512x512 .f32 0x00000000#32)

/-- The first four heads of a segment, each divided by its root mean square; -/
def low (y : FVec F S512x512 .f32) (p : Vec F S256x256 .bf16) : FVec F S512x256 .f32 :=
  mulf (extractStridedSlice S512x256 ![0, 0] y slices_S512x512_o0_0_S512x256) (rsqrt (addf (matmul dot_S512x256_S256x256_S512x256_1_0_0_1_n_n none
    (extractStridedSlice S512x256 ![0, 0] (truncf .bf16 (mulf y y) bitsLt_bf16_f32) slices_S512x512_o0_0_S512x256) (shapeCast S256x256 p shapeCasts_S256x256_S256x256) (constant S512x256 .f32 0x00000000#32)) (broadcast S512x256 (Scalar.ofBits .f32 0x358637BD#32))))

/-- and the last four. -/
def high (y : FVec F S512x512 .f32) (p : Vec F S256x256 .bf16) : FVec F S512x256 .f32 :=
  mulf (extractStridedSlice S512x256 ![0, 256] y slices_S512x512_o0_256_S512x256) (rsqrt (addf (matmul dot_S512x256_S256x256_S512x256_1_0_0_1_n_n none
    (extractStridedSlice S512x256 ![0, 256] (truncf .bf16 (mulf y y) bitsLt_bf16_f32) slices_S512x512_o0_256_S512x256) (shapeCast S256x256 p shapeCasts_S256x256_S256x256) (constant S512x256 .f32 0x00000000#32)) (broadcast S512x256 (Scalar.ofBits .f32 0x358637BD#32))))

/-- A segment's heads, each divided by its root mean square, times the gain. -/
def normed (y : FVec F S512x512 .f32) (p : Vec F S256x256 .bf16) (g : Vec F S1x512 .f32) : FVec F S512x512 .f32 :=
  mulf (concatenate S512x512 1 [⟨S512x256, low y p⟩, ⟨S512x256, high y p⟩] concatenates_S512x256_S512x256_S512x512_d1) (broadcastTo S512x512 (shapeCast S1x512 g shapeCasts_S1x512_S1x512) broadcasts_S1x512_S512x512)

/-- The queries' factor. -/
def scaled (y : FVec F S512x512 .f32) : FVec F S512x512 .f32 := mulf y (broadcast S512x512 (Scalar.ofBits .f32 0x3E38AA3B#32))

/-- A segment as a block, in the half format or whole; -/
def put16 (y : FVec F S512x512 .f32) : FVec F S1x512x512 .bf16 := shapeCast S1x512x512 (truncf .bf16 y bitsLt_bf16_f32) shapeCasts_S512x512_S1x512x512
def put32 (y : FVec F S512x512 .f32) : FVec F S1x512x512 .f32 := shapeCast S1x512x512 y shapeCasts_S512x512_S1x512x512

/-- and one head's lanes of it. -/
def lanes0 (y : FVec F S512x512 .f32) : FVec F S1x512x128 .f32 := shapeCast S1x512x128 (extractStridedSlice S512x128 ![0, 0] y slices_S512x512_o0_0_S512x128) shapeCasts_S512x128_S1x512x128
def lanes1 (y : FVec F S512x512 .f32) : FVec F S1x512x128 .f32 := shapeCast S1x512x128 (extractStridedSlice S512x128 ![0, 128] y slices_S512x512_o0_128_S512x128) shapeCasts_S512x128_S1x512x128
def lanes2 (y : FVec F S512x512 .f32) : FVec F S1x512x128 .f32 := shapeCast S1x512x128 (extractStridedSlice S512x128 ![0, 256] y slices_S512x512_o0_256_S512x128) shapeCasts_S512x128_S1x512x128
def lanes3 (y : FVec F S512x512 .f32) : FVec F S1x512x128 .f32 := shapeCast S1x512x128 (extractStridedSlice S512x128 ![0, 384] y slices_S512x512_o0_384_S512x128) shapeCasts_S512x128_S1x512x128

/-- The step: its loads and stores in order. -/
def step (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x6144 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S256x256 .bf16) (harg11 : arg11.IsWhole) (arg12 : Memref sig .tc .vmem S1x512x512 .bf16) (harg12 : arg12.IsWhole) (arg13 : Memref sig .tc .vmem S1x2048x128 .f32) (harg13 : arg13.IsWhole) (arg14 : Memref sig .tc .vmem S1x512x512 .bf16) (harg14 : arg14.IsWhole) (arg15 : Memref sig .tc .vmem S1x2048x128 .f32) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x512x512 .bf16) (harg18 : arg18.IsWhole) (arg19 : Memref sig .tc .vmem S1x512x512 .f32) (harg19 : arg19.IsWhole) (arg20 : Memref sig .tc .vmem S1x512x512 .bf16) (harg20 : arg20.IsWhole) (arg21 : Memref sig .tc .vmem S1x512x512 .f32) (harg21 : arg21.IsWhole) (arg22 : Memref sig .tc .vmem S1x512x512 .bf16) (harg22 : arg22.IsWhole) (arg23 : Memref sig .tc .vmem S1x512x512 .bf16) (harg23 : arg23.IsWhole) (arg24 : Memref sig .tc .vmem S1x512x2048 .bf16) (harg24 : arg24.IsWhole) :
    Prog (TpuEff nD τ sig (Elt F) Λ₀ .tc) PUnit := do
  let v0 : Vec F S1x512x1024 .f32 ← Prog.lift (.load arg2 (Rect.unit (s := S1x512x1024) ![0, 0, 0] S1x512x1024.size inb_S1x512x1024_S1x512x1024_0_0_0).toLoadRect (View.loadsAt_vmem h_S1x512x1024))
  let v11 : Vec F S1x1024 .f32 ← Prog.lift (.load arg5 (Rect.unit (s := S1x1024) ![0, 0] S1x1024.size inb_S1x1024_S1x1024_0_0).toLoadRect (View.loadsAt_vmem h_S1x1024))
  let v16 : Vec F S1x1x1024 .f32 ← Prog.lift (.load arg4 (Rect.unit (s := S1x1x1024) ![0, 0, 0] S1x1x1024.size inb_S1x1x1024_S1x1x1024_0_0_0).toLoadRect (View.loadsAt_vmem h_S1x1x1024))
  let v22 : Vec F S1x1x1024 .f32 ← Prog.lift (.load arg3 (Rect.unit (s := S1x1x1024) ![0, 0, 0] S1x1x1024.size inb_S1x1x1024_S1x1x1024_0_0_0).toLoadRect (View.loadsAt_vmem h_S1x1x1024))
  let v28 : Vec F S1024x512 .bf16 ← Prog.lift (.load arg6 (Rect.unit (s := S1024x6144) ![0, 0] S1024x512.size inb_S1024x6144_S1024x512_0_0).toLoadRect (View.loadsAt_vmem h_S1024x512))
  let v33 : Vec F S256x256 .bf16 ← Prog.lift (.load arg11 (Rect.unit (s := S256x256) ![0, 0] S256x256.size inb_S256x256_S256x256_0_0).toLoadRect (View.loadsAt_vmem h_S256x256))
  let v50 : Vec F S1x512 .f32 ← Prog.lift (.load arg7 (Rect.unit (s := S1x512) ![0, 0] S1x512.size inb_S1x512_S1x512_0_0).toLoadRect (View.loadsAt_vmem h_S1x512))
  let v58 : Vec F S1x512x512 .bf16 ← Prog.lift (.load arg12 (Rect.unit (s := S1x512x512) ![0, 0, 0] S1x512x512.size inb_S1x512x512_S1x512x512_0_0_0).toLoadRect (View.loadsAt_vmem h_S1x512x512))
  Prog.lift (.store arg12 (Rect.unit (s := S1x512x512) ![0, 0, 0] S1x512x512.size inb_S1x512x512_S1x512x512_0_0_0) (put16 (scaled (normed (segment (modulated v0 v11 v16 v22) v28) v33 v50))) Finset.univ (View.stores_vmem h_S1x512x512 (harg12.storeExact_slice rfl _ packedbf16_S1x512x512_S1x512x512_0_0_0) (fun _ => rfl)) (.inl rfl))
  let v59 : Vec F S1024x512 .bf16 ← Prog.lift (.load arg6 (Rect.unit (s := S1024x6144) ![0, 512] S1024x512.size inb_S1024x6144_S1024x512_0_512).toLoadRect (View.loadsAt_vmem h_S1024x512))
  let v64 : Vec F S256x256 .bf16 ← Prog.lift (.load arg11 (Rect.unit (s := S256x256) ![0, 0] S256x256.size inb_S256x256_S256x256_0_0).toLoadRect (View.loadsAt_vmem h_S256x256))
  let v81 : Vec F S1x512 .f32 ← Prog.lift (.load arg8 (Rect.unit (s := S1x512) ![0, 0] S1x512.size inb_S1x512_S1x512_0_0).toLoadRect (View.loadsAt_vmem h_S1x512))
  let v87 : Vec F S1x512x128 .f32 ← Prog.lift (.load arg13 (⟨![0, 0, 0], S1x512x128.size, ![1, 4, 1], inb_S1x2048x128_S1x512x128_0_0_0_s_1_4_1⟩ : LoadRect S1x2048x128) (View.loadsAt_vmem h_S1x512x128))
  Prog.lift (.store arg13 ⟨(⟨![0, 0, 0], S1x512x128.size, ![1, 4, 1], inb_S1x2048x128_S1x512x128_0_0_0_s_1_4_1⟩ : LoadRect S1x2048x128), spos_1_4_1⟩ (lanes0 (normed (segment (modulated v0 v11 v16 v22) v59) v64 v81)) Finset.univ (View.stores_vmem_bits_univ h_S1x512x128 rfl) (.inl rfl))
  let v90 : Vec F S1x512x128 .f32 ← Prog.lift (.load arg13 (⟨![0, 1, 0], S1x512x128.size, ![1, 4, 1], inb_S1x2048x128_S1x512x128_0_1_0_s_1_4_1⟩ : LoadRect S1x2048x128) (View.loadsAt_vmem h_S1x512x128))
  Prog.lift (.store arg13 ⟨(⟨![0, 1, 0], S1x512x128.size, ![1, 4, 1], inb_S1x2048x128_S1x512x128_0_1_0_s_1_4_1⟩ : LoadRect S1x2048x128), spos_1_4_1⟩ (lanes1 (normed (segment (modulated v0 v11 v16 v22) v59) v64 v81)) Finset.univ (View.stores_vmem_bits_univ h_S1x512x128 rfl) (.inl rfl))
  let v93 : Vec F S1x512x128 .f32 ← Prog.lift (.load arg13 (⟨![0, 2, 0], S1x512x128.size, ![1, 4, 1], inb_S1x2048x128_S1x512x128_0_2_0_s_1_4_1⟩ : LoadRect S1x2048x128) (View.loadsAt_vmem h_S1x512x128))
  Prog.lift (.store arg13 ⟨(⟨![0, 2, 0], S1x512x128.size, ![1, 4, 1], inb_S1x2048x128_S1x512x128_0_2_0_s_1_4_1⟩ : LoadRect S1x2048x128), spos_1_4_1⟩ (lanes2 (normed (segment (modulated v0 v11 v16 v22) v59) v64 v81)) Finset.univ (View.stores_vmem_bits_univ h_S1x512x128 rfl) (.inl rfl))
  let v96 : Vec F S1x512x128 .f32 ← Prog.lift (.load arg13 (⟨![0, 3, 0], S1x512x128.size, ![1, 4, 1], inb_S1x2048x128_S1x512x128_0_3_0_s_1_4_1⟩ : LoadRect S1x2048x128) (View.loadsAt_vmem h_S1x512x128))
  Prog.lift (.store arg13 ⟨(⟨![0, 3, 0], S1x512x128.size, ![1, 4, 1], inb_S1x2048x128_S1x512x128_0_3_0_s_1_4_1⟩ : LoadRect S1x2048x128), spos_1_4_1⟩ (lanes3 (normed (segment (modulated v0 v11 v16 v22) v59) v64 v81)) Finset.univ (View.stores_vmem_bits_univ h_S1x512x128 rfl) (.inl rfl))
  let v99 : Vec F S1x512x512 .bf16 ← Prog.lift (.load arg14 (Rect.unit (s := S1x512x512) ![0, 0, 0] S1x512x512.size inb_S1x512x512_S1x512x512_0_0_0).toLoadRect (View.loadsAt_vmem h_S1x512x512))
  Prog.lift (.store arg14 (Rect.unit (s := S1x512x512) ![0, 0, 0] S1x512x512.size inb_S1x512x512_S1x512x512_0_0_0) (put16 (normed (segment (modulated v0 v11 v16 v22) v59) v64 v81)) Finset.univ (View.stores_vmem h_S1x512x512 (harg14.storeExact_slice rfl _ packedbf16_S1x512x512_S1x512x512_0_0_0) (fun _ => rfl)) (.inl rfl))
  let v100 : Vec F S1024x512 .bf16 ← Prog.lift (.load arg6 (Rect.unit (s := S1024x6144) ![0, 1024] S1024x512.size inb_S1024x6144_S1024x512_0_1024).toLoadRect (View.loadsAt_vmem h_S1024x512))
  let v105 : Vec F S1x512x128 .f32 ← Prog.lift (.load arg15 (⟨![0, 0, 0], S1x512x128.size, ![1, 4, 1], inb_S1x2048x128_S1x512x128_0_0_0_s_1_4_1⟩ : LoadRect S1x2048x128) (View.loadsAt_vmem h_S1x512x128))
  Prog.lift (.store arg15 ⟨(⟨![0, 0, 0], S1x512x128.size, ![1, 4, 1], inb_S1x2048x128_S1x512x128_0_0_0_s_1_4_1⟩ : LoadRect S1x2048x128), spos_1_4_1⟩ (lanes0 (segment (modulated v0 v11 v16 v22) v100)) Finset.univ (View.stores_vmem_bits_univ h_S1x512x128 rfl) (.inl rfl))
  let v108 : Vec F S1x512x128 .f32 ← Prog.lift (.load arg15 (⟨![0, 1, 0], S1x512x128.size, ![1, 4, 1], inb_S1x2048x128_S1x512x128_0_1_0_s_1_4_1⟩ : LoadRect S1x2048x128) (View.loadsAt_vmem h_S1x512x128))
  Prog.lift (.store arg15 ⟨(⟨![0, 1, 0], S1x512x128.size, ![1, 4, 1], inb_S1x2048x128_S1x512x128_0_1_0_s_1_4_1⟩ : LoadRect S1x2048x128), spos_1_4_1⟩ (lanes1 (segment (modulated v0 v11 v16 v22) v100)) Finset.univ (View.stores_vmem_bits_univ h_S1x512x128 rfl) (.inl rfl))
  let v111 : Vec F S1x512x128 .f32 ← Prog.lift (.load arg15 (⟨![0, 2, 0], S1x512x128.size, ![1, 4, 1], inb_S1x2048x128_S1x512x128_0_2_0_s_1_4_1⟩ : LoadRect S1x2048x128) (View.loadsAt_vmem h_S1x512x128))
  Prog.lift (.store arg15 ⟨(⟨![0, 2, 0], S1x512x128.size, ![1, 4, 1], inb_S1x2048x128_S1x512x128_0_2_0_s_1_4_1⟩ : LoadRect S1x2048x128), spos_1_4_1⟩ (lanes2 (segment (modulated v0 v11 v16 v22) v100)) Finset.univ (View.stores_vmem_bits_univ h_S1x512x128 rfl) (.inl rfl))
  let v114 : Vec F S1x512x128 .f32 ← Prog.lift (.load arg15 (⟨![0, 3, 0], S1x512x128.size, ![1, 4, 1], inb_S1x2048x128_S1x512x128_0_3_0_s_1_4_1⟩ : LoadRect S1x2048x128) (View.loadsAt_vmem h_S1x512x128))
  Prog.lift (.store arg15 ⟨(⟨![0, 3, 0], S1x512x128.size, ![1, 4, 1], inb_S1x2048x128_S1x512x128_0_3_0_s_1_4_1⟩ : LoadRect S1x2048x128), spos_1_4_1⟩ (lanes3 (segment (modulated v0 v11 v16 v22) v100)) Finset.univ (View.stores_vmem_bits_univ h_S1x512x128 rfl) (.inl rfl))
  let v117 : Vec F S1x512x512 .bf16 ← Prog.lift (.load arg16 (Rect.unit (s := S1x512x512) ![0, 0, 0] S1x512x512.size inb_S1x512x512_S1x512x512_0_0_0).toLoadRect (View.loadsAt_vmem h_S1x512x512))
  Prog.lift (.store arg16 (Rect.unit (s := S1x512x512) ![0, 0, 0] S1x512x512.size inb_S1x512x512_S1x512x512_0_0_0) (put16 (segment (modulated v0 v11 v16 v22) v100)) Finset.univ (View.stores_vmem h_S1x512x512 (harg16.storeExact_slice rfl _ packedbf16_S1x512x512_S1x512x512_0_0_0) (fun _ => rfl)) (.inl rfl))
  let v118 : Vec F S1024x512 .bf16 ← Prog.lift (.load arg6 (Rect.unit (s := S1024x6144) ![0, 1536] S1024x512.size inb_S1024x6144_S1024x512_0_1536).toLoadRect (View.loadsAt_vmem h_S1024x512))
  let v123 : Vec F S1x512x512 .bf16 ← Prog.lift (.load arg17 (Rect.unit (s := S1x512x512) ![0, 0, 0] S1x512x512.size inb_S1x512x512_S1x512x512_0_0_0).toLoadRect (View.loadsAt_vmem h_S1x512x512))
  Prog.lift (.store arg17 (Rect.unit (s := S1x512x512) ![0, 0, 0] S1x512x512.size inb_S1x512x512_S1x512x512_0_0_0) (put16 (segment (modulated v0 v11 v16 v22) v118)) Finset.univ (View.stores_vmem h_S1x512x512 (harg17.storeExact_slice rfl _ packedbf16_S1x512x512_S1x512x512_0_0_0) (fun _ => rfl)) (.inl rfl))
  let v124 : Vec F S1024x512 .bf16 ← Prog.lift (.load arg6 (Rect.unit (s := S1024x6144) ![0, 2048] S1024x512.size inb_S1024x6144_S1024x512_0_2048).toLoadRect (View.loadsAt_vmem h_S1024x512))
  let v129 : Vec F S256x256 .bf16 ← Prog.lift (.load arg11 (Rect.unit (s := S256x256) ![0, 0] S256x256.size inb_S256x256_S256x256_0_0).toLoadRect (View.loadsAt_vmem h_S256x256))
  let v146 : Vec F S1x512 .f32 ← Prog.lift (.load arg9 (Rect.unit (s := S1x512) ![0, 0] S1x512.size inb_S1x512_S1x512_0_0).toLoadRect (View.loadsAt_vmem h_S1x512))
  let v154 : Vec F S1x512x512 .bf16 ← Prog.lift (.load arg18 (Rect.unit (s := S1x512x512) ![0, 0, 0] S1x512x512.size inb_S1x512x512_S1x512x512_0_0_0).toLoadRect (View.loadsAt_vmem h_S1x512x512))
  Prog.lift (.store arg18 (Rect.unit (s := S1x512x512) ![0, 0, 0] S1x512x512.size inb_S1x512x512_S1x512x512_0_0_0) (put16 (scaled (normed (segment (modulated v0 v11 v16 v22) v124) v129 v146))) Finset.univ (View.stores_vmem h_S1x512x512 (harg18.storeExact_slice rfl _ packedbf16_S1x512x512_S1x512x512_0_0_0) (fun _ => rfl)) (.inl rfl))
  let v155 : Vec F S1024x512 .bf16 ← Prog.lift (.load arg6 (Rect.unit (s := S1024x6144) ![0, 2560] S1024x512.size inb_S1024x6144_S1024x512_0_2560).toLoadRect (View.loadsAt_vmem h_S1024x512))
  let v160 : Vec F S256x256 .bf16 ← Prog.lift (.load arg11 (Rect.unit (s := S256x256) ![0, 0] S256x256.size inb_S256x256_S256x256_0_0).toLoadRect (View.loadsAt_vmem h_S256x256))
  let v177 : Vec F S1x512 .f32 ← Prog.lift (.load arg10 (Rect.unit (s := S1x512) ![0, 0] S1x512.size inb_S1x512_S1x512_0_0).toLoadRect (View.loadsAt_vmem h_S1x512))
  let v182 : Vec F S1x512x512 .f32 ← Prog.lift (.load arg19 (Rect.unit (s := S1x512x512) ![0, 0, 0] S1x512x512.size inb_S1x512x512_S1x512x512_0_0_0).toLoadRect (View.loadsAt_vmem h_S1x512x512))
  Prog.lift (.store arg19 (Rect.unit (s := S1x512x512) ![0, 0, 0] S1x512x512.size inb_S1x512x512_S1x512x512_0_0_0) (put32 (normed (segment (modulated v0 v11 v16 v22) v155) v160 v177)) Finset.univ (View.stores_vmem_bits_univ h_S1x512x512 rfl) (.inl rfl))
  let v185 : Vec F S1x512x512 .bf16 ← Prog.lift (.load arg20 (Rect.unit (s := S1x512x512) ![0, 0, 0] S1x512x512.size inb_S1x512x512_S1x512x512_0_0_0).toLoadRect (View.loadsAt_vmem h_S1x512x512))
  Prog.lift (.store arg20 (Rect.unit (s := S1x512x512) ![0, 0, 0] S1x512x512.size inb_S1x512x512_S1x512x512_0_0_0) (put16 (normed (segment (modulated v0 v11 v16 v22) v155) v160 v177)) Finset.univ (View.stores_vmem h_S1x512x512 (harg20.storeExact_slice rfl _ packedbf16_S1x512x512_S1x512x512_0_0_0) (fun _ => rfl)) (.inl rfl))
  let v186 : Vec F S1024x512 .bf16 ← Prog.lift (.load arg6 (Rect.unit (s := S1024x6144) ![0, 3072] S1024x512.size inb_S1024x6144_S1024x512_0_3072).toLoadRect (View.loadsAt_vmem h_S1024x512))
  let v190 : Vec F S1x512x512 .f32 ← Prog.lift (.load arg21 (Rect.unit (s := S1x512x512) ![0, 0, 0] S1x512x512.size inb_S1x512x512_S1x512x512_0_0_0).toLoadRect (View.loadsAt_vmem h_S1x512x512))
  Prog.lift (.store arg21 (Rect.unit (s := S1x512x512) ![0, 0, 0] S1x512x512.size inb_S1x512x512_S1x512x512_0_0_0) (put32 (segment (modulated v0 v11 v16 v22) v186)) Finset.univ (View.stores_vmem_bits_univ h_S1x512x512 rfl) (.inl rfl))
  let v193 : Vec F S1x512x512 .bf16 ← Prog.lift (.load arg22 (Rect.unit (s := S1x512x512) ![0, 0, 0] S1x512x512.size inb_S1x512x512_S1x512x512_0_0_0).toLoadRect (View.loadsAt_vmem h_S1x512x512))
  Prog.lift (.store arg22 (Rect.unit (s := S1x512x512) ![0, 0, 0] S1x512x512.size inb_S1x512x512_S1x512x512_0_0_0) (put16 (segment (modulated v0 v11 v16 v22) v186)) Finset.univ (View.stores_vmem h_S1x512x512 (harg22.storeExact_slice rfl _ packedbf16_S1x512x512_S1x512x512_0_0_0) (fun _ => rfl)) (.inl rfl))
  let v194 : Vec F S1024x512 .bf16 ← Prog.lift (.load arg6 (Rect.unit (s := S1024x6144) ![0, 3584] S1024x512.size inb_S1024x6144_S1024x512_0_3584).toLoadRect (View.loadsAt_vmem h_S1024x512))
  let v199 : Vec F S1x512x512 .bf16 ← Prog.lift (.load arg23 (Rect.unit (s := S1x512x512) ![0, 0, 0] S1x512x512.size inb_S1x512x512_S1x512x512_0_0_0).toLoadRect (View.loadsAt_vmem h_S1x512x512))
  Prog.lift (.store arg23 (Rect.unit (s := S1x512x512) ![0, 0, 0] S1x512x512.size inb_S1x512x512_S1x512x512_0_0_0) (put16 (segment (modulated v0 v11 v16 v22) v194)) Finset.univ (View.stores_vmem h_S1x512x512 (harg23.storeExact_slice rfl _ packedbf16_S1x512x512_S1x512x512_0_0_0) (fun _ => rfl)) (.inl rfl))
  let v200 : Vec F S1024x512 .bf16 ← Prog.lift (.load arg6 (Rect.unit (s := S1024x6144) ![0, 4096] S1024x512.size inb_S1024x6144_S1024x512_0_4096).toLoadRect (View.loadsAt_vmem h_S1024x512))
  let v205 : Vec F S1x512x512 .bf16 ← Prog.lift (.load arg24 (Rect.unit (s := S1x512x2048) ![0, 0, 0] S1x512x512.size inb_S1x512x2048_S1x512x512_0_0_0).toLoadRect (View.loadsAt_vmem h_S1x512x512))
  Prog.lift (.store arg24 (Rect.unit (s := S1x512x2048) ![0, 0, 0] S1x512x512.size inb_S1x512x2048_S1x512x512_0_0_0) (put16 (segment (modulated v0 v11 v16 v22) v200)) Finset.univ (View.stores_vmem h_S1x512x512 (harg24.storeExact_slice rfl _ packedbf16_S1x512x2048_S1x512x512_0_0_0) (fun _ => rfl)) (.inl rfl))
  let v206 : Vec F S1024x512 .bf16 ← Prog.lift (.load arg6 (Rect.unit (s := S1024x6144) ![0, 4608] S1024x512.size inb_S1024x6144_S1024x512_0_4608).toLoadRect (View.loadsAt_vmem h_S1024x512))
  let v211 : Vec F S1x512x512 .bf16 ← Prog.lift (.load arg24 (Rect.unit (s := S1x512x2048) ![0, 0, 512] S1x512x512.size inb_S1x512x2048_S1x512x512_0_0_512).toLoadRect (View.loadsAt_vmem h_S1x512x512))
  Prog.lift (.store arg24 (Rect.unit (s := S1x512x2048) ![0, 0, 512] S1x512x512.size inb_S1x512x2048_S1x512x512_0_0_512) (put16 (segment (modulated v0 v11 v16 v22) v206)) Finset.univ (View.stores_vmem h_S1x512x512 (harg24.storeExact_slice rfl _ packedbf16_S1x512x2048_S1x512x512_0_0_512) (fun _ => rfl)) (.inl rfl))
  let v212 : Vec F S1024x512 .bf16 ← Prog.lift (.load arg6 (Rect.unit (s := S1024x6144) ![0, 5120] S1024x512.size inb_S1024x6144_S1024x512_0_5120).toLoadRect (View.loadsAt_vmem h_S1024x512))
  let v217 : Vec F S1x512x512 .bf16 ← Prog.lift (.load arg24 (Rect.unit (s := S1x512x2048) ![0, 0, 1024] S1x512x512.size inb_S1x512x2048_S1x512x512_0_0_1024).toLoadRect (View.loadsAt_vmem h_S1x512x512))
  Prog.lift (.store arg24 (Rect.unit (s := S1x512x2048) ![0, 0, 1024] S1x512x512.size inb_S1x512x2048_S1x512x512_0_0_1024) (put16 (segment (modulated v0 v11 v16 v22) v212)) Finset.univ (View.stores_vmem h_S1x512x512 (harg24.storeExact_slice rfl _ packedbf16_S1x512x2048_S1x512x512_0_0_1024) (fun _ => rfl)) (.inl rfl))
  let v218 : Vec F S1024x512 .bf16 ← Prog.lift (.load arg6 (Rect.unit (s := S1024x6144) ![0, 5632] S1024x512.size inb_S1024x6144_S1024x512_0_5632).toLoadRect (View.loadsAt_vmem h_S1024x512))
  let v223 : Vec F S1x512x512 .bf16 ← Prog.lift (.load arg24 (Rect.unit (s := S1x512x2048) ![0, 0, 1536] S1x512x512.size inb_S1x512x2048_S1x512x512_0_0_1536).toLoadRect (View.loadsAt_vmem h_S1x512x512))
  Prog.lift (.store arg24 (Rect.unit (s := S1x512x2048) ![0, 0, 1536] S1x512x512.size inb_S1x512x2048_S1x512x512_0_0_1536) (put16 (segment (modulated v0 v11 v16 v22) v218)) Finset.univ (View.stores_vmem h_S1x512x512 (harg24.storeExact_slice rfl _ packedbf16_S1x512x2048_S1x512x512_0_0_1536) (fun _ => rfl)) (.inl rfl))
  pure ⟨⟩

theorem step_eq (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x6144 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S256x256 .bf16) (harg11 : arg11.IsWhole) (arg12 : Memref sig .tc .vmem S1x512x512 .bf16) (harg12 : arg12.IsWhole) (arg13 : Memref sig .tc .vmem S1x2048x128 .f32) (harg13 : arg13.IsWhole) (arg14 : Memref sig .tc .vmem S1x512x512 .bf16) (harg14 : arg14.IsWhole) (arg15 : Memref sig .tc .vmem S1x2048x128 .f32) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x512x512 .bf16) (harg18 : arg18.IsWhole) (arg19 : Memref sig .tc .vmem S1x512x512 .f32) (harg19 : arg19.IsWhole) (arg20 : Memref sig .tc .vmem S1x512x512 .bf16) (harg20 : arg20.IsWhole) (arg21 : Memref sig .tc .vmem S1x512x512 .f32) (harg21 : arg21.IsWhole) (arg22 : Memref sig .tc .vmem S1x512x512 .bf16) (harg22 : arg22.IsWhole) (arg23 : Memref sig .tc .vmem S1x512x512 .bf16) (harg23 : arg23.IsWhole) (arg24 : Memref sig .tc .vmem S1x512x2048 .bf16) (harg24 : arg24.IsWhole) :
    cc0_in_proj (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 = step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 := rfl

end Cert.ProjectIdeal.Tile

end
-- ==== Proof.ProjRun.lean ====
module

public import proofs.«01_k».proof.Proof.ProjStep
public import Idealize.ShloMosaic.Lib.Claim

@[expose] public section

set_option maxRecDepth 16384

noncomputable section

/-! The projection's run: what each step leaves in the thirteen output blocks, the step's triple, and the launch. The
    outputs by head are written by strided rectangles, one head's rows each. -/

namespace Cert.ProjectIdeal.Tile

open Cert.ProjectIdeal Cert.ProjectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole block of 512 by 512, -/
abbrev whole : Rect S1x512x512 := Rect.unit (s := S1x512x512) ![0, 0, 0] S1x512x512.size inb_S1x512x512_S1x512x512_0_0_0
/-- the rows of one head in a block by head, -/
abbrev head0 : Rect S1x2048x128 := ⟨(⟨![0, 0, 0], S1x512x128.size, ![1, 4, 1], inb_S1x2048x128_S1x512x128_0_0_0_s_1_4_1⟩ : LoadRect S1x2048x128), spos_1_4_1⟩
abbrev head1 : Rect S1x2048x128 := ⟨(⟨![0, 1, 0], S1x512x128.size, ![1, 4, 1], inb_S1x2048x128_S1x512x128_0_1_0_s_1_4_1⟩ : LoadRect S1x2048x128), spos_1_4_1⟩
abbrev head2 : Rect S1x2048x128 := ⟨(⟨![0, 2, 0], S1x512x128.size, ![1, 4, 1], inb_S1x2048x128_S1x512x128_0_2_0_s_1_4_1⟩ : LoadRect S1x2048x128), spos_1_4_1⟩
abbrev head3 : Rect S1x2048x128 := ⟨(⟨![0, 3, 0], S1x512x128.size, ![1, 4, 1], inb_S1x2048x128_S1x512x128_0_3_0_s_1_4_1⟩ : LoadRect S1x2048x128), spos_1_4_1⟩
/-- and a quarter of the last block. -/
abbrev quarter0 : Rect S1x512x2048 := Rect.unit (s := S1x512x2048) ![0, 0, 0] S1x512x512.size inb_S1x512x2048_S1x512x512_0_0_0
abbrev quarter1 : Rect S1x512x2048 := Rect.unit (s := S1x512x2048) ![0, 0, 512] S1x512x512.size inb_S1x512x2048_S1x512x512_0_0_512
abbrev quarter2 : Rect S1x512x2048 := Rect.unit (s := S1x512x2048) ![0, 0, 1024] S1x512x512.size inb_S1x512x2048_S1x512x512_0_0_1024
abbrev quarter3 : Rect S1x512x2048 := Rect.unit (s := S1x512x2048) ![0, 0, 1536] S1x512x512.size inb_S1x512x2048_S1x512x512_0_0_1536

/-- The tile's rows, from the blocks. -/
def rows (x0 : Vec F S1x512x1024 .f32) (x1 x2 : Vec F S1x1x1024 .f32) (x3 : Vec F S1x1024 .f32) : FVec F S512x1024 .bf16 :=
  modulated (View.ld x0 (Rect.unit (s := S1x512x1024) ![0, 0, 0] S1x512x1024.size inb_S1x512x1024_S1x512x1024_0_0_0)) (View.ld x3 (Rect.unit (s := S1x1024) ![0, 0] S1x1024.size inb_S1x1024_S1x1024_0_0))
    (View.ld x2 (Rect.unit (s := S1x1x1024) ![0, 0, 0] S1x1x1024.size inb_S1x1x1024_S1x1x1024_0_0_0)) (View.ld x1 (Rect.unit (s := S1x1x1024) ![0, 0, 0] S1x1x1024.size inb_S1x1x1024_S1x1x1024_0_0_0))

/-! What a step leaves in each output's block. -/

def left10 (x0 : Vec F S1x512x1024 .f32) (x1 : Vec F S1x1x1024 .f32) (x2 : Vec F S1x1x1024 .f32) (x3 : Vec F S1x1024 .f32) (x4 : Vec F S1024x6144 .bf16) (x5 : Vec F S1x512 .f32) (x6 : Vec F S1x512 .f32) (x7 : Vec F S1x512 .f32) (x8 : Vec F S1x512 .f32) (x9 : Vec F S256x256 .bf16) : Vec F S1x512x512 .bf16 :=
  View.canon [⟨whole, put16 (scaled (normed (segment (rows x0 x1 x2 x3) (View.ld x4 (Rect.unit (s := S1024x6144) ![0, 0] S1024x512.size inb_S1024x6144_S1024x512_0_0))) (View.ld x9 (Rect.unit (s := S256x256) ![0, 0] S256x256.size inb_S256x256_S256x256_0_0)) (View.ld x5 (Rect.unit (s := S1x512) ![0, 0] S1x512.size inb_S1x512_S1x512_0_0))))⟩]
def left11 (x0 : Vec F S1x512x1024 .f32) (x1 : Vec F S1x1x1024 .f32) (x2 : Vec F S1x1x1024 .f32) (x3 : Vec F S1x1024 .f32) (x4 : Vec F S1024x6144 .bf16) (x5 : Vec F S1x512 .f32) (x6 : Vec F S1x512 .f32) (x7 : Vec F S1x512 .f32) (x8 : Vec F S1x512 .f32) (x9 : Vec F S256x256 .bf16) : Vec F S1x2048x128 .f32 :=
  View.canon [⟨head3, lanes3 (normed (segment (rows x0 x1 x2 x3) (View.ld x4 (Rect.unit (s := S1024x6144) ![0, 512] S1024x512.size inb_S1024x6144_S1024x512_0_512))) (View.ld x9 (Rect.unit (s := S256x256) ![0, 0] S256x256.size inb_S256x256_S256x256_0_0)) (View.ld x6 (Rect.unit (s := S1x512) ![0, 0] S1x512.size inb_S1x512_S1x512_0_0)))⟩,
    ⟨head2, lanes2 (normed (segment (rows x0 x1 x2 x3) (View.ld x4 (Rect.unit (s := S1024x6144) ![0, 512] S1024x512.size inb_S1024x6144_S1024x512_0_512))) (View.ld x9 (Rect.unit (s := S256x256) ![0, 0] S256x256.size inb_S256x256_S256x256_0_0)) (View.ld x6 (Rect.unit (s := S1x512) ![0, 0] S1x512.size inb_S1x512_S1x512_0_0)))⟩,
    ⟨head1, lanes1 (normed (segment (rows x0 x1 x2 x3) (View.ld x4 (Rect.unit (s := S1024x6144) ![0, 512] S1024x512.size inb_S1024x6144_S1024x512_0_512))) (View.ld x9 (Rect.unit (s := S256x256) ![0, 0] S256x256.size inb_S256x256_S256x256_0_0)) (View.ld x6 (Rect.unit (s := S1x512) ![0, 0] S1x512.size inb_S1x512_S1x512_0_0)))⟩,
    ⟨head0, lanes0 (normed (segment (rows x0 x1 x2 x3) (View.ld x4 (Rect.unit (s := S1024x6144) ![0, 512] S1024x512.size inb_S1024x6144_S1024x512_0_512))) (View.ld x9 (Rect.unit (s := S256x256) ![0, 0] S256x256.size inb_S256x256_S256x256_0_0)) (View.ld x6 (Rect.unit (s := S1x512) ![0, 0] S1x512.size inb_S1x512_S1x512_0_0)))⟩]
def left12 (x0 : Vec F S1x512x1024 .f32) (x1 : Vec F S1x1x1024 .f32) (x2 : Vec F S1x1x1024 .f32) (x3 : Vec F S1x1024 .f32) (x4 : Vec F S1024x6144 .bf16) (x5 : Vec F S1x512 .f32) (x6 : Vec F S1x512 .f32) (x7 : Vec F S1x512 .f32) (x8 : Vec F S1x512 .f32) (x9 : Vec F S256x256 .bf16) : Vec F S1x512x512 .bf16 :=
  View.canon [⟨whole, put16 (normed (segment (rows x0 x1 x2 x3) (View.ld x4 (Rect.unit (s := S1024x6144) ![0, 512] S1024x512.size inb_S1024x6144_S1024x512_0_512))) (View.ld x9 (Rect.unit (s := S256x256) ![0, 0] S256x256.size inb_S256x256_S256x256_0_0)) (View.ld x6 (Rect.unit (s := S1x512) ![0, 0] S1x512.size inb_S1x512_S1x512_0_0)))⟩]
def left13 (x0 : Vec F S1x512x1024 .f32) (x1 : Vec F S1x1x1024 .f32) (x2 : Vec F S1x1x1024 .f32) (x3 : Vec F S1x1024 .f32) (x4 : Vec F S1024x6144 .bf16) (x5 : Vec F S1x512 .f32) (x6 : Vec F S1x512 .f32) (x7 : Vec F S1x512 .f32) (x8 : Vec F S1x512 .f32) (x9 : Vec F S256x256 .bf16) : Vec F S1x2048x128 .f32 :=
  View.canon [⟨head3, lanes3 (segment (rows x0 x1 x2 x3) (View.ld x4 (Rect.unit (s := S1024x6144) ![0, 1024] S1024x512.size inb_S1024x6144_S1024x512_0_1024)))⟩,
    ⟨head2, lanes2 (segment (rows x0 x1 x2 x3) (View.ld x4 (Rect.unit (s := S1024x6144) ![0, 1024] S1024x512.size inb_S1024x6144_S1024x512_0_1024)))⟩,
    ⟨head1, lanes1 (segment (rows x0 x1 x2 x3) (View.ld x4 (Rect.unit (s := S1024x6144) ![0, 1024] S1024x512.size inb_S1024x6144_S1024x512_0_1024)))⟩,
    ⟨head0, lanes0 (segment (rows x0 x1 x2 x3) (View.ld x4 (Rect.unit (s := S1024x6144) ![0, 1024] S1024x512.size inb_S1024x6144_S1024x512_0_1024)))⟩]
def left14 (x0 : Vec F S1x512x1024 .f32) (x1 : Vec F S1x1x1024 .f32) (x2 : Vec F S1x1x1024 .f32) (x3 : Vec F S1x1024 .f32) (x4 : Vec F S1024x6144 .bf16) (x5 : Vec F S1x512 .f32) (x6 : Vec F S1x512 .f32) (x7 : Vec F S1x512 .f32) (x8 : Vec F S1x512 .f32) (x9 : Vec F S256x256 .bf16) : Vec F S1x512x512 .bf16 :=
  View.canon [⟨whole, put16 (segment (rows x0 x1 x2 x3) (View.ld x4 (Rect.unit (s := S1024x6144) ![0, 1024] S1024x512.size inb_S1024x6144_S1024x512_0_1024)))⟩]
def left15 (x0 : Vec F S1x512x1024 .f32) (x1 : Vec F S1x1x1024 .f32) (x2 : Vec F S1x1x1024 .f32) (x3 : Vec F S1x1024 .f32) (x4 : Vec F S1024x6144 .bf16) (x5 : Vec F S1x512 .f32) (x6 : Vec F S1x512 .f32) (x7 : Vec F S1x512 .f32) (x8 : Vec F S1x512 .f32) (x9 : Vec F S256x256 .bf16) : Vec F S1x512x512 .bf16 :=
  View.canon [⟨whole, put16 (segment (rows x0 x1 x2 x3) (View.ld x4 (Rect.unit (s := S1024x6144) ![0, 1536] S1024x512.size inb_S1024x6144_S1024x512_0_1536)))⟩]
def left16 (x0 : Vec F S1x512x1024 .f32) (x1 : Vec F S1x1x1024 .f32) (x2 : Vec F S1x1x1024 .f32) (x3 : Vec F S1x1024 .f32) (x4 : Vec F S1024x6144 .bf16) (x5 : Vec F S1x512 .f32) (x6 : Vec F S1x512 .f32) (x7 : Vec F S1x512 .f32) (x8 : Vec F S1x512 .f32) (x9 : Vec F S256x256 .bf16) : Vec F S1x512x512 .bf16 :=
  View.canon [⟨whole, put16 (scaled (normed (segment (rows x0 x1 x2 x3) (View.ld x4 (Rect.unit (s := S1024x6144) ![0, 2048] S1024x512.size inb_S1024x6144_S1024x512_0_2048))) (View.ld x9 (Rect.unit (s := S256x256) ![0, 0] S256x256.size inb_S256x256_S256x256_0_0)) (View.ld x7 (Rect.unit (s := S1x512) ![0, 0] S1x512.size inb_S1x512_S1x512_0_0))))⟩]
def left17 (x0 : Vec F S1x512x1024 .f32) (x1 : Vec F S1x1x1024 .f32) (x2 : Vec F S1x1x1024 .f32) (x3 : Vec F S1x1024 .f32) (x4 : Vec F S1024x6144 .bf16) (x5 : Vec F S1x512 .f32) (x6 : Vec F S1x512 .f32) (x7 : Vec F S1x512 .f32) (x8 : Vec F S1x512 .f32) (x9 : Vec F S256x256 .bf16) : Vec F S1x512x512 .f32 :=
  View.canon [⟨whole, put32 (normed (segment (rows x0 x1 x2 x3) (View.ld x4 (Rect.unit (s := S1024x6144) ![0, 2560] S1024x512.size inb_S1024x6144_S1024x512_0_2560))) (View.ld x9 (Rect.unit (s := S256x256) ![0, 0] S256x256.size inb_S256x256_S256x256_0_0)) (View.ld x8 (Rect.unit (s := S1x512) ![0, 0] S1x512.size inb_S1x512_S1x512_0_0)))⟩]
def left18 (x0 : Vec F S1x512x1024 .f32) (x1 : Vec F S1x1x1024 .f32) (x2 : Vec F S1x1x1024 .f32) (x3 : Vec F S1x1024 .f32) (x4 : Vec F S1024x6144 .bf16) (x5 : Vec F S1x512 .f32) (x6 : Vec F S1x512 .f32) (x7 : Vec F S1x512 .f32) (x8 : Vec F S1x512 .f32) (x9 : Vec F S256x256 .bf16) : Vec F S1x512x512 .bf16 :=
  View.canon [⟨whole, put16 (normed (segment (rows x0 x1 x2 x3) (View.ld x4 (Rect.unit (s := S1024x6144) ![0, 2560] S1024x512.size inb_S1024x6144_S1024x512_0_2560))) (View.ld x9 (Rect.unit (s := S256x256) ![0, 0] S256x256.size inb_S256x256_S256x256_0_0)) (View.ld x8 (Rect.unit (s := S1x512) ![0, 0] S1x512.size inb_S1x512_S1x512_0_0)))⟩]
def left19 (x0 : Vec F S1x512x1024 .f32) (x1 : Vec F S1x1x1024 .f32) (x2 : Vec F S1x1x1024 .f32) (x3 : Vec F S1x1024 .f32) (x4 : Vec F S1024x6144 .bf16) (x5 : Vec F S1x512 .f32) (x6 : Vec F S1x512 .f32) (x7 : Vec F S1x512 .f32) (x8 : Vec F S1x512 .f32) (x9 : Vec F S256x256 .bf16) : Vec F S1x512x512 .f32 :=
  View.canon [⟨whole, put32 (segment (rows x0 x1 x2 x3) (View.ld x4 (Rect.unit (s := S1024x6144) ![0, 3072] S1024x512.size inb_S1024x6144_S1024x512_0_3072)))⟩]
def left20 (x0 : Vec F S1x512x1024 .f32) (x1 : Vec F S1x1x1024 .f32) (x2 : Vec F S1x1x1024 .f32) (x3 : Vec F S1x1024 .f32) (x4 : Vec F S1024x6144 .bf16) (x5 : Vec F S1x512 .f32) (x6 : Vec F S1x512 .f32) (x7 : Vec F S1x512 .f32) (x8 : Vec F S1x512 .f32) (x9 : Vec F S256x256 .bf16) : Vec F S1x512x512 .bf16 :=
  View.canon [⟨whole, put16 (segment (rows x0 x1 x2 x3) (View.ld x4 (Rect.unit (s := S1024x6144) ![0, 3072] S1024x512.size inb_S1024x6144_S1024x512_0_3072)))⟩]
def left21 (x0 : Vec F S1x512x1024 .f32) (x1 : Vec F S1x1x1024 .f32) (x2 : Vec F S1x1x1024 .f32) (x3 : Vec F S1x1024 .f32) (x4 : Vec F S1024x6144 .bf16) (x5 : Vec F S1x512 .f32) (x6 : Vec F S1x512 .f32) (x7 : Vec F S1x512 .f32) (x8 : Vec F S1x512 .f32) (x9 : Vec F S256x256 .bf16) : Vec F S1x512x512 .bf16 :=
  View.canon [⟨whole, put16 (segment (rows x0 x1 x2 x3) (View.ld x4 (Rect.unit (s := S1024x6144) ![0, 3584] S1024x512.size inb_S1024x6144_S1024x512_0_3584)))⟩]
def left22 (x0 : Vec F S1x512x1024 .f32) (x1 : Vec F S1x1x1024 .f32) (x2 : Vec F S1x1x1024 .f32) (x3 : Vec F S1x1024 .f32) (x4 : Vec F S1024x6144 .bf16) (x5 : Vec F S1x512 .f32) (x6 : Vec F S1x512 .f32) (x7 : Vec F S1x512 .f32) (x8 : Vec F S1x512 .f32) (x9 : Vec F S256x256 .bf16) : Vec F S1x512x2048 .bf16 :=
  View.canon [⟨quarter3, put16 (segment (rows x0 x1 x2 x3) (View.ld x4 (Rect.unit (s := S1024x6144) ![0, 5632] S1024x512.size inb_S1024x6144_S1024x512_0_5632)))⟩,
    ⟨quarter2, put16 (segment (rows x0 x1 x2 x3) (View.ld x4 (Rect.unit (s := S1024x6144) ![0, 5120] S1024x512.size inb_S1024x6144_S1024x512_0_5120)))⟩,
    ⟨quarter1, put16 (segment (rows x0 x1 x2 x3) (View.ld x4 (Rect.unit (s := S1024x6144) ![0, 4608] S1024x512.size inb_S1024x6144_S1024x512_0_4608)))⟩,
    ⟨quarter0, put16 (segment (rows x0 x1 x2 x3) (View.ld x4 (Rect.unit (s := S1024x6144) ![0, 4096] S1024x512.size inb_S1024x6144_S1024x512_0_4096)))⟩]

/-- Each output's stores cover its block. -/
theorem covers_whole {φ : EltTy} (p : Vec F S1x512x512 φ) (y : S1x512x512.Idx) : ∃ pc ∈ ([⟨whole, p⟩] : List (View.Piece (Elt F) S1x512x512 φ)), y ∈ pc.1.set :=
  View.cover_of_tiled [⟨whole, p⟩] S1x512x512.size (by rfl) y

theorem covers_quarters (p q r s : Vec F S1x512x512 .bf16) (y : S1x512x2048.Idx) :
    ∃ pc ∈ ([⟨quarter3, p⟩, ⟨quarter2, q⟩, ⟨quarter1, r⟩, ⟨quarter0, s⟩] : List (View.Piece (Elt F) S1x512x2048 .bf16)), y ∈ pc.1.set :=
  View.cover_of_tiled [⟨quarter3, p⟩, ⟨quarter2, q⟩, ⟨quarter1, r⟩, ⟨quarter0, s⟩] S1x512x512.size (by rfl) y

theorem mem_head {h : ℕ} {inb} (y : S1x2048x128.Idx) (e : (y 1).val % 4 = h) :
    y ∈ (⟨(⟨![0, h, 0], S1x512x128.size, ![1, 4, 1], inb⟩ : LoadRect S1x2048x128), spos_1_4_1⟩ : Rect S1x2048x128).set := by
  have h0 : (y 0).val < 1 := (y 0).isLt
  have h1 : (y 1).val < 2048 := (y 1).isLt
  have h2 : (y 2).val < 128 := (y 2).isLt
  refine LoadRect.mem_set _ |>.mpr fun a => ?_
  match a with
  | ⟨0, _⟩ => exact ⟨0, Nat.zero_lt_one, by show (y 0).val = 0 + 1 * 0; omega⟩
  | ⟨1, _⟩ => exact ⟨(y 1).val / 4, by show (y 1).val / 4 < 512; omega, by show (y 1).val = h + 4 * ((y 1).val / 4); omega⟩
  | ⟨2, _⟩ => exact ⟨(y 2).val, h2, by show (y 2).val = 0 + 1 * (y 2).val; omega⟩

theorem covers_heads (p q r s : Vec F S1x512x128 .f32) (y : S1x2048x128.Idx) :
    ∃ pc ∈ ([⟨head3, p⟩, ⟨head2, q⟩, ⟨head1, r⟩, ⟨head0, s⟩] : List (View.Piece (Elt F) S1x2048x128 .f32)), y ∈ pc.1.set := by
  rcases (by omega : (y 1).val % 4 = 3 ∨ (y 1).val % 4 = 2 ∨ (y 1).val % 4 = 1 ∨ (y 1).val % 4 = 0) with e | e | e | e
  · exact ⟨_, List.mem_cons_self, mem_head y e⟩
  · exact ⟨_, List.mem_cons_of_mem _ List.mem_cons_self, mem_head y e⟩
  · exact ⟨_, List.mem_cons_of_mem _ (List.mem_cons_of_mem _ List.mem_cons_self), mem_head y e⟩
  · exact ⟨_, List.mem_cons_of_mem _ (List.mem_cons_of_mem _ (List.mem_cons_of_mem _ List.mem_cons_self)), mem_head y e⟩

set_option maxHeartbeats 1000000 in
/-- The step on whole staging memrefs: the inputs are left as they were and each output at what the step leaves. -/
theorem step_sound (c : Dev nD) (E : Set ℕ) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x6144 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S256x256 .bf16) (harg11 : arg11.IsWhole) (arg12 : Memref sig .tc .vmem S1x512x512 .bf16) (harg12 : arg12.IsWhole) (arg13 : Memref sig .tc .vmem S1x2048x128 .f32) (harg13 : arg13.IsWhole) (arg14 : Memref sig .tc .vmem S1x512x512 .bf16) (harg14 : arg14.IsWhole) (arg15 : Memref sig .tc .vmem S1x2048x128 .f32) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x512x512 .bf16) (harg18 : arg18.IsWhole) (arg19 : Memref sig .tc .vmem S1x512x512 .f32) (harg19 : arg19.IsWhole) (arg20 : Memref sig .tc .vmem S1x512x512 .bf16) (harg20 : arg20.IsWhole) (arg21 : Memref sig .tc .vmem S1x512x512 .f32) (harg21 : arg21.IsWhole) (arg22 : Memref sig .tc .vmem S1x512x512 .bf16) (harg22 : arg22.IsWhole) (arg23 : Memref sig .tc .vmem S1x512x512 .bf16) (harg23 : arg23.IsWhole) (arg24 : Memref sig .tc .vmem S1x512x2048 .bf16) (harg24 : arg24.IsWhole)
    (x0 : Vec F S1x512x1024 .f32) (x1 : Vec F S1x1x1024 .f32) (x2 : Vec F S1x1x1024 .f32) (x3 : Vec F S1x1024 .f32) (x4 : Vec F S1024x6144 .bf16) (x5 : Vec F S1x512 .f32) (x6 : Vec F S1x512 .f32) (x7 : Vec F S1x512 .f32) (x8 : Vec F S1x512 .f32) (x9 : Vec F S256x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (left10 x0 x1 x2 x3 x4 x5 x6 x7 x8 x9) ∗ owns (c : Thread nD τ) arg13 fullShare (left11 x0 x1 x2 x3 x4 x5 x6 x7 x8 x9) ∗ owns (c : Thread nD τ) arg14 fullShare (left12 x0 x1 x2 x3 x4 x5 x6 x7 x8 x9) ∗ owns (c : Thread nD τ) arg15 fullShare (left13 x0 x1 x2 x3 x4 x5 x6 x7 x8 x9) ∗ owns (c : Thread nD τ) arg16 fullShare (left14 x0 x1 x2 x3 x4 x5 x6 x7 x8 x9) ∗ owns (c : Thread nD τ) arg17 fullShare (left15 x0 x1 x2 x3 x4 x5 x6 x7 x8 x9) ∗ owns (c : Thread nD τ) arg18 fullShare (left16 x0 x1 x2 x3 x4 x5 x6 x7 x8 x9) ∗ owns (c : Thread nD τ) arg19 fullShare (left17 x0 x1 x2 x3 x4 x5 x6 x7 x8 x9) ∗ owns (c : Thread nD τ) arg20 fullShare (left18 x0 x1 x2 x3 x4 x5 x6 x7 x8 x9) ∗ owns (c : Thread nD τ) arg21 fullShare (left19 x0 x1 x2 x3 x4 x5 x6 x7 x8 x9) ∗ owns (c : Thread nD τ) arg22 fullShare (left20 x0 x1 x2 x3 x4 x5 x6 x7 x8 x9) ∗ owns (c : Thread nD τ) arg23 fullShare (left21 x0 x1 x2 x3 x4 x5 x6 x7 x8 x9) ∗ owns (c : Thread nD τ) arg24 fullShare (left22 x0 x1 x2 x3 x4 x5 x6 x7 x8 x9)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  rw [step_eq]; unfold step
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (covers_whole _)).trans ?_
    rfl
  isplitl [H11]
  · iexists _; isplitr
    swap; · iexact H11
    ipureintro
    refine (View.read_writes_eq_canon _ _ _ (covers_heads _ _ _ _)).trans ?_
    rfl
  isplitl [H12]
  · iexists _; isplitr
    swap; · iexact H12
    ipureintro
    refine (View.read_writes_eq_canon _ _ _ (covers_whole _)).trans ?_
    rfl
  isplitl [H13]
  · iexists _; isplitr
    swap; · iexact H13
    ipureintro
    refine (View.read_writes_eq_canon _ _ _ (covers_heads _ _ _ _)).trans ?_
    rfl
  isplitl [H14]
  · iexists _; isplitr
    swap; · iexact H14
    ipureintro
    refine (View.read_writes_eq_canon _ _ _ (covers_whole _)).trans ?_
    rfl
  isplitl [H15]
  · iexists _; isplitr
    swap; · iexact H15
    ipureintro
    refine (View.read_writes_eq_canon _ _ _ (covers_whole _)).trans ?_
    rfl
  isplitl [H16]
  · iexists _; isplitr
    swap; · iexact H16
    ipureintro
    refine (View.read_writes_eq_canon _ _ _ (covers_whole _)).trans ?_
    rfl
  isplitl [H17]
  · iexists _; isplitr
    swap; · iexact H17
    ipureintro
    refine (View.read_writes_eq_canon _ _ _ (covers_whole _)).trans ?_
    rfl
  isplitl [H18]
  · iexists _; isplitr
    swap; · iexact H18
    ipureintro
    refine (View.read_writes_eq_canon _ _ _ (covers_whole _)).trans ?_
    rfl
  isplitl [H19]
  · iexists _; isplitr
    swap; · iexact H19
    ipureintro
    refine (View.read_writes_eq_canon _ _ _ (covers_whole _)).trans ?_
    rfl
  isplitl [H20]
  · iexists _; isplitr
    swap; · iexact H20
    ipureintro
    refine (View.read_writes_eq_canon _ _ _ (covers_whole _)).trans ?_
    rfl
  isplitl [H21]
  · iexists _; isplitr
    swap; · iexact H21
    ipureintro
    refine (View.read_writes_eq_canon _ _ _ (covers_whole _)).trans ?_
    rfl
  iexists _; isplitr
  swap; · iexact H22
  ipureintro
  refine (View.read_writes_eq_canon _ _ _ (covers_quarters _ _ _ _)).trans ?_
  rfl

variable (m : (ℓ : Loc nD τ sig) → Buf (Elt F) ℓ) (ρ : Dev nD → PrngReg)

/-- The launch's data: the inputs' blocks stay, the outputs' are what a step leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => left10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => left11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => left12 (iblk m c 0 t) (iblk m c 1 t) (iblk m c 2 t) (iblk m c 3 t) (iblk m c 4 t) (iblk m c 5 t) (iblk m c 6 t) (iblk m c 7 t) (iblk m c 8 t) (iblk m c 9 t)
    | ⟨13, _⟩ => left13 (iblk m c 0 t) (iblk m c 1 t) (iblk m c 2 t) (iblk m c 3 t) (iblk m c 4 t) (iblk m c 5 t) (iblk m c 6 t) (iblk m c 7 t) (iblk m c 8 t) (iblk m c 9 t)
    | ⟨14, _⟩ => left14 (iblk m c 0 t) (iblk m c 1 t) (iblk m c 2 t) (iblk m c 3 t) (iblk m c 4 t) (iblk m c 5 t) (iblk m c 6 t) (iblk m c 7 t) (iblk m c 8 t) (iblk m c 9 t)
    | ⟨15, _⟩ => left15 (iblk m c 0 t) (iblk m c 1 t) (iblk m c 2 t) (iblk m c 3 t) (iblk m c 4 t) (iblk m c 5 t) (iblk m c 6 t) (iblk m c 7 t) (iblk m c 8 t) (iblk m c 9 t)
    | ⟨16, _⟩ => left16 (iblk m c 0 t) (iblk m c 1 t) (iblk m c 2 t) (iblk m c 3 t) (iblk m c 4 t) (iblk m c 5 t) (iblk m c 6 t) (iblk m c 7 t) (iblk m c 8 t) (iblk m c 9 t)
    | ⟨17, _⟩ => left17 (iblk m c 0 t) (iblk m c 1 t) (iblk m c 2 t) (iblk m c 3 t) (iblk m c 4 t) (iblk m c 5 t) (iblk m c 6 t) (iblk m c 7 t) (iblk m c 8 t) (iblk m c 9 t)
    | ⟨18, _⟩ => left18 (iblk m c 0 t) (iblk m c 1 t) (iblk m c 2 t) (iblk m c 3 t) (iblk m c 4 t) (iblk m c 5 t) (iblk m c 6 t) (iblk m c 7 t) (iblk m c 8 t) (iblk m c 9 t)
    | ⟨19, _⟩ => left19 (iblk m c 0 t) (iblk m c 1 t) (iblk m c 2 t) (iblk m c 3 t) (iblk m c 4 t) (iblk m c 5 t) (iblk m c 6 t) (iblk m c 7 t) (iblk m c 8 t) (iblk m c 9 t)
    | ⟨20, _⟩ => left20 (iblk m c 0 t) (iblk m c 1 t) (iblk m c 2 t) (iblk m c 3 t) (iblk m c 4 t) (iblk m c 5 t) (iblk m c 6 t) (iblk m c 7 t) (iblk m c 8 t) (iblk m c 9 t)
    | ⟨21, _⟩ => left21 (iblk m c 0 t) (iblk m c 1 t) (iblk m c 2 t) (iblk m c 3 t) (iblk m c 4 t) (iblk m c 5 t) (iblk m c 6 t) (iblk m c 7 t) (iblk m c 8 t) (iblk m c 9 t)
    | ⟨22, _⟩ => left22 (iblk m c 0 t) (iblk m c 1 t) (iblk m c 2 t) (iblk m c 3 t) (iblk m c 4 t) (iblk m c 5 t) (iblk m c 6 t) (iblk m c 7 t) (iblk m c 8 t) (iblk m c 9 t)
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = left10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_11 (c : Dev nD) (t : Fin cfg0.N) : (dats m 0 c).after 11 t = left11 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_12 (c : Dev nD) (t : Fin cfg0.N) : (dats m 0 c).after 12 t = left12 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_13 (c : Dev nD) (t : Fin cfg0.N) : (dats m 0 c).after 13 t = left13 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_14 (c : Dev nD) (t : Fin cfg0.N) : (dats m 0 c).after 14 t = left14 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_15 (c : Dev nD) (t : Fin cfg0.N) : (dats m 0 c).after 15 t = left15 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_16 (c : Dev nD) (t : Fin cfg0.N) : (dats m 0 c).after 16 t = left16 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_17 (c : Dev nD) (t : Fin cfg0.N) : (dats m 0 c).after 17 t = left17 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_18 (c : Dev nD) (t : Fin cfg0.N) : (dats m 0 c).after 18 t = left18 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_19 (c : Dev nD) (t : Fin cfg0.N) : (dats m 0 c).after 19 t = left19 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_20 (c : Dev nD) (t : Fin cfg0.N) : (dats m 0 c).after 20 t = left20 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_21 (c : Dev nD) (t : Fin cfg0.N) : (dats m 0 c).after 21 t = left21 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_22 (c : Dev nD) (t : Fin cfg0.N) : (dats m 0 c).after 22 t = left22 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (step_sound c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The step meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
set_option maxHeartbeats 800000 in
theorem launch : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) ((θ_run defs _ _).mono (fun _ h => h.1) (launch m ρ))

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (launch m ρ))

end Cert.ProjectIdeal.Tile

end
-- ==== Proof.ProjFrame.lean ====
module

public import proofs.«01_k».proof.Proof.ProjRun
public import proofs.«01_k».proof.Defs
public import proofs.«01_k».proof.Proof.Gen.Project.Frame
public import proofs.«01_k».proof.Proof.Gen.ProjectIdeal.Frame

@[expose] public section

set_option maxRecDepth 16384

noncomputable section

/-! The frame of the projection as printed: its text is its idealization's, so one run serves both. -/

namespace Cert.Proof

open Idealize.ShloMosaic Idealize.SL.Sem

variable {F : FTy → Type} [FloatOps F]

set_option maxHeartbeats 4000000 in
set_option maxHeartbeats 8000000 in
theorem bodies_eq : @Cert.Project.defs₀ F _ _ = @Cert.ProjectIdeal.defs₀ F _ _ := by
  unfold Cert.Project.defs₀ Cert.ProjectIdeal.defs₀
  refine congrArg Defs.onTc (funext fun l => funext fun a => ?_)
  match l, a with
  | 0, (t, s) => rfl

set_option maxHeartbeats 8000000 in
theorem defs_eq : @Cert.Project.defs F _ _ = @Cert.ProjectIdeal.defs F _ _ :=
  congrArg (Pipeline.defs Cert.ProjectIdeal.pcfgs) bodies_eq

set_option maxHeartbeats 4000000 in
theorem main_eq : @Cert.Project.main F _ _ = @Cert.ProjectIdeal.main F _ _ := by
  unfold Cert.Project.main Cert.ProjectIdeal.main; rfl

set_option maxHeartbeats 4000000 in
theorem project_frame : quiescent_Project (hProject := Cert.Project.Gen.facts) := fun m g _ => by
  rw [defs_eq, main_eq]
  exact Cert.ProjectIdeal.Tile.frame (F := Bits) m g

end Cert.Proof

end
-- ==== Proof.ProjSpec.lean ====
module

public import Idealize.ShloMosaic.Lib.Pipeline.ValueKit

@[expose] public section

set_option maxRecDepth 16384

noncomputable section

/-! The projection as a formula: the modulated norm of a row, its products with the weights' columns, and the norm of each
head of 64 of them. The mean of a head's squares is the same whether the sum is divided or each square is multiplied. -/

namespace Cert.Proj

open Idealize.ShloMosaic

/-- The arguments the twelve segments are made of, cell by cell. -/
structure Args where
  x : Fin 2 → Fin 8192 → Fin 1024 → EReal
  shift : Fin 2 → Fin 1024 → EReal
  scale : Fin 2 → Fin 1024 → EReal
  norm : Fin 1024 → EReal
  w : Fin 1024 → Fin 6144 → EReal

/-- A cell of the modulated norm of a row. -/
def hid (A : Args) (b : Fin 2) (s : Fin 8192) (d : Fin 1024) : EReal :=
  A.x b s d * Ideal.rsqrt (Ideal.div (∑ k : Fin 1024, A.x b s k * A.x b s k) (Ideal.ofBits .f32 0x44800000#32) + Ideal.ofBits .f32 0x358637BD#32) * A.norm d * (1 + A.scale b d) + A.shift b d

/-- A cell of the projection. -/
def col (A : Args) (b : Fin 2) (s : Fin 8192) (j : Fin 6144) : EReal := ∑ d : Fin 1024, hid A b s d * A.w d j

/-- The column `j` of the segment that starts at `o`. -/
def seg (A : Args) (o : ℕ) (ho : o + 512 ≤ 6144) (b : Fin 2) (s : Fin 8192) (j : Fin 512) : EReal := col A b s ⟨o + j.val, by omega⟩

/-- The mean square of the head a column is in. -/
def mean (y : Fin 512 → EReal) (j : Fin 512) : EReal :=
  Ideal.div (∑ k : Fin 64, y ⟨j.val / 64 * 64 + k.val, by omega⟩ * y ⟨j.val / 64 * 64 + k.val, by omega⟩) (Ideal.ofBits .f32 0x42800000#32)

/-- A column of a segment divided by its head's root mean square, times the gain. -/
def unit (y : Fin 512 → EReal) (g : Fin 64 → EReal) (j : Fin 512) : EReal :=
  y j * Ideal.rsqrt (mean y j + Ideal.ofBits .f32 0x358637BD#32) * g ⟨j.val % 64, Nat.mod_lt _ (by norm_num)⟩

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem sq_nonneg' (z : EReal) : 0 ≤ z * z := by
  induction z with
  | bot => simp
  | top => simp
  | coe r => rw [← EReal.coe_mul]; exact_mod_cast mul_self_nonneg r

theorem sum_mul {n : ℕ} (f : Fin n → EReal) (hf : ∀ k, 0 ≤ f k) (c : EReal) : (∑ k, f k) * c = ∑ k, f k * c := by
  induction n with
  | zero => simp
  | succ n ih =>
    rw [Fin.sum_univ_castSucc, Fin.sum_univ_castSucc, EReal.right_distrib_of_nonneg (Finset.sum_nonneg fun k _ => hf _) (hf _), ih _ fun k => hf _]

/-- The squares of a half segment against the matrix of a 64th on its blocks: the mean square of a head. -/
theorem mean_eq (y : Fin 512 → EReal) (o : ℕ) (ho : o = 0 ∨ o = 256) (k : Fin 256) (p : Fin 256 → EReal)
    (hp : ∀ i : Fin 256, p i = if i.val / 64 = k.val / 64 then Ideal.ofBits .f32 0x3C800000#32 else 0) :
    ∑ i : Fin 256, y ⟨o + i.val, by omega⟩ * y ⟨o + i.val, by omega⟩ * p i = mean y ⟨o + k.val, by omega⟩ := by
  unfold mean
  rw [ofBits_64, Ideal.div_coe (by norm_num), show ((1 : ℝ) / 64 : ℝ) = 1 / 64 from rfl, sum_mul _ fun k => sq_nonneg' _]
  simp only [hp, ofBits_64th, mul_ite, mul_zero]
  rw [← Finset.sum_filter]
  refine (Finset.sum_bij (fun (l : Fin 64) _ => (⟨k.val / 64 * 64 + l.val, by omega⟩ : Fin 256)) ?_ ?_ ?_ ?_).symm
  · intro l _
    simp only [Finset.mem_filter, Finset.mem_univ, true_and]
    omega
  · intro a _ b _ h
    have := congrArg Fin.val h
    simp only at this
    exact Fin.ext (by omega)
  · intro i hi
    simp only [Finset.mem_filter, Finset.mem_univ, true_and] at hi
    exact ⟨⟨i.val % 64, Nat.mod_lt _ (by norm_num)⟩, Finset.mem_univ _, Fin.ext (by simp only; omega)⟩
  · intro l _
    have e : (⟨(o + k.val) / 64 * 64 + l.val, by omega⟩ : Fin 512) = ⟨o + (k.val / 64 * 64 + l.val), by omega⟩ := Fin.ext (by rcases ho with rfl | rfl <;> simp only <;> omega)
    simp only [e]

end Cert.Proj

end
-- ==== Proof.ProjPoint.lean ====
module

public import proofs.«01_k».proof.Proof.ProjRun
public import proofs.«01_k».proof.Proof.ProjSpec
public import Idealize.ShloMosaic.Lib.Pipeline.ValueKit

@[expose] public section

set_option maxRecDepth 16384

noncomputable section

/-! The projection's step read at an index: its rows are the modulated norm, its segments the projection's columns. -/

namespace Cert.ProjectIdeal.Tile

open Cert.ProjectIdeal Cert.ProjectIdeal.Gen Cert.Proj
open Idealize.ShloMosaic Idealize.ShloMosaic.TcCoe Idealize.SL.Sem

theorem rows_at (x0 : Vec Ideal S1x512x1024 .f32) (x1 x2 : Vec Ideal S1x1x1024 .f32) (x3 : Vec Ideal S1x1024 .f32) (r : Fin 512) (d : Fin 1024) :
    (rows x0 x1 x2 x3 (ix2 r d) : EReal) = x0 (ix3 0 r d) * Ideal.rsqrt (Ideal.div (∑ k : Fin 1024, x0 (ix3 0 r k) * x0 (ix3 0 r k)) (Ideal.ofBits .f32 0x44800000#32) + Ideal.ofBits .f32 0x358637BD#32)
      * x3 (ix2 0 d) * (1 + x2 (ix3 0 0 d)) + x1 (ix3 0 0 d) := by
  pointwise [rows, modulated]

theorem segment_at (h : FVec Ideal S512x1024 .bf16) (x4 : Vec Ideal S1024x6144 .bf16) (o : ℕ) (ho : o + 512 ≤ 6144) (inb) (r : Fin 512) (j : Fin 512) :
    (segment h (View.ld x4 (Rect.unit (s := S1024x6144) ![0, o] S1024x512.size inb)) (ix2 r j) : EReal) = ∑ d : Fin 1024, h (ix2 r d) * x4 (ix2 d ⟨o + j.val, by omega⟩) := by
  pointwise [segment]

theorem normed_at (y : FVec Ideal S512x512 .f32) (x9 : Vec Ideal S256x256 .bf16) (x5 : Vec Ideal S1x512 .f32) (ip) (ig) (g : Fin 64 → EReal) (r : Fin 512) (j : Fin 512)
    (hp : ∀ i k : Fin 256, (x9 (ix2 i k) : EReal) = if i.val / 64 = k.val / 64 then Ideal.ofBits .f32 0x3C800000#32 else 0)
    (hg : ∀ j : Fin 512, (x5 (ix2 0 j) : EReal) = g ⟨j.val % 64, Nat.mod_lt _ (by norm_num)⟩) :
    (normed y (View.ld x9 (Rect.unit (s := S256x256) ![0, 0] S256x256.size ip)) (View.ld x5 (Rect.unit (s := S1x512) ![0, 0] S1x512.size ig)) (ix2 r j) : EReal) = unit (fun j => (y (ix2 r j) : EReal)) g j := by
  pointwise [normed, low, high]
  rw [hg j]
  unfold Cert.Proj.unit
  refine congrArg (· * g ⟨j.val % 64, Nat.mod_lt _ (by norm_num)⟩) ?_
  by_cases h : j.val < 256
  · rw [dif_pos h]
    have e := mean_eq (fun j => (y (ix2 r j) : EReal)) 0 (.inl rfl) ⟨j.val, h⟩ (fun i => (x9 (ix2 i ⟨j.val, h⟩) : EReal)) fun i => hp i _
    simp only [Nat.zero_add, Fin.eta] at e
    refine congrArg (fun z : EReal => y (ix2 r j) * Ideal.rsqrt (z + Ideal.ofBits FTy.f32 897988541#32)) ?_
    exact e
  · rw [dif_neg h]
    have e := mean_eq (fun j => (y (ix2 r j) : EReal)) 256 (.inr rfl) ⟨j.val - 256, by omega⟩ (fun i => (x9 (ix2 i ⟨j.val - 256, by omega⟩) : EReal)) fun i => hp i _
    have ej : (⟨256 + (j.val - 256), by omega⟩ : Fin 512) = j := Fin.ext (by simp only; omega)
    simp only [ej] at e ⊢
    refine congrArg (fun z : EReal => y (ix2 r j) * Ideal.rsqrt (z + Ideal.ofBits FTy.f32 897988541#32)) ?_
    exact e

end Cert.ProjectIdeal.Tile

end
-- ==== Proof.ProjHost.lean ====
module

public import proofs.«01_k».proof.Proof.Gen.ProjectIdeal.Frame
public import proofs.«01_k».proof.Proof.ProjSpec
public import Idealize.ShloMosaic.Lib.Pipeline.ValueKit
public import Idealize.ShloMosaic.Lib.Claim
public import Idealize.ShloMosaic.Lib.StableHlo.ReadAt

@[expose] public section

set_option maxRecDepth 16384

noncomputable section

/-! What the host operations before the projection leave in its operands, read at an index: the arguments, the gains repeated
for each head, and the matrix of a 64th on its diagonal blocks. -/

namespace Cert.ProjectIdeal.Val

open Cert.ProjectIdeal Cert.ProjectIdeal.Gen
open Idealize.ShloMosaic Idealize.ShloMosaic.TcCoe Idealize.SL.Sem

variable (m : (ℓ : Loc nD τ sig) → Buf (Elt Ideal) ℓ) (c : Dev nD)

/-- The arguments, cell by cell. -/
abbrev argX (b : Fin 2) (s : Fin 8192) (d : Fin 1024) : EReal := (m ((c : Thread nD τ).loc main_arg0) : FVec Ideal S2x8192x1024 .f32) (ix3 b s d)
abbrev argShift (b : Fin 2) (d : Fin 1024) : EReal := (m ((c : Thread nD τ).loc main_arg1) : FVec Ideal S2x1024 .f32) (ix2 b d)
abbrev argScale (b : Fin 2) (d : Fin 1024) : EReal := (m ((c : Thread nD τ).loc main_arg2) : FVec Ideal S2x1024 .f32) (ix2 b d)
abbrev argNorm (d : Fin 1024) : EReal := (m ((c : Thread nD τ).loc main_arg3) : FVec Ideal S1024 .f32) (ix1 d)
abbrev argW (d : Fin 1024) (j : Fin 6144) : EReal := (m ((c : Thread nD τ).loc main_arg4) : FVec Ideal S1024x6144 .f32) (ix2 d j)
abbrev argG5 (e : Fin 64) : EReal := (m ((c : Thread nD τ).loc main_arg5) : FVec Ideal S64 .f32) (ix1 e)
abbrev argG6 (e : Fin 64) : EReal := (m ((c : Thread nD τ).loc main_arg6) : FVec Ideal S64 .f32) (ix1 e)
abbrev argG7 (e : Fin 64) : EReal := (m ((c : Thread nD τ).loc main_arg7) : FVec Ideal S64 .f32) (ix1 e)
abbrev argG8 (e : Fin 64) : EReal := (m ((c : Thread nD τ).loc main_arg8) : FVec Ideal S64 .f32) (ix1 e)

theorem x_at (b : Fin 2) (s : Fin 8192) (d : Fin 1024) : ((V m c main_arg0 : FVec Ideal S2x8192x1024 .f32) (ix3 b s d) : EReal) = argX m c b s d := by
  rw [V_main_arg0]

theorem shift_at (b : Fin 2) (d : Fin 1024) : ((V m c main_v11 : FVec Ideal S2x1x1024 .f32) (ix3 b 0 d) : EReal) = argShift m c b d := by
  unfold V
  simp only [List.flatten_cons, List.flatten_nil, List.append_nil, StableHlo.after_append]
  after_reads_at

theorem scale_at (b : Fin 2) (d : Fin 1024) : ((V m c main_v12 : FVec Ideal S2x1x1024 .f32) (ix3 b 0 d) : EReal) = argScale m c b d := by
  unfold V
  simp only [List.flatten_cons, List.flatten_nil, List.append_nil, StableHlo.after_append]
  after_reads_at

theorem w_at (d : Fin 1024) (j : Fin 6144) : ((V m c main_v13 : FVec Ideal S1024x6144 .bf16) (ix2 d j) : EReal) = argW m c d j := by
  unfold V
  simp only [List.flatten_cons, List.flatten_nil, List.append_nil, StableHlo.after_append]
  after_reads_at

theorem norm_at (d : Fin 1024) : ((V m c main_v30 : FVec Ideal S1x1024 .f32) (ix2 0 d) : EReal) = argNorm m c d := by
  unfold V
  simp only [List.flatten_cons, List.flatten_nil, List.append_nil, StableHlo.after_append]
  after_reads_at

theorem g5_at (j : Fin 512) : ((V m c main_v17 : FVec Ideal S1x512 .f32) (ix2 0 j) : EReal) = argG5 m c ⟨j.val % 64, Nat.mod_lt _ (by norm_num)⟩ := by
  unfold V
  simp only [List.flatten_cons, List.flatten_nil, List.append_nil, StableHlo.after_append]
  after_reads_at

theorem g6_at (j : Fin 512) : ((V m c main_v21 : FVec Ideal S1x512 .f32) (ix2 0 j) : EReal) = argG6 m c ⟨j.val % 64, Nat.mod_lt _ (by norm_num)⟩ := by
  unfold V
  simp only [List.flatten_cons, List.flatten_nil, List.append_nil, StableHlo.after_append]
  after_reads_at

theorem g7_at (j : Fin 512) : ((V m c main_v25 : FVec Ideal S1x512 .f32) (ix2 0 j) : EReal) = argG7 m c ⟨j.val % 64, Nat.mod_lt _ (by norm_num)⟩ := by
  unfold V
  simp only [List.flatten_cons, List.flatten_nil, List.append_nil, StableHlo.after_append]
  after_reads_at

theorem g8_at (j : Fin 512) : ((V m c main_v29 : FVec Ideal S1x512 .f32) (ix2 0 j) : EReal) = argG8 m c ⟨j.val % 64, Nat.mod_lt _ (by norm_num)⟩ := by
  unfold V
  simp only [List.flatten_cons, List.flatten_nil, List.append_nil, StableHlo.after_append]
  after_reads_at

/-- The head a column is in, as the operations compute it: a division rounded down. -/
def headOf (x : BitVec 32) : BitVec 32 :=
  Scalar.select (IntOp.andi (IntOp.cmpi .ne (if x = 0 then (0 : BitVec 32) else if x.msb then -1 else 1) (if (64#32 : BitVec 32) = 0 then (0 : BitVec 32) else if (64#32 : BitVec 32).msb then -1 else 1))
    (IntOp.cmpi .ne (IntOp.remsi ArithUnit.host x 64#32) 0#32)) (IntOp.subi (IntOp.divsi ArithUnit.host x 64#32) 1#32) (IntOp.divsi ArithUnit.host x 64#32)

theorem headOf_table : ∀ n : Fin 256, headOf (BitVec.ofNat 32 n.val) = BitVec.ofNat 32 (n.val / 64) := by
  decide +kernel

theorem same_table : ∀ a b : Fin 4, IntOp.cmpi .eq (BitVec.ofNat 32 a.val) (BitVec.ofNat 32 b.val) = if a.val = b.val then 1#1 else 0#1 := by
  decide +kernel

theorem short_64th : Ideal.ofBits .bf16 0x3C80#16 = Ideal.ofBits .f32 0x3C800000#32 := by
  rw [Cert.Proj.ofBits_64th]
  simp [Ideal.ofBits, Ideal.ieee, -EReal.coe_mul]; norm_num

theorem p_at (i k : Fin 256) : ((V m c main_v10 : FVec Ideal S256x256 .bf16) (ix2 i k) : EReal) = if i.val / 64 = k.val / 64 then Ideal.ofBits .f32 0x3C800000#32 else 0 := by
  unfold V
  simp only [List.flatten_cons, List.flatten_nil, List.append_nil, StableHlo.after_append]
  after_reads_at
  refine (congrArg (fun z : BitVec 1 => (FloatOps.uitofp (F := Ideal) FTy.bf16 z : EReal) * Ideal.ofBits FTy.bf16 0x3C80#16)
    (show IntOp.cmpi .eq (headOf (BitVec.ofNat 32 i.val)) (headOf (BitVec.ofNat 32 k.val)) = if i.val / 64 = k.val / 64 then 1#1 else 0#1 from ?_)).trans ?_
  · rw [headOf_table i, headOf_table k]
    exact same_table ⟨i.val / 64, by omega⟩ ⟨k.val / 64, by omega⟩
  · split
    · show ((((1#1 : BitVec 1).toNat : ℝ) : EReal)) * _ = _
      rw [short_64th]
      simp
    · show ((((0#1 : BitVec 1).toNat : ℝ) : EReal)) * _ = _
      simp

end Cert.ProjectIdeal.Val

end
-- ==== Proof.ProjBlocks.lean ====
module

public import proofs.«01_k».proof.Proof.ProjPoint
public import proofs.«01_k».proof.Proof.ProjHost

@[expose] public section

set_option maxRecDepth 16384

noncomputable section

/-! The blocks the projection's points read, and the blocks they leave, at an index. -/

namespace Cert.ProjectIdeal.Tile

open Cert.ProjectIdeal Cert.ProjectIdeal.Gen Cert.ProjectIdeal.Val Cert.Proj
open Idealize.ShloMosaic Idealize.ShloMosaic.TcCoe Idealize.SL.Sem

/-- The batch and the rows of a point. -/
abbrev batchOf (i : grid0.Coords) : Fin 2 := ⟨(i 0).val, (i 0).isLt⟩
abbrev rowOf (i : grid0.Coords) (r : Fin 512) : Fin 8192 := ⟨(i 1).val * 512 + r.val, by have h : (i 1).val < 16 := (i 1).isLt; omega⟩

theorem idx : ∀ t : Fin cfg0.N, win0_0.index t = ![(grid0.coords t 0).val, (grid0.coords t 1).val, 0] ∧ win0_1.index t = ![(grid0.coords t 0).val, 0, 0] ∧ win0_2.index t = ![(grid0.coords t 0).val, 0, 0]
    ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem idx_out : ∀ t : Fin cfg0.N, win0_10.index t = ![(grid0.coords t 0).val, (grid0.coords t 1).val, 0] ∧ win0_11.index t = ![(grid0.coords t 0).val, (grid0.coords t 1).val, 0] ∧ win0_12.index t = ![(grid0.coords t 0).val, (grid0.coords t 1).val, 0] ∧ win0_13.index t = ![(grid0.coords t 0).val, (grid0.coords t 1).val, 0] ∧ win0_14.index t = ![(grid0.coords t 0).val, (grid0.coords t 1).val, 0] ∧ win0_15.index t = ![(grid0.coords t 0).val, (grid0.coords t 1).val, 0] ∧ win0_16.index t = ![(grid0.coords t 0).val, (grid0.coords t 1).val, 0] ∧ win0_17.index t = ![(grid0.coords t 0).val, (grid0.coords t 1).val, 0] ∧ win0_18.index t = ![(grid0.coords t 0).val, (grid0.coords t 1).val, 0] ∧ win0_19.index t = ![(grid0.coords t 0).val, (grid0.coords t 1).val, 0] ∧ win0_20.index t = ![(grid0.coords t 0).val, (grid0.coords t 1).val, 0] ∧ win0_21.index t = ![(grid0.coords t 0).val, (grid0.coords t 1).val, 0] ∧ win0_22.index t = ![(grid0.coords t 0).val, (grid0.coords t 1).val, 0] :=
  (by decide +kernel : ∀ t : Fin grid0.N, _)

variable (m : (ℓ : Loc nD τ sig) → Buf (Elt Ideal) ℓ) (c : Dev nD) (t : Fin cfg0.N)

theorem blk0 (r : Fin 512) (d : Fin 1024) : ((iblk m c 0 t : Vec Ideal S1x512x1024 .f32) (ix3 0 r d) : EReal) = (V m c main_arg0 : FVec Ideal S2x8192x1024 .f32) (ix3 (batchOf (grid0.coords t)) (rowOf (grid0.coords t) r) d) := by
  blk_ext [iblk, idx t, rowOf]
theorem blk1 (d : Fin 1024) : ((iblk m c 1 t : Vec Ideal S1x1x1024 .f32) (ix3 0 0 d) : EReal) = (V m c main_v11 : FVec Ideal S2x1x1024 .f32) (ix3 (batchOf (grid0.coords t)) 0 d) := by
  blk_ext [iblk, idx t]
theorem blk2 (d : Fin 1024) : ((iblk m c 2 t : Vec Ideal S1x1x1024 .f32) (ix3 0 0 d) : EReal) = (V m c main_v12 : FVec Ideal S2x1x1024 .f32) (ix3 (batchOf (grid0.coords t)) 0 d) := by
  blk_ext [iblk, idx t]
theorem blk3 (d : Fin 1024) : ((iblk m c 3 t : Vec Ideal S1x1024 .f32) (ix2 0 d) : EReal) = (V m c main_v30 : FVec Ideal S1x1024 .f32) (ix2 0 d) := by
  blk_ext [iblk, idx t]
theorem blk4 (d : Fin 1024) (j : Fin 6144) : ((iblk m c 4 t : Vec Ideal S1024x6144 .bf16) (ix2 d j) : EReal) = (V m c main_v13 : FVec Ideal S1024x6144 .bf16) (ix2 d j) := by
  blk_ext [iblk, idx t]
theorem blk5 (j : Fin 512) : ((iblk m c 5 t : Vec Ideal S1x512 .f32) (ix2 0 j) : EReal) = (V m c main_v17 : FVec Ideal S1x512 .f32) (ix2 0 j) := by
  blk_ext [iblk, idx t]
theorem blk6 (j : Fin 512) : ((iblk m c 6 t : Vec Ideal S1x512 .f32) (ix2 0 j) : EReal) = (V m c main_v21 : FVec Ideal S1x512 .f32) (ix2 0 j) := by
  blk_ext [iblk, idx t]
theorem blk7 (j : Fin 512) : ((iblk m c 7 t : Vec Ideal S1x512 .f32) (ix2 0 j) : EReal) = (V m c main_v25 : FVec Ideal S1x512 .f32) (ix2 0 j) := by
  blk_ext [iblk, idx t]
theorem blk8 (j : Fin 512) : ((iblk m c 8 t : Vec Ideal S1x512 .f32) (ix2 0 j) : EReal) = (V m c main_v29 : FVec Ideal S1x512 .f32) (ix2 0 j) := by
  blk_ext [iblk, idx t]
theorem blk9 (i k : Fin 256) : ((iblk m c 9 t : Vec Ideal S256x256 .bf16) (ix2 i k) : EReal) = (V m c main_v10 : FVec Ideal S256x256 .bf16) (ix2 i k) := by
  blk_ext [iblk, idx t]

/-- The arguments of a core. -/
def args : Args := ⟨argX m c, argShift m c, argScale m c, argNorm m c, argW m c⟩

/-- The rows of a point. -/
theorem rows_blk (r : Fin 512) (d : Fin 1024) : (rows (iblk m c 0 t) (iblk m c 1 t) (iblk m c 2 t) (iblk m c 3 t) (ix2 r d) : EReal) = hid (args m c) (batchOf (grid0.coords t)) (rowOf (grid0.coords t) r) d := by
  rw [rows_at, blk3 m c t, blk2 m c t, blk1 m c t, norm_at, scale_at, shift_at]
  simp only [blk0 m c t, x_at]
  rfl

/-- A segment of a point. -/
theorem seg_blk (o : ℕ) (ho : o + 512 ≤ 6144) (inb) (r j : Fin 512) : (segment (rows (iblk m c 0 t) (iblk m c 1 t) (iblk m c 2 t) (iblk m c 3 t)) (View.ld (iblk m c 4 t) (Rect.unit (s := S1024x6144) ![0, o] S1024x512.size inb)) (ix2 r j) : EReal)
    = seg (args m c) o ho (batchOf (grid0.coords t)) (rowOf (grid0.coords t) r) j := by
  rw [segment_at _ _ o ho]
  simp only [rows_blk m c t, blk4 m c t, w_at]
  rfl

/-- A segment of a point with its heads normed. -/
theorem unit_blk (o : ℕ) (ho : o + 512 ≤ 6144) (inb) (ip) (ig) (x5 : Vec Ideal S1x512 .f32) (g : Fin 64 → EReal) (hg : ∀ j : Fin 512, (x5 (ix2 0 j) : EReal) = g ⟨j.val % 64, Nat.mod_lt _ (by norm_num)⟩) (r j : Fin 512) :
    (normed (segment (rows (iblk m c 0 t) (iblk m c 1 t) (iblk m c 2 t) (iblk m c 3 t)) (View.ld (iblk m c 4 t) (Rect.unit (s := S1024x6144) ![0, o] S1024x512.size inb)))
      (View.ld (iblk m c 9 t) (Rect.unit (s := S256x256) ![0, 0] S256x256.size ip)) (View.ld x5 (Rect.unit (s := S1x512) ![0, 0] S1x512.size ig)) (ix2 r j) : EReal)
    = Cert.Proj.unit (seg (args m c) o ho (batchOf (grid0.coords t)) (rowOf (grid0.coords t) r)) g j := by
  refine (normed_at _ _ _ ip ig g r j (fun i k => (blk9 m c t i k).trans (p_at m c i k)) hg).trans ?_
  exact congrArg (fun y => Cert.Proj.unit y g j) (funext fun k => seg_blk m c t o ho inb r k)

theorem g5_blk (j : Fin 512) : ((iblk m c 5 t : Vec Ideal S1x512 .f32) (ix2 0 j) : EReal) = argG5 m c ⟨j.val % 64, Nat.mod_lt _ (by norm_num)⟩ := (blk5 m c t j).trans (g5_at m c j)
theorem g6_blk (j : Fin 512) : ((iblk m c 6 t : Vec Ideal S1x512 .f32) (ix2 0 j) : EReal) = argG6 m c ⟨j.val % 64, Nat.mod_lt _ (by norm_num)⟩ := (blk6 m c t j).trans (g6_at m c j)
theorem g7_blk (j : Fin 512) : ((iblk m c 7 t : Vec Ideal S1x512 .f32) (ix2 0 j) : EReal) = argG7 m c ⟨j.val % 64, Nat.mod_lt _ (by norm_num)⟩ := (blk7 m c t j).trans (g7_at m c j)
theorem g8_blk (j : Fin 512) : ((iblk m c 8 t : Vec Ideal S1x512 .f32) (ix2 0 j) : EReal) = argG8 m c ⟨j.val % 64, Nat.mod_lt _ (by norm_num)⟩ := (blk8 m c t j).trans (g8_at m c j)

end Cert.ProjectIdeal.Tile

end
-- ==== Proof.ProjFinal.lean ====
module

public import proofs.«01_k».proof.Proof.ProjBlocks

@[expose] public section

set_option maxRecDepth 16384

noncomputable section

/-! The projection's thirteen results, each a function of the arguments. -/

namespace Cert.ProjectIdeal.Tile

open Cert.ProjectIdeal Cert.ProjectIdeal.Gen Cert.ProjectIdeal.Val Cert.Proj
open Idealize.ShloMosaic Idealize.ShloMosaic.TcCoe Idealize.SL.Sem

theorem pair {n k : ℕ} {α : Type} (f : Fin n → Fin k → α) {a a' : Fin n} {b b' : Fin k} (h : a = a') (h' : b = b') : f a b = f a' b' := by rw [h, h']

/-- A block by row and column; a block by head, whose row is a row and a head; the wide block. -/
def headsOf (f : Fin 512 → Fin 512 → EReal) : FVec Ideal S1x2048x128 .f32 := fun y =>
  f ⟨(y 1).val / 4, by have h1 : (y 1).val < 2048 := (y 1).isLt; omega⟩ ⟨(y 1).val % 4 * 128 + (y 2).val, by have h2 : (y 2).val < 128 := (y 2).isLt; omega⟩
def wideOf (f : Fin 512 → Fin 2048 → EReal) : FVec Ideal S1x512x2048 .bf16 := fun y => f ⟨(y 1).val, (y 1).isLt⟩ ⟨(y 2).val, (y 2).isLt⟩

theorem blk_eq (y : S1x512x512.Idx) : y = ix3 (0 : Fin 1) (⟨(y 1).val, (y 1).isLt⟩ : Fin 512) (⟨(y 2).val, (y 2).isLt⟩ : Fin 512) := by
  have h0 : (y 0).val < 1 := (y 0).isLt
  funext a; apply Fin.ext
  match a with
  | ⟨0, _⟩ => show (y 0).val = 0; omega
  | ⟨1, _⟩ => rfl
  | ⟨2, _⟩ => rfl

theorem put16_at (z : FVec Ideal S512x512 .f32) (r j : Fin 512) : (put16 z (ix3 0 r j) : EReal) = z (ix2 r j) := by
  pointwise [put16]
theorem put32_at (z : FVec Ideal S512x512 .f32) (r j : Fin 512) : (put32 z (ix3 0 r j) : EReal) = z (ix2 r j) := by
  pointwise [put32]
theorem scaled_at (z : FVec Ideal S512x512 .f32) (r j : Fin 512) : (scaled z (ix2 r j) : EReal) = z (ix2 r j) * Ideal.ofBits .f32 0x3E38AA3B#32 := by
  pointwise [scaled]

theorem whole_mem (y : S1x512x512.Idx) : whole.emb y = y := by
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem whole16_at (z : FVec Ideal S512x512 .f32) (f : Fin 512 → Fin 512 → EReal) (hz : ∀ r j, (z (ix2 r j) : EReal) = f r j) (y : S1x512x512.Idx) :
    (View.canon (Val := Elt Ideal) (e := .bf16) [⟨whole, put16 z⟩] y : EReal) = f ⟨(y 1).val, (y 1).isLt⟩ ⟨(y 2).val, (y 2).isLt⟩ :=
  (View.canon_apply_of_pieces (put16 z) _ (fun p hp x => by
    rcases List.mem_cons.mp hp with rfl | hp
    · exact (congrArg (put16 z) (whole_mem x)).symm
    · nomatch hp) y (covers_whole _ y)).trans ((congrArg (put16 z) (blk_eq y)).trans ((put16_at z _ _).trans (hz _ _)))

theorem whole32_at (z : FVec Ideal S512x512 .f32) (f : Fin 512 → Fin 512 → EReal) (hz : ∀ r j, (z (ix2 r j) : EReal) = f r j) (y : S1x512x512.Idx) :
    (View.canon (Val := Elt Ideal) (e := .f32) [⟨whole, put32 z⟩] y : EReal) = f ⟨(y 1).val, (y 1).isLt⟩ ⟨(y 2).val, (y 2).isLt⟩ :=
  (View.canon_apply_of_pieces (put32 z) _ (fun p hp x => by
    rcases List.mem_cons.mp hp with rfl | hp
    · exact (congrArg (put32 z) (whole_mem x)).symm
    · nomatch hp) y (covers_whole _ y)).trans ((congrArg (put32 z) (blk_eq y)).trans ((put32_at z _ _).trans (hz _ _)))

theorem lanes0_ix (z : FVec Ideal S512x512 .f32) (r : Fin 512) (e : Fin 128) : (lanes0 z (ix3 0 r e) : EReal) = z (ix2 r ⟨0 + e.val, by omega⟩) := by
  pointwise [lanes0]

theorem lanes0_at (z : FVec Ideal S512x512 .f32) (f : Fin 512 → Fin 512 → EReal) (hz : ∀ r j, (z (ix2 r j) : EReal) = f r j) (x : S1x512x128.Idx) :
    (lanes0 z x : EReal) = headsOf f (head0.emb x) := by
  have h0 : (x 0).val < 1 := (x 0).isLt
  have h1 : (x 1).val < 512 := (x 1).isLt
  have h2 : (x 2).val < 128 := (x 2).isLt
  have ex : x = ix3 (0 : Fin 1) (⟨(x 1).val, h1⟩ : Fin 512) (⟨(x 2).val, h2⟩ : Fin 128) := by
    funext a; apply Fin.ext
    match a with
    | ⟨0, _⟩ => show (x 0).val = 0; omega
    | ⟨1, _⟩ => rfl
    | ⟨2, _⟩ => rfl
  have e := (congrArg (lanes0 z) ex).trans (lanes0_ix z _ _)
  refine e.trans ((hz _ _).trans ?_)
  unfold headsOf
  refine pair f (Fin.ext ?_) (Fin.ext ?_)
  · show (x 1).val = (0 + 4 * (x 1).val) / 4; omega
  · show 0 + (x 2).val = (0 + 4 * (x 1).val) % 4 * 128 + (0 + 1 * (x 2).val); omega

theorem lanes1_ix (z : FVec Ideal S512x512 .f32) (r : Fin 512) (e : Fin 128) : (lanes1 z (ix3 0 r e) : EReal) = z (ix2 r ⟨128 + e.val, by omega⟩) := by
  pointwise [lanes1]

theorem lanes1_at (z : FVec Ideal S512x512 .f32) (f : Fin 512 → Fin 512 → EReal) (hz : ∀ r j, (z (ix2 r j) : EReal) = f r j) (x : S1x512x128.Idx) :
    (lanes1 z x : EReal) = headsOf f (head1.emb x) := by
  have h0 : (x 0).val < 1 := (x 0).isLt
  have h1 : (x 1).val < 512 := (x 1).isLt
  have h2 : (x 2).val < 128 := (x 2).isLt
  have ex : x = ix3 (0 : Fin 1) (⟨(x 1).val, h1⟩ : Fin 512) (⟨(x 2).val, h2⟩ : Fin 128) := by
    funext a; apply Fin.ext
    match a with
    | ⟨0, _⟩ => show (x 0).val = 0; omega
    | ⟨1, _⟩ => rfl
    | ⟨2, _⟩ => rfl
  have e := (congrArg (lanes1 z) ex).trans (lanes1_ix z _ _)
  refine e.trans ((hz _ _).trans ?_)
  unfold headsOf
  refine pair f (Fin.ext ?_) (Fin.ext ?_)
  · show (x 1).val = (1 + 4 * (x 1).val) / 4; omega
  · show 128 + (x 2).val = (1 + 4 * (x 1).val) % 4 * 128 + (0 + 1 * (x 2).val); omega

theorem lanes2_ix (z : FVec Ideal S512x512 .f32) (r : Fin 512) (e : Fin 128) : (lanes2 z (ix3 0 r e) : EReal) = z (ix2 r ⟨256 + e.val, by omega⟩) := by
  pointwise [lanes2]

theorem lanes2_at (z : FVec Ideal S512x512 .f32) (f : Fin 512 → Fin 512 → EReal) (hz : ∀ r j, (z (ix2 r j) : EReal) = f r j) (x : S1x512x128.Idx) :
    (lanes2 z x : EReal) = headsOf f (head2.emb x) := by
  have h0 : (x 0).val < 1 := (x 0).isLt
  have h1 : (x 1).val < 512 := (x 1).isLt
  have h2 : (x 2).val < 128 := (x 2).isLt
  have ex : x = ix3 (0 : Fin 1) (⟨(x 1).val, h1⟩ : Fin 512) (⟨(x 2).val, h2⟩ : Fin 128) := by
    funext a; apply Fin.ext
    match a with
    | ⟨0, _⟩ => show (x 0).val = 0; omega
    | ⟨1, _⟩ => rfl
    | ⟨2, _⟩ => rfl
  have e := (congrArg (lanes2 z) ex).trans (lanes2_ix z _ _)
  refine e.trans ((hz _ _).trans ?_)
  unfold headsOf
  refine pair f (Fin.ext ?_) (Fin.ext ?_)
  · show (x 1).val = (2 + 4 * (x 1).val) / 4; omega
  · show 256 + (x 2).val = (2 + 4 * (x 1).val) % 4 * 128 + (0 + 1 * (x 2).val); omega

theorem lanes3_ix (z : FVec Ideal S512x512 .f32) (r : Fin 512) (e : Fin 128) : (lanes3 z (ix3 0 r e) : EReal) = z (ix2 r ⟨384 + e.val, by omega⟩) := by
  pointwise [lanes3]

theorem lanes3_at (z : FVec Ideal S512x512 .f32) (f : Fin 512 → Fin 512 → EReal) (hz : ∀ r j, (z (ix2 r j) : EReal) = f r j) (x : S1x512x128.Idx) :
    (lanes3 z x : EReal) = headsOf f (head3.emb x) := by
  have h0 : (x 0).val < 1 := (x 0).isLt
  have h1 : (x 1).val < 512 := (x 1).isLt
  have h2 : (x 2).val < 128 := (x 2).isLt
  have ex : x = ix3 (0 : Fin 1) (⟨(x 1).val, h1⟩ : Fin 512) (⟨(x 2).val, h2⟩ : Fin 128) := by
    funext a; apply Fin.ext
    match a with
    | ⟨0, _⟩ => show (x 0).val = 0; omega
    | ⟨1, _⟩ => rfl
    | ⟨2, _⟩ => rfl
  have e := (congrArg (lanes3 z) ex).trans (lanes3_ix z _ _)
  refine e.trans ((hz _ _).trans ?_)
  unfold headsOf
  refine pair f (Fin.ext ?_) (Fin.ext ?_)
  · show (x 1).val = (3 + 4 * (x 1).val) / 4; omega
  · show 384 + (x 2).val = (3 + 4 * (x 1).val) % 4 * 128 + (0 + 1 * (x 2).val); omega

theorem quarter0_at (z : FVec Ideal S512x512 .f32) (f : Fin 512 → Fin 2048 → EReal) (hz : ∀ (r j : Fin 512), (z (ix2 r j) : EReal) = f r ⟨0 + j.val, by omega⟩) (x : S1x512x512.Idx) :
    (put16 z x : EReal) = wideOf f (quarter0.emb x) := by
  refine (congrArg (put16 z) (blk_eq x)).trans ((put16_at z _ _).trans ((hz _ _).trans ?_))
  unfold wideOf
  refine pair f (Fin.ext ?_) (Fin.ext ?_)
  · show (x 1).val = 0 + 1 * (x 1).val; omega
  · show 0 + (x 2).val = 0 + 1 * (x 2).val; omega

theorem quarter1_at (z : FVec Ideal S512x512 .f32) (f : Fin 512 → Fin 2048 → EReal) (hz : ∀ (r j : Fin 512), (z (ix2 r j) : EReal) = f r ⟨512 + j.val, by omega⟩) (x : S1x512x512.Idx) :
    (put16 z x : EReal) = wideOf f (quarter1.emb x) := by
  refine (congrArg (put16 z) (blk_eq x)).trans ((put16_at z _ _).trans ((hz _ _).trans ?_))
  unfold wideOf
  refine pair f (Fin.ext ?_) (Fin.ext ?_)
  · show (x 1).val = 0 + 1 * (x 1).val; omega
  · show 512 + (x 2).val = 512 + 1 * (x 2).val; omega

theorem quarter2_at (z : FVec Ideal S512x512 .f32) (f : Fin 512 → Fin 2048 → EReal) (hz : ∀ (r j : Fin 512), (z (ix2 r j) : EReal) = f r ⟨1024 + j.val, by omega⟩) (x : S1x512x512.Idx) :
    (put16 z x : EReal) = wideOf f (quarter2.emb x) := by
  refine (congrArg (put16 z) (blk_eq x)).trans ((put16_at z _ _).trans ((hz _ _).trans ?_))
  unfold wideOf
  refine pair f (Fin.ext ?_) (Fin.ext ?_)
  · show (x 1).val = 0 + 1 * (x 1).val; omega
  · show 1024 + (x 2).val = 1024 + 1 * (x 2).val; omega

theorem quarter3_at (z : FVec Ideal S512x512 .f32) (f : Fin 512 → Fin 2048 → EReal) (hz : ∀ (r j : Fin 512), (z (ix2 r j) : EReal) = f r ⟨1536 + j.val, by omega⟩) (x : S1x512x512.Idx) :
    (put16 z x : EReal) = wideOf f (quarter3.emb x) := by
  refine (congrArg (put16 z) (blk_eq x)).trans ((put16_at z _ _).trans ((hz _ _).trans ?_))
  unfold wideOf
  refine pair f (Fin.ext ?_) (Fin.ext ?_)
  · show (x 1).val = 0 + 1 * (x 1).val; omega
  · show 1536 + (x 2).val = 1536 + 1 * (x 2).val; omega

theorem heads_at (z : FVec Ideal S512x512 .f32) (f : Fin 512 → Fin 512 → EReal) (hz : ∀ r j, (z (ix2 r j) : EReal) = f r j) (y : S1x2048x128.Idx) :
    (View.canon (Val := Elt Ideal) (e := .f32) [⟨head3, lanes3 z⟩, ⟨head2, lanes2 z⟩, ⟨head1, lanes1 z⟩, ⟨head0, lanes0 z⟩] y : EReal) = headsOf f y :=
  View.canon_apply_of_pieces (Val := Elt Ideal) (e := .f32) (headsOf f) _ (fun p hp x => by
    rcases List.mem_cons.mp hp with rfl | hp
    · exact lanes3_at z f hz x
    rcases List.mem_cons.mp hp with rfl | hp
    · exact lanes2_at z f hz x
    rcases List.mem_cons.mp hp with rfl | hp
    · exact lanes1_at z f hz x
    rcases List.mem_cons.mp hp with rfl | hp
    · exact lanes0_at z f hz x
    nomatch hp) y (covers_heads _ _ _ _ y) |>.trans rfl

theorem quarters_at (z3 z2 z1 z0 : FVec Ideal S512x512 .f32) (f : Fin 512 → Fin 2048 → EReal) (h3 : ∀ (r j : Fin 512), (z3 (ix2 r j) : EReal) = f r ⟨1536 + j.val, by omega⟩)
    (h2 : ∀ (r j : Fin 512), (z2 (ix2 r j) : EReal) = f r ⟨1024 + j.val, by omega⟩) (h1 : ∀ (r j : Fin 512), (z1 (ix2 r j) : EReal) = f r ⟨512 + j.val, by omega⟩)
    (h0 : ∀ (r j : Fin 512), (z0 (ix2 r j) : EReal) = f r ⟨0 + j.val, by omega⟩) (y : S1x512x2048.Idx) :
    (View.canon (Val := Elt Ideal) (e := .bf16) [⟨quarter3, put16 z3⟩, ⟨quarter2, put16 z2⟩, ⟨quarter1, put16 z1⟩, ⟨quarter0, put16 z0⟩] y : EReal) = wideOf f y :=
  View.canon_apply_of_pieces (Val := Elt Ideal) (e := .bf16) (wideOf f) _ (fun p hp x => by
    rcases List.mem_cons.mp hp with rfl | hp
    · exact quarter3_at z3 f h3 x
    rcases List.mem_cons.mp hp with rfl | hp
    · exact quarter2_at z2 f h2 x
    rcases List.mem_cons.mp hp with rfl | hp
    · exact quarter1_at z1 f h1 x
    rcases List.mem_cons.mp hp with rfl | hp
    · exact quarter0_at z0 f h0 x
    nomatch hp) y (covers_quarters _ _ _ _ y) |>.trans rfl

/-- A result by row and column, by head, and the wide one. -/
def flat16 (f : Fin 2 → Fin 8192 → Fin 512 → EReal) : FVec Ideal S2x8192x512 .bf16 := fun y => f ⟨(y 0).val, (y 0).isLt⟩ ⟨(y 1).val, (y 1).isLt⟩ ⟨(y 2).val, (y 2).isLt⟩
def flat32 (f : Fin 2 → Fin 8192 → Fin 512 → EReal) : FVec Ideal S2x8192x512 .f32 := fun y => f ⟨(y 0).val, (y 0).isLt⟩ ⟨(y 1).val, (y 1).isLt⟩ ⟨(y 2).val, (y 2).isLt⟩
def byHead (f : Fin 2 → Fin 8192 → Fin 512 → EReal) : FVec Ideal S2x32768x128 .f32 := fun y =>
  f ⟨(y 0).val, (y 0).isLt⟩ ⟨(y 1).val / 4, by have h1 : (y 1).val < 32768 := (y 1).isLt; omega⟩ ⟨(y 1).val % 4 * 128 + (y 2).val, by have h2 : (y 2).val < 128 := (y 2).isLt; omega⟩
def wide (f : Fin 2 → Fin 8192 → Fin 2048 → EReal) : FVec Ideal S2x8192x2048 .bf16 := fun y => f ⟨(y 0).val, (y 0).isLt⟩ ⟨(y 1).val, (y 1).isLt⟩ ⟨(y 2).val, (y 2).isLt⟩

theorem triple {α : Type} {n : ℕ} (f : Fin 2 → Fin 8192 → Fin n → α) {a a' : Fin 2} {b b' : Fin 8192} {d d' : Fin n} (h : a = a') (h' : b = b') (h'' : d = d') : f a b d = f a' b' d' := by rw [h, h', h'']

variable (m : (ℓ : Loc nD τ sig) → Buf (Elt Ideal) ℓ) (c : Dev nD)

/-- What result 0 holds. -/
def res10 : Fin 2 → Fin 8192 → Fin 512 → EReal := fun b s j => Cert.Proj.unit (seg (args m c) 0 (by norm_num) b s) (argG5 m c) j * Ideal.ofBits .f32 0x3E38AA3B#32

theorem final10 : (dats m 0 c).arrAt 10 (cfgs 0).N = (flat16 (res10 m c) : FVec Ideal S2x8192x512 .bf16) := by
  refine (dats m 0 c).arrAt_eq_of_covers 10 _ (by decide +kernel) fun t _ y => ?_
  blk_simp
  rw [after0_10]
  refine (whole16_at _ (fun r j => res10 m c (batchOf (grid0.coords t)) (rowOf (grid0.coords t) r) j) (fun r j => (scaled_at _ r j).trans (congrArg (· * Ideal.ofBits .f32 0x3E38AA3B#32) (unit_blk m c t 0 (by norm_num) _ _ _ _ _ (g5_blk m c t) r j))) y).trans ?_
  unfold flat16
  refine triple (res10 m c) (Fin.ext ?_) (Fin.ext ?_) (Fin.ext ?_)
  · blk_simp [idx_out t]
  · blk_simp [idx_out t]
  · blk_simp [idx_out t]

/-- What result 1 holds. -/
def res11 : Fin 2 → Fin 8192 → Fin 512 → EReal := fun b s j => Cert.Proj.unit (seg (args m c) 512 (by norm_num) b s) (argG6 m c) j

theorem final11 : (dats m 0 c).arrAt 11 (cfgs 0).N = (byHead (res11 m c) : FVec Ideal S2x32768x128 .f32) := by
  refine (dats m 0 c).arrAt_eq_of_covers 11 _ (by decide +kernel) fun t _ y => ?_
  blk_simp
  rw [after0_11]
  refine (heads_at _ (fun r j => res11 m c (batchOf (grid0.coords t)) (rowOf (grid0.coords t) r) j) (fun r j => unit_blk m c t 512 (by norm_num) _ _ _ _ _ (g6_blk m c t) r j) y).trans ?_
  have h1 : (y 1).val < 2048 := (y 1).isLt
  unfold byHead headsOf
  refine triple (res11 m c) (Fin.ext ?_) (Fin.ext ?_) (Fin.ext ?_)
  · blk_simp [idx_out t]
  · blk_simp [idx_out t]
    show (grid0.coords t 1).val * 512 + (y 1).val / 4 = ((grid0.coords t 1).val * 2048 + (y 1).val) / 4
    omega
  · blk_simp [idx_out t]
    show (y 1).val % 4 * 128 + (y 2).val = ((grid0.coords t 1).val * 2048 + (y 1).val) % 4 * 128 + (y 2).val
    omega

/-- What result 2 holds. -/
def res12 : Fin 2 → Fin 8192 → Fin 512 → EReal := fun b s j => Cert.Proj.unit (seg (args m c) 512 (by norm_num) b s) (argG6 m c) j

theorem final12 : (dats m 0 c).arrAt 12 (cfgs 0).N = (flat16 (res12 m c) : FVec Ideal S2x8192x512 .bf16) := by
  refine (dats m 0 c).arrAt_eq_of_covers 12 _ (by decide +kernel) fun t _ y => ?_
  blk_simp
  rw [after0_12]
  refine (whole16_at _ (fun r j => res12 m c (batchOf (grid0.coords t)) (rowOf (grid0.coords t) r) j) (fun r j => unit_blk m c t 512 (by norm_num) _ _ _ _ _ (g6_blk m c t) r j) y).trans ?_
  unfold flat16
  refine triple (res12 m c) (Fin.ext ?_) (Fin.ext ?_) (Fin.ext ?_)
  · blk_simp [idx_out t]
  · blk_simp [idx_out t]
  · blk_simp [idx_out t]

/-- What result 3 holds. -/
def res13 : Fin 2 → Fin 8192 → Fin 512 → EReal := seg (args m c) 1024 (by norm_num)

theorem final13 : (dats m 0 c).arrAt 13 (cfgs 0).N = (byHead (res13 m c) : FVec Ideal S2x32768x128 .f32) := by
  refine (dats m 0 c).arrAt_eq_of_covers 13 _ (by decide +kernel) fun t _ y => ?_
  blk_simp
  rw [after0_13]
  refine (heads_at _ (fun r j => res13 m c (batchOf (grid0.coords t)) (rowOf (grid0.coords t) r) j) (fun r j => seg_blk m c t 1024 (by norm_num) _ r j) y).trans ?_
  have h1 : (y 1).val < 2048 := (y 1).isLt
  unfold byHead headsOf
  refine triple (res13 m c) (Fin.ext ?_) (Fin.ext ?_) (Fin.ext ?_)
  · blk_simp [idx_out t]
  · blk_simp [idx_out t]
    show (grid0.coords t 1).val * 512 + (y 1).val / 4 = ((grid0.coords t 1).val * 2048 + (y 1).val) / 4
    omega
  · blk_simp [idx_out t]
    show (y 1).val % 4 * 128 + (y 2).val = ((grid0.coords t 1).val * 2048 + (y 1).val) % 4 * 128 + (y 2).val
    omega

/-- What result 4 holds. -/
def res14 : Fin 2 → Fin 8192 → Fin 512 → EReal := seg (args m c) 1024 (by norm_num)

theorem final14 : (dats m 0 c).arrAt 14 (cfgs 0).N = (flat16 (res14 m c) : FVec Ideal S2x8192x512 .bf16) := by
  refine (dats m 0 c).arrAt_eq_of_covers 14 _ (by decide +kernel) fun t _ y => ?_
  blk_simp
  rw [after0_14]
  refine (whole16_at _ (fun r j => res14 m c (batchOf (grid0.coords t)) (rowOf (grid0.coords t) r) j) (fun r j => seg_blk m c t 1024 (by norm_num) _ r j) y).trans ?_
  unfold flat16
  refine triple (res14 m c) (Fin.ext ?_) (Fin.ext ?_) (Fin.ext ?_)
  · blk_simp [idx_out t]
  · blk_simp [idx_out t]
  · blk_simp [idx_out t]

/-- What result 5 holds. -/
def res15 : Fin 2 → Fin 8192 → Fin 512 → EReal := seg (args m c) 1536 (by norm_num)

theorem final15 : (dats m 0 c).arrAt 15 (cfgs 0).N = (flat16 (res15 m c) : FVec Ideal S2x8192x512 .bf16) := by
  refine (dats m 0 c).arrAt_eq_of_covers 15 _ (by decide +kernel) fun t _ y => ?_
  blk_simp
  rw [after0_15]
  refine (whole16_at _ (fun r j => res15 m c (batchOf (grid0.coords t)) (rowOf (grid0.coords t) r) j) (fun r j => seg_blk m c t 1536 (by norm_num) _ r j) y).trans ?_
  unfold flat16
  refine triple (res15 m c) (Fin.ext ?_) (Fin.ext ?_) (Fin.ext ?_)
  · blk_simp [idx_out t]
  · blk_simp [idx_out t]
  · blk_simp [idx_out t]

/-- What result 6 holds. -/
def res16 : Fin 2 → Fin 8192 → Fin 512 → EReal := fun b s j => Cert.Proj.unit (seg (args m c) 2048 (by norm_num) b s) (argG7 m c) j * Ideal.ofBits .f32 0x3E38AA3B#32

theorem final16 : (dats m 0 c).arrAt 16 (cfgs 0).N = (flat16 (res16 m c) : FVec Ideal S2x8192x512 .bf16) := by
  refine (dats m 0 c).arrAt_eq_of_covers 16 _ (by decide +kernel) fun t _ y => ?_
  blk_simp
  rw [after0_16]
  refine (whole16_at _ (fun r j => res16 m c (batchOf (grid0.coords t)) (rowOf (grid0.coords t) r) j) (fun r j => (scaled_at _ r j).trans (congrArg (· * Ideal.ofBits .f32 0x3E38AA3B#32) (unit_blk m c t 2048 (by norm_num) _ _ _ _ _ (g7_blk m c t) r j))) y).trans ?_
  unfold flat16
  refine triple (res16 m c) (Fin.ext ?_) (Fin.ext ?_) (Fin.ext ?_)
  · blk_simp [idx_out t]
  · blk_simp [idx_out t]
  · blk_simp [idx_out t]

/-- What result 7 holds. -/
def res17 : Fin 2 → Fin 8192 → Fin 512 → EReal := fun b s j => Cert.Proj.unit (seg (args m c) 2560 (by norm_num) b s) (argG8 m c) j

theorem final17 : (dats m 0 c).arrAt 17 (cfgs 0).N = (flat32 (res17 m c) : FVec Ideal S2x8192x512 .f32) := by
  refine (dats m 0 c).arrAt_eq_of_covers 17 _ (by decide +kernel) fun t _ y => ?_
  blk_simp
  rw [after0_17]
  refine (whole32_at _ (fun r j => res17 m c (batchOf (grid0.coords t)) (rowOf (grid0.coords t) r) j) (fun r j => unit_blk m c t 2560 (by norm_num) _ _ _ _ _ (g8_blk m c t) r j) y).trans ?_
  unfold flat32
  refine triple (res17 m c) (Fin.ext ?_) (Fin.ext ?_) (Fin.ext ?_)
  · blk_simp [idx_out t]
  · blk_simp [idx_out t]
  · blk_simp [idx_out t]

/-- What result 8 holds. -/
def res18 : Fin 2 → Fin 8192 → Fin 512 → EReal := fun b s j => Cert.Proj.unit (seg (args m c) 2560 (by norm_num) b s) (argG8 m c) j

theorem final18 : (dats m 0 c).arrAt 18 (cfgs 0).N = (flat16 (res18 m c) : FVec Ideal S2x8192x512 .bf16) := by
  refine (dats m 0 c).arrAt_eq_of_covers 18 _ (by decide +kernel) fun t _ y => ?_
  blk_simp
  rw [after0_18]
  refine (whole16_at _ (fun r j => res18 m c (batchOf (grid0.coords t)) (rowOf (grid0.coords t) r) j) (fun r j => unit_blk m c t 2560 (by norm_num) _ _ _ _ _ (g8_blk m c t) r j) y).trans ?_
  unfold flat16
  refine triple (res18 m c) (Fin.ext ?_) (Fin.ext ?_) (Fin.ext ?_)
  · blk_simp [idx_out t]
  · blk_simp [idx_out t]
  · blk_simp [idx_out t]

/-- What result 9 holds. -/
def res19 : Fin 2 → Fin 8192 → Fin 512 → EReal := seg (args m c) 3072 (by norm_num)

theorem final19 : (dats m 0 c).arrAt 19 (cfgs 0).N = (flat32 (res19 m c) : FVec Ideal S2x8192x512 .f32) := by
  refine (dats m 0 c).arrAt_eq_of_covers 19 _ (by decide +kernel) fun t _ y => ?_
  blk_simp
  rw [after0_19]
  refine (whole32_at _ (fun r j => res19 m c (batchOf (grid0.coords t)) (rowOf (grid0.coords t) r) j) (fun r j => seg_blk m c t 3072 (by norm_num) _ r j) y).trans ?_
  unfold flat32
  refine triple (res19 m c) (Fin.ext ?_) (Fin.ext ?_) (Fin.ext ?_)
  · blk_simp [idx_out t]
  · blk_simp [idx_out t]
  · blk_simp [idx_out t]

/-- What result 10 holds. -/
def res20 : Fin 2 → Fin 8192 → Fin 512 → EReal := seg (args m c) 3072 (by norm_num)

theorem final20 : (dats m 0 c).arrAt 20 (cfgs 0).N = (flat16 (res20 m c) : FVec Ideal S2x8192x512 .bf16) := by
  refine (dats m 0 c).arrAt_eq_of_covers 20 _ (by decide +kernel) fun t _ y => ?_
  blk_simp
  rw [after0_20]
  refine (whole16_at _ (fun r j => res20 m c (batchOf (grid0.coords t)) (rowOf (grid0.coords t) r) j) (fun r j => seg_blk m c t 3072 (by norm_num) _ r j) y).trans ?_
  unfold flat16
  refine triple (res20 m c) (Fin.ext ?_) (Fin.ext ?_) (Fin.ext ?_)
  · blk_simp [idx_out t]
  · blk_simp [idx_out t]
  · blk_simp [idx_out t]

/-- What result 11 holds. -/
def res21 : Fin 2 → Fin 8192 → Fin 512 → EReal := seg (args m c) 3584 (by norm_num)

theorem final21 : (dats m 0 c).arrAt 21 (cfgs 0).N = (flat16 (res21 m c) : FVec Ideal S2x8192x512 .bf16) := by
  refine (dats m 0 c).arrAt_eq_of_covers 21 _ (by decide +kernel) fun t _ y => ?_
  blk_simp
  rw [after0_21]
  refine (whole16_at _ (fun r j => res21 m c (batchOf (grid0.coords t)) (rowOf (grid0.coords t) r) j) (fun r j => seg_blk m c t 3584 (by norm_num) _ r j) y).trans ?_
  unfold flat16
  refine triple (res21 m c) (Fin.ext ?_) (Fin.ext ?_) (Fin.ext ?_)
  · blk_simp [idx_out t]
  · blk_simp [idx_out t]
  · blk_simp [idx_out t]

/-- What result 12 holds. -/
def res22 : Fin 2 → Fin 8192 → Fin 2048 → EReal := fun b s j => col (args m c) b s ⟨4096 + j.val, by omega⟩

theorem seg_wide (o q : ℕ) (h : o = 4096 + q) (ho : o + 512 ≤ 6144) (b : Fin 2) (s : Fin 8192) (j : Fin 512) : seg (args m c) o ho b s j = res22 m c b s ⟨q + j.val, by omega⟩ := by
  subst h
  exact congrArg (col (args m c) b s) (Fin.ext (by simp only; omega))

theorem final22 : (dats m 0 c).arrAt 22 (cfgs 0).N = (wide (res22 m c) : FVec Ideal S2x8192x2048 .bf16) := by
  refine (dats m 0 c).arrAt_eq_of_covers 22 _ (by decide +kernel) fun t _ y => ?_
  blk_simp
  rw [after0_22]
  refine (quarters_at _ _ _ _ (fun r j => res22 m c (batchOf (grid0.coords t)) (rowOf (grid0.coords t) r) j)
    (fun r j => (seg_blk m c t 5632 (by norm_num) _ r j).trans (seg_wide m c 5632 1536 rfl _ _ _ j)) (fun r j => (seg_blk m c t 5120 (by norm_num) _ r j).trans (seg_wide m c 5120 1024 rfl _ _ _ j))
    (fun r j => (seg_blk m c t 4608 (by norm_num) _ r j).trans (seg_wide m c 4608 512 rfl _ _ _ j)) (fun r j => (seg_blk m c t 4096 (by norm_num) _ r j).trans (seg_wide m c 4096 0 rfl _ _ _ j)) y).trans ?_
  unfold wide wideOf
  refine triple (res22 m c) (Fin.ext ?_) (Fin.ext ?_) (Fin.ext ?_)
  · blk_simp [idx_out t]
  · blk_simp [idx_out t]
  · blk_simp [idx_out t]

end Cert.ProjectIdeal.Tile

end
-- ==== Proof.ProjRef.lean ====
module

public import proofs.«01_k».proof.Proof.ProjSpec
public import proofs.«01_k».proof.Proof.Gen.ProjectedIdeal.Run

@[expose] public section

set_option maxRecDepth 16384

noncomputable section

/-! The reference's projection read at an index. -/

namespace Cert.ProjectedIdeal.Val

open Cert.ProjectedIdeal Cert.ProjectedIdeal.Gen Cert.Proj
open Idealize.ShloMosaic Idealize.ShloMosaic.TcCoe Idealize.SL.Sem

/-- The modulated norm, the projection, a segment of it, and a segment by heads. -/
def hidden (a0 : FVec Ideal S2x8192x1024 .f32) (a1 a2 : FVec Ideal S2x1024 .f32) (a3 : FVec Ideal S1024 .f32) : FVec Ideal S2x8192x1024 .f32 :=
  addf (mulf (mulf (mulf a0 (broadcastInDim S2x8192x1024 ![0,1,2] bcast_S2x8192x1_S2x8192x1024_0_1_2 (Host.rsqrt (addf (Host.divf (broadcastInDim S2x8192x1 ![0,1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0,1,2] bcast_S1x1x1024_S2x8192x1024_0_1_2 (broadcastInDim S1x1x1024 ![2] bcast_S1024_S1x1x1024_2 a3))) (broadcastInDim S2x8192x1024 ![0,1,2] bcast_S2x1x1024_S2x8192x1024_0_1_2 (addf (broadcastInDim S2x1x1024 ![] bcast_S_S2x1x1024 (constant S_ .f32 0x3F800000#32)) (broadcastInDim S2x1x1024 ![0,2] bcast_S2x1024_S2x1x1024_0_2 a2)))) (broadcastInDim S2x8192x1024 ![0,1,2] bcast_S2x1x1024_S2x8192x1024_0_1_2 (broadcastInDim S2x1x1024 ![0,2] bcast_S2x1024_S2x1x1024_0_2 a1))
def cols (h : FVec Ideal S2x8192x1024 .f32) (a4 : FVec Ideal S1024x6144 .f32) : FVec Ideal S2x8192x6144 .f32 :=
  Host.dotGeneral dot_S2x8192x1024_S1024x6144_S2x8192x6144_2_0_01_1_n_n none h a4
def cut (o : ℕ) (hs : S2x8192x6144.Slices ![0, 0, o] S2x8192x512) (Y : FVec Ideal S2x8192x6144 .f32) : FVec Ideal S2x8192x512 .f32 := extractStridedSlice S2x8192x512 ![0, 0, o] Y hs
def cutWide (Y : FVec Ideal S2x8192x6144 .f32) : FVec Ideal S2x8192x2048 .bf16 := truncf .bf16 (extractStridedSlice S2x8192x2048 ![0, 0, 4096] Y slices_S2x8192x6144_S2x8192x2048_0_0_4096) bitsLt_bf16_f32
def by64 (z : FVec Ideal S2x8192x512 .f32) : FVec Ideal S2x8192x8x64 .f32 := shapeCast _ z shapeCasts_S2x8192x512_S2x8192x8x64
def by512 (z : FVec Ideal S2x8192x8x64 .f32) : FVec Ideal S2x8192x512 .f32 := shapeCast _ z shapeCasts_S2x8192x8x64_S2x8192x512
def by128 (z : FVec Ideal S2x8192x512 .f32) : FVec Ideal S2x32768x128 .f32 := shapeCast _ z shapeCasts_S2x8192x512_S2x32768x128
/-- The heads divided by their root mean squares, times the gain. -/
def units (Z : FVec Ideal S2x8192x8x64 .f32) (g : FVec Ideal S64 .f32) : FVec Ideal S2x8192x8x64 .f32 :=
  mulf (mulf Z (broadcastInDim S2x8192x8x64 ![0,1,2,3] bcast_S2x8192x8x1_S2x8192x8x64_0_1_2_3 (Host.rsqrt (addf (Host.divf (broadcastInDim S2x8192x8x1 ![0,1,2] bcast_S2x8192x8_S2x8192x8x1_0_1_2 (Host.reduceAdd (mulf Z Z) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0,1,2,3] bcast_S1x1x1x64_S2x8192x8x64_0_1_2_3 (broadcastInDim S1x1x1x64 ![3] bcast_S64_S1x1x1x64_3 g))
def scale (z : FVec Ideal S2x8192x512 .f32) : FVec Ideal S2x8192x512 .bf16 := truncf .bf16 (mulf z (broadcastInDim S2x8192x512 ![] bcast_S_S2x8192x512 (constant S_ .f32 0x3E38AA3B#32))) bitsLt_bf16_f32
def short (z : FVec Ideal S2x8192x512 .f32) : FVec Ideal S2x8192x512 .bf16 := truncf .bf16 z bitsLt_bf16_f32

/-- The arguments, cell by cell. -/
def cells (a0 : FVec Ideal S2x8192x1024 .f32) (a1 a2 : FVec Ideal S2x1024 .f32) (a3 : FVec Ideal S1024 .f32) (a4 : FVec Ideal S1024x6144 .f32) : Args :=
  ⟨fun b s d => a0 (ix3 b s d), fun b d => a1 (ix2 b d), fun b d => a2 (ix2 b d), fun d => a3 (ix1 d), fun d j => a4 (ix2 d j)⟩

theorem hidden_at (a0 : FVec Ideal S2x8192x1024 .f32) (a1 a2 : FVec Ideal S2x1024 .f32) (a3 : FVec Ideal S1024 .f32) (a4 : FVec Ideal S1024x6144 .f32) (b : Fin 2) (s : Fin 8192) (d : Fin 1024) :
    (hidden a0 a1 a2 a3 (ix3 b s d) : EReal) = hid (cells a0 a1 a2 a3 a4) b s d := by
  pointwise [hidden]
  rfl

theorem cols_at (h : FVec Ideal S2x8192x1024 .f32) (a4 : FVec Ideal S1024x6144 .f32) (b : Fin 2) (s : Fin 8192) (j : Fin 6144) : (cols h a4 (ix3 b s j) : EReal) = ∑ d : Fin 1024, h (ix3 b s d) * a4 (ix2 d j) := by
  pointwise [cols]

theorem cut_at (o : ℕ) (ho : o + 512 ≤ 6144) (hs) (Y : FVec Ideal S2x8192x6144 .f32) (b : Fin 2) (s : Fin 8192) (j : Fin 512) : (cut o hs Y (ix3 b s j) : EReal) = Y (ix3 b s ⟨o + j.val, by omega⟩) := by
  pointwise [cut]

theorem cutWide_at (Y : FVec Ideal S2x8192x6144 .f32) (b : Fin 2) (s : Fin 8192) (j : Fin 2048) : (cutWide Y (ix3 b s j) : EReal) = Y (ix3 b s ⟨4096 + j.val, by omega⟩) := by
  pointwise [cutWide]

theorem by64_at (z : FVec Ideal S2x8192x512 .f32) (b : Fin 2) (s : Fin 8192) (h : Fin 8) (e : Fin 64) : (by64 z (ix4 b s h e) : EReal) = z (ix3 b s ⟨h.val * 64 + e.val, by omega⟩) := by
  pointwise [by64]

theorem by512_at (z : FVec Ideal S2x8192x8x64 .f32) (b : Fin 2) (s : Fin 8192) (j : Fin 512) : (by512 z (ix3 b s j) : EReal) = z (ix4 b s ⟨j.val / 64, by omega⟩ ⟨j.val % 64, Nat.mod_lt _ (by norm_num)⟩) := by
  pointwise [by512]

theorem by128_at (z : FVec Ideal S2x8192x512 .f32) (b : Fin 2) (q : Fin 32768) (e : Fin 128) : (by128 z (ix3 b q e) : EReal) = z (ix3 b ⟨q.val / 4, by omega⟩ ⟨q.val % 4 * 128 + e.val, by omega⟩) := by
  pointwise [by128]

theorem units_at (Z : FVec Ideal S2x8192x8x64 .f32) (g : FVec Ideal S64 .f32) (b : Fin 2) (s : Fin 8192) (h : Fin 8) (e : Fin 64) :
    (units Z g (ix4 b s h e) : EReal) = Z (ix4 b s h e) * Ideal.rsqrt (Ideal.div (∑ k : Fin 64, Z (ix4 b s h k) * Z (ix4 b s h k)) (Ideal.ofBits .f32 0x42800000#32) + Ideal.ofBits .f32 0x358637BD#32) * g (ix1 e) := by
  pointwise [units]

theorem scale_at (z : FVec Ideal S2x8192x512 .f32) (b : Fin 2) (s : Fin 8192) (j : Fin 512) : (scale z (ix3 b s j) : EReal) = z (ix3 b s j) * Ideal.ofBits .f32 0x3E38AA3B#32 := by
  pointwise [scale]

theorem short_at (z : FVec Ideal S2x8192x512 .f32) (b : Fin 2) (s : Fin 8192) (j : Fin 512) : (short z (ix3 b s j) : EReal) = z (ix3 b s j) := by
  pointwise [short]

theorem unit_at (z : FVec Ideal S2x8192x512 .f32) (g : FVec Ideal S64 .f32) (b : Fin 2) (s : Fin 8192) (j : Fin 512) :
    (by512 (units (by64 z) g) (ix3 b s j) : EReal) = Cert.Proj.unit (fun j => (z (ix3 b s j) : EReal)) (fun e => g (ix1 e)) j := by
  refine (by512_at _ b s j).trans ((units_at _ g b s _ _).trans ?_)
  unfold Cert.Proj.unit Cert.Proj.mean
  simp only [by64_at]
  have ej : (⟨j.val / 64 * 64 + j.val % 64, by omega⟩ : Fin 512) = j := Fin.ext (by simp only; omega)
  rw [ej]

end Cert.ProjectedIdeal.Val

end
-- ==== Proof.ProjValue.lean ====
module

public import proofs.«01_k».proof.Defs
public import proofs.«01_k».proof.Proof.ProjFinal
public import proofs.«01_k».proof.Proof.ProjRef

@[expose] public section

set_option maxRecDepth 16384

noncomputable section

/-! The two programs' projections are the same thirteen arrays. -/

namespace Cert.ProjValue

open Cert.Proj Cert.ProjectIdeal.Tile Cert.ProjectIdeal.Val Cert.ProjectedIdeal.Val
open Idealize.ShloMosaic Idealize.ShloMosaic.TcCoe Idealize.SL.Sem

theorem flat16_ext (X : FVec Ideal Cert.ProjectIdeal.S2x8192x512 .bf16) (f : Fin 2 → Fin 8192 → Fin 512 → EReal) (h : ∀ b s j, (X (ix3 b s j) : EReal) = f b s j) : X = flat16 f := by
  funext y
  have e : y = ix3 (⟨(y 0).val, (y 0).isLt⟩ : Fin 2) (⟨(y 1).val, (y 1).isLt⟩ : Fin 8192) (⟨(y 2).val, (y 2).isLt⟩ : Fin 512) := by
    funext a
    match a with
    | ⟨0, _⟩ => rfl
    | ⟨1, _⟩ => rfl
    | ⟨2, _⟩ => rfl
  exact (congrArg X e).trans (h _ _ _)

theorem flat32_ext (X : FVec Ideal Cert.ProjectIdeal.S2x8192x512 .f32) (f : Fin 2 → Fin 8192 → Fin 512 → EReal) (h : ∀ b s j, (X (ix3 b s j) : EReal) = f b s j) : X = flat32 f := by
  funext y
  have e : y = ix3 (⟨(y 0).val, (y 0).isLt⟩ : Fin 2) (⟨(y 1).val, (y 1).isLt⟩ : Fin 8192) (⟨(y 2).val, (y 2).isLt⟩ : Fin 512) := by
    funext a
    match a with
    | ⟨0, _⟩ => rfl
    | ⟨1, _⟩ => rfl
    | ⟨2, _⟩ => rfl
  exact (congrArg X e).trans (h _ _ _)

theorem byHead_ext (X : FVec Ideal Cert.ProjectIdeal.S2x8192x512 .f32) (f : Fin 2 → Fin 8192 → Fin 512 → EReal) (h : ∀ b s j, (X (ix3 b s j) : EReal) = f b s j) : by128 X = byHead f := by
  funext y
  have e : y = ix3 (⟨(y 0).val, (y 0).isLt⟩ : Fin 2) (⟨(y 1).val, (y 1).isLt⟩ : Fin 32768) (⟨(y 2).val, (y 2).isLt⟩ : Fin 128) := by
    funext a
    match a with
    | ⟨0, _⟩ => rfl
    | ⟨1, _⟩ => rfl
    | ⟨2, _⟩ => rfl
  exact (congrArg (by128 X) e).trans ((by128_at X _ _ _).trans (h _ _ _))

theorem wide_ext (X : FVec Ideal Cert.ProjectIdeal.S2x8192x2048 .bf16) (f : Fin 2 → Fin 8192 → Fin 2048 → EReal) (h : ∀ b s j, (X (ix3 b s j) : EReal) = f b s j) : X = wide f := by
  funext y
  have e : y = ix3 (⟨(y 0).val, (y 0).isLt⟩ : Fin 2) (⟨(y 1).val, (y 1).isLt⟩ : Fin 8192) (⟨(y 2).val, (y 2).isLt⟩ : Fin 2048) := by
    funext a
    match a with
    | ⟨0, _⟩ => rfl
    | ⟨1, _⟩ => rfl
    | ⟨2, _⟩ => rfl
  exact (congrArg X e).trans (h _ _ _)

section Results
open Cert.ProjectIdeal Cert.ProjectIdeal.Gen

variable (m : (ℓ : Loc nD τ sig) → Buf (Elt Ideal) ℓ) (c : Dev nD)

abbrev a0 : FVec Ideal S2x8192x1024 .f32 := m ((c : Thread nD τ).loc main_arg0)
abbrev a1 : FVec Ideal S2x1024 .f32 := m ((c : Thread nD τ).loc main_arg1)
abbrev a2 : FVec Ideal S2x1024 .f32 := m ((c : Thread nD τ).loc main_arg2)
abbrev a3 : FVec Ideal S1024 .f32 := m ((c : Thread nD τ).loc main_arg3)
abbrev a4 : FVec Ideal S1024x6144 .f32 := m ((c : Thread nD τ).loc main_arg4)
abbrev a5 : FVec Ideal S64 .f32 := m ((c : Thread nD τ).loc main_arg5)
abbrev a6 : FVec Ideal S64 .f32 := m ((c : Thread nD τ).loc main_arg6)
abbrev a7 : FVec Ideal S64 .f32 := m ((c : Thread nD τ).loc main_arg7)
abbrev a8 : FVec Ideal S64 .f32 := m ((c : Thread nD τ).loc main_arg8)

/-- The reference's projection of the kernel's arguments. -/
abbrev proj : FVec Ideal Cert.ProjectedIdeal.S2x8192x6144 .f32 := cols (hidden (a0 m c) (a1 m c) (a2 m c) (a3 m c)) (a4 m c)

theorem proj_at (b : Fin 2) (s : Fin 8192) (j : Fin 6144) : (proj m c (ix3 b s j) : EReal) = col (args m c) b s j := by
  refine (cols_at _ _ b s j).trans (Finset.sum_congr rfl fun d _ => ?_)
  exact congrArg (fun z : EReal => z * a4 m c (ix2 d j)) (hidden_at (a0 m c) (a1 m c) (a2 m c) (a3 m c) (a4 m c) b s d)

theorem seg_at (o : ℕ) (ho : o + 512 ≤ 6144) (hs) (b : Fin 2) (s : Fin 8192) (j : Fin 512) : (cut o hs (proj m c) (ix3 b s j) : EReal) = seg (args m c) o ho b s j :=
  (cut_at o ho hs _ b s j).trans (proj_at m c b s _)

theorem norm_seg (o : ℕ) (ho : o + 512 ≤ 6144) (hs) (g : FVec Ideal S64 .f32) (b : Fin 2) (s : Fin 8192) (j : Fin 512) :
    (by512 (units (by64 (cut o hs (proj m c))) g) (ix3 b s j) : EReal) = Cert.Proj.unit (seg (args m c) o ho b s) (fun e => g (ix1 e)) j :=
  (unit_at _ g b s j).trans (congrArg (fun z : Fin 512 → EReal => Cert.Proj.unit z (fun e => g (ix1 e)) j) (funext fun j => seg_at m c o ho hs b s j))

theorem ref10 (hs) : scale (by512 (units (by64 (cut 0 hs (proj m c))) (a5 m c))) = flat16 (res10 m c) := flat16_ext _ _ fun b s j => (scale_at _ b s j).trans (congrArg (fun z : EReal => z * Ideal.ofBits .f32 0x3E38AA3B#32) (norm_seg m c 0 (by norm_num) _ (a5 m c) b s j))

theorem ref11 (hs) : by128 (by512 (units (by64 (cut 512 hs (proj m c))) (a6 m c))) = byHead (res11 m c) := byHead_ext _ _ fun b s j => norm_seg m c 512 (by norm_num) _ (a6 m c) b s j

theorem ref12 (hs) : short (by512 (units (by64 (cut 512 hs (proj m c))) (a6 m c))) = flat16 (res12 m c) := flat16_ext _ _ fun b s j => (short_at _ b s j).trans (norm_seg m c 512 (by norm_num) _ (a6 m c) b s j)

theorem ref13 (hs) : by128 (cut 1024 hs (proj m c)) = byHead (res13 m c) := byHead_ext _ _ fun b s j => seg_at m c 1024 (by norm_num) _ b s j

theorem ref14 (hs) : short (cut 1024 hs (proj m c)) = flat16 (res14 m c) := flat16_ext _ _ fun b s j => (short_at _ b s j).trans (seg_at m c 1024 (by norm_num) _ b s j)

theorem ref15 (hs) : short (cut 1536 hs (proj m c)) = flat16 (res15 m c) := flat16_ext _ _ fun b s j => (short_at _ b s j).trans (seg_at m c 1536 (by norm_num) _ b s j)

theorem ref16 (hs) : scale (by512 (units (by64 (cut 2048 hs (proj m c))) (a7 m c))) = flat16 (res16 m c) := flat16_ext _ _ fun b s j => (scale_at _ b s j).trans (congrArg (fun z : EReal => z * Ideal.ofBits .f32 0x3E38AA3B#32) (norm_seg m c 2048 (by norm_num) _ (a7 m c) b s j))

theorem ref17 (hs) : by512 (units (by64 (cut 2560 hs (proj m c))) (a8 m c)) = flat32 (res17 m c) := flat32_ext _ _ fun b s j => norm_seg m c 2560 (by norm_num) _ (a8 m c) b s j

theorem ref18 (hs) : short (by512 (units (by64 (cut 2560 hs (proj m c))) (a8 m c))) = flat16 (res18 m c) := flat16_ext _ _ fun b s j => (short_at _ b s j).trans (norm_seg m c 2560 (by norm_num) _ (a8 m c) b s j)

theorem ref19 (hs) : cut 3072 hs (proj m c) = flat32 (res19 m c) := flat32_ext _ _ fun b s j => seg_at m c 3072 (by norm_num) _ b s j

theorem ref20 (hs) : short (cut 3072 hs (proj m c)) = flat16 (res20 m c) := flat16_ext _ _ fun b s j => (short_at _ b s j).trans (seg_at m c 3072 (by norm_num) _ b s j)

theorem ref21 (hs) : short (cut 3584 hs (proj m c)) = flat16 (res21 m c) := flat16_ext _ _ fun b s j => (short_at _ b s j).trans (seg_at m c 3584 (by norm_num) _ b s j)

theorem ref22 : cutWide (proj m c) = wide (res22 m c) := wide_ext _ _ fun b s j => (cutWide_at _ b s j).trans (proj_at m c b s _)

end Results

set_option maxHeartbeats 4000000 in
theorem algebraic : algebraic_ProjectIdeal_ProjectedIdeal (hProjectIdeal := Cert.ProjectIdeal.Gen.facts) (hProjectedIdeal := Cert.ProjectedIdeal.Gen.facts) := by
  intro m g m' g' hpre hagree
  refine ⟨fun c => flat16 (res10 m c), fun c => byHead (res11 m c), fun c => flat16 (res12 m c), fun c => byHead (res13 m c), fun c => flat16 (res14 m c), fun c => flat16 (res15 m c), fun c => flat16 (res16 m c), fun c => flat32 (res17 m c), fun c => flat16 (res18 m c), fun c => flat32 (res19 m c), fun c => flat16 (res20 m c), fun c => flat16 (res21 m c), fun c => wide (res22 m c), ?_, ?_⟩
  · refine (θ_run Cert.ProjectIdeal.defs _ _).mono (fun r h c => ?_)
      (θ_run_and (launch (F := Ideal) m g) (frame (F := Ideal) m g))
    have hl := (h.1.1 c).1
    exact ⟨(hl 10).trans (final10 m c), (hl 11).trans (final11 m c), (hl 12).trans (final12 m c), (hl 13).trans (final13 m c), (hl 14).trans (final14 m c), (hl 15).trans (final15 m c), (hl 16).trans (final16 m c), (hl 17).trans (final17 m c), (hl 18).trans (final18 m c), (hl 19).trans (final19 m c), (hl 20).trans (final20 m c), (hl 21).trans (final21 m c), (hl 22).trans (final22 m c), h.2.1 c⟩
  · refine (θ_run Cert.ProjectedIdeal.defs _ _).mono (fun r h c => ?_) (Cert.ProjectedIdeal.Value.run (F := Ideal) m' g')
    obtain ⟨e0, e1, e2, e3, e4, e5, e6, e7, e8⟩ := hagree c
    have hc := h c
    obtain ⟨h10, h11, h12, h13, h14, h15, h16, h17, h18, h19, h20, h21, h22, hu⟩ := hc
    refine ⟨h10.trans (Eq.trans ?_ (ref10 m c Cert.ProjectedIdeal.Gen.slices_S2x8192x6144_S2x8192x512_0_0_0)), h11.trans (Eq.trans ?_ (ref11 m c Cert.ProjectedIdeal.Gen.slices_S2x8192x6144_S2x8192x512_0_0_512)), h12.trans (Eq.trans ?_ (ref12 m c Cert.ProjectedIdeal.Gen.slices_S2x8192x6144_S2x8192x512_0_0_512)), h13.trans (Eq.trans ?_ (ref13 m c Cert.ProjectedIdeal.Gen.slices_S2x8192x6144_S2x8192x512_0_0_1024)), h14.trans (Eq.trans ?_ (ref14 m c Cert.ProjectedIdeal.Gen.slices_S2x8192x6144_S2x8192x512_0_0_1024)), h15.trans (Eq.trans ?_ (ref15 m c Cert.ProjectedIdeal.Gen.slices_S2x8192x6144_S2x8192x512_0_0_1536)), h16.trans (Eq.trans ?_ (ref16 m c Cert.ProjectedIdeal.Gen.slices_S2x8192x6144_S2x8192x512_0_0_2048)), h17.trans (Eq.trans ?_ (ref17 m c Cert.ProjectedIdeal.Gen.slices_S2x8192x6144_S2x8192x512_0_0_2560)), h18.trans (Eq.trans ?_ (ref18 m c Cert.ProjectedIdeal.Gen.slices_S2x8192x6144_S2x8192x512_0_0_2560)), h19.trans (Eq.trans ?_ (ref19 m c Cert.ProjectedIdeal.Gen.slices_S2x8192x6144_S2x8192x512_0_0_3072)), h20.trans (Eq.trans ?_ (ref20 m c Cert.ProjectedIdeal.Gen.slices_S2x8192x6144_S2x8192x512_0_0_3072)), h21.trans (Eq.trans ?_ (ref21 m c Cert.ProjectedIdeal.Gen.slices_S2x8192x6144_S2x8192x512_0_0_3584)), h22.trans (Eq.trans ?_ (ref22 m c)), hu⟩
    · unfold Cert.ProjectedIdeal.Value.res_main_v94; rw [e0, e1, e2, e3, e4, e5]; rfl
    · unfold Cert.ProjectedIdeal.Value.res_main_v95; rw [e0, e1, e2, e3, e4, e6]; rfl
    · unfold Cert.ProjectedIdeal.Value.res_main_v96; rw [e0, e1, e2, e3, e4, e6]; rfl
    · rw [e0, e1, e2, e3, e4]; rfl
    · rw [e0, e1, e2, e3, e4]; rfl
    · rw [e0, e1, e2, e3, e4]; rfl
    · unfold Cert.ProjectedIdeal.Value.res_main_v100; rw [e0, e1, e2, e3, e4, e7]; rfl
    · unfold Cert.ProjectedIdeal.Value.res_main_v93; rw [e0, e1, e2, e3, e4, e8]; rfl
    · unfold Cert.ProjectedIdeal.Value.res_main_v101; rw [e0, e1, e2, e3, e4, e8]; rfl
    · rw [e0, e1, e2, e3, e4]; rfl
    · rw [e0, e1, e2, e3, e4]; rfl
    · rw [e0, e1, e2, e3, e4]; rfl
    · rw [e0, e1, e2, e3, e4]; rfl

end Cert.ProjValue

end
-- ==== Proof.lean ====
module

public import proofs.«01_k».proof.Defs
public import proofs.«01_k».proof.Proof.Launched
public import proofs.«01_k».proof.Proof.BitsLaunched
public import proofs.«01_k».proof.Proof.Value
public import proofs.«01_k».proof.Proof.Gen.ReferenceIdeal.Run
public import proofs.«01_k».proof.Proof.ProjRun
public import proofs.«01_k».proof.Proof.ProjFrame
public import proofs.«01_k».proof.Proof.ProjValue
public import proofs.«01_k».proof.Proof.Gen.ProjectedIdeal.Run
public import Idealize.ShloMosaic.Adequacy
public import Idealize.ShloMosaic.Init

@[expose] public section

noncomputable section

namespace Cert.Proof

open Idealize.ShloMosaic Idealize.SL.Sem

theorem reference_frame : quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem projected_frame : quiescent_ProjectedIdeal (hProjectedIdeal := Cert.ProjectedIdeal.Gen.facts) := fun m g _ =>
  (θ_run Cert.ProjectedIdeal.defs _ _).mono (fun r h => ⟨fun c => (h c).2.2.2.2.2.2.2.2.2.2.2.2.2, Idealize.ShloMosaic.sem_eq_zero_of_no_sems (by decide) r.2⟩)
    (Cert.ProjectedIdeal.Value.run (F := Ideal) m g)

theorem claim : Cert.Claim :=
  ⟨Cert.Kernel.Gen.facts, Cert.KernelIdeal.Gen.facts, Cert.ReferenceIdeal.Gen.facts,
    Cert.Project.Gen.facts, Cert.ProjectIdeal.Gen.facts, Cert.ProjectedIdeal.Gen.facts, Cert.Pre_finite.Val.facts,
    fun m g _ => Cert.Kernel.Run.frame (F := Bits) m g,
    fun m g _ => Cert.KernelIdeal.Run.frame (F := Ideal) m g,
    fun m g _ => Cert.KernelIdeal.Run.frame (F := Ideal) m g,
    reference_frame,
    fun m g _ => reference_frame m g trivial,
    project_frame,
    fun m g _ => Cert.ProjectIdeal.Tile.frame (F := Ideal) m g,
    projected_frame,
    IdealRules.named_const.statement Cert.KernelIdeal.κ "mask" .f32 0xF149F2CA#32 ⊥ rfl,
    Cert.Value.algebraic,
    trivial,
    Cert.ProjValue.algebraic⟩

end Cert.Proof

end
